-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v285_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v285_5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v405) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)) (v2 : (c : Dev Cert.Kernel2Ideal.nD) → Buf (Elt Ideal) ((c.tc : Thread Cert.Kernel2Ideal.nD Cert.Kernel2Ideal.τ).loc Cert.Kernel2Ideal.main_v10_2)) (v3 : (c : Dev Cert.Kernel2Ideal.nD) → Buf (Elt Ideal) ((c.tc : Thread Cert.Kernel2Ideal.nD Cert.Kernel2Ideal.τ).loc Cert.Kernel2Ideal.main_v10_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_v10_2) = v2 c
          ∧ r.2.mem ((c.tc : Thread Cert.Kernel2Ideal.nD Cert.Kernel2Ideal.τ).loc Cert.Kernel2Ideal.main_v10_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_v36) = v1 c
          ∧ r.2.mem ((c.tc : Thread Cert.Reference2Ideal.nD Cert.Reference2Ideal.τ).loc Cert.Reference2Ideal.main_v37) = v2 c
          ∧ r.2.mem ((c.tc : Thread Cert.Reference2Ideal.nD Cert.Reference2Ideal.τ).loc Cert.Reference2Ideal.main_v40) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v29_0)) (v1 : (c : Dev Cert.Kernel3Ideal.nD) → Buf (Elt Ideal) ((c.tc : Thread Cert.Kernel3Ideal.nD Cert.Kernel3Ideal.τ).loc Cert.Kernel3Ideal.main_v29_1)) (v2 : (c : Dev Cert.Kernel3Ideal.nD) → Buf (Elt Ideal) ((c.tc : Thread Cert.Kernel3Ideal.nD Cert.Kernel3Ideal.τ).loc Cert.Kernel3Ideal.main_v29_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v29_0) = v0 c
          ∧ r.2.mem ((c.tc : Thread Cert.Kernel3Ideal.nD Cert.Kernel3Ideal.τ).loc Cert.Kernel3Ideal.main_v29_1) = v1 c
          ∧ r.2.mem ((c.tc : Thread Cert.Kernel3Ideal.nD Cert.Kernel3Ideal.τ).loc Cert.Kernel3Ideal.main_v29_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_v36) = v1 c
          ∧ r.2.mem ((c.tc : Thread Cert.Reference3Ideal.nD Cert.Reference3Ideal.τ).loc Cert.Reference3Ideal.main_v37) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v15)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v29)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v29) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v29) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v29)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v29) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v28) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v29)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v29) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v25) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v27_0)) (v1 : (c : Dev Cert.Kernel9Ideal.nD) → Buf (Elt Ideal) ((c.tc : Thread Cert.Kernel9Ideal.nD Cert.Kernel9Ideal.τ).loc Cert.Kernel9Ideal.main_v27_5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v27_0) = v0 c
          ∧ r.2.mem ((c.tc : Thread Cert.Kernel9Ideal.nD Cert.Kernel9Ideal.τ).loc Cert.Kernel9Ideal.main_v27_5) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v54) = v0 c
          ∧ r.2.mem ((c.tc : Thread Cert.Reference9Ideal.nD Cert.Reference9Ideal.τ).loc Cert.Reference9Ideal.main_v55) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite9 : Cert.Pre_finite9.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
-- ==== Pre_finite.lean ====
abbrev S4096x1024 : Shape := ⟨2, ![4096, 1024]⟩
abbrev S1024 : Shape := ⟨1, ![1024]⟩
abbrev S1024x1792 : Shape := ⟨2, ![1024, 1792]⟩
abbrev S384 : Shape := ⟨1, ![384]⟩
abbrev S6x128x128 : Shape := ⟨3, ![6, 128, 128]⟩
abbrev S6x128 : Shape := ⟨2, ![6, 128]⟩
abbrev S31x384 : Shape := ⟨2, ![31, 384]⟩
abbrev S4x64x64 : Shape := ⟨3, ![4, 64, 64]⟩
abbrev S256 : Shape := ⟨1, ![256]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x1792 : S_.BroadcastsInDim S1024x1792 (![] : Fin 0 → Fin S1024x1792.rank)
  reducesTo_S1024x1792_S_d0_1 : S1024x1792.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg14 : FVec F S4096x1024 .f32) (main_v3 : IVec S_ 1) (main_v7 : IVec S_ 1) (main_v11 : IVec S_ 1) (main_v15 : IVec S_ 1) : IVec S_ 1 :=
  let main_v16 : FVec F S4096x1024 .f32 := Host.absf main_arg14
  let main_cst_6 : FVec F S_ .f32 := constant S_ .f32 0x7F800000#32
  let main_v17 : FVec F S4096x1024 .f32 := broadcastInDim S4096x1024 ![] bcast_S_S4096x1024 main_cst_6
  let main_v18 : IVec S4096x1024 1 := cmpf .olt main_v16 main_v17
  let main_c_7 : IVec S_ 1 := constantI S_ 1 1#1
  let main_v19 : IVec S_ 1 := (fun x v => Host.reduce IntOp.andi x v reducesTo_S4096x1024_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S4096x1024 .f32) (main_arg1 : FVec F S1024 .f32) (main_arg2 : FVec F S1024x1792 .f32) (main_arg3 : FVec F S384 .f32) (main_arg4 : FVec F S384 .f32) (main_arg5 : FVec F S6x128x128 .f32) (main_arg6 : FVec F S6x128 .f32) (main_arg7 : FVec F S31x384 .f32) (main_arg8 : FVec F S384 .f32) (main_arg9 : FVec F S384 .f32) (main_arg10 : FVec F S384 .f32) (main_arg11 : FVec F S4x64x64 .f32) (main_arg12 : FVec F S256 .f32) (main_arg13 : FVec F S1024x1024 .f32) (main_arg14 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x1792 .f32 := Host.absf main_arg2
  let main_cst_2 : FVec F S_ .f32 := constant S_ .f32 0x7F800000#32
  let main_v9 : FVec F S1024x1792 .f32 := broadcastInDim S1024x1792 ![] bcast_S_S1024x1792 main_cst_2
  let main_v10 : IVec S1024x1792 1 := cmpf .olt main_v8 main_v9
  let main_c_3 : IVec S_ 1 := constantI S_ 1 1#1
  let main_v11 : IVec S_ 1 := (fun x v => Host.reduce IntOp.andi x v reducesTo_S1024x1792_S_d0_1 h_S_) main_v10 main_c_3
  let main_v12 : FVec F S1024x1024 .f32 := Host.absf main_arg13
  let main_cst_4 : FVec F S_ .f32 := constant S_ .f32 0x7F800000#32
  let main_v13 : FVec F S1024x1024 .f32 := broadcastInDim S1024x1024 ![] bcast_S_S1024x1024 main_cst_4
  let main_v14 : IVec S1024x1024 1 := cmpf .olt main_v12 main_v13
  let main_c_5 : IVec S_ 1 := constantI S_ 1 1#1
  let main_v15 : IVec S_ 1 := (fun x v => Host.reduce IntOp.andi x v reducesTo_S1024x1024_S_d0_1 h_S_) main_v14 main_c_5
  fn_part1 (F := F) main_arg14 main_v3 main_v7 main_v11 main_v15
-- ==== Pre_finite9.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S4096x1024 .f32) (main_v3 : IVec S_ 1) (main_v7 : IVec S_ 1) (main_v11 : IVec S_ 1) (main_v15 : IVec S_ 1) : IVec S_ 1 :=
  let main_v16 : FVec F S2816x1024 .f32 := Host.absf main_arg4
  let main_cst_6 : FVec F S_ .f32 := constant S_ .f32 0x7F800000#32
  let main_v17 : FVec F S2816x1024 .f32 := broadcastInDim S2816x1024 ![] bcast_S_S2816x1024 main_cst_6
  let main_v18 : IVec S2816x1024 1 := cmpf .olt main_v16 main_v17
  let main_c_7 : IVec S_ 1 := constantI S_ 1 1#1
  let main_v19 : IVec S_ 1 := (fun x v => Host.reduce IntOp.andi x v reducesTo_S2816x1024_S_d0_1 h_S_) main_v18 main_c_7
  let main_v20 : FVec F S4096x1024 .f32 := Host.absf main_arg5
  let main_cst_8 : FVec F S_ .f32 := constant S_ .f32 0x7F800000#32
  let main_v21 : FVec F S4096x1024 .f32 := broadcastInDim S4096x1024 ![] bcast_S_S4096x1024 main_cst_8
  let main_v22 : IVec S4096x1024 1 := cmpf .olt main_v20 main_v21
  let main_c_9 : IVec S_ 1 := constantI S_ 1 1#1
  let main_v23 : IVec S_ 1 := (fun x v => Host.reduce IntOp.andi x v reducesTo_S4096x1024_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S4096x1024 .f32) (main_arg1 : FVec F S1024 .f32) (main_arg2 : FVec F S1024x2816 .f32) (main_arg3 : FVec F S1024x2816 .f32) (main_arg4 : FVec F S2816x1024 .f32) (main_arg5 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x2816 .f32 := Host.absf main_arg2
  let main_cst_2 : FVec F S_ .f32 := constant S_ .f32 0x7F800000#32
  let main_v9 : FVec F S1024x2816 .f32 := broadcastInDim S1024x2816 ![] bcast_S_S1024x2816 main_cst_2
  let main_v10 : IVec S1024x2816 1 := cmpf .olt main_v8 main_v9
  let main_c_3 : IVec S_ 1 := constantI S_ 1 1#1
  let main_v11 : IVec S_ 1 := (fun x v => Host.reduce IntOp.andi x v reducesTo_S1024x2816_S_d0_1 h_S_) main_v10 main_c_3
  let main_v12 : FVec F S1024x2816 .f32 := Host.absf main_arg3
  let main_cst_4 : FVec F S_ .f32 := constant S_ .f32 0x7F800000#32
  let main_v13 : FVec F S1024x2816 .f32 := broadcastInDim S1024x2816 ![] bcast_S_S1024x2816 main_cst_4
  let main_v14 : IVec S1024x2816 1 := cmpf .olt main_v12 main_v13
  let main_c_5 : IVec S_ 1 := constantI S_ 1 1#1
  let main_v15 : IVec S_ 1 := (fun x v => Host.reduce IntOp.andi x v reducesTo_S1024x2816_S_d0_1 h_S_) main_v14 main_c_5
  fn_part1 (F := F) main_arg4 main_arg5 main_v3 main_v7 main_v11 main_v15
-- ==== Kernel.lean ====
abbrev S4096x1024 : Shape := ⟨2, ![4096, 1024]⟩
abbrev S1024 : Shape := ⟨1, ![1024]⟩
abbrev S1024x1792 : Shape := ⟨2, ![1024, 1792]⟩
abbrev S384 : Shape := ⟨1, ![384]⟩
abbrev S6x128x128 : Shape := ⟨3, ![6, 128, 128]⟩
abbrev S6x128 : Shape := ⟨2, ![6, 128]⟩
abbrev S31x384 : Shape := ⟨2, ![31, 384]⟩
abbrev S4x64x64 : Shape := ⟨3, ![4, 64, 64]⟩
abbrev S256 : Shape := ⟨1, ![256]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x1792 : Shape := ⟨2, ![4096, 1792]⟩
abbrev S4096x384 : Shape := ⟨2, ![4096, 384]⟩
abbrev S30x384 : Shape := ⟨2, ![30, 384]⟩
abbrev S4126x384 : Shape := ⟨2, ![4126, 384]⟩
abbrev S1x384 : Shape := ⟨2, ![1, 384]⟩
abbrev S1x1024x1792 : Shape := ⟨3, ![1, 1024, 1792]⟩
abbrev S1x1792x1024 : Shape := ⟨3, ![1, 1792, 1024]⟩
abbrev S1x1024x1024 : Shape := ⟨3, ![1, 1024, 1024]⟩
abbrev S128x6 : Shape := ⟨2, ![128, 6]⟩
abbrev S128x6x64 : Shape := ⟨3, ![128, 6, 64]⟩
abbrev S128x384 : Shape := ⟨2, ![128, 384]⟩
abbrev S1x64x64 : Shape := ⟨3, ![1, 64, 64]⟩
abbrev S64x64 : Shape := ⟨2, ![64, 64]⟩
abbrev S64x256 : Shape := ⟨2, ![64, 256]⟩
abbrev S256x256 : Shape := ⟨2, ![256, 256]⟩
abbrev S1x256 : Shape := ⟨2, ![1, 256]⟩
abbrev S40x384 : Shape := ⟨2, ![40, 384]⟩
abbrev S7x128x128 : Shape := ⟨3, ![7, 128, 128]⟩
abbrev S264x256 : Shape := ⟨2, ![264, 256]⟩
abbrev S512x1024 : Shape := ⟨2, ![512, 1024]⟩
abbrev S512x1792 : Shape := ⟨2, ![512, 1792]⟩
abbrev S32x1792 : Shape := ⟨2, ![32, 1792]⟩
abbrev S32x1024 : Shape := ⟨2, ![32, 1024]⟩
abbrev S512x384 : Shape := ⟨2, ![512, 384]⟩
abbrev S32x384 : Shape := ⟨2, ![32, 384]⟩
abbrev S1x128x128 : Shape := ⟨3, ![1, 128, 128]⟩
abbrev S128x128 : Shape := ⟨2, ![128, 128]⟩
abbrev S128 : Shape := ⟨1, ![128]⟩
abbrev S128x1 : Shape := ⟨2, ![128, 1]⟩
abbrev S32x768 : Shape := ⟨2, ![32, 768]⟩
abbrev S512x768 : Shape := ⟨2, ![512, 768]⟩
abbrev S576x768 : Shape := ⟨2, ![576, 768]⟩
abbrev S576x384 : Shape := ⟨2, ![576, 384]⟩
abbrev S544x384 : Shape := ⟨2, ![544, 384]⟩
abbrev S544 : Shape := ⟨1, ![544]⟩
abbrev S544x1 : Shape := ⟨2, ![544, 1]⟩
abbrev S512x256 : Shape := ⟨2, ![512, 256]⟩
abbrev S32x256 : Shape := ⟨2, ![32, 256]⟩
abbrev S544x256 : Shape := ⟨2, ![544, 256]⟩
abbrev S512 : Shape := ⟨1, ![512]⟩
abbrev S512x1 : Shape := ⟨2, ![512, 1]⟩
abbrev S1792x1024 : Shape := ⟨2, ![1792, 1024]⟩
abbrev S384x128 : Shape := ⟨2, ![384, 128]⟩

abbrev nBuf : Space → Nat
  | .hbm => 326
  | .vmem => 39
  | .smem => 0
  | _ => 0

abbrev hbmTy0_0 (i : Nat) : BufTy := match i % 128 with
  | 0 => ⟨S4096x1024, .f32⟩
  | 1 => ⟨S1024, .f32⟩
  | 2 => ⟨S1024x1792, .f32⟩
  | 3 => ⟨S384, .f32⟩
  | 4 => ⟨S384, .f32⟩
  | 5 => ⟨S6x128x128, .f32⟩
  | 6 => ⟨S6x128, .f32⟩
  | 7 => ⟨S31x384, .f32⟩
  | 8 => ⟨S384, .f32⟩
  | 9 => ⟨S384, .f32⟩
  | 10 => ⟨S384, .f32⟩
  | 11 => ⟨S4x64x64, .f32⟩
  | 12 => ⟨S256, .f32⟩
  | 13 => ⟨S1024x1024, .f32⟩
  | 14 => ⟨S4096x1024, .f32⟩
  | 15 => ⟨S4096x1024, .f32⟩
  | 16 => ⟨S_, .f32⟩
  | 17 => ⟨S4096, .f32⟩
  | 18 => ⟨S4096x1, .f32⟩
  | 19 => ⟨S_, .f32⟩
  | 20 => ⟨S4096x1, .f32⟩
  | 21 => ⟨S4096x1, .f32⟩
  | 22 => ⟨S_, .f32⟩
  | 23 => ⟨S4096x1, .f32⟩
  | 24 => ⟨S4096x1, .f32⟩
  | 25 => ⟨S4096x1, .f32⟩
  | 26 => ⟨S4096x1024, .f32⟩
  | 27 => ⟨S4096x1024, .f32⟩
  | 28 => ⟨S1x1024, .f32⟩
  | 29 => ⟨S4096x1024, .f32⟩
  | 30 => ⟨S4096x1024, .f32⟩
  | 31 => ⟨S4096x1792, .f32⟩
  | 32 => ⟨S4096x384, .f32⟩
  | 33 => ⟨S4096x384, .f32⟩
  | 34 => ⟨S4096x384, .f32⟩
  | 35 => ⟨S4096x384, .f32⟩
  | 36 => ⟨S_, .f32⟩
  | 37 => ⟨S4096x384, .f32⟩
  | 38 => ⟨S4096x384, .f32⟩
  | 39 => ⟨S_, .f32⟩
  | 40 => ⟨S4096x384, .f32⟩
  | 41 => ⟨S4096x384, .f32⟩
  | 42 => ⟨S4096x384, .f32⟩
  | 43 => ⟨S_, .f32⟩
  | 44 => ⟨S30x384, .f32⟩
  | 45 => ⟨S4126x384, .f32⟩
  | 46 => ⟨S4096x384, .f32⟩
  | 47 => ⟨S1x384, .f32⟩
  | 48 => ⟨S384, .f32⟩
  | 49 => ⟨S1x384, .f32⟩
  | 50 => ⟨S4096x384, .f32⟩
  | 51 => ⟨S4096x384, .f32⟩
  | 52 => ⟨S_, .f32⟩
  | 53 => ⟨S4096x384, .f32⟩
  | 54 => ⟨S4096x384, .f32⟩
  | 55 => ⟨S4096x384, .f32⟩
  | 56 => ⟨S1x384, .f32⟩
  | 57 => ⟨S384, .f32⟩
  | 58 => ⟨S1x384, .f32⟩
  | 59 => ⟨S4096x384, .f32⟩
  | 60 => ⟨S4096x384, .f32⟩
  | 61 => ⟨S4096x384, .f32⟩
  | 62 => ⟨S4096x384, .f32⟩
  | 63 => ⟨S1x384, .f32⟩
  | 64 => ⟨S384, .f32⟩
  | 65 => ⟨S1x384, .f32⟩
  | 66 => ⟨S4096x384, .f32⟩
  | 67 => ⟨S4096x384, .f32⟩
  | 68 => ⟨S4096x384, .f32⟩
  | 69 => ⟨S4096x384, .f32⟩
  | 70 => ⟨S1x384, .f32⟩
  | 71 => ⟨S384, .f32⟩
  | 72 => ⟨S1x384, .f32⟩
  | 73 => ⟨S4096x384, .f32⟩
  | 74 => ⟨S4096x384, .f32⟩
  | 75 => ⟨S4096x384, .f32⟩
  | 76 => ⟨S4096x384, .f32⟩
  | 77 => ⟨S1x384, .f32⟩
  | 78 => ⟨S384, .f32⟩
  | 79 => ⟨S1x384, .f32⟩
  | 80 => ⟨S4096x384, .f32⟩
  | 81 => ⟨S4096x384, .f32⟩
  | 82 => ⟨S4096x384, .f32⟩
  | 83 => ⟨S4096x384, .f32⟩
  | 84 => ⟨S1x384, .f32⟩
  | 85 => ⟨S384, .f32⟩
  | 86 => ⟨S1x384, .f32⟩
  | 87 => ⟨S4096x384, .f32⟩
  | 88 => ⟨S4096x384, .f32⟩
  | 89 => ⟨S4096x384, .f32⟩
  | 90 => ⟨S4096x384, .f32⟩
  | 91 => ⟨S1x384, .f32⟩
  | 92 => ⟨S384, .f32⟩
  | 93 => ⟨S1x384, .f32⟩
  | 94 => ⟨S4096x384, .f32⟩
  | 95 => ⟨S4096x384, .f32⟩
  | 96 => ⟨S4096x384, .f32⟩
  | 97 => ⟨S4096x384, .f32⟩
  | 98 => ⟨S1x384, .f32⟩
  | 99 => ⟨S384, .f32⟩
  | 100 => ⟨S1x384, .f32⟩
  | 101 => ⟨S4096x384, .f32⟩
  | 102 => ⟨S4096x384, .f32⟩
  | 103 => ⟨S4096x384, .f32⟩
  | 104 => ⟨S4096x384, .f32⟩
  | 105 => ⟨S1x384, .f32⟩
  | 106 => ⟨S384, .f32⟩
  | 107 => ⟨S1x384, .f32⟩
  | 108 => ⟨S4096x384, .f32⟩
  | 109 => ⟨S4096x384, .f32⟩
  | 110 => ⟨S4096x384, .f32⟩
  | 111 => ⟨S4096x384, .f32⟩
  | 112 => ⟨S1x384, .f32⟩
  | 113 => ⟨S384, .f32⟩
  | 114 => ⟨S1x384, .f32⟩
  | 115 => ⟨S4096x384, .f32⟩
  | 116 => ⟨S4096x384, .f32⟩
  | 117 => ⟨S4096x384, .f32⟩
  | 118 => ⟨S4096x384, .f32⟩
  | 119 => ⟨S1x384, .f32⟩
  | 120 => ⟨S384, .f32⟩
  | 121 => ⟨S1x384, .f32⟩
  | 122 => ⟨S4096x384, .f32⟩
  | 123 => ⟨S4096x384, .f32⟩
  | 124 => ⟨S4096x384, .f32⟩
  | 125 => ⟨S4096x384, .f32⟩
  | 126 => ⟨S1x384, .f32⟩
  | 127 => ⟨S384, .f32⟩
  | _ => ⟨S4096x1024, .f32⟩

abbrev hbmTy0_1 (i : Nat) : BufTy := match i % 128 with
  | 0 => ⟨S1x384, .f32⟩
  | 1 => ⟨S4096x384, .f32⟩
  | 2 => ⟨S4096x384, .f32⟩
  | 3 => ⟨S4096x384, .f32⟩
  | 4 => ⟨S4096x384, .f32⟩
  | 5 => ⟨S1x384, .f32⟩
  | 6 => ⟨S384, .f32⟩
  | 7 => ⟨S1x384, .f32⟩
  | 8 => ⟨S4096x384, .f32⟩
  | 9 => ⟨S4096x384, .f32⟩
  | 10 => ⟨S4096x384, .f32⟩
  | 11 => ⟨S4096x384, .f32⟩
  | 12 => ⟨S1x384, .f32⟩
  | 13 => ⟨S384, .f32⟩
  | 14 => ⟨S1x384, .f32⟩
  | 15 => ⟨S4096x384, .f32⟩
  | 16 => ⟨S4096x384, .f32⟩
  | 17 => ⟨S4096x384, .f32⟩
  | 18 => ⟨S4096x384, .f32⟩
  | 19 => ⟨S1x384, .f32⟩
  | 20 => ⟨S384, .f32⟩
  | 21 => ⟨S1x384, .f32⟩
  | 22 => ⟨S4096x384, .f32⟩
  | 23 => ⟨S4096x384, .f32⟩
  | 24 => ⟨S4096x384, .f32⟩
  | 25 => ⟨S4096x384, .f32⟩
  | 26 => ⟨S1x384, .f32⟩
  | 27 => ⟨S384, .f32⟩
  | 28 => ⟨S1x384, .f32⟩
  | 29 => ⟨S4096x384, .f32⟩
  | 30 => ⟨S4096x384, .f32⟩
  | 31 => ⟨S4096x384, .f32⟩
  | 32 => ⟨S4096x384, .f32⟩
  | 33 => ⟨S1x384, .f32⟩
  | 34 => ⟨S384, .f32⟩
  | 35 => ⟨S1x384, .f32⟩
  | 36 => ⟨S4096x384, .f32⟩
  | 37 => ⟨S4096x384, .f32⟩
  | 38 => ⟨S4096x384, .f32⟩
  | 39 => ⟨S4096x384, .f32⟩
  | 40 => ⟨S1x384, .f32⟩
  | 41 => ⟨S384, .f32⟩
  | 42 => ⟨S1x384, .f32⟩
  | 43 => ⟨S4096x384, .f32⟩
  | 44 => ⟨S4096x384, .f32⟩
  | 45 => ⟨S4096x384, .f32⟩
  | 46 => ⟨S4096x384, .f32⟩
  | 47 => ⟨S1x384, .f32⟩
  | 48 => ⟨S384, .f32⟩
  | 49 => ⟨S1x384, .f32⟩
  | 50 => ⟨S4096x384, .f32⟩
  | 51 => ⟨S4096x384, .f32⟩
  | 52 => ⟨S4096x384, .f32⟩
  | 53 => ⟨S4096x384, .f32⟩
  | 54 => ⟨S1x384, .f32⟩
  | 55 => ⟨S384, .f32⟩
  | 56 => ⟨S1x384, .f32⟩
  | 57 => ⟨S4096x384, .f32⟩
  | 58 => ⟨S4096x384, .f32⟩
  | 59 => ⟨S4096x384, .f32⟩
  | 60 => ⟨S4096x384, .f32⟩
  | 61 => ⟨S1x384, .f32⟩
  | 62 => ⟨S384, .f32⟩
  | 63 => ⟨S1x384, .f32⟩
  | 64 => ⟨S4096x384, .f32⟩
  | 65 => ⟨S4096x384, .f32⟩
  | 66 => ⟨S4096x384, .f32⟩
  | 67 => ⟨S4096x384, .f32⟩
  | 68 => ⟨S1x384, .f32⟩
  | 69 => ⟨S384, .f32⟩
  | 70 => ⟨S1x384, .f32⟩
  | 71 => ⟨S4096x384, .f32⟩
  | 72 => ⟨S4096x384, .f32⟩
  | 73 => ⟨S4096x384, .f32⟩
  | 74 => ⟨S4096x384, .f32⟩
  | 75 => ⟨S1x384, .f32⟩
  | 76 => ⟨S384, .f32⟩
  | 77 => ⟨S1x384, .f32⟩
  | 78 => ⟨S4096x384, .f32⟩
  | 79 => ⟨S4096x384, .f32⟩
  | 80 => ⟨S4096x384, .f32⟩
  | 81 => ⟨S4096x384, .f32⟩
  | 82 => ⟨S1x384, .f32⟩
  | 83 => ⟨S384, .f32⟩
  | 84 => ⟨S1x384, .f32⟩
  | 85 => ⟨S4096x384, .f32⟩
  | 86 => ⟨S4096x384, .f32⟩
  | 87 => ⟨S4096x384, .f32⟩
  | 88 => ⟨S4096x384, .f32⟩
  | 89 => ⟨S1x384, .f32⟩
  | 90 => ⟨S384, .f32⟩
  | 91 => ⟨S1x384, .f32⟩
  | 92 => ⟨S4096x384, .f32⟩
  | 93 => ⟨S4096x384, .f32⟩
  | 94 => ⟨S4096x384, .f32⟩
  | 95 => ⟨S4096x384, .f32⟩
  | 96 => ⟨S1x384, .f32⟩
  | 97 => ⟨S384, .f32⟩
  | 98 => ⟨S1x384, .f32⟩
  | 99 => ⟨S4096x384, .f32⟩
  | 100 => ⟨S4096x384, .f32⟩
  | 101 => ⟨S4096x384, .f32⟩
  | 102 => ⟨S4096x384, .f32⟩
  | 103 => ⟨S1x384, .f32⟩
  | 104 => ⟨S384, .f32⟩
  | 105 => ⟨S1x384, .f32⟩
  | 106 => ⟨S4096x384, .f32⟩
  | 107 => ⟨S4096x384, .f32⟩
  | 108 => ⟨S4096x384, .f32⟩
  | 109 => ⟨S4096x384, .f32⟩
  | 110 => ⟨S1x384, .f32⟩
  | 111 => ⟨S384, .f32⟩
  | 112 => ⟨S1x384, .f32⟩
  | 113 => ⟨S4096x384, .f32⟩
  | 114 => ⟨S4096x384, .f32⟩
  | 115 => ⟨S4096x384, .f32⟩
  | 116 => ⟨S4096x384, .f32⟩
  | 117 => ⟨S1x384, .f32⟩
  | 118 => ⟨S384, .f32⟩
  | 119 => ⟨S1x384, .f32⟩
  | 120 => ⟨S4096x384, .f32⟩
  | 121 => ⟨S4096x384, .f32⟩
  | 122 => ⟨S4096x384, .f32⟩
  | 123 => ⟨S4096x384, .f32⟩
  | 124 => ⟨S1x384, .f32⟩
  | 125 => ⟨S384, .f32⟩
  | 126 => ⟨S1x384, .f32⟩
  | 127 => ⟨S4096x384, .f32⟩
  | _ => ⟨S4096x1024, .f32⟩

abbrev hbmTy0_2 (i : Nat) : BufTy := match i % 128 with
  | 0 => ⟨S4096x384, .f32⟩
  | 1 => ⟨S4096x384, .f32⟩
  | 2 => ⟨S4096x384, .f32⟩
  | 3 => ⟨S1x384, .f32⟩
  | 4 => ⟨S384, .f32⟩
  | 5 => ⟨S1x384, .f32⟩
  | 6 => ⟨S4096x384, .f32⟩
  | 7 => ⟨S4096x384, .f32⟩
  | 8 => ⟨S4096x384, .f32⟩
  | 9 => ⟨S1x384, .f32⟩
  | 10 => ⟨S4096x384, .f32⟩
  | 11 => ⟨S4096x384, .f32⟩
  | 12 => ⟨S1x1024x1792, .f32⟩
  | 13 => ⟨S1x1792x1024, .f32⟩
  | 14 => ⟨S1x1792x1024, .bf16⟩
  | 15 => ⟨S1x1024x1024, .f32⟩
  | 16 => ⟨S1x1024x1024, .bf16⟩
  | 17 => ⟨S1x384, .f32⟩
  | 18 => ⟨S1x384, .f32⟩
  | 19 => ⟨S128x6, .f32⟩
  | 20 => ⟨S128x6x64, .f32⟩
  | 21 => ⟨S128x384, .f32⟩
  | 22 => ⟨S1x384, .f32⟩
  | 23 => ⟨S1x384, .f32⟩
  | 24 => ⟨S1x64x64, .f32⟩
  | 25 => ⟨S64x64, .f32⟩
  | 26 => ⟨S_, .f32⟩
  | 27 => ⟨S64x64, .f32⟩
  | 28 => ⟨S_, .f32⟩
  | 29 => ⟨S64x64, .f32⟩
  | 30 => ⟨S_, .f32⟩
  | 31 => ⟨S64x64, .f32⟩
  | 32 => ⟨S64x256, .f32⟩
  | 33 => ⟨S_, .f32⟩
  | 34 => ⟨S64x64, .f32⟩
  | 35 => ⟨S1x64x64, .f32⟩
  | 36 => ⟨S64x64, .f32⟩
  | 37 => ⟨S_, .f32⟩
  | 38 => ⟨S64x64, .f32⟩
  | 39 => ⟨S_, .f32⟩
  | 40 => ⟨S64x64, .f32⟩
  | 41 => ⟨S64x256, .f32⟩
  | 42 => ⟨S_, .f32⟩
  | 43 => ⟨S64x64, .f32⟩
  | 44 => ⟨S_, .f32⟩
  | 45 => ⟨S64x64, .f32⟩
  | 46 => ⟨S1x64x64, .f32⟩
  | 47 => ⟨S64x64, .f32⟩
  | 48 => ⟨S_, .f32⟩
  | 49 => ⟨S64x64, .f32⟩
  | 50 => ⟨S64x256, .f32⟩
  | 51 => ⟨S_, .f32⟩
  | 52 => ⟨S64x64, .f32⟩
  | 53 => ⟨S_, .f32⟩
  | 54 => ⟨S64x64, .f32⟩
  | 55 => ⟨S_, .f32⟩
  | 56 => ⟨S64x64, .f32⟩
  | 57 => ⟨S1x64x64, .f32⟩
  | 58 => ⟨S64x64, .f32⟩
  | 59 => ⟨S64x256, .f32⟩
  | 60 => ⟨S256x256, .f32⟩
  | 61 => ⟨S1x256, .f32⟩
  | 62 => ⟨S1x1024, .f32⟩
  | 63 => ⟨S4096x1024, .f32⟩
  | 64 => ⟨S4096x1792, .bf16⟩
  | 65 => ⟨S4096x1024, .bf16⟩
  | 66 => ⟨S1x1024, .f32⟩
  | 67 => ⟨S40x384, .f32⟩
  | 68 => ⟨S7x128x128, .f32⟩
  | 69 => ⟨S264x256, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1792x1024, .bf16⟩
  | .local _ .vmem, ⟨4, _⟩ => ⟨S512x1792, .f32⟩
  | .local _ .vmem, ⟨5, _⟩ => ⟨S512x1792, .f32⟩
  | .local _ .vmem, ⟨6, _⟩ => ⟨S32x1792, .f32⟩
  | .local _ .vmem, ⟨7, _⟩ => ⟨S32x1792, .f32⟩
  | .local _ .vmem, ⟨8, _⟩ => ⟨S32x1792, .f32⟩
  | .local _ .vmem, ⟨9, _⟩ => ⟨S32x1792, .f32⟩
  | .local _ .vmem, ⟨10, _⟩ => ⟨S512x1024, .f32⟩
  | .local _ .vmem, ⟨11, _⟩ => ⟨S512x1024, .f32⟩
  | .local _ .vmem, ⟨12, _⟩ => ⟨S32x1024, .f32⟩
  | .local _ .vmem, ⟨13, _⟩ => ⟨S32x1024, .f32⟩
  | .local _ .vmem, ⟨14, _⟩ => ⟨S1x1024x1024, .bf16⟩
  | .local _ .vmem, ⟨15, _⟩ => ⟨S512x384, .f32⟩
  | .local _ .vmem, ⟨16, _⟩ => ⟨S512x384, .f32⟩
  | .local _ .vmem, ⟨17, _⟩ => ⟨S32x384, .f32⟩
  | .local _ .vmem, ⟨18, _⟩ => ⟨S32x384, .f32⟩
  | .local _ .vmem, ⟨19, _⟩ => ⟨S1x384, .f32⟩
  | .local _ .vmem, ⟨20, _⟩ => ⟨S1x384, .f32⟩
  | .local _ .vmem, ⟨21, _⟩ => ⟨S6x128x128, .f32⟩
  | .local _ .vmem, ⟨22, _⟩ => ⟨S128x384, .f32⟩
  | .local _ .vmem, ⟨23, _⟩ => ⟨S31x384, .f32⟩
  | .local _ .vmem, ⟨24, _⟩ => ⟨S1x384, .f32⟩
  | .local _ .vmem, ⟨25, _⟩ => ⟨S1x384, .f32⟩
  | .local _ .vmem, ⟨26, _⟩ => ⟨S256x256, .f32⟩
  | .local _ .vmem, ⟨27, _⟩ => ⟨S1x256, .f32⟩
  | .local _ .vmem, ⟨28, _⟩ => ⟨S512x1024, .f32⟩
  | .local _ .vmem, ⟨29, _⟩ => ⟨S512x1024, .f32⟩
  | .local _ .vmem, ⟨30, _⟩ => ⟨S512x1792, .bf16⟩
  | .local _ .vmem, ⟨31, _⟩ => ⟨S512x1792, .bf16⟩
  | .local _ .vmem, ⟨32, _⟩ => ⟨S512x1024, .bf16⟩
  | .local _ .vmem, ⟨33, _⟩ => ⟨S512x1024, .bf16⟩
  | .local _ .vmem, ⟨34, _⟩ => ⟨S1x1024, .f32⟩
  | .local _ .vmem, ⟨35, _⟩ => ⟨S40x384, .f32⟩
  | .local _ .vmem, ⟨36, _⟩ => ⟨S7x128x128, .f32⟩
  | .local _ .vmem, ⟨37, _⟩ => ⟨S264x256, .f32⟩
  | .local _ .vmem, ⟨38, _⟩ => ⟨S128x384, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_v201 : Ref sig .tc := ⟨.hbm, 223, rfl⟩
abbrev main_v202 : Ref sig .tc := ⟨.hbm, 224, rfl⟩
abbrev main_v203 : Ref sig .tc := ⟨.hbm, 225, rfl⟩
abbrev main_v204 : Ref sig .tc := ⟨.hbm, 226, rfl⟩
abbrev main_v205 : Ref sig .tc := ⟨.hbm, 227, rfl⟩
abbrev main_v206 : Ref sig .tc := ⟨.hbm, 228, rfl⟩
abbrev main_v207 : Ref sig .tc := ⟨.hbm, 229, rfl⟩
abbrev main_v208 : Ref sig .tc := ⟨.hbm, 230, rfl⟩
abbrev main_v209 : Ref sig .tc := ⟨.hbm, 231, rfl⟩
abbrev main_v210 : Ref sig .tc := ⟨.hbm, 232, rfl⟩
abbrev main_v211 : Ref sig .tc := ⟨.hbm, 233, rfl⟩
abbrev main_v212 : Ref sig .tc := ⟨.hbm, 234, rfl⟩
abbrev main_v213 : Ref sig .tc := ⟨.hbm, 235, rfl⟩
abbrev main_v214 : Ref sig .tc := ⟨.hbm, 236, rfl⟩
abbrev main_v215 : Ref sig .tc := ⟨.hbm, 237, rfl⟩
abbrev main_v216 : Ref sig .tc := ⟨.hbm, 238, rfl⟩
abbrev main_v217 : Ref sig .tc := ⟨.hbm, 239, rfl⟩
abbrev main_v218 : Ref sig .tc := ⟨.hbm, 240, rfl⟩
abbrev main_v219 : Ref sig .tc := ⟨.hbm, 241, rfl⟩
abbrev main_v220 : Ref sig .tc := ⟨.hbm, 242, rfl⟩
abbrev main_v221 : Ref sig .tc := ⟨.hbm, 243, rfl⟩
abbrev main_v222 : Ref sig .tc := ⟨.hbm, 244, rfl⟩
abbrev main_v223 : Ref sig .tc := ⟨.hbm, 245, rfl⟩
abbrev main_v224 : Ref sig .tc := ⟨.hbm, 246, rfl⟩
abbrev main_v225 : Ref sig .tc := ⟨.hbm, 247, rfl⟩
abbrev main_v226 : Ref sig .tc := ⟨.hbm, 248, rfl⟩
abbrev main_v227 : Ref sig .tc := ⟨.hbm, 249, rfl⟩
abbrev main_v228 : Ref sig .tc := ⟨.hbm, 250, rfl⟩
abbrev main_v229 : Ref sig .tc := ⟨.hbm, 251, rfl⟩
abbrev main_v230 : Ref sig .tc := ⟨.hbm, 252, rfl⟩
abbrev main_v231 : Ref sig .tc := ⟨.hbm, 253, rfl⟩
abbrev main_v232 : Ref sig .tc := ⟨.hbm, 254, rfl⟩
abbrev main_v233 : Ref sig .tc := ⟨.hbm, 255, rfl⟩
abbrev main_v234 : Ref sig .tc := ⟨.hbm, 256, rfl⟩
abbrev main_v235 : Ref sig .tc := ⟨.hbm, 257, rfl⟩
abbrev main_v236 : Ref sig .tc := ⟨.hbm, 258, rfl⟩
abbrev main_v237 : Ref sig .tc := ⟨.hbm, 259, rfl⟩
abbrev main_v238 : Ref sig .tc := ⟨.hbm, 260, rfl⟩
abbrev main_v239 : Ref sig .tc := ⟨.hbm, 261, rfl⟩
abbrev main_v240 : Ref sig .tc := ⟨.hbm, 262, rfl⟩
abbrev main_v241 : Ref sig .tc := ⟨.hbm, 263, rfl⟩
abbrev main_v242 : Ref sig .tc := ⟨.hbm, 264, rfl⟩
abbrev main_v243 : Ref sig .tc := ⟨.hbm, 265, rfl⟩
abbrev main_v244 : Ref sig .tc := ⟨.hbm, 266, rfl⟩
abbrev main_v245 : Ref sig .tc := ⟨.hbm, 267, rfl⟩
abbrev main_v246 : Ref sig .tc := ⟨.hbm, 268, rfl⟩
abbrev main_v247 : Ref sig .tc := ⟨.hbm, 269, rfl⟩
abbrev main_v248 : Ref sig .tc := ⟨.hbm, 270, rfl⟩
abbrev main_v249 : Ref sig .tc := ⟨.hbm, 271, rfl⟩
abbrev main_v250 : Ref sig .tc := ⟨.hbm, 272, rfl⟩
abbrev main_v251 : Ref sig .tc := ⟨.hbm, 273, rfl⟩
abbrev main_v252 : Ref sig .tc := ⟨.hbm, 274, rfl⟩
abbrev main_v253 : Ref sig .tc := ⟨.hbm, 275, rfl⟩
abbrev main_v254 : Ref sig .tc := ⟨.hbm, 276, rfl⟩
abbrev main_v255 : Ref sig .tc := ⟨.hbm, 277, rfl⟩
abbrev main_v256 : Ref sig .tc := ⟨.hbm, 278, rfl⟩
abbrev main_v257 : Ref sig .tc := ⟨.hbm, 279, rfl⟩
abbrev main_v258 : Ref sig .tc := ⟨.hbm, 280, rfl⟩
abbrev main_v259 : Ref sig .tc := ⟨.hbm, 281, rfl⟩
abbrev main_cst_6 : Ref sig .tc := ⟨.hbm, 282, rfl⟩
abbrev main_v260 : Ref sig .tc := ⟨.hbm, 283, rfl⟩
abbrev main_cst_7 : Ref sig .tc := ⟨.hbm, 284, rfl⟩
abbrev main_v261 : Ref sig .tc := ⟨.hbm, 285, rfl⟩
abbrev main_cst_8 : Ref sig .tc := ⟨.hbm, 286, rfl⟩
abbrev main_v262 : Ref sig .tc := ⟨.hbm, 287, rfl⟩
abbrev main_v263 : Ref sig .tc := ⟨.hbm, 288, rfl⟩
abbrev main_cst_9 : Ref sig .tc := ⟨.hbm, 289, rfl⟩
abbrev main_v264 : Ref sig .tc := ⟨.hbm, 290, rfl⟩
abbrev main_v265 : Ref sig .tc := ⟨.hbm, 291, rfl⟩
abbrev main_v266 : Ref sig .tc := ⟨.hbm, 292, rfl⟩
abbrev main_cst_10 : Ref sig .tc := ⟨.hbm, 293, rfl⟩
abbrev main_v267 : Ref sig .tc := ⟨.hbm, 294, rfl⟩
abbrev main_cst_11 : Ref sig .tc := ⟨.hbm, 295, rfl⟩
abbrev main_v268 : Ref sig .tc := ⟨.hbm, 296, rfl⟩
abbrev main_v269 : Ref sig .tc := ⟨.hbm, 297, rfl⟩
abbrev main_cst_12 : Ref sig .tc := ⟨.hbm, 298, rfl⟩
abbrev main_v270 : Ref sig .tc := ⟨.hbm, 299, rfl⟩
abbrev main_cst_13 : Ref sig .tc := ⟨.hbm, 300, rfl⟩
abbrev main_v271 : Ref sig .tc := ⟨.hbm, 301, rfl⟩
abbrev main_v272 : Ref sig .tc := ⟨.hbm, 302, rfl⟩
abbrev main_v273 : Ref sig .tc := ⟨.hbm, 303, rfl⟩
abbrev main_cst_14 : Ref sig .tc := ⟨.hbm, 304, rfl⟩
abbrev main_v274 : Ref sig .tc := ⟨.hbm, 305, rfl⟩
abbrev main_v275 : Ref sig .tc := ⟨.hbm, 306, rfl⟩
abbrev main_cst_15 : Ref sig .tc := ⟨.hbm, 307, rfl⟩
abbrev main_v276 : Ref sig .tc := ⟨.hbm, 308, rfl⟩
abbrev main_cst_16 : Ref sig .tc := ⟨.hbm, 309, rfl⟩
abbrev main_v277 : Ref sig .tc := ⟨.hbm, 310, rfl⟩
abbrev main_cst_17 : Ref sig .tc := ⟨.hbm, 311, rfl⟩
abbrev main_v278 : Ref sig .tc := ⟨.hbm, 312, rfl⟩
abbrev main_v279 : Ref sig .tc := ⟨.hbm, 313, rfl⟩
abbrev main_v280 : Ref sig .tc := ⟨.hbm, 314, rfl⟩
abbrev main_v281 : Ref sig .tc := ⟨.hbm, 315, rfl⟩
abbrev main_v282 : Ref sig .tc := ⟨.hbm, 316, rfl⟩
abbrev main_v283 : Ref sig .tc := ⟨.hbm, 317, rfl⟩
abbrev main_v284 : Ref sig .tc := ⟨.hbm, 318, rfl⟩
abbrev main_v285_0 : Ref sig .tc := ⟨.hbm, 319, rfl⟩
abbrev main_v285_1 : Ref sig .tc := ⟨.hbm, 320, rfl⟩
abbrev main_v285_2 : Ref sig .tc := ⟨.hbm, 321, rfl⟩
abbrev main_v285_3 : Ref sig .tc := ⟨.hbm, 322, rfl⟩
abbrev main_v285_4 : Ref sig .tc := ⟨.hbm, 323, rfl⟩
abbrev main_v285_5 : Ref sig .tc := ⟨.hbm, 324, rfl⟩
abbrev main_v285_6 : Ref sig .tc := ⟨.hbm, 325, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_stg23_0 : Ref sig .tc := ⟨.vmem, 34, rfl⟩
abbrev cc0_stg24_0 : Ref sig .tc := ⟨.vmem, 35, rfl⟩
abbrev cc0_stg25_0 : Ref sig .tc := ⟨.vmem, 36, rfl⟩
abbrev cc0_stg26_0 : Ref sig .tc := ⟨.vmem, 37, rfl⟩
abbrev cc0_scratch0 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33
abbrev cc0_sem23_0 : DmaSem sig := 34
abbrev cc0_sem24_0 : DmaSem sig := 35
abbrev cc0_sem25_0 : DmaSem sig := 36
abbrev cc0_sem26_0 : DmaSem sig := 37

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1792x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S6x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x384 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S31x384 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x384 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x384 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1792 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S40x384 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S7x128x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S264x256 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]
-- ==== ReferenceIdeal.lean ====
abbrev S4096x1024 : Shape := ⟨2, ![4096, 1024]⟩
abbrev S1024 : Shape := ⟨1, ![1024]⟩
abbrev S1024x1792 : Shape := ⟨2, ![1024, 1792]⟩
abbrev S384 : Shape := ⟨1, ![384]⟩
abbrev S6x128x128 : Shape := ⟨3, ![6, 128, 128]⟩
abbrev S6x128 : Shape := ⟨2, ![6, 128]⟩
abbrev S31x384 : Shape := ⟨2, ![31, 384]⟩
abbrev S4x64x64 : Shape := ⟨3, ![4, 64, 64]⟩
abbrev S256 : Shape := ⟨1, ![256]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x1792 : Shape := ⟨2, ![4096, 1792]⟩
abbrev S4096x384 : Shape := ⟨2, ![4096, 384]⟩
abbrev S4096x256 : Shape := ⟨2, ![4096, 256]⟩
abbrev S1x384 : Shape := ⟨2, ![1, 384]⟩
abbrev S128x128 : Shape := ⟨2, ![128, 128]⟩
abbrev S1x128x128 : Shape := ⟨3, ![1, 128, 128]⟩
abbrev S32x128x6x64 : Shape := ⟨4, ![32, 128, 6, 64]⟩
abbrev S6x32x64x128 : Shape := ⟨4, ![6, 32, 64, 128]⟩
abbrev S128x6 : Shape := ⟨2, ![128, 6]⟩
abbrev S1x128x6x1 : Shape := ⟨4, ![1, 128, 6, 1]⟩
abbrev S30x384 : Shape := ⟨2, ![30, 384]⟩
abbrev S4126x384 : Shape := ⟨2, ![4126, 384]⟩
abbrev S4096x4x64 : Shape := ⟨3, ![4096, 4, 64]⟩
abbrev S4096x1x64 : Shape := ⟨3, ![4096, 1, 64]⟩
abbrev S4096x64 : Shape := ⟨2, ![4096, 64]⟩
abbrev S2x64 : Shape := ⟨2, ![2, 64]⟩
abbrev S4094x64 : Shape := ⟨2, ![4094, 64]⟩
abbrev S4x64 : Shape := ⟨2, ![4, 64]⟩
abbrev S4092x64 : Shape := ⟨2, ![4092, 64]⟩
abbrev S8x64 : Shape := ⟨2, ![8, 64]⟩
abbrev S4088x64 : Shape := ⟨2, ![4088, 64]⟩
abbrev S16x64 : Shape := ⟨2, ![16, 64]⟩
abbrev S4080x64 : Shape := ⟨2, ![4080, 64]⟩
abbrev S4x64x4096 : Shape := ⟨3, ![4, 64, 4096]⟩
abbrev S1x256 : Shape := ⟨2, ![1, 256]⟩
abbrev S7x128x128 : Shape := ⟨3, ![7, 128, 128]⟩

abbrev nBuf : Space → Nat
  | .hbm => 484
  | .vmem => 0
  | .smem => 0
  | _ => 0

abbrev hbmTy0_0 (i : Nat) : BufTy := match i % 128 with
  | 0 => ⟨S4096x1024, .f32⟩
  | 1 => ⟨S1024, .f32⟩
  | 2 => ⟨S1024x1792, .f32⟩
  | 3 => ⟨S384, .f32⟩
  | 4 => ⟨S384, .f32⟩
  | 5 => ⟨S6x128x128, .f32⟩
  | 6 => ⟨S6x128, .f32⟩
  | 7 => ⟨S31x384, .f32⟩
  | 8 => ⟨S384, .f32⟩
  | 9 => ⟨S384, .f32⟩
  | 10 => ⟨S384, .f32⟩
  | 11 => ⟨S4x64x64, .f32⟩
  | 12 => ⟨S256, .f32⟩
  | 13 => ⟨S1024x1024, .f32⟩
  | 14 => ⟨S4096x1024, .f32⟩
  | 15 => ⟨S4096x1024, .f32⟩
  | 16 => ⟨S_, .f32⟩
  | 17 => ⟨S4096, .f32⟩
  | 18 => ⟨S4096x1, .f32⟩
  | 19 => ⟨S_, .f32⟩
  | 20 => ⟨S4096x1, .f32⟩
  | 21 => ⟨S4096x1, .f32⟩
  | 22 => ⟨S_, .f32⟩
  | 23 => ⟨S4096x1, .f32⟩
  | 24 => ⟨S4096x1, .f32⟩
  | 25 => ⟨S4096x1, .f32⟩
  | 26 => ⟨S4096x1024, .f32⟩
  | 27 => ⟨S4096x1024, .f32⟩
  | 28 => ⟨S1x1024, .f32⟩
  | 29 => ⟨S4096x1024, .f32⟩
  | 30 => ⟨S4096x1024, .f32⟩
  | 31 => ⟨S4096x1792, .f32⟩
  | 32 => ⟨S4096x384, .f32⟩
  | 33 => ⟨S4096x384, .f32⟩
  | 34 => ⟨S4096x384, .f32⟩
  | 35 => ⟨S4096x384, .f32⟩
  | 36 => ⟨S4096x256, .f32⟩
  | 37 => ⟨S_, .f32⟩
  | 38 => ⟨S4096x384, .f32⟩
  | 39 => ⟨S4096x384, .f32⟩
  | 40 => ⟨S_, .f32⟩
  | 41 => ⟨S4096x384, .f32⟩
  | 42 => ⟨S4096x384, .f32⟩
  | 43 => ⟨S4096x384, .f32⟩
  | 44 => ⟨S_, .f32⟩
  | 45 => ⟨S4096x384, .f32⟩
  | 46 => ⟨S4096x384, .f32⟩
  | 47 => ⟨S4096x384, .f32⟩
  | 48 => ⟨S_, .f32⟩
  | 49 => ⟨S4096x384, .f32⟩
  | 50 => ⟨S4096x384, .f32⟩
  | 51 => ⟨S_, .f32⟩
  | 52 => ⟨S4096x384, .f32⟩
  | 53 => ⟨S4096x384, .f32⟩
  | 54 => ⟨S4096x384, .f32⟩
  | 55 => ⟨S_, .f32⟩
  | 56 => ⟨S4096x384, .f32⟩
  | 57 => ⟨S4096x384, .f32⟩
  | 58 => ⟨S4096x384, .f32⟩
  | 59 => ⟨S_, .f32⟩
  | 60 => ⟨S4096, .f32⟩
  | 61 => ⟨S4096x1, .f32⟩
  | 62 => ⟨S_, .f32⟩
  | 63 => ⟨S4096x1, .f32⟩
  | 64 => ⟨S4096x1, .f32⟩
  | 65 => ⟨S4096x384, .f32⟩
  | 66 => ⟨S4096x384, .f32⟩
  | 67 => ⟨S4096x384, .f32⟩
  | 68 => ⟨S_, .f32⟩
  | 69 => ⟨S4096, .f32⟩
  | 70 => ⟨S4096x1, .f32⟩
  | 71 => ⟨S_, .f32⟩
  | 72 => ⟨S4096x1, .f32⟩
  | 73 => ⟨S4096x1, .f32⟩
  | 74 => ⟨S_, .f32⟩
  | 75 => ⟨S4096x1, .f32⟩
  | 76 => ⟨S4096x1, .f32⟩
  | 77 => ⟨S4096x1, .f32⟩
  | 78 => ⟨S4096x384, .f32⟩
  | 79 => ⟨S4096x384, .f32⟩
  | 80 => ⟨S1x384, .f32⟩
  | 81 => ⟨S4096x384, .f32⟩
  | 82 => ⟨S4096x384, .f32⟩
  | 83 => ⟨S1x384, .f32⟩
  | 84 => ⟨S4096x384, .f32⟩
  | 85 => ⟨S4096x384, .f32⟩
  | 86 => ⟨S_, .i1⟩
  | 87 => ⟨S128x128, .i1⟩
  | 88 => ⟨S128x128, .i32⟩
  | 89 => ⟨S_, .i32⟩
  | 90 => ⟨S128x128, .i32⟩
  | 91 => ⟨S128x128, .i32⟩
  | 92 => ⟨S128x128, .i32⟩
  | 93 => ⟨S128x128, .i1⟩
  | 94 => ⟨S_, .i1⟩
  | 95 => ⟨S128x128, .i1⟩
  | 96 => ⟨S128x128, .i1⟩
  | 97 => ⟨S1x128x128, .i1⟩
  | 98 => ⟨S_, .f32⟩
  | 99 => ⟨S6x128x128, .f32⟩
  | 100 => ⟨S6x128x128, .i1⟩
  | 101 => ⟨S6x128x128, .f32⟩
  | 102 => ⟨S_, .f32⟩
  | 103 => ⟨S6x128x128, .f32⟩
  | 104 => ⟨S32x128x6x64, .f32⟩
  | 105 => ⟨S6x32x64x128, .f32⟩
  | 106 => ⟨S32x128x6x64, .f32⟩
  | 107 => ⟨S128x6, .f32⟩
  | 108 => ⟨S1x128x6x1, .f32⟩
  | 109 => ⟨S32x128x6x64, .f32⟩
  | 110 => ⟨S32x128x6x64, .f32⟩
  | 111 => ⟨S4096x384, .f32⟩
  | 112 => ⟨S4096x384, .f32⟩
  | 113 => ⟨S4096x384, .f32⟩
  | 114 => ⟨S4096x384, .f32⟩
  | 115 => ⟨S_, .f32⟩
  | 116 => ⟨S4096x384, .f32⟩
  | 117 => ⟨S4096x384, .f32⟩
  | 118 => ⟨S_, .f32⟩
  | 119 => ⟨S4096x384, .f32⟩
  | 120 => ⟨S4096x384, .f32⟩
  | 121 => ⟨S4096x384, .f32⟩
  | 122 => ⟨S_, .f32⟩
  | 123 => ⟨S30x384, .f32⟩
  | 124 => ⟨S4126x384, .f32⟩
  | 125 => ⟨S4096x384, .f32⟩
  | 126 => ⟨S1x384, .f32⟩
  | 127 => ⟨S384, .f32⟩
  | _ => ⟨S4096x1024, .f32⟩

abbrev hbmTy0_1 (i : Nat) : BufTy := match i % 128 with
  | 0 => ⟨S1x384, .f32⟩
  | 1 => ⟨S4096x384, .f32⟩
  | 2 => ⟨S4096x384, .f32⟩
  | 3 => ⟨S_, .f32⟩
  | 4 => ⟨S4096x384, .f32⟩
  | 5 => ⟨S4096x384, .f32⟩
  | 6 => ⟨S4096x384, .f32⟩
  | 7 => ⟨S1x384, .f32⟩
  | 8 => ⟨S384, .f32⟩
  | 9 => ⟨S1x384, .f32⟩
  | 10 => ⟨S4096x384, .f32⟩
  | 11 => ⟨S4096x384, .f32⟩
  | 12 => ⟨S4096x384, .f32⟩
  | 13 => ⟨S4096x384, .f32⟩
  | 14 => ⟨S1x384, .f32⟩
  | 15 => ⟨S384, .f32⟩
  | 16 => ⟨S1x384, .f32⟩
  | 17 => ⟨S4096x384, .f32⟩
  | 18 => ⟨S4096x384, .f32⟩
  | 19 => ⟨S4096x384, .f32⟩
  | 20 => ⟨S4096x384, .f32⟩
  | 21 => ⟨S1x384, .f32⟩
  | 22 => ⟨S384, .f32⟩
  | 23 => ⟨S1x384, .f32⟩
  | 24 => ⟨S4096x384, .f32⟩
  | 25 => ⟨S4096x384, .f32⟩
  | 26 => ⟨S4096x384, .f32⟩
  | 27 => ⟨S4096x384, .f32⟩
  | 28 => ⟨S1x384, .f32⟩
  | 29 => ⟨S384, .f32⟩
  | 30 => ⟨S1x384, .f32⟩
  | 31 => ⟨S4096x384, .f32⟩
  | 32 => ⟨S4096x384, .f32⟩
  | 33 => ⟨S4096x384, .f32⟩
  | 34 => ⟨S4096x384, .f32⟩
  | 35 => ⟨S1x384, .f32⟩
  | 36 => ⟨S384, .f32⟩
  | 37 => ⟨S1x384, .f32⟩
  | 38 => ⟨S4096x384, .f32⟩
  | 39 => ⟨S4096x384, .f32⟩
  | 40 => ⟨S4096x384, .f32⟩
  | 41 => ⟨S4096x384, .f32⟩
  | 42 => ⟨S1x384, .f32⟩
  | 43 => ⟨S384, .f32⟩
  | 44 => ⟨S1x384, .f32⟩
  | 45 => ⟨S4096x384, .f32⟩
  | 46 => ⟨S4096x384, .f32⟩
  | 47 => ⟨S4096x384, .f32⟩
  | 48 => ⟨S4096x384, .f32⟩
  | 49 => ⟨S1x384, .f32⟩
  | 50 => ⟨S384, .f32⟩
  | 51 => ⟨S1x384, .f32⟩
  | 52 => ⟨S4096x384, .f32⟩
  | 53 => ⟨S4096x384, .f32⟩
  | 54 => ⟨S4096x384, .f32⟩
  | 55 => ⟨S4096x384, .f32⟩
  | 56 => ⟨S1x384, .f32⟩
  | 57 => ⟨S384, .f32⟩
  | 58 => ⟨S1x384, .f32⟩
  | 59 => ⟨S4096x384, .f32⟩
  | 60 => ⟨S4096x384, .f32⟩
  | 61 => ⟨S4096x384, .f32⟩
  | 62 => ⟨S4096x384, .f32⟩
  | 63 => ⟨S1x384, .f32⟩
  | 64 => ⟨S384, .f32⟩
  | 65 => ⟨S1x384, .f32⟩
  | 66 => ⟨S4096x384, .f32⟩
  | 67 => ⟨S4096x384, .f32⟩
  | 68 => ⟨S4096x384, .f32⟩
  | 69 => ⟨S4096x384, .f32⟩
  | 70 => ⟨S1x384, .f32⟩
  | 71 => ⟨S384, .f32⟩
  | 72 => ⟨S1x384, .f32⟩
  | 73 => ⟨S4096x384, .f32⟩
  | 74 => ⟨S4096x384, .f32⟩
  | 75 => ⟨S4096x384, .f32⟩
  | 76 => ⟨S4096x384, .f32⟩
  | 77 => ⟨S1x384, .f32⟩
  | 78 => ⟨S384, .f32⟩
  | 79 => ⟨S1x384, .f32⟩
  | 80 => ⟨S4096x384, .f32⟩
  | 81 => ⟨S4096x384, .f32⟩
  | 82 => ⟨S4096x384, .f32⟩
  | 83 => ⟨S4096x384, .f32⟩
  | 84 => ⟨S1x384, .f32⟩
  | 85 => ⟨S384, .f32⟩
  | 86 => ⟨S1x384, .f32⟩
  | 87 => ⟨S4096x384, .f32⟩
  | 88 => ⟨S4096x384, .f32⟩
  | 89 => ⟨S4096x384, .f32⟩
  | 90 => ⟨S4096x384, .f32⟩
  | 91 => ⟨S1x384, .f32⟩
  | 92 => ⟨S384, .f32⟩
  | 93 => ⟨S1x384, .f32⟩
  | 94 => ⟨S4096x384, .f32⟩
  | 95 => ⟨S4096x384, .f32⟩
  | 96 => ⟨S4096x384, .f32⟩
  | 97 => ⟨S4096x384, .f32⟩
  | 98 => ⟨S1x384, .f32⟩
  | 99 => ⟨S384, .f32⟩
  | 100 => ⟨S1x384, .f32⟩
  | 101 => ⟨S4096x384, .f32⟩
  | 102 => ⟨S4096x384, .f32⟩
  | 103 => ⟨S4096x384, .f32⟩
  | 104 => ⟨S4096x384, .f32⟩
  | 105 => ⟨S1x384, .f32⟩
  | 106 => ⟨S384, .f32⟩
  | 107 => ⟨S1x384, .f32⟩
  | 108 => ⟨S4096x384, .f32⟩
  | 109 => ⟨S4096x384, .f32⟩
  | 110 => ⟨S4096x384, .f32⟩
  | 111 => ⟨S4096x384, .f32⟩
  | 112 => ⟨S1x384, .f32⟩
  | 113 => ⟨S384, .f32⟩
  | 114 => ⟨S1x384, .f32⟩
  | 115 => ⟨S4096x384, .f32⟩
  | 116 => ⟨S4096x384, .f32⟩
  | 117 => ⟨S4096x384, .f32⟩
  | 118 => ⟨S4096x384, .f32⟩
  | 119 => ⟨S1x384, .f32⟩
  | 120 => ⟨S384, .f32⟩
  | 121 => ⟨S1x384, .f32⟩
  | 122 => ⟨S4096x384, .f32⟩
  | 123 => ⟨S4096x384, .f32⟩
  | 124 => ⟨S4096x384, .f32⟩
  | 125 => ⟨S4096x384, .f32⟩
  | 126 => ⟨S1x384, .f32⟩
  | 127 => ⟨S384, .f32⟩
  | _ => ⟨S4096x1024, .f32⟩

abbrev hbmTy0_2 (i : Nat) : BufTy := match i % 128 with
  | 0 => ⟨S1x384, .f32⟩
  | 1 => ⟨S4096x384, .f32⟩
  | 2 => ⟨S4096x384, .f32⟩
  | 3 => ⟨S4096x384, .f32⟩
  | 4 => ⟨S4096x384, .f32⟩
  | 5 => ⟨S1x384, .f32⟩
  | 6 => ⟨S384, .f32⟩
  | 7 => ⟨S1x384, .f32⟩
  | 8 => ⟨S4096x384, .f32⟩
  | 9 => ⟨S4096x384, .f32⟩
  | 10 => ⟨S4096x384, .f32⟩
  | 11 => ⟨S4096x384, .f32⟩
  | 12 => ⟨S1x384, .f32⟩
  | 13 => ⟨S384, .f32⟩
  | 14 => ⟨S1x384, .f32⟩
  | 15 => ⟨S4096x384, .f32⟩
  | 16 => ⟨S4096x384, .f32⟩
  | 17 => ⟨S4096x384, .f32⟩
  | 18 => ⟨S4096x384, .f32⟩
  | 19 => ⟨S1x384, .f32⟩
  | 20 => ⟨S384, .f32⟩
  | 21 => ⟨S1x384, .f32⟩
  | 22 => ⟨S4096x384, .f32⟩
  | 23 => ⟨S4096x384, .f32⟩
  | 24 => ⟨S4096x384, .f32⟩
  | 25 => ⟨S4096x384, .f32⟩
  | 26 => ⟨S1x384, .f32⟩
  | 27 => ⟨S384, .f32⟩
  | 28 => ⟨S1x384, .f32⟩
  | 29 => ⟨S4096x384, .f32⟩
  | 30 => ⟨S4096x384, .f32⟩
  | 31 => ⟨S4096x384, .f32⟩
  | 32 => ⟨S4096x384, .f32⟩
  | 33 => ⟨S1x384, .f32⟩
  | 34 => ⟨S384, .f32⟩
  | 35 => ⟨S1x384, .f32⟩
  | 36 => ⟨S4096x384, .f32⟩
  | 37 => ⟨S4096x384, .f32⟩
  | 38 => ⟨S4096x384, .f32⟩
  | 39 => ⟨S4096x384, .f32⟩
  | 40 => ⟨S1x384, .f32⟩
  | 41 => ⟨S384, .f32⟩
  | 42 => ⟨S1x384, .f32⟩
  | 43 => ⟨S4096x384, .f32⟩
  | 44 => ⟨S4096x384, .f32⟩
  | 45 => ⟨S4096x384, .f32⟩
  | 46 => ⟨S4096x384, .f32⟩
  | 47 => ⟨S1x384, .f32⟩
  | 48 => ⟨S384, .f32⟩
  | 49 => ⟨S1x384, .f32⟩
  | 50 => ⟨S4096x384, .f32⟩
  | 51 => ⟨S4096x384, .f32⟩
  | 52 => ⟨S4096x384, .f32⟩
  | 53 => ⟨S4096x384, .f32⟩
  | 54 => ⟨S1x384, .f32⟩
  | 55 => ⟨S384, .f32⟩
  | 56 => ⟨S1x384, .f32⟩
  | 57 => ⟨S4096x384, .f32⟩
  | 58 => ⟨S4096x384, .f32⟩
  | 59 => ⟨S4096x384, .f32⟩
  | 60 => ⟨S4096x384, .f32⟩
  | 61 => ⟨S1x384, .f32⟩
  | 62 => ⟨S384, .f32⟩
  | 63 => ⟨S1x384, .f32⟩
  | 64 => ⟨S4096x384, .f32⟩
  | 65 => ⟨S4096x384, .f32⟩
  | 66 => ⟨S4096x384, .f32⟩
  | 67 => ⟨S4096x384, .f32⟩
  | 68 => ⟨S1x384, .f32⟩
  | 69 => ⟨S384, .f32⟩
  | 70 => ⟨S1x384, .f32⟩
  | 71 => ⟨S4096x384, .f32⟩
  | 72 => ⟨S4096x384, .f32⟩
  | 73 => ⟨S4096x384, .f32⟩
  | 74 => ⟨S4096x384, .f32⟩
  | 75 => ⟨S1x384, .f32⟩
  | 76 => ⟨S384, .f32⟩
  | 77 => ⟨S1x384, .f32⟩
  | 78 => ⟨S4096x384, .f32⟩
  | 79 => ⟨S4096x384, .f32⟩
  | 80 => ⟨S4096x384, .f32⟩
  | 81 => ⟨S4096x384, .f32⟩
  | 82 => ⟨S1x384, .f32⟩
  | 83 => ⟨S384, .f32⟩
  | 84 => ⟨S1x384, .f32⟩
  | 85 => ⟨S4096x384, .f32⟩
  | 86 => ⟨S4096x384, .f32⟩
  | 87 => ⟨S4096x384, .f32⟩
  | 88 => ⟨S1x384, .f32⟩
  | 89 => ⟨S4096x384, .f32⟩
  | 90 => ⟨S4096x384, .f32⟩
  | 91 => ⟨S_, .f32⟩
  | 92 => ⟨S4096, .f32⟩
  | 93 => ⟨S4096x1, .f32⟩
  | 94 => ⟨S_, .f32⟩
  | 95 => ⟨S4096x1, .f32⟩
  | 96 => ⟨S4096x1, .f32⟩
  | 97 => ⟨S4096x384, .f32⟩
  | 98 => ⟨S4096x384, .f32⟩
  | 99 => ⟨S4096x384, .f32⟩
  | 100 => ⟨S_, .f32⟩
  | 101 => ⟨S4096, .f32⟩
  | 102 => ⟨S4096x1, .f32⟩
  | 103 => ⟨S_, .f32⟩
  | 104 => ⟨S4096x1, .f32⟩
  | 105 => ⟨S4096x1, .f32⟩
  | 106 => ⟨S_, .f32⟩
  | 107 => ⟨S4096x1, .f32⟩
  | 108 => ⟨S4096x1, .f32⟩
  | 109 => ⟨S4096x1, .f32⟩
  | 110 => ⟨S4096x384, .f32⟩
  | 111 => ⟨S4096x384, .f32⟩
  | 112 => ⟨S1x384, .f32⟩
  | 113 => ⟨S4096x384, .f32⟩
  | 114 => ⟨S4096x384, .f32⟩
  | 115 => ⟨S1x384, .f32⟩
  | 116 => ⟨S4096x384, .f32⟩
  | 117 => ⟨S4096x384, .f32⟩
  | 118 => ⟨S4096x384, .f32⟩
  | 119 => ⟨S4096x384, .f32⟩
  | 120 => ⟨S_, .f32⟩
  | 121 => ⟨S4096x384, .f32⟩
  | 122 => ⟨S4096x384, .f32⟩
  | 123 => ⟨S_, .f32⟩
  | 124 => ⟨S4096x384, .f32⟩
  | 125 => ⟨S4096x384, .f32⟩
  | 126 => ⟨S4096x384, .f32⟩
  | 127 => ⟨S4096x4x64, .f32⟩
  | _ => ⟨S4096x1024, .f32⟩

abbrev hbmTy0_3 (i : Nat) : BufTy := match i % 128 with
  | 0 => ⟨S_, .f32⟩
  | 1 => ⟨S_, .f32⟩
  | 2 => ⟨S4096x4x64, .f32⟩
  | 3 => ⟨S4096, .f32⟩
  | 4 => ⟨S_, .f32⟩
  | 5 => ⟨S4096, .f32⟩
  | 6 => ⟨S4096, .f32⟩
  | 7 => ⟨S4096x1x64, .f32⟩
  | 8 => ⟨S4096x64, .f32⟩
  | 9 => ⟨S_, .f32⟩
  | 10 => ⟨S2x64, .f32⟩
  | 11 => ⟨S4094x64, .f32⟩
  | 12 => ⟨S4096x64, .f32⟩
  | 13 => ⟨S_, .f32⟩
  | 14 => ⟨S4096, .f32⟩
  | 15 => ⟨S4096, .f32⟩
  | 16 => ⟨S4096x1, .f32⟩
  | 17 => ⟨S4096x64, .f32⟩
  | 18 => ⟨S4096x64, .f32⟩
  | 19 => ⟨S4096x64, .f32⟩
  | 20 => ⟨S4096x1x64, .f32⟩
  | 21 => ⟨S4096x64, .f32⟩
  | 22 => ⟨S_, .f32⟩
  | 23 => ⟨S4x64, .f32⟩
  | 24 => ⟨S4092x64, .f32⟩
  | 25 => ⟨S4096x64, .f32⟩
  | 26 => ⟨S_, .f32⟩
  | 27 => ⟨S4096, .f32⟩
  | 28 => ⟨S4096, .f32⟩
  | 29 => ⟨S4096x1, .f32⟩
  | 30 => ⟨S4096x64, .f32⟩
  | 31 => ⟨S4096x64, .f32⟩
  | 32 => ⟨S4096x64, .f32⟩
  | 33 => ⟨S4096x1x64, .f32⟩
  | 34 => ⟨S4096x64, .f32⟩
  | 35 => ⟨S_, .f32⟩
  | 36 => ⟨S8x64, .f32⟩
  | 37 => ⟨S4088x64, .f32⟩
  | 38 => ⟨S4096x64, .f32⟩
  | 39 => ⟨S_, .f32⟩
  | 40 => ⟨S4096, .f32⟩
  | 41 => ⟨S4096, .f32⟩
  | 42 => ⟨S4096x1, .f32⟩
  | 43 => ⟨S4096x64, .f32⟩
  | 44 => ⟨S4096x64, .f32⟩
  | 45 => ⟨S4096x64, .f32⟩
  | 46 => ⟨S4096x1x64, .f32⟩
  | 47 => ⟨S4096x64, .f32⟩
  | 48 => ⟨S_, .f32⟩
  | 49 => ⟨S16x64, .f32⟩
  | 50 => ⟨S4080x64, .f32⟩
  | 51 => ⟨S4096x64, .f32⟩
  | 52 => ⟨S_, .f32⟩
  | 53 => ⟨S4096, .f32⟩
  | 54 => ⟨S4096, .f32⟩
  | 55 => ⟨S4096x1, .f32⟩
  | 56 => ⟨S4096x64, .f32⟩
  | 57 => ⟨S4096x64, .f32⟩
  | 58 => ⟨S4096x64, .f32⟩
  | 59 => ⟨S4096x1x64, .f32⟩
  | 60 => ⟨S4096x1x64, .f32⟩
  | 61 => ⟨S4096x1x64, .f32⟩
  | 62 => ⟨S4096x1x64, .f32⟩
  | 63 => ⟨S4096x4x64, .f32⟩
  | 64 => ⟨S4096x4x64, .f32⟩
  | 65 => ⟨S4x64x4096, .f32⟩
  | 66 => ⟨S4096x4x64, .f32⟩
  | 67 => ⟨S4096x256, .f32⟩
  | 68 => ⟨S1x256, .f32⟩
  | 69 => ⟨S4096x256, .f32⟩
  | 70 => ⟨S4096x256, .f32⟩
  | 71 => ⟨S4096x1024, .f32⟩
  | 72 => ⟨S_, .f32⟩
  | 73 => ⟨S4096x384, .f32⟩
  | 74 => ⟨S_, .f32⟩
  | 75 => ⟨S4096x256, .f32⟩
  | 76 => ⟨S4096x1024, .f32⟩
  | 77 => ⟨S4096x1024, .f32⟩
  | 78 => ⟨S4096x384, .f32⟩
  | 79 => ⟨S4096x384, .f32⟩
  | 80 => ⟨S4096x256, .f32⟩
  | 81 => ⟨S4096x384, .f32⟩
  | 82 => ⟨S32x128x6x64, .f32⟩
  | 83 => ⟨S_, .f32⟩
  | 84 => ⟨S128x6, .f32⟩
  | 85 => ⟨S1x128x6x1, .f32⟩
  | 86 => ⟨S_, .f32⟩
  | 87 => ⟨S128x6, .f32⟩
  | 88 => ⟨S6x128, .f32⟩
  | 89 => ⟨S6x32x64x128, .f32⟩
  | 90 => ⟨S6x128x128, .f32⟩
  | 91 => ⟨S_, .f32⟩
  | 92 => ⟨S6x128x128, .f32⟩
  | 93 => ⟨S6x128x128, .f32⟩
  | 94 => ⟨S128x6, .f32⟩
  | 95 => ⟨S_, .i32⟩
  | 96 => ⟨S_, .f32⟩
  | 97 => ⟨S128x128, .f32⟩
  | 98 => ⟨S1x128x128, .f32⟩
  | 99 => ⟨S7x128x128, .f32⟩
  | _ => ⟨S4096x1024, .f32⟩

abbrev hbmTy (i : Nat) : BufTy := match i / 128 with
  | 0 => hbmTy0_0 i
  | 1 => hbmTy0_1 i
  | 2 => hbmTy0_2 i
  | 3 => hbmTy0_3 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_5 : Ref sig .tc := ⟨.hbm, 48, rfl⟩
abbrev main_v27 : Ref sig .tc := ⟨.hbm, 49, rfl⟩
abbrev main_v28 : Ref sig .tc := ⟨.hbm, 50, rfl⟩
abbrev main_cst_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_7 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_8 : Ref sig .tc := ⟨.hbm, 59, rfl⟩
abbrev main_v35 : Ref sig .tc := ⟨.hbm, 60, rfl⟩
abbrev main_v36 : Ref sig .tc := ⟨.hbm, 61, rfl⟩
abbrev main_cst_9 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_10 : Ref sig .tc := ⟨.hbm, 68, rfl⟩
abbrev main_v42 : Ref sig .tc := ⟨.hbm, 69, rfl⟩
abbrev main_v43 : Ref sig .tc := ⟨.hbm, 70, rfl⟩
abbrev main_cst_11 : Ref sig .tc := ⟨.hbm, 71, rfl⟩
abbrev main_v44 : Ref sig .tc := ⟨.hbm, 72, rfl⟩
abbrev main_v45 : Ref sig .tc := ⟨.hbm, 73, rfl⟩
abbrev main_cst_12 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c : Ref sig .tc := ⟨.hbm, 86, rfl⟩
abbrev main_v57 : Ref sig .tc := ⟨.hbm, 87, rfl⟩
abbrev main_call0_v0 : Ref sig .tc := ⟨.hbm, 88, rfl⟩
abbrev main_call0_c : Ref sig .tc := ⟨.hbm, 89, rfl⟩
abbrev main_call0_v1 : Ref sig .tc := ⟨.hbm, 90, rfl⟩
abbrev main_call0_v2 : Ref sig .tc := ⟨.hbm, 91, rfl⟩
abbrev main_call0_v3 : Ref sig .tc := ⟨.hbm, 92, rfl⟩
abbrev main_call0_v4 : Ref sig .tc := ⟨.hbm, 93, rfl⟩
abbrev main_call0_c_0 : Ref sig .tc := ⟨.hbm, 94, rfl⟩
abbrev main_call0_v5 : Ref sig .tc := ⟨.hbm, 95, rfl⟩
abbrev main_v58 : Ref sig .tc := ⟨.hbm, 96, rfl⟩
abbrev main_v59 : Ref sig .tc := ⟨.hbm, 97, rfl⟩
abbrev main_cst_13 : Ref sig .tc := ⟨.hbm, 98, rfl⟩
abbrev main_v60 : Ref sig .tc := ⟨.hbm, 99, rfl⟩
abbrev main_v61_1 : Ref sig .tc := ⟨.hbm, 100, rfl⟩
abbrev main_v61_0 : Ref sig .tc := ⟨.hbm, 101, rfl⟩
abbrev main_call1_cst : Ref sig .tc := ⟨.hbm, 102, rfl⟩
abbrev main_v61_2 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_cst_14 : Ref sig .tc := ⟨.hbm, 115, rfl⟩
abbrev main_v73 : Ref sig .tc := ⟨.hbm, 116, rfl⟩
abbrev main_v74 : Ref sig .tc := ⟨.hbm, 117, rfl⟩
abbrev main_cst_15 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_cst_16 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_cst_17 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_v212 : Ref sig .tc := ⟨.hbm, 258, rfl⟩
abbrev main_v213 : Ref sig .tc := ⟨.hbm, 259, rfl⟩
abbrev main_v214 : Ref sig .tc := ⟨.hbm, 260, rfl⟩
abbrev main_v215 : Ref sig .tc := ⟨.hbm, 261, rfl⟩
abbrev main_v216 : Ref sig .tc := ⟨.hbm, 262, rfl⟩
abbrev main_v217 : Ref sig .tc := ⟨.hbm, 263, rfl⟩
abbrev main_v218 : Ref sig .tc := ⟨.hbm, 264, rfl⟩
abbrev main_v219 : Ref sig .tc := ⟨.hbm, 265, rfl⟩
abbrev main_v220 : Ref sig .tc := ⟨.hbm, 266, rfl⟩
abbrev main_v221 : Ref sig .tc := ⟨.hbm, 267, rfl⟩
abbrev main_v222 : Ref sig .tc := ⟨.hbm, 268, rfl⟩
abbrev main_v223 : Ref sig .tc := ⟨.hbm, 269, rfl⟩
abbrev main_v224 : Ref sig .tc := ⟨.hbm, 270, rfl⟩
abbrev main_v225 : Ref sig .tc := ⟨.hbm, 271, rfl⟩
abbrev main_v226 : Ref sig .tc := ⟨.hbm, 272, rfl⟩
abbrev main_v227 : Ref sig .tc := ⟨.hbm, 273, rfl⟩
abbrev main_v228 : Ref sig .tc := ⟨.hbm, 274, rfl⟩
abbrev main_v229 : Ref sig .tc := ⟨.hbm, 275, rfl⟩
abbrev main_v230 : Ref sig .tc := ⟨.hbm, 276, rfl⟩
abbrev main_v231 : Ref sig .tc := ⟨.hbm, 277, rfl⟩
abbrev main_v232 : Ref sig .tc := ⟨.hbm, 278, rfl⟩
abbrev main_v233 : Ref sig .tc := ⟨.hbm, 279, rfl⟩
abbrev main_v234 : Ref sig .tc := ⟨.hbm, 280, rfl⟩
abbrev main_v235 : Ref sig .tc := ⟨.hbm, 281, rfl⟩
abbrev main_v236 : Ref sig .tc := ⟨.hbm, 282, rfl⟩
abbrev main_v237 : Ref sig .tc := ⟨.hbm, 283, rfl⟩
abbrev main_v238 : Ref sig .tc := ⟨.hbm, 284, rfl⟩
abbrev main_v239 : Ref sig .tc := ⟨.hbm, 285, rfl⟩
abbrev main_v240 : Ref sig .tc := ⟨.hbm, 286, rfl⟩
abbrev main_v241 : Ref sig .tc := ⟨.hbm, 287, rfl⟩
abbrev main_v242 : Ref sig .tc := ⟨.hbm, 288, rfl⟩
abbrev main_v243 : Ref sig .tc := ⟨.hbm, 289, rfl⟩
abbrev main_v244 : Ref sig .tc := ⟨.hbm, 290, rfl⟩
abbrev main_v245 : Ref sig .tc := ⟨.hbm, 291, rfl⟩
abbrev main_v246 : Ref sig .tc := ⟨.hbm, 292, rfl⟩
abbrev main_v247 : Ref sig .tc := ⟨.hbm, 293, rfl⟩
abbrev main_v248 : Ref sig .tc := ⟨.hbm, 294, rfl⟩
abbrev main_v249 : Ref sig .tc := ⟨.hbm, 295, rfl⟩
abbrev main_v250 : Ref sig .tc := ⟨.hbm, 296, rfl⟩
abbrev main_v251 : Ref sig .tc := ⟨.hbm, 297, rfl⟩
abbrev main_v252 : Ref sig .tc := ⟨.hbm, 298, rfl⟩
abbrev main_v253 : Ref sig .tc := ⟨.hbm, 299, rfl⟩
abbrev main_v254 : Ref sig .tc := ⟨.hbm, 300, rfl⟩
abbrev main_v255 : Ref sig .tc := ⟨.hbm, 301, rfl⟩
abbrev main_v256 : Ref sig .tc := ⟨.hbm, 302, rfl⟩
abbrev main_v257 : Ref sig .tc := ⟨.hbm, 303, rfl⟩
abbrev main_v258 : Ref sig .tc := ⟨.hbm, 304, rfl⟩
abbrev main_v259 : Ref sig .tc := ⟨.hbm, 305, rfl⟩
abbrev main_v260 : Ref sig .tc := ⟨.hbm, 306, rfl⟩
abbrev main_v261 : Ref sig .tc := ⟨.hbm, 307, rfl⟩
abbrev main_v262 : Ref sig .tc := ⟨.hbm, 308, rfl⟩
abbrev main_v263 : Ref sig .tc := ⟨.hbm, 309, rfl⟩
abbrev main_v264 : Ref sig .tc := ⟨.hbm, 310, rfl⟩
abbrev main_v265 : Ref sig .tc := ⟨.hbm, 311, rfl⟩
abbrev main_v266 : Ref sig .tc := ⟨.hbm, 312, rfl⟩
abbrev main_v267 : Ref sig .tc := ⟨.hbm, 313, rfl⟩
abbrev main_v268 : Ref sig .tc := ⟨.hbm, 314, rfl⟩
abbrev main_v269 : Ref sig .tc := ⟨.hbm, 315, rfl⟩
abbrev main_v270 : Ref sig .tc := ⟨.hbm, 316, rfl⟩
abbrev main_v271 : Ref sig .tc := ⟨.hbm, 317, rfl⟩
abbrev main_v272 : Ref sig .tc := ⟨.hbm, 318, rfl⟩
abbrev main_v273 : Ref sig .tc := ⟨.hbm, 319, rfl⟩
abbrev main_v274 : Ref sig .tc := ⟨.hbm, 320, rfl⟩
abbrev main_v275 : Ref sig .tc := ⟨.hbm, 321, rfl⟩
abbrev main_v276 : Ref sig .tc := ⟨.hbm, 322, rfl⟩
abbrev main_v277 : Ref sig .tc := ⟨.hbm, 323, rfl⟩
abbrev main_v278 : Ref sig .tc := ⟨.hbm, 324, rfl⟩
abbrev main_v279 : Ref sig .tc := ⟨.hbm, 325, rfl⟩
abbrev main_v280 : Ref sig .tc := ⟨.hbm, 326, rfl⟩
abbrev main_v281 : Ref sig .tc := ⟨.hbm, 327, rfl⟩
abbrev main_v282 : Ref sig .tc := ⟨.hbm, 328, rfl⟩
abbrev main_v283 : Ref sig .tc := ⟨.hbm, 329, rfl⟩
abbrev main_v284 : Ref sig .tc := ⟨.hbm, 330, rfl⟩
abbrev main_v285 : Ref sig .tc := ⟨.hbm, 331, rfl⟩
abbrev main_v286 : Ref sig .tc := ⟨.hbm, 332, rfl⟩
abbrev main_v287 : Ref sig .tc := ⟨.hbm, 333, rfl⟩
abbrev main_v288 : Ref sig .tc := ⟨.hbm, 334, rfl⟩
abbrev main_v289 : Ref sig .tc := ⟨.hbm, 335, rfl⟩
abbrev main_v290 : Ref sig .tc := ⟨.hbm, 336, rfl⟩
abbrev main_v291 : Ref sig .tc := ⟨.hbm, 337, rfl⟩
abbrev main_v292 : Ref sig .tc := ⟨.hbm, 338, rfl⟩
abbrev main_v293 : Ref sig .tc := ⟨.hbm, 339, rfl⟩
abbrev main_v294 : Ref sig .tc := ⟨.hbm, 340, rfl⟩
abbrev main_v295 : Ref sig .tc := ⟨.hbm, 341, rfl⟩
abbrev main_v296 : Ref sig .tc := ⟨.hbm, 342, rfl⟩
abbrev main_v297 : Ref sig .tc := ⟨.hbm, 343, rfl⟩
abbrev main_v298 : Ref sig .tc := ⟨.hbm, 344, rfl⟩
abbrev main_v299 : Ref sig .tc := ⟨.hbm, 345, rfl⟩
abbrev main_v300 : Ref sig .tc := ⟨.hbm, 346, rfl⟩
abbrev main_cst_18 : Ref sig .tc := ⟨.hbm, 347, rfl⟩
abbrev main_v301 : Ref sig .tc := ⟨.hbm, 348, rfl⟩
abbrev main_v302 : Ref sig .tc := ⟨.hbm, 349, rfl⟩
abbrev main_cst_19 : Ref sig .tc := ⟨.hbm, 350, rfl⟩
abbrev main_v303 : Ref sig .tc := ⟨.hbm, 351, rfl⟩
abbrev main_v304 : Ref sig .tc := ⟨.hbm, 352, rfl⟩
abbrev main_v305 : Ref sig .tc := ⟨.hbm, 353, rfl⟩
abbrev main_v306 : Ref sig .tc := ⟨.hbm, 354, rfl⟩
abbrev main_v307 : Ref sig .tc := ⟨.hbm, 355, rfl⟩
abbrev main_cst_20 : Ref sig .tc := ⟨.hbm, 356, rfl⟩
abbrev main_v308 : Ref sig .tc := ⟨.hbm, 357, rfl⟩
abbrev main_v309 : Ref sig .tc := ⟨.hbm, 358, rfl⟩
abbrev main_cst_21 : Ref sig .tc := ⟨.hbm, 359, rfl⟩
abbrev main_v310 : Ref sig .tc := ⟨.hbm, 360, rfl⟩
abbrev main_v311 : Ref sig .tc := ⟨.hbm, 361, rfl⟩
abbrev main_cst_22 : Ref sig .tc := ⟨.hbm, 362, rfl⟩
abbrev main_v312 : Ref sig .tc := ⟨.hbm, 363, rfl⟩
abbrev main_v313 : Ref sig .tc := ⟨.hbm, 364, rfl⟩
abbrev main_v314 : Ref sig .tc := ⟨.hbm, 365, rfl⟩
abbrev main_v315 : Ref sig .tc := ⟨.hbm, 366, rfl⟩
abbrev main_v316 : Ref sig .tc := ⟨.hbm, 367, rfl⟩
abbrev main_v317 : Ref sig .tc := ⟨.hbm, 368, rfl⟩
abbrev main_v318 : Ref sig .tc := ⟨.hbm, 369, rfl⟩
abbrev main_v319 : Ref sig .tc := ⟨.hbm, 370, rfl⟩
abbrev main_v320 : Ref sig .tc := ⟨.hbm, 371, rfl⟩
abbrev main_v321 : Ref sig .tc := ⟨.hbm, 372, rfl⟩
abbrev main_v322 : Ref sig .tc := ⟨.hbm, 373, rfl⟩
abbrev main_call2_v0 : Ref sig .tc := ⟨.hbm, 374, rfl⟩
abbrev main_call2_v1 : Ref sig .tc := ⟨.hbm, 375, rfl⟩
abbrev main_call2_cst : Ref sig .tc := ⟨.hbm, 376, rfl⟩
abbrev main_call2_v2 : Ref sig .tc := ⟨.hbm, 377, rfl⟩
abbrev main_call2_v3 : Ref sig .tc := ⟨.hbm, 378, rfl⟩
abbrev main_call2_cst_0 : Ref sig .tc := ⟨.hbm, 379, rfl⟩
abbrev main_call2_v4 : Ref sig .tc := ⟨.hbm, 380, rfl⟩
abbrev main_call2_v5 : Ref sig .tc := ⟨.hbm, 381, rfl⟩
abbrev main_v323 : Ref sig .tc := ⟨.hbm, 382, rfl⟩
abbrev main_v324 : Ref sig .tc := ⟨.hbm, 383, rfl⟩
abbrev main_call3_call0_cst : Ref sig .tc := ⟨.hbm, 384, rfl⟩
abbrev main_call3_call0_v0 : Ref sig .tc := ⟨.hbm, 385, rfl⟩
abbrev main_v325 : Ref sig .tc := ⟨.hbm, 386, rfl⟩
abbrev main_v326 : Ref sig .tc := ⟨.hbm, 387, rfl⟩
abbrev main_cst_23 : Ref sig .tc := ⟨.hbm, 388, rfl⟩
abbrev main_v327 : Ref sig .tc := ⟨.hbm, 389, rfl⟩
abbrev main_v328 : Ref sig .tc := ⟨.hbm, 390, rfl⟩
abbrev main_v329 : Ref sig .tc := ⟨.hbm, 391, rfl⟩
abbrev main_v330 : Ref sig .tc := ⟨.hbm, 392, rfl⟩
abbrev main_cst_24 : Ref sig .tc := ⟨.hbm, 393, rfl⟩
abbrev main_v331 : Ref sig .tc := ⟨.hbm, 394, rfl⟩
abbrev main_v332 : Ref sig .tc := ⟨.hbm, 395, rfl⟩
abbrev main_v333 : Ref sig .tc := ⟨.hbm, 396, rfl⟩
abbrev main_cst_25 : Ref sig .tc := ⟨.hbm, 397, rfl⟩
abbrev main_v334 : Ref sig .tc := ⟨.hbm, 398, rfl⟩
abbrev main_v335 : Ref sig .tc := ⟨.hbm, 399, rfl⟩
abbrev main_v336 : Ref sig .tc := ⟨.hbm, 400, rfl⟩
abbrev main_v337 : Ref sig .tc := ⟨.hbm, 401, rfl⟩
abbrev main_v338 : Ref sig .tc := ⟨.hbm, 402, rfl⟩
abbrev main_v339 : Ref sig .tc := ⟨.hbm, 403, rfl⟩
abbrev main_v340 : Ref sig .tc := ⟨.hbm, 404, rfl⟩
abbrev main_v341 : Ref sig .tc := ⟨.hbm, 405, rfl⟩
abbrev main_cst_26 : Ref sig .tc := ⟨.hbm, 406, rfl⟩
abbrev main_v342 : Ref sig .tc := ⟨.hbm, 407, rfl⟩
abbrev main_v343 : Ref sig .tc := ⟨.hbm, 408, rfl⟩
abbrev main_v344 : Ref sig .tc := ⟨.hbm, 409, rfl⟩
abbrev main_cst_27 : Ref sig .tc := ⟨.hbm, 410, rfl⟩
abbrev main_v345 : Ref sig .tc := ⟨.hbm, 411, rfl⟩
abbrev main_v346 : Ref sig .tc := ⟨.hbm, 412, rfl⟩
abbrev main_v347 : Ref sig .tc := ⟨.hbm, 413, rfl⟩
abbrev main_v348 : Ref sig .tc := ⟨.hbm, 414, rfl⟩
abbrev main_v349 : Ref sig .tc := ⟨.hbm, 415, rfl⟩
abbrev main_v350 : Ref sig .tc := ⟨.hbm, 416, rfl⟩
abbrev main_v351 : Ref sig .tc := ⟨.hbm, 417, rfl⟩
abbrev main_v352 : Ref sig .tc := ⟨.hbm, 418, rfl⟩
abbrev main_cst_28 : Ref sig .tc := ⟨.hbm, 419, rfl⟩
abbrev main_v353 : Ref sig .tc := ⟨.hbm, 420, rfl⟩
abbrev main_v354 : Ref sig .tc := ⟨.hbm, 421, rfl⟩
abbrev main_v355 : Ref sig .tc := ⟨.hbm, 422, rfl⟩
abbrev main_cst_29 : Ref sig .tc := ⟨.hbm, 423, rfl⟩
abbrev main_v356 : Ref sig .tc := ⟨.hbm, 424, rfl⟩
abbrev main_v357 : Ref sig .tc := ⟨.hbm, 425, rfl⟩
abbrev main_v358 : Ref sig .tc := ⟨.hbm, 426, rfl⟩
abbrev main_v359 : Ref sig .tc := ⟨.hbm, 427, rfl⟩
abbrev main_v360 : Ref sig .tc := ⟨.hbm, 428, rfl⟩
abbrev main_v361 : Ref sig .tc := ⟨.hbm, 429, rfl⟩
abbrev main_v362 : Ref sig .tc := ⟨.hbm, 430, rfl⟩
abbrev main_v363 : Ref sig .tc := ⟨.hbm, 431, rfl⟩
abbrev main_cst_30 : Ref sig .tc := ⟨.hbm, 432, rfl⟩
abbrev main_v364 : Ref sig .tc := ⟨.hbm, 433, rfl⟩
abbrev main_v365 : Ref sig .tc := ⟨.hbm, 434, rfl⟩
abbrev main_v366 : Ref sig .tc := ⟨.hbm, 435, rfl⟩
abbrev main_cst_31 : Ref sig .tc := ⟨.hbm, 436, rfl⟩
abbrev main_v367 : Ref sig .tc := ⟨.hbm, 437, rfl⟩
abbrev main_v368 : Ref sig .tc := ⟨.hbm, 438, rfl⟩
abbrev main_v369 : Ref sig .tc := ⟨.hbm, 439, rfl⟩
abbrev main_v370 : Ref sig .tc := ⟨.hbm, 440, rfl⟩
abbrev main_v371 : Ref sig .tc := ⟨.hbm, 441, rfl⟩
abbrev main_v372 : Ref sig .tc := ⟨.hbm, 442, rfl⟩
abbrev main_v373 : Ref sig .tc := ⟨.hbm, 443, rfl⟩
abbrev main_v374 : Ref sig .tc := ⟨.hbm, 444, rfl⟩
abbrev main_v375 : Ref sig .tc := ⟨.hbm, 445, rfl⟩
abbrev main_v376 : Ref sig .tc := ⟨.hbm, 446, rfl⟩
abbrev main_v377 : Ref sig .tc := ⟨.hbm, 447, rfl⟩
abbrev main_v378 : Ref sig .tc := ⟨.hbm, 448, rfl⟩
abbrev main_v379 : Ref sig .tc := ⟨.hbm, 449, rfl⟩
abbrev main_v380 : Ref sig .tc := ⟨.hbm, 450, rfl⟩
abbrev main_v381 : Ref sig .tc := ⟨.hbm, 451, rfl⟩
abbrev main_v382 : Ref sig .tc := ⟨.hbm, 452, rfl⟩
abbrev main_v383 : Ref sig .tc := ⟨.hbm, 453, rfl⟩
abbrev main_v384 : Ref sig .tc := ⟨.hbm, 454, rfl⟩
abbrev main_v385 : Ref sig .tc := ⟨.hbm, 455, rfl⟩
abbrev main_cst_32 : Ref sig .tc := ⟨.hbm, 456, rfl⟩
abbrev main_v386 : Ref sig .tc := ⟨.hbm, 457, rfl⟩
abbrev main_cst_33 : Ref sig .tc := ⟨.hbm, 458, rfl⟩
abbrev main_v387 : Ref sig .tc := ⟨.hbm, 459, rfl⟩
abbrev main_v388 : Ref sig .tc := ⟨.hbm, 460, rfl⟩
abbrev main_v389 : Ref sig .tc := ⟨.hbm, 461, rfl⟩
abbrev main_v390 : Ref sig .tc := ⟨.hbm, 462, rfl⟩
abbrev main_v391 : Ref sig .tc := ⟨.hbm, 463, rfl⟩
abbrev main_v392 : Ref sig .tc := ⟨.hbm, 464, rfl⟩
abbrev main_v393 : Ref sig .tc := ⟨.hbm, 465, rfl⟩
abbrev main_v394 : Ref sig .tc := ⟨.hbm, 466, rfl⟩
abbrev main_cst_34 : Ref sig .tc := ⟨.hbm, 467, rfl⟩
abbrev main_v395 : Ref sig .tc := ⟨.hbm, 468, rfl⟩
abbrev main_v396 : Ref sig .tc := ⟨.hbm, 469, rfl⟩
abbrev main_cst_35 : Ref sig .tc := ⟨.hbm, 470, rfl⟩
abbrev main_v397 : Ref sig .tc := ⟨.hbm, 471, rfl⟩
abbrev main_v398 : Ref sig .tc := ⟨.hbm, 472, rfl⟩
abbrev main_v399 : Ref sig .tc := ⟨.hbm, 473, rfl⟩
abbrev main_v400 : Ref sig .tc := ⟨.hbm, 474, rfl⟩
abbrev main_call4_cst : Ref sig .tc := ⟨.hbm, 475, rfl⟩
abbrev main_call4_v0 : Ref sig .tc := ⟨.hbm, 476, rfl⟩
abbrev main_v401 : Ref sig .tc := ⟨.hbm, 477, rfl⟩
abbrev main_v402 : Ref sig .tc := ⟨.hbm, 478, rfl⟩
abbrev main_c_36 : Ref sig .tc := ⟨.hbm, 479, rfl⟩
abbrev main_call5_v0 : Ref sig .tc := ⟨.hbm, 480, rfl⟩
abbrev main_v403 : Ref sig .tc := ⟨.hbm, 481, rfl⟩
abbrev main_v404 : Ref sig .tc := ⟨.hbm, 482, rfl⟩
abbrev main_v405 : Ref sig .tc := ⟨.hbm, 483, rfl⟩

abbrev nD : Nat := 1
abbrev τ : Topo := Topo.v7x

variable {F : FTy → Type} [FloatOps F]
-- ==== Kernel2.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S1x2816x1024 : Shape := ⟨3, ![1, 2816, 1024]⟩
abbrev S3x2816x1024 : Shape := ⟨3, ![3, 2816, 1024]⟩
abbrev S1x1024 : Shape := ⟨2, ![1, 1024]⟩
abbrev S4096x2816 : Shape := ⟨2, ![4096, 2816]⟩
abbrev S1024x1024 : Shape := ⟨2, ![1024, 1024]⟩
abbrev S2x256x1024 : Shape := ⟨3, ![2, 256, 1024]⟩
abbrev S1x256x1024 : Shape := ⟨3, ![1, 256, 1024]⟩
abbrev S1024x256 : Shape := ⟨2, ![1024, 256]⟩
abbrev S1024x1 : Shape := ⟨2, ![1024, 1]⟩
abbrev S512x1024 : Shape := ⟨2, ![512, 1024]⟩
abbrev S256x1024 : Shape := ⟨2, ![256, 1024]⟩
abbrev S512x512 : Shape := ⟨2, ![512, 512]⟩
abbrev S512x256 : Shape := ⟨2, ![512, 256]⟩

abbrev nBuf : Space → Nat
  | .hbm => 19
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .f32⟩
  | .hbm, ⟨6, _⟩ => ⟨S2816x1024, .bf16⟩
  | .hbm, ⟨7, _⟩ => ⟨S2816x1024, .f32⟩
  | .hbm, ⟨8, _⟩ => ⟨S2816x1024, .bf16⟩
  | .hbm, ⟨9, _⟩ => ⟨S2816x1024, .bf16⟩
  | .hbm, ⟨10, _⟩ => ⟨S1x2816x1024, .bf16⟩
  | .hbm, ⟨11, _⟩ => ⟨S1x2816x1024, .bf16⟩
  | .hbm, ⟨12, _⟩ => ⟨S1x2816x1024, .bf16⟩
  | .hbm, ⟨13, _⟩ => ⟨S3x2816x1024, .bf16⟩
  | .hbm, ⟨14, _⟩ => ⟨S1x1024, .f32⟩
  | .hbm, ⟨15, _⟩ => ⟨S4096x1024, .f32⟩
  | .hbm, ⟨16, _⟩ => ⟨S4096x2816, .bf16⟩
  | .hbm, ⟨17, _⟩ => ⟨S4096x2816, .bf16⟩
  | .hbm, ⟨18, _⟩ => ⟨S4096x2816, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S2x256x1024, .bf16⟩
  | .local _ .vmem, ⟨4, _⟩ => ⟨S2x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S1024x1024, .bf16⟩
  | .local _ .vmem, ⟨16, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 11], ![false, false]⟩

def k0_cond2 (i : grid0.Coords) : BitVec 1 :=
  let arg1 : BitVec 32 := BitVec.ofNat 32 (i 1).val
  let c10_i32 : BitVec 32 := 10#32
  let v46 : BitVec 1 := Scalar.cmpi .eq arg1 c10_i32
  let v47 : BitVec 32 := Scalar.extui v46
  let c0_i32_32 : BitVec 32 := 0#32
  let v48 : BitVec 1 := Scalar.cmpi .ne v47 c0_i32_32
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x2816, .f32⟩
  | .hbm, ⟨22, _⟩ => ⟨S4096x2816, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S_, .f32⟩
  | .hbm, ⟨43, _⟩ => ⟨S4096x2816, .f32⟩
  | .hbm, ⟨44, _⟩ => ⟨S4096x2816, .f32⟩
  | .hbm, ⟨45, _⟩ => ⟨S_, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x1024, .f32⟩
  | .hbm, ⟨52, _⟩ => ⟨S_, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x2816, .bf16⟩
  | .hbm, ⟨57, _⟩ => ⟨S4096x2816, .bf16⟩
  | .hbm, ⟨58, _⟩ => ⟨S4096x2816, .f32⟩
  | .hbm, ⟨59, _⟩ => ⟨S4096x2816, .f32⟩
  | .hbm, ⟨60, _⟩ => ⟨S_, .f32⟩
  | .hbm, ⟨61, _⟩ => ⟨S4096x2816, .f32⟩
  | .hbm, ⟨62, _⟩ => ⟨S4096x2816, .f32⟩
  | .hbm, ⟨63, _⟩ => ⟨S_, .f32⟩
  | .hbm, ⟨64, _⟩ => ⟨S4096x2816, .f32⟩
  | .hbm, ⟨65, _⟩ => ⟨S4096x2816, .f32⟩
  | .hbm, ⟨66, _⟩ => ⟨S4096x2816, .f32⟩
  | .hbm, ⟨67, _⟩ => ⟨S4096x2816, .f32⟩
  | .hbm, ⟨68, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call1_v0 : Ref sig .tc := ⟨.hbm, 58, rfl⟩
abbrev main_call1_v1 : Ref sig .tc := ⟨.hbm, 59, rfl⟩
abbrev main_call1_cst : Ref sig .tc := ⟨.hbm, 60, rfl⟩
abbrev main_call1_v2 : Ref sig .tc := ⟨.hbm, 61, rfl⟩
abbrev main_call1_v3 : Ref sig .tc := ⟨.hbm, 62, rfl⟩
abbrev main_call1_cst_0 : Ref sig .tc := ⟨.hbm, 63, rfl⟩
abbrev main_call1_v4 : Ref sig .tc := ⟨.hbm, 64, rfl⟩
abbrev main_call1_v5 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩

abbrev nD : Nat := 1
abbrev τ : Topo := Topo.v7x

variable {F : FTy → Type} [FloatOps F]
-- ==== Kernel3.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S512x1408 : Shape := ⟨2, ![512, 1408]⟩
abbrev S512x1024 : Shape := ⟨2, ![512, 1024]⟩
abbrev S1408x1024 : Shape := ⟨2, ![1408, 1024]⟩

abbrev nBuf : Space → Nat
  | .hbm => 57
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S1024x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .bf16⟩
  | .hbm, ⟨50, _⟩ => ⟨S4096x2816, .bf16⟩
  | .hbm, ⟨51, _⟩ => ⟨S4096x2816, .bf16⟩
  | .hbm, ⟨52, _⟩ => ⟨S4096x1024, .bf16⟩
  | .hbm, ⟨53, _⟩ => ⟨S4096x1024, .bf16⟩
  | .hbm, ⟨54, _⟩ => ⟨S2816x1024, .bf16⟩
  | .hbm, ⟨55, _⟩ => ⟨S2816x1024, .bf16⟩
  | .hbm, ⟨56, _⟩ => ⟨S2816x1024, .bf16⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1408x1024, .bf16⟩
  | .local _ .vmem, ⟨11, _⟩ => ⟨S1408x1024, .bf16⟩
  | .local _ .vmem, ⟨12, _⟩ => ⟨S1408x1024, .bf16⟩
  | .local _ .vmem, ⟨13, _⟩ => ⟨S1408x1024, .bf16⟩
  | .local _ .vmem, ⟨14, _⟩ => ⟨S1408x1024, .bf16⟩
  | .local _ .vmem, ⟨15, _⟩ => ⟨S1408x1024, .bf16⟩
  | .local _ .vmem, ⟨16, _⟩ => ⟨S1408x1024, .f32⟩
  | .local _ .vmem, ⟨17, _⟩ => ⟨S1408x1024, .f32⟩
  | .local _ .vmem, ⟨18, _⟩ => ⟨S1408x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v15_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v15_1 : Ref sig .tc := ⟨.hbm, 35, rfl⟩
abbrev main_v15_0 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29_0 : Ref sig .tc := ⟨.hbm, 54, rfl⟩
abbrev main_v29_1 : Ref sig .tc := ⟨.hbm, 55, rfl⟩
abbrev main_v29_2 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v31 : BitVec 1 := Scalar.cmpi .eq arg1 c7_i32
  let v32 : BitVec 32 := Scalar.extui v31
  let c0_i32_24 : BitVec 32 := 0#32
  let v33 : BitVec 1 := Scalar.cmpi .ne v32 c0_i32_24
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1408x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference3Ideal.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩

abbrev nBuf : Space → Nat
  | .hbm => 64
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S1024x2816, .f32⟩
  | .hbm, ⟨47, _⟩ => ⟨S2816x1024, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S2816x1024, .f32⟩
  | .hbm, ⟨52, _⟩ => ⟨S1024x2816, .f32⟩
  | .hbm, ⟨53, _⟩ => ⟨S4096x2816, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S2816x1024, .f32⟩
  | .hbm, ⟨58, _⟩ => ⟨S1024x2816, .f32⟩
  | .hbm, ⟨59, _⟩ => ⟨S2816x1024, .f32⟩
  | .hbm, ⟨60, _⟩ => ⟨S2816x1024, .bf16⟩
  | .hbm, ⟨61, _⟩ => ⟨S2816x1024, .f32⟩
  | .hbm, ⟨62, _⟩ => ⟨S2816x1024, .bf16⟩
  | .hbm, ⟨63, _⟩ => ⟨S2816x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v14_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v14_1 : Ref sig .tc := ⟨.hbm, 34, rfl⟩
abbrev main_v14_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩

abbrev nD : Nat := 1
abbrev τ : Topo := Topo.v7x

variable {F : FTy → Type} [FloatOps F]
-- ==== Kernel4.lean ====
abbrev S4096x1024 : Shape := ⟨2, ![4096, 1024]⟩
abbrev S1024 : Shape := ⟨1, ![1024]⟩
abbrev S4096x1792 : Shape := ⟨2, ![4096, 1792]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1792x1024 : Shape := ⟨2, ![1792, 1024]⟩
abbrev S1024x1792 : Shape := ⟨2, ![1024, 1792]⟩
abbrev S1024x1024 : Shape := ⟨2, ![1024, 1024]⟩

abbrev nBuf : Space → Nat
  | .hbm => 22
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1792, .f32⟩
  | .hbm, ⟨3, _⟩ => ⟨S4096x1792, .bf16⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S1792x1024, .bf16⟩
  | .local _ .vmem, ⟨0, _⟩ => ⟨S1024x1792, .bf16⟩
  | .local _ .vmem, ⟨1, _⟩ => ⟨S1024x1792, .bf16⟩
  | .local _ .vmem, ⟨2, _⟩ => ⟨S1024x1024, .bf16⟩
  | .local _ .vmem, ⟨3, _⟩ => ⟨S1024x1024, .bf16⟩
  | .local _ .vmem, ⟨4, _⟩ => ⟨S1792x1024, .bf16⟩
  | .local _ .vmem, ⟨5, _⟩ => ⟨S1792x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1792x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference4Ideal.lean ====
abbrev S4096x1024 : Shape := ⟨2, ![4096, 1024]⟩
abbrev S1024 : Shape := ⟨1, ![1024]⟩
abbrev S4096x1792 : Shape := ⟨2, ![4096, 1792]⟩
abbrev S_ : Shape := ⟨0, ![]⟩
abbrev S1024x1792 : Shape := ⟨2, ![1024, 1792]⟩
abbrev S4096 : Shape := ⟨1, ![4096]⟩
abbrev S4096x1 : Shape := ⟨2, ![4096, 1]⟩
abbrev S1x1024 : Shape := ⟨2, ![1, 1024]⟩
abbrev S1792x1024 : Shape := ⟨2, ![1792, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1792, .f32⟩
  | .hbm, ⟨3, _⟩ => ⟨S_, .f32⟩
  | .hbm, ⟨4, _⟩ => ⟨S1024x1792, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1792, .f32⟩
  | .hbm, ⟨22, _⟩ => ⟨S1792x1024, .f32⟩
  | .hbm, ⟨23, _⟩ => ⟨S1024x1792, .f32⟩
  | .hbm, ⟨24, _⟩ => ⟨S1792x1024, .f32⟩
  | .hbm, ⟨25, _⟩ => ⟨S1792x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel5.lean ====
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference5Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 55
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S1024x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .bf16⟩
  | .hbm, ⟨50, _⟩ => ⟨S4096x2816, .bf16⟩
  | .hbm, ⟨51, _⟩ => ⟨S4096x2816, .bf16⟩
  | .hbm, ⟨52, _⟩ => ⟨S4096x1024, .bf16⟩
  | .hbm, ⟨53, _⟩ => ⟨S4096x1024, .bf16⟩
  | .hbm, ⟨54, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v15_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v15_1 : Ref sig .tc := ⟨.hbm, 35, rfl⟩
abbrev main_v15_0 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S2816x1024, .f32⟩
  | .hbm, ⟨53, _⟩ => ⟨S1024x2816, .f32⟩
  | .hbm, ⟨54, _⟩ => ⟨S2816x1024, .f32⟩
  | .hbm, ⟨55, _⟩ => ⟨S2816x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v14_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v14_1 : Ref sig .tc := ⟨.hbm, 34, rfl⟩
abbrev main_v14_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩

abbrev nD : Nat := 1
abbrev τ : Topo := Topo.v7x

variable {F : FTy → Type} [FloatOps F]
-- ==== Kernel7.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 55
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S1024x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .bf16⟩
  | .hbm, ⟨50, _⟩ => ⟨S4096x2816, .bf16⟩
  | .hbm, ⟨51, _⟩ => ⟨S4096x2816, .bf16⟩
  | .hbm, ⟨52, _⟩ => ⟨S4096x1024, .bf16⟩
  | .hbm, ⟨53, _⟩ => ⟨S4096x1024, .bf16⟩
  | .hbm, ⟨54, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v15_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v15_1 : Ref sig .tc := ⟨.hbm, 35, rfl⟩
abbrev main_v15_0 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x2816, .f32⟩
  | .hbm, ⟨43, _⟩ => ⟨S4096x2816, .f32⟩
  | .hbm, ⟨44, _⟩ => ⟨S2816x1024, .f32⟩
  | .hbm, ⟨45, _⟩ => ⟨S1024x2816, .f32⟩
  | .hbm, ⟨46, _⟩ => ⟨S2816x1024, .f32⟩
  | .hbm, ⟨47, _⟩ => ⟨S2816x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩

abbrev nD : Nat := 1
abbrev τ : Topo := Topo.v7x

variable {F : FTy → Type} [FloatOps F]
-- ==== Kernel8.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 55
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S1024x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .bf16⟩
  | .hbm, ⟨50, _⟩ => ⟨S4096x2816, .bf16⟩
  | .hbm, ⟨51, _⟩ => ⟨S4096x2816, .bf16⟩
  | .hbm, ⟨52, _⟩ => ⟨S4096x1024, .bf16⟩
  | .hbm, ⟨53, _⟩ => ⟨S4096x1024, .bf16⟩
  | .hbm, ⟨54, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v15_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v15_1 : Ref sig .tc := ⟨.hbm, 35, rfl⟩
abbrev main_v15_0 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference8Ideal.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S1024x2816, .f32⟩
  | .hbm, ⟨43, _⟩ => ⟨S2816x1024, .f32⟩
  | .hbm, ⟨44, _⟩ => ⟨S2816x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩

abbrev nD : Nat := 1
abbrev τ : Topo := Topo.v7x

variable {F : FTy → Type} [FloatOps F]
-- ==== Kernel9.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S1x2816x1024 : Shape := ⟨3, ![1, 2816, 1024]⟩
abbrev S3x2816x1024 : Shape := ⟨3, ![3, 2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S1024x1024 : Shape := ⟨2, ![1024, 1024]⟩
abbrev S1024x256 : Shape := ⟨2, ![1024, 256]⟩
abbrev S2x256x1024 : Shape := ⟨3, ![2, 256, 1024]⟩
abbrev S1x256x1024 : Shape := ⟨3, ![1, 256, 1024]⟩
abbrev S1024x1 : Shape := ⟨2, ![1024, 1]⟩
abbrev S256x1024 : Shape := ⟨2, ![256, 1024]⟩
abbrev S512x256 : Shape := ⟨2, ![512, 256]⟩
abbrev S512x1024 : Shape := ⟨2, ![512, 1024]⟩

abbrev nBuf : Space → Nat
  | .hbm => 42
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S2816x1024, .f32⟩
  | .hbm, ⟨7, _⟩ => ⟨S2816x1024, .bf16⟩
  | .hbm, ⟨8, _⟩ => ⟨S2816x1024, .f32⟩
  | .hbm, ⟨9, _⟩ => ⟨S2816x1024, .bf16⟩
  | .hbm, ⟨10, _⟩ => ⟨S2816x1024, .bf16⟩
  | .hbm, ⟨11, _⟩ => ⟨S1x2816x1024, .bf16⟩
  | .hbm, ⟨12, _⟩ => ⟨S1x2816x1024, .bf16⟩
  | .hbm, ⟨13, _⟩ => ⟨S1x2816x1024, .bf16⟩
  | .hbm, ⟨14, _⟩ => ⟨S3x2816x1024, .bf16⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x2816, .f32⟩
  | .hbm, ⟨32, _⟩ => ⟨S4096x2816, .bf16⟩
  | .hbm, ⟨33, _⟩ => ⟨S4096x2816, .f32⟩
  | .hbm, ⟨34, _⟩ => ⟨S4096x2816, .bf16⟩
  | .hbm, ⟨35, _⟩ => ⟨S1x1024, .f32⟩
  | .hbm, ⟨36, _⟩ => ⟨S4096x1024, .f32⟩
  | .hbm, ⟨37, _⟩ => ⟨S4096x2816, .bf16⟩
  | .hbm, ⟨38, _⟩ => ⟨S4096x2816, .bf16⟩
  | .hbm, ⟨39, _⟩ => ⟨S4096x1024, .bf16⟩
  | .hbm, ⟨40, _⟩ => ⟨S4096x1024, .bf16⟩
  | .hbm, ⟨41, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S2x256x1024, .bf16⟩
  | .local _ .vmem, ⟨10, _⟩ => ⟨S2x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1024x1024, .f32⟩
  | .local _ .vmem, ⟨14, _⟩ => ⟨S1024x1024, .f32⟩
  | .local _ .vmem, ⟨15, _⟩ => ⟨S1024x256, .bf16⟩
  | .local _ .vmem, ⟨16, _⟩ => ⟨S1024x256, .bf16⟩
  | .local _ .vmem, ⟨17, _⟩ => ⟨S1024x256, .bf16⟩
  | .local _ .vmem, ⟨18, _⟩ => ⟨S1024x256, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1x1024, .f32⟩
  | .local _ .vmem, ⟨24, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27_0 : Ref sig .tc := ⟨.hbm, 36, rfl⟩
abbrev main_v27_1 : Ref sig .tc := ⟨.hbm, 37, rfl⟩
abbrev main_v27_2 : Ref sig .tc := ⟨.hbm, 38, rfl⟩
abbrev main_v27_3 : Ref sig .tc := ⟨.hbm, 39, rfl⟩
abbrev main_v27_4 : Ref sig .tc := ⟨.hbm, 40, rfl⟩
abbrev main_v27_5 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨2, ![4, 11], ![false, false]⟩

def k0_cond3 (i : grid0.Coords) : BitVec 1 :=
  let arg1 : BitVec 32 := BitVec.ofNat 32 (i 1).val
  let c10_i32 : BitVec 32 := 10#32
  let v78 : BitVec 1 := Scalar.cmpi .eq arg1 c10_i32
  let v79 : BitVec 32 := Scalar.extui v78
  let c0_i32_47 : BitVec 32 := 0#32
  let v80 : BitVec 1 := Scalar.cmpi .ne v79 c0_i32_47
  v80

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== Reference9Ideal.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩

abbrev nBuf : Space → Nat
  | .hbm => 88
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x1024, .f32⟩
  | .hbm, ⟨55, _⟩ => ⟨S4096x2816, .f32⟩
  | .hbm, ⟨56, _⟩ => ⟨S4096x2816, .f32⟩
  | .hbm, ⟨57, _⟩ => ⟨S4096x2816, .f32⟩
  | .hbm, ⟨58, _⟩ => ⟨S4096x2816, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S1024, .f32⟩
  | .hbm, ⟨69, _⟩ => ⟨S4096x1024, .f32⟩
  | .hbm, ⟨70, _⟩ => ⟨S_, .f32⟩
  | .hbm, ⟨71, _⟩ => ⟨S4096, .f32⟩
  | .hbm, ⟨72, _⟩ => ⟨S4096x1, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S_, .f32⟩
  | .hbm, ⟨81, _⟩ => ⟨S4096, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v17_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v17_1 : Ref sig .tc := ⟨.hbm, 38, rfl⟩
abbrev main_v17_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_cst_7 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_8 : Ref sig .tc := ⟨.hbm, 77, rfl⟩
abbrev main_v47 : Ref sig .tc := ⟨.hbm, 78, rfl⟩
abbrev main_v48 : Ref sig .tc := ⟨.hbm, 79, rfl⟩
abbrev main_cst_9 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩

abbrev nD : Nat := 1
abbrev τ : Topo := Topo.v7x

variable {F : FTy → Type} [FloatOps F]
-- ==== Proof.Mix.Kit.lean ====
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Idealize.ShloMosaic.Lib.Claim

@[expose] public section

/-! What the three runs of the kernel body share: when its two conditionals are taken, and the buffers it is run on. -/

set_option maxRecDepth 16384

noncomputable section

namespace Cert.KernelIdeal.Mix

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first conditional: its condition, from the grid coordinates. -/
abbrev first (i : grid0.Coords) : Prop := (Scalar.cmpi .ne (Scalar.extui (Scalar.cmpi .eq (BitVec.ofNat 32 (i 0).val) 0#32)) 0#32) = 1#1
/-- It is taken at the first grid point only. -/
theorem first_iff : ∀ t : Fin cfg0.N, first (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [first, e0]
    word_cmp
   : ∀ t : Fin grid0.N, first (grid0.coords t) ↔ t.val % 8 = 0)

/-- The body's second conditional: its condition, from the grid coordinates. -/
abbrev last (i : grid0.Coords) : Prop := (Scalar.cmpi .ne (Scalar.extui (Scalar.cmpi .eq (BitVec.ofNat 32 (i 0).val) 7#32)) 0#32) = 1#1
/-- It is taken at the last grid point only. -/
theorem last_iff : ∀ t : Fin cfg0.N, last (grid0.coords t) ↔ t.val % 8 = 7 :=
  (fun t => by
    have ht : t.val < 8 := Nat.lt_of_lt_of_eq t.isLt N_0
    have e0 : (grid0.coords t 0).val = t.val / 1 % 8 := Pipeline.Grid.coords_val t 0 (by decide) rfl
    simp only [last, e0]
    word_cmp
   : ∀ t : Fin grid0.N, last (grid0.coords t) ↔ t.val % 8 = 7)

/-! The staging buffer of each window at a grid point, and that it is a whole buffer. -/

abbrev stg0 (t : Fin cfg0.N) : Memref sig .tc .vmem S512x1024 .f32 := win0_0.stage (cfg0.slots t 0)
abbrev wh0 (t : Fin cfg0.N) : (stg0 t).IsWhole := hstage0_0 ((cfg0.slots t 0).cast nbuf0_0)
abbrev stg1 (t : Fin cfg0.N) : Memref sig .tc .vmem S1x1024 .f32 := win0_1.stage (cfg0.slots t 1)
abbrev wh1 (t : Fin cfg0.N) : (stg1 t).IsWhole := hstage0_1 ((cfg0.slots t 1).cast nbuf0_1)
abbrev stg2 (t : Fin cfg0.N) : Memref sig .tc .vmem S1x1792x1024 .bf16 := win0_2.stage (cfg0.slots t 2)
abbrev wh2 (t : Fin cfg0.N) : (stg2 t).IsWhole := hstage0_2 ((cfg0.slots t 2).cast nbuf0_2)
abbrev stg3 (t : Fin cfg0.N) : Memref sig .tc .vmem S512x1792 .f32 := win0_3.stage (cfg0.slots t 3)
abbrev wh3 (t : Fin cfg0.N) : (stg3 t).IsWhole := hstage0_3 ((cfg0.slots t 3).cast nbuf0_3)
abbrev stg4 (t : Fin cfg0.N) : Memref sig .tc .vmem S32x1792 .f32 := win0_4.stage (cfg0.slots t 4)
abbrev wh4 (t : Fin cfg0.N) : (stg4 t).IsWhole := hstage0_4 ((cfg0.slots t 4).cast nbuf0_4)
abbrev stg5 (t : Fin cfg0.N) : Memref sig .tc .vmem S32x1792 .f32 := win0_5.stage (cfg0.slots t 5)
abbrev wh5 (t : Fin cfg0.N) : (stg5 t).IsWhole := hstage0_5 ((cfg0.slots t 5).cast nbuf0_5)
abbrev stg6 (t : Fin cfg0.N) : Memref sig .tc .vmem S512x1024 .f32 := win0_6.stage (cfg0.slots t 6)
abbrev wh6 (t : Fin cfg0.N) : (stg6 t).IsWhole := hstage0_6 ((cfg0.slots t 6).cast nbuf0_6)
abbrev stg7 (t : Fin cfg0.N) : Memref sig .tc .vmem S32x1024 .f32 := win0_7.stage (cfg0.slots t 7)
abbrev wh7 (t : Fin cfg0.N) : (stg7 t).IsWhole := hstage0_7 ((cfg0.slots t 7).cast nbuf0_7)
abbrev stg8 (t : Fin cfg0.N) : Memref sig .tc .vmem S1x1024x1024 .bf16 := win0_8.stage (cfg0.slots t 8)
abbrev wh8 (t : Fin cfg0.N) : (stg8 t).IsWhole := hstage0_8 ((cfg0.slots t 8).cast nbuf0_8)
abbrev stg9 (t : Fin cfg0.N) : Memref sig .tc .vmem S512x384 .f32 := win0_9.stage (cfg0.slots t 9)
abbrev wh9 (t : Fin cfg0.N) : (stg9 t).IsWhole := hstage0_9 ((cfg0.slots t 9).cast nbuf0_9)
abbrev stg10 (t : Fin cfg0.N) : Memref sig .tc .vmem S32x384 .f32 := win0_10.stage (cfg0.slots t 10)
abbrev wh10 (t : Fin cfg0.N) : (stg10 t).IsWhole := hstage0_10 ((cfg0.slots t 10).cast nbuf0_10)
abbrev stg11 (t : Fin cfg0.N) : Memref sig .tc .vmem S1x384 .f32 := win0_11.stage (cfg0.slots t 11)
abbrev wh11 (t : Fin cfg0.N) : (stg11 t).IsWhole := hstage0_11 ((cfg0.slots t 11).cast nbuf0_11)
abbrev stg12 (t : Fin cfg0.N) : Memref sig .tc .vmem S1x384 .f32 := win0_12.stage (cfg0.slots t 12)
abbrev wh12 (t : Fin cfg0.N) : (stg12 t).IsWhole := hstage0_12 ((cfg0.slots t 12).cast nbuf0_12)
abbrev stg13 (t : Fin cfg0.N) : Memref sig .tc .vmem S6x128x128 .f32 := win0_13.stage (cfg0.slots t 13)
abbrev wh13 (t : Fin cfg0.N) : (stg13 t).IsWhole := hstage0_13 ((cfg0.slots t 13).cast nbuf0_13)
abbrev stg14 (t : Fin cfg0.N) : Memref sig .tc .vmem S128x384 .f32 := win0_14.stage (cfg0.slots t 14)
abbrev wh14 (t : Fin cfg0.N) : (stg14 t).IsWhole := hstage0_14 ((cfg0.slots t 14).cast nbuf0_14)
abbrev stg15 (t : Fin cfg0.N) : Memref sig .tc .vmem S31x384 .f32 := win0_15.stage (cfg0.slots t 15)
abbrev wh15 (t : Fin cfg0.N) : (stg15 t).IsWhole := hstage0_15 ((cfg0.slots t 15).cast nbuf0_15)
abbrev stg16 (t : Fin cfg0.N) : Memref sig .tc .vmem S1x384 .f32 := win0_16.stage (cfg0.slots t 16)
abbrev wh16 (t : Fin cfg0.N) : (stg16 t).IsWhole := hstage0_16 ((cfg0.slots t 16).cast nbuf0_16)
abbrev stg17 (t : Fin cfg0.N) : Memref sig .tc .vmem S1x384 .f32 := win0_17.stage (cfg0.slots t 17)
abbrev wh17 (t : Fin cfg0.N) : (stg17 t).IsWhole := hstage0_17 ((cfg0.slots t 17).cast nbuf0_17)
abbrev stg18 (t : Fin cfg0.N) : Memref sig .tc .vmem S256x256 .f32 := win0_18.stage (cfg0.slots t 18)
abbrev wh18 (t : Fin cfg0.N) : (stg18 t).IsWhole := hstage0_18 ((cfg0.slots t 18).cast nbuf0_18)
abbrev stg19 (t : Fin cfg0.N) : Memref sig .tc .vmem S1x256 .f32 := win0_19.stage (cfg0.slots t 19)
abbrev wh19 (t : Fin cfg0.N) : (stg19 t).IsWhole := hstage0_19 ((cfg0.slots t 19).cast nbuf0_19)
abbrev stg20 (t : Fin cfg0.N) : Memref sig .tc .vmem S512x1024 .f32 := win0_20.stage (cfg0.slots t 20)
abbrev wh20 (t : Fin cfg0.N) : (stg20 t).IsWhole := hstage0_20 ((cfg0.slots t 20).cast nbuf0_20)
abbrev stg21 (t : Fin cfg0.N) : Memref sig .tc .vmem S512x1792 .bf16 := win0_21.stage (cfg0.slots t 21)
abbrev wh21 (t : Fin cfg0.N) : (stg21 t).IsWhole := hstage0_21 ((cfg0.slots t 21).cast nbuf0_21)
abbrev stg22 (t : Fin cfg0.N) : Memref sig .tc .vmem S512x1024 .bf16 := win0_22.stage (cfg0.slots t 22)
abbrev wh22 (t : Fin cfg0.N) : (stg22 t).IsWhole := hstage0_22 ((cfg0.slots t 22).cast nbuf0_22)
abbrev stg23 (t : Fin cfg0.N) : Memref sig .tc .vmem S1x1024 .f32 := win0_23.stage (cfg0.slots t 23)
abbrev wh23 (t : Fin cfg0.N) : (stg23 t).IsWhole := hstage0_23 ((cfg0.slots t 23).cast nbuf0_23)
abbrev stg24 (t : Fin cfg0.N) : Memref sig .tc .vmem S40x384 .f32 := win0_24.stage (cfg0.slots t 24)
abbrev wh24 (t : Fin cfg0.N) : (stg24 t).IsWhole := hstage0_24 ((cfg0.slots t 24).cast nbuf0_24)
abbrev stg25 (t : Fin cfg0.N) : Memref sig .tc .vmem S7x128x128 .f32 := win0_25.stage (cfg0.slots t 25)
abbrev wh25 (t : Fin cfg0.N) : (stg25 t).IsWhole := hstage0_25 ((cfg0.slots t 25).cast nbuf0_25)
abbrev stg26 (t : Fin cfg0.N) : Memref sig .tc .vmem S264x256 .f32 := win0_26.stage (cfg0.slots t 26)
abbrev wh26 (t : Fin cfg0.N) : (stg26 t).IsWhole := hstage0_26 ((cfg0.slots t 26).cast nbuf0_26)
/-- The buffer the kernel carries from point to point beside its windows (the bias gradient, one column a channel). -/
abbrev scr : Memref sig .tc .vmem S128x384 .f32 := Memref.whole cc0_scratch0

/-- The invariant between points with that buffer owned at some contents. -/
theorem Phi_scr (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

end Cert.KernelIdeal.Mix

end
-- ==== Proof.Mix.RunA.lean ====
module

public import proofs.«01_k».proof.Proof.Mix.Kit

@[expose] public section

/-! The kernel body run at the first grid point. -/

set_option maxRecDepth 16384

noncomputable section

namespace Cert.KernelIdeal.Mix

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1800000 in
/-- The kernel body run at the first grid point: on whole buffers, the inputs' at any contents, it
    ends with the inputs as they were and with the pieces given here stored into the two accumulators of windows [25, 26] and
    into the carried buffer; nothing is said of what it leaves in the other outputs. -/
def runA (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1792x1024 .bf16) (harg3 : arg3.IsWhole) (arg4 : Memref sig .tc .vmem S512x1792 .f32) (harg4 : arg4.IsWhole) (arg5 : Memref sig .tc .vmem S32x1792 .f32) (harg5 : arg5.IsWhole) (arg6 : Memref sig .tc .vmem S32x1792 .f32) (harg6 : arg6.IsWhole) (arg7 : Memref sig .tc .vmem S512x1024 .f32) (harg7 : arg7.IsWhole) (arg8 : Memref sig .tc .vmem S32x1024 .f32) (harg8 : arg8.IsWhole) (arg9 : Memref sig .tc .vmem S1x1024x1024 .bf16) (harg9 : arg9.IsWhole) (arg10 : Memref sig .tc .vmem S512x384 .f32) (harg10 : arg10.IsWhole) (arg11 : Memref sig .tc .vmem S32x384 .f32) (harg11 : arg11.IsWhole) (arg12 : Memref sig .tc .vmem S1x384 .f32) (harg12 : arg12.IsWhole) (arg13 : Memref sig .tc .vmem S1x384 .f32) (harg13 : arg13.IsWhole) (arg14 : Memref sig .tc .vmem S6x128x128 .f32) (harg14 : arg14.IsWhole) (arg15 : Memref sig .tc .vmem S128x384 .f32) (harg15 : arg15.IsWhole) (arg16 : Memref sig .tc .vmem S31x384 .f32) (harg16 : arg16.IsWhole) (arg17 : Memref sig .tc .vmem S1x384 .f32) (harg17 : arg17.IsWhole) (arg18 : Memref sig .tc .vmem S1x384 .f32) (harg18 : arg18.IsWhole) (arg19 : Memref sig .tc .vmem S256x256 .f32) (harg19 : arg19.IsWhole) (arg20 : Memref sig .tc .vmem S1x256 .f32) (harg20 : arg20.IsWhole) (arg21 : Memref sig .tc .vmem S512x1024 .f32) (harg21 : arg21.IsWhole) (arg22 : Memref sig .tc .vmem S512x1792 .bf16) (harg22 : arg22.IsWhole) (arg23 : Memref sig .tc .vmem S512x1024 .bf16) (harg23 : arg23.IsWhole) (arg24 : Memref sig .tc .vmem S1x1024 .f32) (harg24 : arg24.IsWhole) (arg25 : Memref sig .tc .vmem S40x384 .f32) (harg25 : arg25.IsWhole) (arg26 : Memref sig .tc .vmem S7x128x128 .f32) (harg26 : arg26.IsWhole) (arg27 : Memref sig .tc .vmem S264x256 .f32) (harg27 : arg27.IsWhole) (arg28 : Memref sig .tc .vmem S128x384 .f32) (harg28 : arg28.IsWhole) (hc0 : first i) (hc1 : ¬last i)
    (x0 : Vec F S512x1024 .f32) (x1 : Vec F S1x1024 .f32) (x2 : Vec F S1x1792x1024 .bf16) (x3 : Vec F S512x1792 .f32) (x4 : Vec F S32x1792 .f32) (x5 : Vec F S32x1792 .f32) (x6 : Vec F S512x1024 .f32) (x7 : Vec F S32x1024 .f32) (x8 : Vec F S1x1024x1024 .bf16) (x9 : Vec F S512x384 .f32) (x10 : Vec F S32x384 .f32) (x11 : Vec F S1x384 .f32) (x12 : Vec F S1x384 .f32) (x13 : Vec F S6x128x128 .f32) (x14 : Vec F S128x384 .f32) (x15 : Vec F S31x384 .f32) (x16 : Vec F S1x384 .f32) (x17 : Vec F S1x384 .f32) (x18 : Vec F S256x256 .f32) (x19 : Vec F S1x256 .f32)  :
    Σ' (L25 : List (View.Piece (Elt F) S7x128x128 .f32)), Σ' (L26 : List (View.Piece (Elt F) S264x256 .f32)), { L27 : List (View.Piece (Elt F) S128x384 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27)) -∗ K ⟨⟩))
          ⊢ wp frame (wpE (defs₀ (F := F)) Variants.none c none) E (cc0_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, ?_, fun E K => ?run⟩
  case run =>
    simp only [cc0_mixer_bwd_eq_skeleton]; unfold cc0_mixer_bwd_skel
    simp only [k0_part43_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]; · iexists _; iexact H25
    isplitl [H26]; · iexists _; iexact H26
    iexists _; iexact H27

end Cert.KernelIdeal.Mix

end
-- ==== Proof.Mix.RunB.lean ====
module

public import proofs.«01_k».proof.Proof.Mix.Kit

@[expose] public section

/-! The kernel body run at a grid point between the first and the last. -/

set_option maxRecDepth 16384

noncomputable section

namespace Cert.KernelIdeal.Mix

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1800000 in
/-- The kernel body run at a grid point between the first and the last: on whole buffers, the inputs' at any contents, the two accumulators and the carried buffer at what the point before left, it
    ends with the inputs as they were and with the pieces given here stored into the two accumulators of windows [25, 26] and
    into the carried buffer; nothing is said of what it leaves in the other outputs. -/
def runB (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1792x1024 .bf16) (harg3 : arg3.IsWhole) (arg4 : Memref sig .tc .vmem S512x1792 .f32) (harg4 : arg4.IsWhole) (arg5 : Memref sig .tc .vmem S32x1792 .f32) (harg5 : arg5.IsWhole) (arg6 : Memref sig .tc .vmem S32x1792 .f32) (harg6 : arg6.IsWhole) (arg7 : Memref sig .tc .vmem S512x1024 .f32) (harg7 : arg7.IsWhole) (arg8 : Memref sig .tc .vmem S32x1024 .f32) (harg8 : arg8.IsWhole) (arg9 : Memref sig .tc .vmem S1x1024x1024 .bf16) (harg9 : arg9.IsWhole) (arg10 : Memref sig .tc .vmem S512x384 .f32) (harg10 : arg10.IsWhole) (arg11 : Memref sig .tc .vmem S32x384 .f32) (harg11 : arg11.IsWhole) (arg12 : Memref sig .tc .vmem S1x384 .f32) (harg12 : arg12.IsWhole) (arg13 : Memref sig .tc .vmem S1x384 .f32) (harg13 : arg13.IsWhole) (arg14 : Memref sig .tc .vmem S6x128x128 .f32) (harg14 : arg14.IsWhole) (arg15 : Memref sig .tc .vmem S128x384 .f32) (harg15 : arg15.IsWhole) (arg16 : Memref sig .tc .vmem S31x384 .f32) (harg16 : arg16.IsWhole) (arg17 : Memref sig .tc .vmem S1x384 .f32) (harg17 : arg17.IsWhole) (arg18 : Memref sig .tc .vmem S1x384 .f32) (harg18 : arg18.IsWhole) (arg19 : Memref sig .tc .vmem S256x256 .f32) (harg19 : arg19.IsWhole) (arg20 : Memref sig .tc .vmem S1x256 .f32) (harg20 : arg20.IsWhole) (arg21 : Memref sig .tc .vmem S512x1024 .f32) (harg21 : arg21.IsWhole) (arg22 : Memref sig .tc .vmem S512x1792 .bf16) (harg22 : arg22.IsWhole) (arg23 : Memref sig .tc .vmem S512x1024 .bf16) (harg23 : arg23.IsWhole) (arg24 : Memref sig .tc .vmem S1x1024 .f32) (harg24 : arg24.IsWhole) (arg25 : Memref sig .tc .vmem S40x384 .f32) (harg25 : arg25.IsWhole) (arg26 : Memref sig .tc .vmem S7x128x128 .f32) (harg26 : arg26.IsWhole) (arg27 : Memref sig .tc .vmem S264x256 .f32) (harg27 : arg27.IsWhole) (arg28 : Memref sig .tc .vmem S128x384 .f32) (harg28 : arg28.IsWhole) (hc0 : ¬first i) (hc1 : ¬last i)
    (x0 : Vec F S512x1024 .f32) (x1 : Vec F S1x1024 .f32) (x2 : Vec F S1x1792x1024 .bf16) (x3 : Vec F S512x1792 .f32) (x4 : Vec F S32x1792 .f32) (x5 : Vec F S32x1792 .f32) (x6 : Vec F S512x1024 .f32) (x7 : Vec F S32x1024 .f32) (x8 : Vec F S1x1024x1024 .bf16) (x9 : Vec F S512x384 .f32) (x10 : Vec F S32x384 .f32) (x11 : Vec F S1x384 .f32) (x12 : Vec F S1x384 .f32) (x13 : Vec F S6x128x128 .f32) (x14 : Vec F S128x384 .f32) (x15 : Vec F S31x384 .f32) (x16 : Vec F S1x384 .f32) (x17 : Vec F S1x384 .f32) (x18 : Vec F S256x256 .f32) (x19 : Vec F S1x256 .f32) (xo25 : Vec F S7x128x128 .f32) (xo26 : Vec F S264x256 .f32) (xs : Vec F S128x384 .f32) :
    Σ' (L25 : List (View.Piece (Elt F) S7x128x128 .f32)), Σ' (L26 : List (View.Piece (Elt F) S264x256 .f32)), { L27 : List (View.Piece (Elt F) S128x384 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ owns (c : Thread nD τ) arg26 fullShare xo25 ∗ owns (c : Thread nD τ) arg27 fullShare xo26 ∗ owns (c : Thread nD τ) arg28 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (arg26.view.loc (c : Thread nD τ) ↦[arg26.view.set]{fullShare} arg26.view.writes (Elt F) (harg26.unread xo25) L25) ∗ (arg27.view.loc (c : Thread nD τ) ↦[arg27.view.set]{fullShare} arg27.view.writes (Elt F) (harg27.unread xo26) L26) ∗ (arg28.view.loc (c : Thread nD τ) ↦[arg28.view.set]{fullShare} arg28.view.writes (Elt F) (harg28.unread xs) L27)) -∗ K ⟨⟩))
          ⊢ wp frame (wpE (defs₀ (F := F)) Variants.none c none) E (cc0_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, ?_, fun E K => ?run⟩
  case run =>
    simp only [cc0_mixer_bwd_eq_skeleton]; unfold cc0_mixer_bwd_skel
    simp only [k0_part43_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, ⟨%d23, %f23, -, H23⟩, ⟨%d24, %f24, -, H24⟩, ⟨%f25, %hf25, H25⟩, ⟨%f26, %hf26, H26⟩, ⟨%f27, %hf27, H27⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg26.eq_unread hf25; obtain rfl := harg27.eq_unread hf26; obtain rfl := harg28.eq_unread hf27
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]; · iexact H25
    isplitl [H26]; · iexact H26
    iexact H27

end Cert.KernelIdeal.Mix

end
-- ==== Proof.Mix.RunC.lean ====
module

public import proofs.«01_k».proof.Proof.Mix.Kit

@[expose] public section

/-! The kernel body run at the last grid point. -/

set_option maxRecDepth 16384

noncomputable section

namespace Cert.KernelIdeal.Mix

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1800000 in
/-- The kernel body run at the last grid point: on whole buffers, the inputs' at any contents, the two accumulators and the carried buffer at what the point before left, it
    ends with the inputs as they were and with the pieces given here stored into the two accumulators of windows [25, 26] and
    into the carried buffer; nothing is said of what it leaves in the other outputs. -/
def runC (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1792x1024 .bf16) (harg3 : arg3.IsWhole) (arg4 : Memref sig .tc .vmem S512x1792 .f32) (harg4 : arg4.IsWhole) (arg5 : Memref sig .tc .vmem S32x1792 .f32) (harg5 : arg5.IsWhole) (arg6 : Memref sig .tc .vmem S32x1792 .f32) (harg6 : arg6.IsWhole) (arg7 : Memref sig .tc .vmem S512x1024 .f32) (harg7 : arg7.IsWhole) (arg8 : Memref sig .tc .vmem S32x1024 .f32) (harg8 : arg8.IsWhole) (arg9 : Memref sig .tc .vmem S1x1024x1024 .bf16) (harg9 : arg9.IsWhole) (arg10 : Memref sig .tc .vmem S512x384 .f32) (harg10 : arg10.IsWhole) (arg11 : Memref sig .tc .vmem S32x384 .f32) (harg11 : arg11.IsWhole) (arg12 : Memref sig .tc .vmem S1x384 .f32) (harg12 : arg12.IsWhole) (arg13 : Memref sig .tc .vmem S1x384 .f32) (harg13 : arg13.IsWhole) (arg14 : Memref sig .tc .vmem S6x128x128 .f32) (harg14 : arg14.IsWhole) (arg15 : Memref sig .tc .vmem S128x384 .f32) (harg15 : arg15.IsWhole) (arg16 : Memref sig .tc .vmem S31x384 .f32) (harg16 : arg16.IsWhole) (arg17 : Memref sig .tc .vmem S1x384 .f32) (harg17 : arg17.IsWhole) (arg18 : Memref sig .tc .vmem S1x384 .f32) (harg18 : arg18.IsWhole) (arg19 : Memref sig .tc .vmem S256x256 .f32) (harg19 : arg19.IsWhole) (arg20 : Memref sig .tc .vmem S1x256 .f32) (harg20 : arg20.IsWhole) (arg21 : Memref sig .tc .vmem S512x1024 .f32) (harg21 : arg21.IsWhole) (arg22 : Memref sig .tc .vmem S512x1792 .bf16) (harg22 : arg22.IsWhole) (arg23 : Memref sig .tc .vmem S512x1024 .bf16) (harg23 : arg23.IsWhole) (arg24 : Memref sig .tc .vmem S1x1024 .f32) (harg24 : arg24.IsWhole) (arg25 : Memref sig .tc .vmem S40x384 .f32) (harg25 : arg25.IsWhole) (arg26 : Memref sig .tc .vmem S7x128x128 .f32) (harg26 : arg26.IsWhole) (arg27 : Memref sig .tc .vmem S264x256 .f32) (harg27 : arg27.IsWhole) (arg28 : Memref sig .tc .vmem S128x384 .f32) (harg28 : arg28.IsWhole) (hc0 : ¬first i) (hc1 : last i)
    (x0 : Vec F S512x1024 .f32) (x1 : Vec F S1x1024 .f32) (x2 : Vec F S1x1792x1024 .bf16) (x3 : Vec F S512x1792 .f32) (x4 : Vec F S32x1792 .f32) (x5 : Vec F S32x1792 .f32) (x6 : Vec F S512x1024 .f32) (x7 : Vec F S32x1024 .f32) (x8 : Vec F S1x1024x1024 .bf16) (x9 : Vec F S512x384 .f32) (x10 : Vec F S32x384 .f32) (x11 : Vec F S1x384 .f32) (x12 : Vec F S1x384 .f32) (x13 : Vec F S6x128x128 .f32) (x14 : Vec F S128x384 .f32) (x15 : Vec F S31x384 .f32) (x16 : Vec F S1x384 .f32) (x17 : Vec F S1x384 .f32) (x18 : Vec F S256x256 .f32) (x19 : Vec F S1x256 .f32) (xo25 : Vec F S7x128x128 .f32) (xo26 : Vec F S264x256 .f32) (xs : Vec F S128x384 .f32) :
    Σ' (L25 : List (View.Piece (Elt F) S7x128x128 .f32)), Σ' (L26 : List (View.Piece (Elt F) S264x256 .f32)), { L27 : List (View.Piece (Elt F) S128x384 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ owns (c : Thread nD τ) arg26 fullShare xo25 ∗ owns (c : Thread nD τ) arg27 fullShare xo26 ∗ owns (c : Thread nD τ) arg28 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (arg26.view.loc (c : Thread nD τ) ↦[arg26.view.set]{fullShare} arg26.view.writes (Elt F) (harg26.unread xo25) L25) ∗ (arg27.view.loc (c : Thread nD τ) ↦[arg27.view.set]{fullShare} arg27.view.writes (Elt F) (harg27.unread xo26) L26) ∗ (arg28.view.loc (c : Thread nD τ) ↦[arg28.view.set]{fullShare} arg28.view.writes (Elt F) (harg28.unread xs) L27)) -∗ K ⟨⟩))
          ⊢ wp frame (wpE (defs₀ (F := F)) Variants.none c none) E (cc0_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, ?_, fun E K => ?run⟩
  case run =>
    simp only [cc0_mixer_bwd_eq_skeleton]; unfold cc0_mixer_bwd_skel
    simp only [k0_part43_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, ⟨%d23, %f23, -, H23⟩, ⟨%d24, %f24, -, H24⟩, ⟨%f25, %hf25, H25⟩, ⟨%f26, %hf26, H26⟩, ⟨%f27, %hf27, H27⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg26.eq_unread hf25; obtain rfl := harg27.eq_unread hf26; obtain rfl := harg28.eq_unread hf27
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]; · iexact H25
    isplitl [H26]; · iexact H26
    iexact H27

end Cert.KernelIdeal.Mix

end
-- ==== Proof.Mix.Frame.lean ====
module

public import proofs.«01_k».proof.Proof.Mix.RunA
public import proofs.«01_k».proof.Proof.Mix.RunB
public import proofs.«01_k».proof.Proof.Mix.RunC

@[expose] public section

/-! The run of the whole kernel program, from the runs of its body. -/

set_option maxRecDepth 16384

noncomputable section

namespace Cert.KernelIdeal.Mix

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a grid point leaves: the accumulators of windows [25, 26] and the carried buffer. -/
abbrev State (F : FTy → Type) [FloatOps F] : Type := Vec F S7x128x128 .f32 × Vec F S264x256 .f32 × Vec F S128x384 .f32

/-- The body's run at grid point `t`, the first grid point, on the point's own buffers and blocks. -/
abbrev atA (c : Dev nD) (t : Fin cfg0.N) (h0 : t.val % 8 = 0) (h1 : ¬t.val % 8 = 7) :=
  runA (F := F) c (grid0.coords t) (stg0 t) (wh0 t) (stg1 t) (wh1 t) (stg2 t) (wh2 t) (stg3 t) (wh3 t) (stg4 t) (wh4 t) (stg5 t) (wh5 t) (stg6 t) (wh6 t) (stg7 t) (wh7 t) (stg8 t) (wh8 t) (stg9 t) (wh9 t) (stg10 t) (wh10 t) (stg11 t) (wh11 t) (stg12 t) (wh12 t) (stg13 t) (wh13 t) (stg14 t) (wh14 t) (stg15 t) (wh15 t) (stg16 t) (wh16 t) (stg17 t) (wh17 t) (stg18 t) (wh18 t) (stg19 t) (wh19 t) (stg20 t) (wh20 t) (stg21 t) (wh21 t) (stg22 t) (wh22 t) (stg23 t) (wh23 t) (stg24 t) (wh24 t) (stg25 t) (wh25 t) (stg26 t) (wh26 t) scr (Memref.isWhole_whole _) ((first_iff t).mpr h0) (fun h => h1 ((last_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)

/-- The body's run at grid point `t`, a grid point between the first and the last, on the point's own buffers and blocks. -/
abbrev atB (c : Dev nD) (t : Fin cfg0.N) (h0 : ¬t.val % 8 = 0) (h1 : ¬t.val % 8 = 7) (s : State F) :=
  runB (F := F) c (grid0.coords t) (stg0 t) (wh0 t) (stg1 t) (wh1 t) (stg2 t) (wh2 t) (stg3 t) (wh3 t) (stg4 t) (wh4 t) (stg5 t) (wh5 t) (stg6 t) (wh6 t) (stg7 t) (wh7 t) (stg8 t) (wh8 t) (stg9 t) (wh9 t) (stg10 t) (wh10 t) (stg11 t) (wh11 t) (stg12 t) (wh12 t) (stg13 t) (wh13 t) (stg14 t) (wh14 t) (stg15 t) (wh15 t) (stg16 t) (wh16 t) (stg17 t) (wh17 t) (stg18 t) (wh18 t) (stg19 t) (wh19 t) (stg20 t) (wh20 t) (stg21 t) (wh21 t) (stg22 t) (wh22 t) (stg23 t) (wh23 t) (stg24 t) (wh24 t) (stg25 t) (wh25 t) (stg26 t) (wh26 t) scr (Memref.isWhole_whole _) (fun h => h0 ((first_iff t).mp h)) (fun h => h1 ((last_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) s.1 s.2.1 s.2.2

/-- The body's run at grid point `t`, the last grid point, on the point's own buffers and blocks. -/
abbrev atC (c : Dev nD) (t : Fin cfg0.N) (h0 : ¬t.val % 8 = 0) (h1 : t.val % 8 = 7) (s : State F) :=
  runC (F := F) c (grid0.coords t) (stg0 t) (wh0 t) (stg1 t) (wh1 t) (stg2 t) (wh2 t) (stg3 t) (wh3 t) (stg4 t) (wh4 t) (stg5 t) (wh5 t) (stg6 t) (wh6 t) (stg7 t) (wh7 t) (stg8 t) (wh8 t) (stg9 t) (wh9 t) (stg10 t) (wh10 t) (stg11 t) (wh11 t) (stg12 t) (wh12 t) (stg13 t) (wh13 t) (stg14 t) (wh14 t) (stg15 t) (wh15 t) (stg16 t) (wh16 t) (stg17 t) (wh17 t) (stg18 t) (wh18 t) (stg19 t) (wh19 t) (stg20 t) (wh20 t) (stg21 t) (wh21 t) (stg22 t) (wh22 t) (stg23 t) (wh23 t) (stg24 t) (wh24 t) (stg25 t) (wh25 t) (stg26 t) (wh26 t) scr (Memref.isWhole_whole _) (fun h => h0 ((first_iff t).mp h)) ((last_iff t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) s.1 s.2.1 s.2.2

/-- At the first point the pieces stored into buffer 25 cover it: it is zeroed there. -/
theorem coverA_25 (c : Dev nD) (t : Fin cfg0.N) (h0 : t.val % 8 = 0) (h1 : ¬t.val % 8 = 7) (y : S7x128x128.Idx) :
    ∃ pc ∈ (atA m c t h0 h1).1, y ∈ pc.1.set :=
  View.cover_of_tiledBy _ ![1, 128, 128] (by sl_kernel_rfl) y

/-- At the first point the pieces stored into buffer 26 cover it: it is zeroed there. -/
theorem coverA_26 (c : Dev nD) (t : Fin cfg0.N) (h0 : t.val % 8 = 0) (h1 : ¬t.val % 8 = 7) (y : S264x256.Idx) :
    ∃ pc ∈ (atA m c t h0 h1).2.1, y ∈ pc.1.set :=
  View.cover_of_tiledBy _ ![1, 256] (by sl_kernel_rfl) y

/-- At the first point the pieces stored into buffer 27 cover it: it is zeroed there. -/
theorem coverA_27 (c : Dev nD) (t : Fin cfg0.N) (h0 : t.val % 8 = 0) (h1 : ¬t.val % 8 = 7) (y : S128x384.Idx) :
    ∃ pc ∈ (atA m c t h0 h1).2.2.1, y ∈ pc.1.set :=
  View.cover_of_tiledL _ S128x384.size (by sl_kernel_rfl) y

/-- One buffer of window 25, through which its contents are read. -/
abbrev vw25 : View sig .tc .vmem S7x128x128 .f32 := (Memref.whole cc0_stg25_0 : Memref sig .tc .vmem S7x128x128 .f32).view
/-- One buffer of window 26, through which its contents are read. -/
abbrev vw26 : View sig .tc .vmem S264x256 .f32 := (Memref.whole cc0_stg26_0 : Memref sig .tc .vmem S264x256 .f32).view

/-- What the first point leaves. -/
def leftA (c : Dev nD) (t : Fin cfg0.N) (h0 : t.val % 8 = 0) (h1 : ¬t.val % 8 = 7) : State F :=
  (vw25.read (Elt F) (vw25.writes (Elt F) vw25.junk (atA m c t h0 h1).1),
   vw26.read (Elt F) (vw26.writes (Elt F) vw26.junk (atA m c t h0 h1).2.1),
   scr.view.read (Elt F) (scr.view.writes (Elt F) scr.view.junk (atA m c t h0 h1).2.2.1))

/-- What a grid point between the first and the last leaves, over what the point before left. -/
def leftB (c : Dev nD) (t : Fin cfg0.N) (h0 : ¬t.val % 8 = 0) (h1 : ¬t.val % 8 = 7) (s : State F) : State F :=
  ((stg25 t).view.read (Elt F) ((stg25 t).view.writes (Elt F) ((wh25 t).unread s.1) (atB m c t h0 h1 s).1),
   (stg26 t).view.read (Elt F) ((stg26 t).view.writes (Elt F) ((wh26 t).unread s.2.1) (atB m c t h0 h1 s).2.1),
   (scr).view.read (Elt F) ((scr).view.writes (Elt F) ((Memref.isWhole_whole cc0_scratch0).unread s.2.2) (atB m c t h0 h1 s).2.2.1))

/-- What the last grid point leaves, over what the point before left. -/
def leftC (c : Dev nD) (t : Fin cfg0.N) (h0 : ¬t.val % 8 = 0) (h1 : t.val % 8 = 7) (s : State F) : State F :=
  ((stg25 t).view.read (Elt F) ((stg25 t).view.writes (Elt F) ((wh25 t).unread s.1) (atC m c t h0 h1 s).1),
   (stg26 t).view.read (Elt F) ((stg26 t).view.writes (Elt F) ((wh26 t).unread s.2.1) (atC m c t h0 h1 s).2.1),
   (scr).view.read (Elt F) ((scr).view.writes (Elt F) ((Memref.isWhole_whole cc0_scratch0).unread s.2.2) (atC m c t h0 h1 s).2.2.1))

/-- What the buffers hold after grid point `n`. -/
def left (c : Dev nD) : (n : ℕ) → n < cfg0.N → State F
  | 0, hn => leftA m c ⟨0, hn⟩ rfl (by intro h; have h : 0 % 8 = 7 := h; omega)
  | n + 1, hn =>
    if h0 : (n + 1) % 8 = 0 then leftA m c ⟨n + 1, hn⟩ h0 (by intro h; have h : (n + 1) % 8 = 7 := h; omega)
    else if h1 : (n + 1) % 8 = 7 then leftC m c ⟨n + 1, hn⟩ h0 h1 (left c n (Nat.lt_of_succ_lt hn))
    else leftB m c ⟨n + 1, hn⟩ h0 h1 (left c n (Nat.lt_of_succ_lt hn))

/-- What the buffers hold when a point that is not the first begins. -/
abbrev leftBefore (c : Dev nD) (t : Fin cfg0.N) : State F := left m c (t.val - 1) (Nat.lt_of_le_of_lt (Nat.sub_le _ _) t.isLt)

theorem left_A (c : Dev nD) (t : Fin cfg0.N) (h0 : t.val % 8 = 0) (h1 : ¬t.val % 8 = 7) :
    left m c t.val t.isLt = leftA m c t h0 h1 := by
  obtain ⟨n, hn⟩ := t
  cases n with
  | zero => exact rfl
  | succ n => exact (dif_pos h0).trans rfl

theorem left_B (c : Dev nD) (t : Fin cfg0.N) (h0 : ¬t.val % 8 = 0) (h1 : ¬t.val % 8 = 7) :
    left m c t.val t.isLt = leftB m c t h0 h1 (leftBefore m c t) := by
  obtain ⟨n, hn⟩ := t
  cases n with
  | zero => exact absurd (Nat.zero_mod _) h0
  | succ n => exact (dif_neg h0).trans ((dif_neg h1).trans rfl)

theorem left_C (c : Dev nD) (t : Fin cfg0.N) (h0 : ¬t.val % 8 = 0) (h1 : t.val % 8 = 7) :
    left m c t.val t.isLt = leftC m c t h0 h1 (leftBefore m c t) := by
  obtain ⟨n, hn⟩ := t
  cases n with
  | zero => exact absurd (Nat.zero_mod _) h0
  | succ n => exact (dif_neg h0).trans ((dif_pos h1).trans rfl)

/-- The invariant between points: before the first the carried buffer at anything, afterwards at what the point left. -/
def inv (c : Dev nD) : (n : ℕ) → n ≤ cfg0.N → sProp 𝕄
  | 0, _ => Pipeline.ΦA spec0 c
  | n + 1, hn => iprop(iprop(owns (c : Thread nD τ) scr fullShare ((left m c n hn).2.2)) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(iprop(owns (c : Thread nD τ) scr fullShare ((left m c n hn).2.2)) ∗ (∃ r, prngReg c r)) := rfl

theorem inv_pos (c : Dev nD) (n : ℕ) (h : n ≤ cfg0.N) (hz : n ≠ 0) :
    inv m c n h = iprop(iprop(owns (c : Thread nD τ) scr fullShare ((left m c (n - 1) (by omega)).2.2)) ∗ (∃ r, prngReg c r)) := by
  cases n with
  | zero => exact absurd rfl hz
  | succ n => rfl

/-- The output windows of which nothing is said. -/
def unsaid : Fin 27 → Bool := fun w => w.val == 20 || w.val == 21 || w.val == 22 || w.val == 23 || w.val == 24

/-- The pipeline's data: the arrays as the call finds them, what each window's buffer holds after each point, and the
    invariant. -/
def dat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, h⟩ => Pipeline.Dat.unnamed (cfg := cfg0) ⟨20, h⟩ t
    | ⟨21, h⟩ => Pipeline.Dat.unnamed (cfg := cfg0) ⟨21, h⟩ t
    | ⟨22, h⟩ => Pipeline.Dat.unnamed (cfg := cfg0) ⟨22, h⟩ t
    | ⟨23, h⟩ => Pipeline.Dat.unnamed (cfg := cfg0) ⟨23, h⟩ t
    | ⟨24, h⟩ => Pipeline.Dat.unnamed (cfg := cfg0) ⟨24, h⟩ t
    | ⟨25, _⟩ => (left m c t.val t.isLt).1
    | ⟨26, _⟩ => (left m c t.val t.isLt).2.1
    | ⟨_ + 27, h⟩ => absurd h (Nat.not_lt.2 (Nat.le_add_left _ _))
  Φ t := inv m c t.val (Nat.le_of_lt_succ t.isLt)
  q w := Pipeline.shareOf spec0 w
  owed _ := 0

theorem dat_A (c : Dev nD) (w : Fin cfg0.W) : (dat m 0 c).A w = V m c (Pipeline.arrRef spec0 w) := by
  dsimp only [dat]

theorem inv_castSucc (c : Dev nD) (t : Fin cfg0.N) :
    (dat m 0 c).Φ t.castSucc = inv m c t.val (Nat.le_of_lt t.isLt) := by
  dsimp only [dat]; exact Pipeline.Dat.Φ_castSucc (inv m c) t

/-! What each window's buffer holds after a point, and (an input) before it. -/

theorem aft0 (c : Dev nD) (t : Fin cfg0.N) : (dat m 0 c).after 0 t = iblk m c 0 t := by dsimp only [dat]
theorem aft1 (c : Dev nD) (t : Fin cfg0.N) : (dat m 0 c).after 1 t = iblk m c 1 t := by dsimp only [dat]
theorem aft2 (c : Dev nD) (t : Fin cfg0.N) : (dat m 0 c).after 2 t = iblk m c 2 t := by dsimp only [dat]
theorem aft3 (c : Dev nD) (t : Fin cfg0.N) : (dat m 0 c).after 3 t = iblk m c 3 t := by dsimp only [dat]
theorem aft4 (c : Dev nD) (t : Fin cfg0.N) : (dat m 0 c).after 4 t = iblk m c 4 t := by dsimp only [dat]
theorem aft5 (c : Dev nD) (t : Fin cfg0.N) : (dat m 0 c).after 5 t = iblk m c 5 t := by dsimp only [dat]
theorem aft6 (c : Dev nD) (t : Fin cfg0.N) : (dat m 0 c).after 6 t = iblk m c 6 t := by dsimp only [dat]
theorem aft7 (c : Dev nD) (t : Fin cfg0.N) : (dat m 0 c).after 7 t = iblk m c 7 t := by dsimp only [dat]
theorem aft8 (c : Dev nD) (t : Fin cfg0.N) : (dat m 0 c).after 8 t = iblk m c 8 t := by dsimp only [dat]
theorem aft9 (c : Dev nD) (t : Fin cfg0.N) : (dat m 0 c).after 9 t = iblk m c 9 t := by dsimp only [dat]
theorem aft10 (c : Dev nD) (t : Fin cfg0.N) : (dat m 0 c).after 10 t = iblk m c 10 t := by dsimp only [dat]
theorem aft11 (c : Dev nD) (t : Fin cfg0.N) : (dat m 0 c).after 11 t = iblk m c 11 t := by dsimp only [dat]
theorem aft12 (c : Dev nD) (t : Fin cfg0.N) : (dat m 0 c).after 12 t = iblk m c 12 t := by dsimp only [dat]
theorem aft13 (c : Dev nD) (t : Fin cfg0.N) : (dat m 0 c).after 13 t = iblk m c 13 t := by dsimp only [dat]
theorem aft14 (c : Dev nD) (t : Fin cfg0.N) : (dat m 0 c).after 14 t = iblk m c 14 t := by dsimp only [dat]
theorem aft15 (c : Dev nD) (t : Fin cfg0.N) : (dat m 0 c).after 15 t = iblk m c 15 t := by dsimp only [dat]
theorem aft16 (c : Dev nD) (t : Fin cfg0.N) : (dat m 0 c).after 16 t = iblk m c 16 t := by dsimp only [dat]
theorem aft17 (c : Dev nD) (t : Fin cfg0.N) : (dat m 0 c).after 17 t = iblk m c 17 t := by dsimp only [dat]
theorem aft18 (c : Dev nD) (t : Fin cfg0.N) : (dat m 0 c).after 18 t = iblk m c 18 t := by dsimp only [dat]
theorem aft19 (c : Dev nD) (t : Fin cfg0.N) : (dat m 0 c).after 19 t = iblk m c 19 t := by dsimp only [dat]
theorem aft25 (c : Dev nD) (t : Fin cfg0.N) : (dat m 0 c).after 25 t = (left m c t.val t.isLt).1 := by dsimp only [dat]
theorem aft26 (c : Dev nD) (t : Fin cfg0.N) : (dat m 0 c).after 26 t = (left m c t.val t.isLt).2.1 := by dsimp only [dat]
theorem bef0 (c : Dev nD) (t : Fin cfg0.N) (d) : (dat m 0 c).before 0 t d = iblk m c 0 t :=
  before0_0_of m (dat m 0 c) (dat_A m c 0) (aft0 m c) t d
theorem bef1 (c : Dev nD) (t : Fin cfg0.N) (d) : (dat m 0 c).before 1 t d = iblk m c 1 t :=
  before0_1_of m (dat m 0 c) (dat_A m c 1) (aft1 m c) t d
theorem bef2 (c : Dev nD) (t : Fin cfg0.N) (d) : (dat m 0 c).before 2 t d = iblk m c 2 t :=
  before0_2_of m (dat m 0 c) (dat_A m c 2) (aft2 m c) t d
theorem bef3 (c : Dev nD) (t : Fin cfg0.N) (d) : (dat m 0 c).before 3 t d = iblk m c 3 t :=
  before0_3_of m (dat m 0 c) (dat_A m c 3) (aft3 m c) t d
theorem bef4 (c : Dev nD) (t : Fin cfg0.N) (d) : (dat m 0 c).before 4 t d = iblk m c 4 t :=
  before0_4_of m (dat m 0 c) (dat_A m c 4) (aft4 m c) t d
theorem bef5 (c : Dev nD) (t : Fin cfg0.N) (d) : (dat m 0 c).before 5 t d = iblk m c 5 t :=
  before0_5_of m (dat m 0 c) (dat_A m c 5) (aft5 m c) t d
theorem bef6 (c : Dev nD) (t : Fin cfg0.N) (d) : (dat m 0 c).before 6 t d = iblk m c 6 t :=
  before0_6_of m (dat m 0 c) (dat_A m c 6) (aft6 m c) t d
theorem bef7 (c : Dev nD) (t : Fin cfg0.N) (d) : (dat m 0 c).before 7 t d = iblk m c 7 t :=
  before0_7_of m (dat m 0 c) (dat_A m c 7) (aft7 m c) t d
theorem bef8 (c : Dev nD) (t : Fin cfg0.N) (d) : (dat m 0 c).before 8 t d = iblk m c 8 t :=
  before0_8_of m (dat m 0 c) (dat_A m c 8) (aft8 m c) t d
theorem bef9 (c : Dev nD) (t : Fin cfg0.N) (d) : (dat m 0 c).before 9 t d = iblk m c 9 t :=
  before0_9_of m (dat m 0 c) (dat_A m c 9) (aft9 m c) t d
theorem bef10 (c : Dev nD) (t : Fin cfg0.N) (d) : (dat m 0 c).before 10 t d = iblk m c 10 t :=
  before0_10_of m (dat m 0 c) (dat_A m c 10) (aft10 m c) t d
theorem bef11 (c : Dev nD) (t : Fin cfg0.N) (d) : (dat m 0 c).before 11 t d = iblk m c 11 t :=
  before0_11_of m (dat m 0 c) (dat_A m c 11) (aft11 m c) t d
theorem bef12 (c : Dev nD) (t : Fin cfg0.N) (d) : (dat m 0 c).before 12 t d = iblk m c 12 t :=
  before0_12_of m (dat m 0 c) (dat_A m c 12) (aft12 m c) t d
theorem bef13 (c : Dev nD) (t : Fin cfg0.N) (d) : (dat m 0 c).before 13 t d = iblk m c 13 t :=
  before0_13_of m (dat m 0 c) (dat_A m c 13) (aft13 m c) t d
theorem bef14 (c : Dev nD) (t : Fin cfg0.N) (d) : (dat m 0 c).before 14 t d = iblk m c 14 t :=
  before0_14_of m (dat m 0 c) (dat_A m c 14) (aft14 m c) t d
theorem bef15 (c : Dev nD) (t : Fin cfg0.N) (d) : (dat m 0 c).before 15 t d = iblk m c 15 t :=
  before0_15_of m (dat m 0 c) (dat_A m c 15) (aft15 m c) t d
theorem bef16 (c : Dev nD) (t : Fin cfg0.N) (d) : (dat m 0 c).before 16 t d = iblk m c 16 t :=
  before0_16_of m (dat m 0 c) (dat_A m c 16) (aft16 m c) t d
theorem bef17 (c : Dev nD) (t : Fin cfg0.N) (d) : (dat m 0 c).before 17 t d = iblk m c 17 t :=
  before0_17_of m (dat m 0 c) (dat_A m c 17) (aft17 m c) t d
theorem bef18 (c : Dev nD) (t : Fin cfg0.N) (d) : (dat m 0 c).before 18 t d = iblk m c 18 t :=
  before0_18_of m (dat m 0 c) (dat_A m c 18) (aft18 m c) t d
theorem bef19 (c : Dev nD) (t : Fin cfg0.N) (d) : (dat m 0 c).before 19 t d = iblk m c 19 t :=
  before0_19_of m (dat m 0 c) (dat_A m c 19) (aft19 m c) t d
/-- An accumulator's buffer is not written back before the last point, so a later point finds what the one before left. -/
theorem bef25 (c : Dev nD) (t : Fin cfg0.N) (h0 : ¬t.val % 8 = 0) (d) :
    (dat m 0 c).before 25 t d = (leftBefore m c t).1 := by
  have hN : t.val < 8 := lt_of_lt_of_eq t.isLt (show cfg0.N = 8 from N_0)
  rw [Dat.before_out_kept _ 25 rfl t (by omega) (Bool.eq_false_iff.mpr fun h => by have := (flush0_25 _).mp h; dsimp only at this; omega)
    (fun _ => rfl) (fun _ _ => rfl)]
  dsimp only [dat]
/-- An accumulator's buffer is not written back before the last point, so a later point finds what the one before left. -/
theorem bef26 (c : Dev nD) (t : Fin cfg0.N) (h0 : ¬t.val % 8 = 0) (d) :
    (dat m 0 c).before 26 t d = (leftBefore m c t).2.1 := by
  have hN : t.val < 8 := lt_of_lt_of_eq t.isLt (show cfg0.N = 8 from N_0)
  rw [Dat.before_out_kept _ 26 rfl t (by omega) (Bool.eq_false_iff.mpr fun h => by have := (flush0_26 _).mp h; dsimp only at this; omega)
    (fun _ => rfl) (fun _ _ => rfl)]
  dsimp only [dat]

/-- What the body is called with at a point, window by window, -/
def bodyPre (c : Dev nD) (t : Fin cfg0.N) : sProp 𝕄 :=
  iprop((dat m 0 c).Φ t.castSucc ∗ (dat m 0 c).owesAt () t.castSucc
    ∗ (∃ d, owns (c : Thread nD τ) (stg0 t) fullShare ((dat m 0 c).before 0 t d))
    ∗ (∃ d, owns (c : Thread nD τ) (stg1 t) fullShare ((dat m 0 c).before 1 t d))
    ∗ (∃ d, owns (c : Thread nD τ) (stg2 t) fullShare ((dat m 0 c).before 2 t d))
    ∗ (∃ d, owns (c : Thread nD τ) (stg3 t) fullShare ((dat m 0 c).before 3 t d))
    ∗ (∃ d, owns (c : Thread nD τ) (stg4 t) fullShare ((dat m 0 c).before 4 t d))
    ∗ (∃ d, owns (c : Thread nD τ) (stg5 t) fullShare ((dat m 0 c).before 5 t d))
    ∗ (∃ d, owns (c : Thread nD τ) (stg6 t) fullShare ((dat m 0 c).before 6 t d))
    ∗ (∃ d, owns (c : Thread nD τ) (stg7 t) fullShare ((dat m 0 c).before 7 t d))
    ∗ (∃ d, owns (c : Thread nD τ) (stg8 t) fullShare ((dat m 0 c).before 8 t d))
    ∗ (∃ d, owns (c : Thread nD τ) (stg9 t) fullShare ((dat m 0 c).before 9 t d))
    ∗ (∃ d, owns (c : Thread nD τ) (stg10 t) fullShare ((dat m 0 c).before 10 t d))
    ∗ (∃ d, owns (c : Thread nD τ) (stg11 t) fullShare ((dat m 0 c).before 11 t d))
    ∗ (∃ d, owns (c : Thread nD τ) (stg12 t) fullShare ((dat m 0 c).before 12 t d))
    ∗ (∃ d, owns (c : Thread nD τ) (stg13 t) fullShare ((dat m 0 c).before 13 t d))
    ∗ (∃ d, owns (c : Thread nD τ) (stg14 t) fullShare ((dat m 0 c).before 14 t d))
    ∗ (∃ d, owns (c : Thread nD τ) (stg15 t) fullShare ((dat m 0 c).before 15 t d))
    ∗ (∃ d, owns (c : Thread nD τ) (stg16 t) fullShare ((dat m 0 c).before 16 t d))
    ∗ (∃ d, owns (c : Thread nD τ) (stg17 t) fullShare ((dat m 0 c).before 17 t d))
    ∗ (∃ d, owns (c : Thread nD τ) (stg18 t) fullShare ((dat m 0 c).before 18 t d))
    ∗ (∃ d, owns (c : Thread nD τ) (stg19 t) fullShare ((dat m 0 c).before 19 t d))
    ∗ (∃ d, owns (c : Thread nD τ) (stg20 t) fullShare d)
    ∗ (∃ d, owns (c : Thread nD τ) (stg21 t) fullShare d)
    ∗ (∃ d, owns (c : Thread nD τ) (stg22 t) fullShare d)
    ∗ (∃ d, owns (c : Thread nD τ) (stg23 t) fullShare d)
    ∗ (∃ d, owns (c : Thread nD τ) (stg24 t) fullShare d)
    ∗ (∃ d, owns (c : Thread nD τ) (stg25 t) fullShare ((dat m 0 c).before 25 t d))
    ∗ (∃ d, owns (c : Thread nD τ) (stg26 t) fullShare ((dat m 0 c).before 26 t d)))

/-- and what it gives back. -/
def bodyPost (c : Dev nD) (t : Fin cfg0.N) : sProp 𝕄 :=
  iprop((dat m 0 c).Φ t.succ ∗ (dat m 0 c).owesAt () t.succ
    ∗ owns (c : Thread nD τ) (stg0 t) fullShare ((dat m 0 c).after 0 t)
    ∗ owns (c : Thread nD τ) (stg1 t) fullShare ((dat m 0 c).after 1 t)
    ∗ owns (c : Thread nD τ) (stg2 t) fullShare ((dat m 0 c).after 2 t)
    ∗ owns (c : Thread nD τ) (stg3 t) fullShare ((dat m 0 c).after 3 t)
    ∗ owns (c : Thread nD τ) (stg4 t) fullShare ((dat m 0 c).after 4 t)
    ∗ owns (c : Thread nD τ) (stg5 t) fullShare ((dat m 0 c).after 5 t)
    ∗ owns (c : Thread nD τ) (stg6 t) fullShare ((dat m 0 c).after 6 t)
    ∗ owns (c : Thread nD τ) (stg7 t) fullShare ((dat m 0 c).after 7 t)
    ∗ owns (c : Thread nD τ) (stg8 t) fullShare ((dat m 0 c).after 8 t)
    ∗ owns (c : Thread nD τ) (stg9 t) fullShare ((dat m 0 c).after 9 t)
    ∗ owns (c : Thread nD τ) (stg10 t) fullShare ((dat m 0 c).after 10 t)
    ∗ owns (c : Thread nD τ) (stg11 t) fullShare ((dat m 0 c).after 11 t)
    ∗ owns (c : Thread nD τ) (stg12 t) fullShare ((dat m 0 c).after 12 t)
    ∗ owns (c : Thread nD τ) (stg13 t) fullShare ((dat m 0 c).after 13 t)
    ∗ owns (c : Thread nD τ) (stg14 t) fullShare ((dat m 0 c).after 14 t)
    ∗ owns (c : Thread nD τ) (stg15 t) fullShare ((dat m 0 c).after 15 t)
    ∗ owns (c : Thread nD τ) (stg16 t) fullShare ((dat m 0 c).after 16 t)
    ∗ owns (c : Thread nD τ) (stg17 t) fullShare ((dat m 0 c).after 17 t)
    ∗ owns (c : Thread nD τ) (stg18 t) fullShare ((dat m 0 c).after 18 t)
    ∗ owns (c : Thread nD τ) (stg19 t) fullShare ((dat m 0 c).after 19 t)
    ∗ (∃ d, owns (c : Thread nD τ) (stg20 t) fullShare d)
    ∗ (∃ d, owns (c : Thread nD τ) (stg21 t) fullShare d)
    ∗ (∃ d, owns (c : Thread nD τ) (stg22 t) fullShare d)
    ∗ (∃ d, owns (c : Thread nD τ) (stg23 t) fullShare d)
    ∗ (∃ d, owns (c : Thread nD τ) (stg24 t) fullShare d)
    ∗ owns (c : Thread nD τ) (stg25 t) fullShare ((dat m 0 c).after 25 t)
    ∗ owns (c : Thread nD τ) (stg26 t) fullShare ((dat m 0 c).after 26 t))

set_option maxHeartbeats 4000000 in
/-- The body at the first grid point. -/
theorem bodyA (c : Dev nD) (t : Fin cfg0.N) (h0 : t.val % 8 = 0) (h1 : ¬t.val % 8 = 7) :
    bodyPre m c t ⊢ wp frame (wpE (defs₀ (F := F)) Variants.none c none) Set.univ (bodyAt0 t) (fun _ => bodyPost m c t) := by
  unfold bodyPre bodyPost bodyAt0
  simp only [bef0, bef1, bef2, bef3, bef4, bef5, bef6, bef7, bef8, bef9, bef10, bef11, bef12, bef13, bef14, bef15, bef16, bef17, bef18, bef19]
  rw [show (dat m 0 c).owesAt () t.succ = (dat m 0 c).owesAt () t.castSucc from rfl,
    aft0, aft1, aft2, aft3, aft4, aft5, aft6, aft7, aft8, aft9, aft10, aft11, aft12, aft13, aft14, aft15, aft16, aft17, aft18, aft19, aft25, aft26]
  rw [show (dat m 0 c).Φ t.succ = inv m c (t.val + 1) t.isLt from rfl, inv_succ]
  have hN : t.val < 8 := lt_of_lt_of_eq t.isLt (show cfg0.N = 8 from N_0)
  have hz : t.val = 0 := by omega
  rw [inv_castSucc m c t, inv_zero m c _ _ hz, Phi_scr]
  rw [left_A m c t h0 h1]
  unfold leftA; dsimp only
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply ((atA m c t h0 h1).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [HS]; · iexact HS
  iintro ⟨H0, H1, H2, H3, H4, H5, H6, H7, H8, H9, H10, H11, H12, H13, H14, H15, H16, H17, H18, H19, H20, H21, H22, H23, H24, ⟨%e_H25, H25⟩, ⟨%e_H26, H26⟩, ⟨%e_HS, HS⟩⟩
  isplitl [HS Hg]
  · isplitl [HS]
    · unfold owns; iexists _; isplitr
      swap; · iexact HS
      ipureintro; exact View.read_writes_of_cover _ _ _ _ _ (coverA_27 m c t h0 h1)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]
  · unfold owns; iexists _; isplitr
    swap; · iexact H25
    ipureintro; exact View.read_writes_of_cover _ _ _ _ _ (coverA_25 m c t h0 h1)
  unfold owns; iexists _; isplitr
  swap; · iexact H26
  ipureintro; exact View.read_writes_of_cover _ _ _ _ _ (coverA_26 m c t h0 h1)

set_option maxHeartbeats 4000000 in
/-- The body at a grid point between the first and the last. -/
theorem bodyB (c : Dev nD) (t : Fin cfg0.N) (h0 : ¬t.val % 8 = 0) (h1 : ¬t.val % 8 = 7) :
    bodyPre m c t ⊢ wp frame (wpE (defs₀ (F := F)) Variants.none c none) Set.univ (bodyAt0 t) (fun _ => bodyPost m c t) := by
  unfold bodyPre bodyPost bodyAt0
  simp only [bef0, bef1, bef2, bef3, bef4, bef5, bef6, bef7, bef8, bef9, bef10, bef11, bef12, bef13, bef14, bef15, bef16, bef17, bef18, bef19]
  rw [show (dat m 0 c).owesAt () t.succ = (dat m 0 c).owesAt () t.castSucc from rfl,
    aft0, aft1, aft2, aft3, aft4, aft5, aft6, aft7, aft8, aft9, aft10, aft11, aft12, aft13, aft14, aft15, aft16, aft17, aft18, aft19, aft25, aft26]
  rw [show (dat m 0 c).Φ t.succ = inv m c (t.val + 1) t.isLt from rfl, inv_succ]
  have hN : t.val < 8 := lt_of_lt_of_eq t.isLt (show cfg0.N = 8 from N_0)
  have hz : t.val ≠ 0 := by omega
  rw [inv_castSucc m c t, inv_pos m c _ _ hz]
  rw [left_B m c t h0 h1]
  simp only [bef25 m c t h0, bef26 m c t h0]
  unfold leftB; dsimp only
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply ((atB m c t h0 h1 (leftBefore m c t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexact H25
  isplitl [H26]; · iexact H26
  isplitl [HS]; · iexact HS
  iintro ⟨H0, H1, H2, H3, H4, H5, H6, H7, H8, H9, H10, H11, H12, H13, H14, H15, H16, H17, H18, H19, H20, H21, H22, H23, H24, H25, H26, HS⟩
  isplitl [HS Hg]
  · isplitl [HS]
    · unfold owns; iexists _; isplitr
      swap; · iexact HS
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]
  · unfold owns; iexists _; isplitr
    swap; · iexact H25
    ipureintro; rfl
  unfold owns; iexists _; isplitr
  swap; · iexact H26
  ipureintro; rfl

set_option maxHeartbeats 4000000 in
/-- The body at the last grid point. -/
theorem bodyC (c : Dev nD) (t : Fin cfg0.N) (h0 : ¬t.val % 8 = 0) (h1 : t.val % 8 = 7) :
    bodyPre m c t ⊢ wp frame (wpE (defs₀ (F := F)) Variants.none c none) Set.univ (bodyAt0 t) (fun _ => bodyPost m c t) := by
  unfold bodyPre bodyPost bodyAt0
  simp only [bef0, bef1, bef2, bef3, bef4, bef5, bef6, bef7, bef8, bef9, bef10, bef11, bef12, bef13, bef14, bef15, bef16, bef17, bef18, bef19]
  rw [show (dat m 0 c).owesAt () t.succ = (dat m 0 c).owesAt () t.castSucc from rfl,
    aft0, aft1, aft2, aft3, aft4, aft5, aft6, aft7, aft8, aft9, aft10, aft11, aft12, aft13, aft14, aft15, aft16, aft17, aft18, aft19, aft25, aft26]
  rw [show (dat m 0 c).Φ t.succ = inv m c (t.val + 1) t.isLt from rfl, inv_succ]
  have hN : t.val < 8 := lt_of_lt_of_eq t.isLt (show cfg0.N = 8 from N_0)
  have hz : t.val ≠ 0 := by omega
  rw [inv_castSucc m c t, inv_pos m c _ _ hz]
  rw [left_C m c t h0 h1]
  simp only [bef25 m c t h0, bef26 m c t h0]
  unfold leftC; dsimp only
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply ((atC m c t h0 h1 (leftBefore m c t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexact H25
  isplitl [H26]; · iexact H26
  isplitl [HS]; · iexact HS
  iintro ⟨H0, H1, H2, H3, H4, H5, H6, H7, H8, H9, H10, H11, H12, H13, H14, H15, H16, H17, H18, H19, H20, H21, H22, H23, H24, H25, H26, HS⟩
  isplitl [HS Hg]
  · isplitl [HS]
    · unfold owns; iexists _; isplitr
      swap; · iexact HS
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]
  · unfold owns; iexists _; isplitr
    swap; · iexact H25
    ipureintro; rfl
  unfold owns; iexists _; isplitr
  swap; · iexact H26
  ipureintro; rfl

/-- The body at any point. -/
theorem body (c : Dev nD) (t : Fin cfg0.N) :
    bodyPre m c t ⊢ wp frame (wpE (defs₀ (F := F)) Variants.none c none) Set.univ (bodyAt0 t) (fun _ => bodyPost m c t) := by
  by_cases h0 : t.val % 8 = 0
  · exact bodyA m c t h0 (by omega)
  · by_cases h1 : t.val % 8 = 7
    · exact bodyC m c t h0 h1
    · exact bodyB m c t h0 h1

theorem body_row (t : Fin cfg0.N) :
    defs₀ (F := F) .tc cfg0.body (cfg0.bodyArgs t (cfg0.slots t)) = bodyAt0 t := by
  unfold defs₀; rw [Defs.onTc_tc]

/-- The pipeline's obligation on the body. -/
theorem obligation (c : Dev nD) : BodyObligation (dat (F := F) m 0 c) (defs₀ (F := F)) Variants.none () Set.univ unsaid := fun t => by
  rw [bigSep_W0, bigSep_W0, body_row]
  exact triple_restated (body m c t) rfl .rfl fun _ => .rfl

theorem inv_in (c : Dev nD) : Pipeline.ΦA spec0 c ⊢ (dat m 0 c).Φ 0 := by
  rw [show (dat m 0 c).Φ 0 = inv m c 0 (Nat.zero_le _) from rfl, inv_zero m c 0 _ rfl]
  try exact Idealize.SL.BI.Entails.refl _

theorem inv_out (c : Dev nD) : (dat m 0 c).Φ (Fin.last cfg0.N) ⊢ Pipeline.ΦA spec0 c := by
  have ht : (Fin.last cfg0.N).val ≠ 0 := by rw [Fin.val_last]; have : cfg0.N = 8 := N_0; omega
  rw [show (dat m 0 c).Φ (Fin.last cfg0.N) = inv m c (Fin.last cfg0.N).val (Nat.le_of_lt_succ (Fin.last cfg0.N).isLt) from rfl,
    inv_pos m c _ _ ht, Phi_scr]
  iintro ⟨HS, Hg⟩
  isplitl [HS]
  · iexists _; iexact HS
  iexact Hg

set_option backward.isDefEq.respectTransparency.types false in
/-- The kernel program's run: it terminates with every input array unchanged, the arrays of windows [25, 26] as the
    pipeline's data names them, and every semaphore counter at zero. -/
theorem ran_quiet : θ_run defs (onTc (τ := τ) (main (F := F))) (s₀ m ρ) (fun r => (Pipeline.RDat.FramePost (cfgs 0) (fun c => (dat m 0 c).toRForget unsaid) (V m)) r ∧ r.2.sem = fun _ => 0) :=
  Pipeline.θ_run_frame_track_forget_shared (Q' := _) cfgs (dat m) (0 : Fin 1) launch₀0 defs₀ Variants.none unsaid m ρ main
    (hbody := fun c => (obligation m c).loose) (hq := fun _ _ _ => rfl)
    (howed := fun _ _ => rfl) (V := V m) (hmain := hmain m Variants.none) (hA := dat_A m) (hin := inv_in m) (hout := inv_out m)

/-- Every argument array ends unchanged, read off such a run. -/
theorem args_kept (rd : (c : Dev nD) → Pipeline.RDat τ (Elt F) Unit ℕ (UR sig nD τ) ℕ (cfgs 0) c)
    (hA : ∀ c w, (rd c).A w = V m c (Pipeline.arrRef spec0 w))
    (h : θ_run defs (onTc (τ := τ) (main (F := F))) (s₀ m ρ) (Pipeline.RDat.FramePost (cfgs 0) rd (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Pipeline.RDat.FramePost.arr_in h c 13 rfl).trans ((hA c 13).trans (V_main_arg5 m c)),
      ((h c).2 main_arg6 (Pipeline.mem_restRefs_of main_arg6 (by decide) (by decide))).trans (V_main_arg6 m c),
      (Pipeline.RDat.FramePost.arr_in h c 15 rfl).trans ((hA c 15).trans (V_main_arg7 m c)),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      (Pipeline.RDat.FramePost.arr_in h c 7 rfl).trans ((hA c 7).trans (V_main_arg14 m c))⟩) h

/-- The frame: every run terminates, keeps the argument arrays and leaves the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (args_kept m ρ (fun c => (dat m 0 c).toRForget unsaid) (dat_A m) ((θ_run defs _ _).mono (fun _ h => h.1) (ran_quiet m ρ))) ((θ_run defs _ _).mono (fun _ h => h.2) (ran_quiet m ρ))

end Cert.KernelIdeal.Mix

end
-- ==== Proof.Mix.FrameKernel.lean ====
module

public import proofs.«01_k».proof.Defs
public import proofs.«01_k».proof.Proof.Gen.Kernel
public import proofs.«01_k».proof.Proof.Mix.Frame

@[expose] public section

set_option maxRecDepth 16384

noncomputable section

namespace Cert.KernelIdeal.Mix

open Idealize.ShloMosaic Idealize.ShloMosaic.Tactic Idealize.SL.Sem

/-- The same frame for the program as printed with its own float formats: the two programs have the same text. -/
theorem frame_kernel : @Cert.quiescent_Kernel Cert.Kernel.Gen.facts := by
  have h := fun m ρ (_ : True) => frame (F := Bits) m ρ
  refine @Eq.mp _ _ ?_ h
  sl_kernel_rfl

end Cert.KernelIdeal.Mix

end
-- ==== Proof.Mix.Pure.lean ====
module

public import proofs.«01_k».proof.Proof.Gen.KernelIdeal.Skeleton
public import Idealize.ShloMosaic.Lib.Pointwise

@[expose] public section

/-! What the kernel's chunks compute, read element by element: the gate gradient `da · u` and the normalised values,
    and the products of the two that the weight gradient sums. -/

set_option maxRecDepth 16384

noncomputable section

namespace Cert.KernelIdeal.Mix

open Cert.KernelIdeal Cert.KernelIdeal.Gen
open Idealize.ShloMosaic Idealize.ShloMosaic.TcCoe
open Idealize.SL.Sem

/-- The exact gelu. -/
def gel (x : EReal) : EReal :=
  (Ideal.ofBits .f32 0x3F000000#32 * x) * (1 + Ideal.erf (x * Ideal.ofBits .f32 0x3F3504F3#32))

/-- The mean of a row of 384. -/
def mean (f : Fin 384 → EReal) : EReal := Ideal.div (∑ l, f l) (Ideal.ofBits .f32 0x43C00000#32)

/-- A row of 384 normalised, scaled by `g` and shifted by `b`, at place `j`. -/
def lnr (f : Fin 384 → EReal) (g b : EReal) (j : Fin 384) : EReal :=
  (f j - mean f) * Ideal.rsqrt (mean (fun l => (f l - mean f) * (f l - mean f)) + Ideal.ofBits .f32 0x358637BD#32) * g + b

variable (z : FVec Ideal S512x1792 .f32) (R : FVec Ideal S512x1024 .f32) (g b : FVec Ideal S1x384 .f32)

/-- The gate gradients of the four chunks of a block. -/
def gate (k : Fin 4) : FVec Ideal S128x384 .f32 := match k with
  | 0 => k0_pay57 R (k0_pay49 z)
  | 1 => k0_pay91 z R
  | 2 => k0_pay128 R (k0_pay121 z)
  | 3 => k0_pay168 R (k0_pay160 z)

/-- The normalised values of the four chunks of a block. -/
def vals (k : Fin 4) : FVec Ideal S128x384 .bf16 := match k with
  | 0 => k0_pay55 g b (k0_pay50 z) (k0_pay51 z) (FloatOps.ofBits FTy.f32 1065353216#32)
  | 1 => k0_pay89 z g b
  | 2 => k0_pay126 g b (k0_pay122 z) (k0_pay123 z)
  | 3 => k0_pay166 g b (k0_pay159 z) (k0_pay161 z) k0_pay162

theorem gate_at (k : Fin 4) (p : Fin 128) (j : Fin 384) (r : Fin 512) (hr : r.val = 128 * k.val + p.val) :
    gate z R k (ix2 p j) = R (ix2 r ⟨j.val, by omega⟩) * gel (z (ix2 r ⟨j.val, by omega⟩)) := by
  fin_cases k
  · obtain ⟨r, hrr⟩ := r
    obtain rfl : r = p.val := by simpa using hr
    pointwise [gate, k0_pay57, k0_pay56, k0_pay49, k0_pay47, gel]
    rfl
  · obtain ⟨r, hrr⟩ := r
    obtain rfl : r = 128 + p.val := by simpa using hr
    pointwise [gate, k0_pay91, k0_pay90, k0_pay84, gel]
    rfl
  · obtain ⟨r, hrr⟩ := r
    obtain rfl : r = 256 + p.val := by simpa using hr
    pointwise [gate, k0_pay128, k0_pay127, k0_pay121, k0_pay119, gel]
    rfl
  · obtain ⟨r, hrr⟩ := r
    obtain rfl : r = 384 + p.val := by simpa using hr
    pointwise [gate, k0_pay168, k0_pay167, k0_pay160, k0_pay158, gel]
    rfl

theorem vals_at (k : Fin 4) (p : Fin 128) (j : Fin 384) (r : Fin 512) (hr : r.val = 128 * k.val + p.val) :
    vals z g b k (ix2 p j) = lnr (fun l => gel (z (ix2 r ⟨384 + l.val, by omega⟩))) (g (ix2 0 j)) (b (ix2 0 j)) j := by
  fin_cases k
  · obtain ⟨r, hrr⟩ := r
    obtain rfl : r = p.val := by simpa using hr
    pointwise [vals, k0_pay55, k0_pay54, k0_pay53, k0_pay52, k0_pay50, k0_pay51, k0_pay48, gel, lnr, mean]
    rfl
  · obtain ⟨r, hrr⟩ := r
    obtain rfl : r = 128 + p.val := by simpa using hr
    pointwise [vals, k0_pay89, k0_pay88, k0_pay87, k0_pay86, k0_pay85, gel, lnr, mean]
    rfl
  · obtain ⟨r, hrr⟩ := r
    obtain rfl : r = 256 + p.val := by simpa using hr
    pointwise [vals, k0_pay126, k0_pay125, k0_pay124, k0_pay123, k0_pay122, k0_pay120, gel, lnr, mean]
    rfl
  · obtain ⟨r, hrr⟩ := r
    obtain rfl : r = 384 + p.val := by simpa using hr
    pointwise [vals, k0_pay166, k0_pay165, k0_pay164, k0_pay163, k0_pay162, k0_pay161, k0_pay159, gel, lnr, mean]
    rfl

/-- A chunk's product for the even head of the pair of heads at lane `o`: the lanes from 64 on are masked out. -/
def stepE (o : Fin 2 → ℕ) (ho : S128x384.Slices o S128x128) (acc : FVec Ideal S128x128 .f32) (d : FVec Ideal S128x384 .f32)
    (v : FVec Ideal S128x384 .bf16) : FVec Ideal S128x128 .f32 :=
  addf acc (matmul dot_S128x128_S128x128_S128x128_1_1_0_0_n_n none
    (truncf .bf16 (select k0_pay38 (extractStridedSlice S128x128 o d ho) (broadcast S128x128 (Scalar.ofBits .f32 0x00000000#32))) bitsLt_bf16_f32)
    (extractStridedSlice S128x128 o v ho) (constant S128x128 .f32 0x00000000#32))

/-- The same for the odd head: the lanes below 64 are masked out. -/
def stepO (o : Fin 2 → ℕ) (ho : S128x384.Slices o S128x128) (acc : FVec Ideal S128x128 .f32) (d : FVec Ideal S128x384 .f32)
    (v : FVec Ideal S128x384 .bf16) : FVec Ideal S128x128 .f32 :=
  addf acc (matmul dot_S128x128_S128x128_S128x128_1_1_0_0_n_n none
    (truncf .bf16 (select k0_pay38 (broadcast S128x128 (Scalar.ofBits .f32 0x00000000#32)) (extractStridedSlice S128x128 o d ho)) bitsLt_bf16_f32)
    (extractStridedSlice S128x128 o v ho) (constant S128x128 .f32 0x00000000#32))

/-- What a block adds to head `h`'s weight gradient, as the kernel computes it. -/
def heads (h : Fin 6) : FVec Ideal S128x128 .f32 := match h with
  | 0 => k0_pay176 k0_pay38 (k0_pay134 R g b k0_pay38 (k0_pay98 k0_pay38 (k0_pay64 k0_pay38 k0_pay41 (k0_pay59 g b (k0_pay50 z) (k0_pay51 z) (FloatOps.ofBits FTy.f32 1065353216#32)) (k0_pay61 R (k0_pay49 z))) (k0_pay89 z g b) (k0_pay91 z R)) (k0_pay121 z) (k0_pay122 z) (k0_pay123 z)) (k0_pay168 R (k0_pay160 z)) (k0_pay170 g b (k0_pay159 z) (k0_pay161 z) k0_pay162)
  | 1 => k0_pay177 k0_pay38 (k0_pay136 (k0_pay99 k0_pay38 (k0_pay65 k0_pay38 k0_pay42 (k0_pay59 g b (k0_pay50 z) (k0_pay51 z) (FloatOps.ofBits FTy.f32 1065353216#32)) (k0_pay61 R (k0_pay49 z))) (k0_pay89 z g b) (k0_pay91 z R)) (k0_pay135 R g b k0_pay38 (k0_pay121 z) (k0_pay122 z) (k0_pay123 z))) (k0_pay168 R (k0_pay160 z)) (k0_pay170 g b (k0_pay159 z) (k0_pay161 z) k0_pay162)
  | 2 => k0_pay182 k0_pay38 (k0_pay141 k0_pay38 (k0_pay104 k0_pay38 (k0_pay70 k0_pay38 k0_pay43 (k0_pay55 g b (k0_pay50 z) (k0_pay51 z) (FloatOps.ofBits FTy.f32 1065353216#32)) (k0_pay57 R (k0_pay49 z))) (k0_pay100 (k0_pay89 z g b)) (k0_pay102 (k0_pay91 z R))) (k0_pay126 g b (k0_pay122 z) (k0_pay123 z)) (k0_pay128 R (k0_pay121 z))) (k0_pay166 g b (k0_pay159 z) (k0_pay161 z) k0_pay162) (k0_pay168 R (k0_pay160 z))
  | 3 => k0_pay183 k0_pay38 (k0_pay142 k0_pay38 (k0_pay105 k0_pay38 (k0_pay71 k0_pay38 k0_pay44 (k0_pay55 g b (k0_pay50 z) (k0_pay51 z) (FloatOps.ofBits FTy.f32 1065353216#32)) (k0_pay57 R (k0_pay49 z))) (k0_pay100 (k0_pay89 z g b)) (k0_pay102 (k0_pay91 z R))) (k0_pay126 g b (k0_pay122 z) (k0_pay123 z)) (k0_pay128 R (k0_pay121 z))) (k0_pay166 g b (k0_pay159 z) (k0_pay161 z) k0_pay162) (k0_pay168 R (k0_pay160 z))
  | 4 => k0_pay186 k0_pay38 (k0_pay148 k0_pay38 (k0_pay108 k0_pay38 (k0_pay74 k0_pay38 k0_pay45 (k0_pay57 R (k0_pay49 z)) (k0_pay72 (k0_pay55 g b (k0_pay50 z) (k0_pay51 z) (FloatOps.ofBits FTy.f32 1065353216#32)))) (k0_pay89 z g b) (k0_pay91 z R)) (k0_pay143 (k0_pay126 g b (k0_pay122 z) (k0_pay123 z))) (k0_pay145 (k0_pay128 R (k0_pay121 z)))) (k0_pay166 g b (k0_pay159 z) (k0_pay161 z) k0_pay162) (k0_pay168 R (k0_pay160 z))
  | 5 => k0_pay187 k0_pay38 (k0_pay149 k0_pay38 (k0_pay109 k0_pay38 (k0_pay75 k0_pay38 k0_pay46 (k0_pay57 R (k0_pay49 z)) (k0_pay72 (k0_pay55 g b (k0_pay50 z) (k0_pay51 z) (FloatOps.ofBits FTy.f32 1065353216#32)))) (k0_pay89 z g b) (k0_pay91 z R)) (k0_pay143 (k0_pay126 g b (k0_pay122 z) (k0_pay123 z))) (k0_pay145 (k0_pay128 R (k0_pay121 z)))) (k0_pay166 g b (k0_pay159 z) (k0_pay161 z) k0_pay162) (k0_pay168 R (k0_pay160 z))

theorem heads_0 : heads z R g b 0 =
    stepE ![0, 0] slices_S128x384_o0_0_S128x128 (stepE ![0, 0] slices_S128x384_o0_0_S128x128 (stepE ![0, 0] slices_S128x384_o0_0_S128x128 (stepE ![0, 0] slices_S128x384_o0_0_S128x128 k0_pay41 (gate z R 0) (vals z g b 0)) (gate z R 1) (vals z g b 1)) (gate z R 2) (vals z g b 2)) (gate z R 3) (vals z g b 3) := rfl
theorem heads_1 : heads z R g b 1 =
    stepO ![0, 0] slices_S128x384_o0_0_S128x128 (stepO ![0, 0] slices_S128x384_o0_0_S128x128 (stepO ![0, 0] slices_S128x384_o0_0_S128x128 (stepO ![0, 0] slices_S128x384_o0_0_S128x128 k0_pay42 (gate z R 0) (vals z g b 0)) (gate z R 1) (vals z g b 1)) (gate z R 2) (vals z g b 2)) (gate z R 3) (vals z g b 3) := rfl
theorem heads_2 : heads z R g b 2 =
    stepE ![0, 128] slices_S128x384_o0_128_S128x128 (stepE ![0, 128] slices_S128x384_o0_128_S128x128 (stepE ![0, 128] slices_S128x384_o0_128_S128x128 (stepE ![0, 128] slices_S128x384_o0_128_S128x128 k0_pay43 (gate z R 0) (vals z g b 0)) (gate z R 1) (vals z g b 1)) (gate z R 2) (vals z g b 2)) (gate z R 3) (vals z g b 3) := rfl
theorem heads_3 : heads z R g b 3 =
    stepO ![0, 128] slices_S128x384_o0_128_S128x128 (stepO ![0, 128] slices_S128x384_o0_128_S128x128 (stepO ![0, 128] slices_S128x384_o0_128_S128x128 (stepO ![0, 128] slices_S128x384_o0_128_S128x128 k0_pay44 (gate z R 0) (vals z g b 0)) (gate z R 1) (vals z g b 1)) (gate z R 2) (vals z g b 2)) (gate z R 3) (vals z g b 3) := rfl
theorem heads_4 : heads z R g b 4 =
    stepE ![0, 256] slices_S128x384_o0_256_S128x128 (stepE ![0, 256] slices_S128x384_o0_256_S128x128 (stepE ![0, 256] slices_S128x384_o0_256_S128x128 (stepE ![0, 256] slices_S128x384_o0_256_S128x128 k0_pay45 (gate z R 0) (vals z g b 0)) (gate z R 1) (vals z g b 1)) (gate z R 2) (vals z g b 2)) (gate z R 3) (vals z g b 3) := rfl
theorem heads_5 : heads z R g b 5 =
    stepO ![0, 256] slices_S128x384_o0_256_S128x128 (stepO ![0, 256] slices_S128x384_o0_256_S128x128 (stepO ![0, 256] slices_S128x384_o0_256_S128x128 (stepO ![0, 256] slices_S128x384_o0_256_S128x128 k0_pay46 (gate z R 0) (vals z g b 0)) (gate z R 1) (vals z g b 1)) (gate z R 2) (vals z g b 2)) (gate z R 3) (vals z g b 3) := rfl

theorem lane_lt (n : ℕ) (h : n < 64) : IntOp.cmpi CmpIPredicate.slt (BitVec.ofNat 32 n) 64#32 = 1#1 := by
  have : (BitVec.ofNat 32 n).slt 64#32 = true := by
    interval_cases n <;> rfl
  simp [IntOp.cmpi, this]
theorem lane_ge (n : ℕ) (h : 64 ≤ n) (h' : n < 128) : IntOp.cmpi CmpIPredicate.slt (BitVec.ofNat 32 n) 64#32 = 0#1 := by
  have : (BitVec.ofNat 32 n).slt 64#32 = false := by
    interval_cases n <;> rfl
  simp [IntOp.cmpi, this]

theorem sum_low (f : Fin 128 → EReal) (w : Fin 64 → EReal) (h1 : ∀ k : Fin 64, f ⟨k.val, by omega⟩ = w k)
    (h2 : ∀ k : Fin 64, f ⟨64 + k.val, by omega⟩ = 0) : ∑ k, f k = ∑ k, w k := by
  rw [Fin.sum_univ_two_halves 64 64 rfl, Finset.sum_congr rfl (fun k _ => h1 k), Finset.sum_eq_zero (fun k _ => h2 k), add_zero]

theorem sum_high (f : Fin 128 → EReal) (w : Fin 64 → EReal) (h1 : ∀ k : Fin 64, f ⟨k.val, by omega⟩ = 0)
    (h2 : ∀ k : Fin 64, f ⟨64 + k.val, by omega⟩ = w k) : ∑ k, f k = ∑ k, w k := by
  rw [Fin.sum_univ_two_halves 64 64 rfl, Finset.sum_congr rfl (fun k _ => h2 k), Finset.sum_eq_zero (fun k _ => h1 k), zero_add]

theorem stepE_at (o : ℕ) (ho : S128x384.Slices ![0, o] S128x128) (hb : o + 128 ≤ 384) (acc : FVec Ideal S128x128 .f32) (d : FVec Ideal S128x384 .f32)
    (v : FVec Ideal S128x384 .bf16) (p q : Fin 128) :
    stepE ![0, o] ho acc d v (ix2 p q) = acc (ix2 p q) + ∑ c : Fin 64, d (ix2 p ⟨o + c.val, by omega⟩) * v (ix2 q ⟨o + c.val, by omega⟩) := by
  pointwise [stepE, k0_pay38]
  refine congrArg (acc (ix2 p q) + ·) (sum_low _ _ (fun k => ?_) (fun k => ?_))
  · show Scalar.select (IntOp.cmpi CmpIPredicate.slt (BitVec.ofNat 32 k.val) 64#32) _ _ = _
    rw [lane_lt k.val (by omega)]; rfl
  · show Scalar.select (IntOp.cmpi CmpIPredicate.slt (BitVec.ofNat 32 (64 + k.val)) 64#32) _ _ = _
    rw [lane_ge (64 + k.val) (by omega) (by omega)]; rfl

theorem stepO_at (o : ℕ) (ho : S128x384.Slices ![0, o] S128x128) (hb : o + 128 ≤ 384) (acc : FVec Ideal S128x128 .f32) (d : FVec Ideal S128x384 .f32)
    (v : FVec Ideal S128x384 .bf16) (p q : Fin 128) :
    stepO ![0, o] ho acc d v (ix2 p q) = acc (ix2 p q) + ∑ c : Fin 64, d (ix2 p ⟨o + (64 + c.val), by omega⟩) * v (ix2 q ⟨o + (64 + c.val), by omega⟩) := by
  pointwise [stepO, k0_pay38]
  refine congrArg (acc (ix2 p q) + ·) (sum_high _ _ (fun k => ?_) (fun k => ?_))
  · show Scalar.select (IntOp.cmpi CmpIPredicate.slt (BitVec.ofNat 32 k.val) 64#32) _ _ = _
    rw [lane_lt k.val (by omega)]; rfl
  · show Scalar.select (IntOp.cmpi CmpIPredicate.slt (BitVec.ofNat 32 (64 + k.val)) 64#32) _ _ = _
    rw [lane_ge (64 + k.val) (by omega) (by omega)]; rfl

/-- What a block adds to head `h`'s weight gradient: over the block's four chunks, the products of the chunk's gated rows
    and its normed values over the head's 64 features. -/
theorem heads_at (h : Fin 6) (p q : Fin 128) : heads z R g b h (ix2 p q) =
    ∑ k : Fin 4, ∑ c : Fin 64, gate z R k (ix2 p ⟨64 * h.val + c.val, by omega⟩) * vals z g b k (ix2 q ⟨64 * h.val + c.val, by omega⟩) := by
  rw [Fin.sum_univ_four]
  fin_cases h
  · refine (congrFun (heads_0 z R g b) _).trans ?_
    simp only [stepE_at 0 slices_S128x384_o0_0_S128x128 (by omega)]
    have h0 : k0_pay41 (F := Ideal) (ix2 p q) = 0 := by pointwise [k0_pay41]
    rw [h0, zero_add]
  · refine (congrFun (heads_1 z R g b) _).trans ?_
    simp only [stepO_at 0 slices_S128x384_o0_0_S128x128 (by omega)]
    have h0 : k0_pay42 (F := Ideal) (ix2 p q) = 0 := by pointwise [k0_pay42]
    rw [h0, zero_add]
    simp only [← Nat.add_assoc]
  · refine (congrFun (heads_2 z R g b) _).trans ?_
    simp only [stepE_at 128 slices_S128x384_o0_128_S128x128 (by omega)]
    have h0 : k0_pay43 (F := Ideal) (ix2 p q) = 0 := by pointwise [k0_pay43]
    rw [h0, zero_add]
  · refine (congrFun (heads_3 z R g b) _).trans ?_
    simp only [stepO_at 128 slices_S128x384_o0_128_S128x128 (by omega)]
    have h0 : k0_pay44 (F := Ideal) (ix2 p q) = 0 := by pointwise [k0_pay44]
    rw [h0, zero_add]
    simp only [← Nat.add_assoc]
  · refine (congrFun (heads_4 z R g b) _).trans ?_
    simp only [stepE_at 256 slices_S128x384_o0_256_S128x128 (by omega)]
    have h0 : k0_pay45 (F := Ideal) (ix2 p q) = 0 := by pointwise [k0_pay45]
    rw [h0, zero_add]
  · refine (congrFun (heads_5 z R g b) _).trans ?_
    simp only [stepO_at 256 slices_S128x384_o0_256_S128x128 (by omega)]
    have h0 : k0_pay46 (F := Ideal) (ix2 p q) = 0 := by pointwise [k0_pay46]
    rw [h0, zero_add]
    simp only [← Nat.add_assoc]

/-- The word by which a row of the last result's selector is tested: the row's group of 64. -/
theorem group_word : ∀ i : Fin 384, (Scalar.select
    (IntOp.andi
      (IntOp.cmpi CmpIPredicate.ne
        (IntOp.subi (BitVec.setWidth 32 (IntOp.cmpi CmpIPredicate.sgt (BitVec.ofNat 32 i.val) 0#32))
          (BitVec.setWidth 32 (IntOp.cmpi CmpIPredicate.slt (BitVec.ofNat 32 i.val) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 i.val) 64#32) 0#32))
    (IntOp.subi (IntOp.divsi ArithUnit.vector (BitVec.ofNat 32 i.val) 64#32) 1#32)
    (IntOp.divsi ArithUnit.vector (BitVec.ofNat 32 i.val) 64#32) : BitVec 32) = BitVec.ofNat 32 (i.val / 64) := by
  decide +kernel

theorem bit_word (a b : ℕ) (ha : a < 128) (hb : b < 128) :
    FloatOps.sitofp (F := Ideal) FTy.f32 (BitVec.setWidth 32 (IntOp.cmpi CmpIPredicate.eq (BitVec.ofNat 32 a) (BitVec.ofNat 32 b))) =
      (if a = b then 1 else 0 : EReal) := by
  by_cases h : a = b
  · have : (BitVec.ofNat 32 a == BitVec.ofNat 32 b) = true := by simp [h]
    simp only [IntOp.cmpi, this, if_pos h]
    show (((1 : ℤ) : ℝ) : EReal) = 1
    simp
  · have : (BitVec.ofNat 32 a == BitVec.ofNat 32 b) = false := by
      simp only [beq_eq_false_iff_ne, ne_eq]
      intro e
      have := congrArg BitVec.toNat e
      simp only [BitVec.toNat_ofNat] at this
      omega
    simp only [IntOp.cmpi, this, if_neg h]
    show (((0 : ℤ) : ℝ) : EReal) = 0
    simp

theorem sge_word : ∀ p q : Fin 128, IntOp.cmpi CmpIPredicate.sge (BitVec.ofNat 32 p.val) (BitVec.ofNat 32 q.val) =
    if q.val ≤ p.val then 1#1 else 0#1 := by decide +kernel

theorem sub_self_real (x : EReal) (h : ∃ r : ℝ, x = r) : x - x = 0 := by
  obtain ⟨r, rfl⟩ := h
  rw [← EReal.coe_sub, sub_self, EReal.coe_zero]

/-- The last result's row: each head's 64 columns of the accumulated bias gradient, summed. -/
theorem row6_at (S : FVec Ideal S128x384 .f32) (hS : ∀ i, ∃ x : ℝ, S i = x) (p q : Fin 128) : k0_pay2 S (ix2 p q) =
    if h : q.val < 6 then ∑ c : Fin 64, S (ix2 p ⟨64 * q.val + c.val, by omega⟩) else 0 := by
  pointwise [k0_pay2]
  simp only [group_word, fun i : S128x384.Idx => sub_self_real (S i) (hS i), sub_zero, zero_mul, Finset.sum_const_zero, add_zero]
  rw [Fin.sum_univ_tiles 6 64 rfl]
  by_cases h : q.val < 6
  · rw [dif_pos h, Finset.sum_eq_single (⟨q.val, h⟩ : Fin 6)]
    · refine Finset.sum_congr rfl fun c _ => ?_
      have : (q.val * 64 + c.val) / 64 = q.val := by omega
      simp only [this, bit_word q.val q.val q.isLt q.isLt, if_true, mul_one]
      simp only [Nat.mul_comm q.val 64]
    · intro a _ ha
      refine Finset.sum_eq_zero fun c _ => ?_
      have e : (a.val * 64 + c.val) / 64 = a.val := by omega
      have ha' : ¬ a.val = q.val := fun e' => ha (Fin.ext e')
      simp only [e, bit_word a.val q.val (by omega) q.isLt, if_neg ha', mul_zero]
    · intro ha; exact absurd (Finset.mem_univ _) ha
  · rw [dif_neg h]
    refine Finset.sum_eq_zero fun a _ => Finset.sum_eq_zero fun c _ => ?_
    have e : (a.val * 64 + c.val) / 64 = a.val := by omega
    have ha' : ¬ a.val = q.val := by omega
    simp only [e, bit_word a.val q.val (by omega) q.isLt, if_neg ha', mul_zero]

theorem scr_at0 (s : FVec Ideal S128x384 .f32) (p : Fin 128) (j : Fin 384) : k0_pay58 R (k0_pay49 z) s (ix2 p j) = s (ix2 p j) + gate z R 0 (ix2 p j) := by
  pointwise [k0_pay58, gate]
theorem scr_at1 (s : FVec Ideal S128x384 .f32) (p : Fin 128) (j : Fin 384) : k0_pay93 (k0_pay92 z R s) (ix2 p j) = s (ix2 p j) + gate z R 1 (ix2 p j) := by
  pointwise [k0_pay93, k0_pay92, gate]
theorem scr_at2 (s : FVec Ideal S128x384 .f32) (p : Fin 128) (j : Fin 384) : k0_pay129 R (k0_pay121 z) s (ix2 p j) = s (ix2 p j) + gate z R 2 (ix2 p j) := by
  pointwise [k0_pay129, gate]
theorem scr_at3 (s : FVec Ideal S128x384 .f32) (p : Fin 128) (j : Fin 384) : k0_pay169 R (k0_pay160 z) s (ix2 p j) = s (ix2 p j) + gate z R 3 (ix2 p j) := by
  pointwise [k0_pay169, gate]

/-- The output projection's backward at a row: the upstream block's row against a row of the output weight. -/
theorem proj_at (w : Vec Ideal S1x1024x1024 .bf16) (d : Vec Ideal S512x1024 .f32) (r : Fin 512) (j : Fin 1024) :
    k0_pay12 w d (ix2 r j) = ∑ n : Fin 1024, d (ix2 r n) * w (ix3 0 j n) := by
  pointwise [k0_pay12, k0_pay11]

/-- A row of the accumulator after a block: the block's product is added where the column does not pass the row. -/
theorem tril_at (D : FVec Ideal S128x128 .f32) (o : Vec Ideal S1x128x128 .f32) (p q : Fin 128) :
    k0_pay195 D o (ix3 0 p q) = o (ix3 0 p q) + if q.val ≤ p.val then D (ix2 p q) else 0 := by
  pointwise [k0_pay195]
  rw [sge_word]
  split_ifs <;> rfl

end Cert.KernelIdeal.Mix

end
-- ==== Proof.Mix.Steps.lean ====
/- What one grid point adds to the spatial-weight accumulator and to the carried buffer, read off the run of the body.

   Every run stores rows 0 to 5 of window 25 once each (`addRows`): a row's old contents plus the block's product for that
   head (Pure.lean), kept where the column does not pass the row. The first run stores zeros over the whole buffer before
   that, the last one stores row 6 from the carried buffer. The carried buffer receives the four chunks' gated rows. -/
module

public import proofs.«01_k».proof.Proof.Mix.Frame
public import proofs.«01_k».proof.Proof.Mix.Pure
public import Idealize.ShloMosaic.Lib.WritesUnit
public import Idealize.ShloMosaic.Lib.WholeRead
public import Idealize.ShloMosaic.Lib.VecWindow

@[expose] public section

set_option maxRecDepth 16384
set_option maxHeartbeats 2000000

noncomputable section

namespace Cert.KernelIdeal.Mix

open Idealize.ShloMosaic Idealize.ShloMosaic.TcCoe Idealize.ShloMosaic.Tactic Cert.KernelIdeal Cert.KernelIdeal.Gen

variable (m : (ℓ : Loc nD τ sig) → Buf (Elt Ideal) ℓ)

/-- A load of a whole buffer reads what the buffer holds. -/
theorem ld_full {sp : Space} {s : Shape} {e : EltTy} {κ : Kind} {M : Memref sig κ sp s e} (h : M.IsWhole) {off : Fin s.rank → ℕ}
    (inb : ∀ a, off a + s.size a ≤ s.size a) (X : s.Idx → Elt Ideal e) :
    View.readAt (Elt Ideal) M.view (Rect.unit off s.size inb).toLoadRect (h.unread X) = X :=
  (View.readAt_full M.view _ inb).trans (h.read_unread X)

/-- A load of row `h` of the accumulator reads its entries. -/
theorem ld_row {M : Memref sig .tc .vmem S7x128x128 .f32} (hM : M.IsWhole) (h : Fin 7) (inb : ∀ a, ![h.val, 0, 0] a + S1x128x128.size a ≤ S7x128x128.size a)
    (X : Vec Ideal S7x128x128 .f32) (p q : Fin 128) :
    View.readAt (Elt Ideal) M.view (Rect.unit (s := S7x128x128) ![h.val, 0, 0] S1x128x128.size inb).toLoadRect (hM.unread X) (ix3 0 p q) = X (ix3 h p q) := by
  refine (hM.readAt_unread X _ _).trans (congrArg X (funext fun a => Fin.ext ?_))
  fin_cases a
  · show h.val + 1 * 0 = h.val; omega
  · show 0 + 1 * p.val = p.val; omega
  · show 0 + 1 * q.val = q.val; omega

/-- The six stores of a run into the accumulator, newest first. -/
def addRows (D : Fin 6 → FVec Ideal S128x128 .f32) (o : Fin 6 → Vec Ideal S1x128x128 .f32) (L : List (View.Piece (Elt Ideal) S7x128x128 .f32)) : List (View.Piece (Elt Ideal) S7x128x128 .f32) :=
  ⟨Rect.unit (s := S7x128x128) ![5, 0, 0] S1x128x128.size inb_S7x128x128_S1x128x128_5_0_0, k0_pay200 (D 5) (o 5)⟩ ::
  ⟨Rect.unit (s := S7x128x128) ![4, 0, 0] S1x128x128.size inb_S7x128x128_S1x128x128_4_0_0, k0_pay199 (D 4) (o 4)⟩ ::
  ⟨Rect.unit (s := S7x128x128) ![3, 0, 0] S1x128x128.size inb_S7x128x128_S1x128x128_3_0_0, k0_pay198 (D 3) (o 3)⟩ ::
  ⟨Rect.unit (s := S7x128x128) ![2, 0, 0] S1x128x128.size inb_S7x128x128_S1x128x128_2_0_0, k0_pay197 (D 2) (o 2)⟩ ::
  ⟨Rect.unit (s := S7x128x128) ![1, 0, 0] S1x128x128.size inb_S7x128x128_S1x128x128_1_0_0, k0_pay196 (D 1) (o 1)⟩ ::
  ⟨Rect.unit (s := S7x128x128) ![0, 0, 0] S1x128x128.size inb_S7x128x128_S1x128x128_0_0_0, k0_pay195 (D 0) (o 0)⟩ ::
  L

theorem tril_0 (D : FVec Ideal S128x128 .f32) (o : Vec Ideal S1x128x128 .f32) (p q : Fin 128) :
    k0_pay195 D o (ix3 0 p q) = o (ix3 0 p q) + if q.val ≤ p.val then D (ix2 p q) else 0 := tril_at D o p q
theorem tril_1 (D : FVec Ideal S128x128 .f32) (o : Vec Ideal S1x128x128 .f32) (p q : Fin 128) :
    k0_pay196 D o (ix3 0 p q) = o (ix3 0 p q) + if q.val ≤ p.val then D (ix2 p q) else 0 := tril_at D o p q
theorem tril_2 (D : FVec Ideal S128x128 .f32) (o : Vec Ideal S1x128x128 .f32) (p q : Fin 128) :
    k0_pay197 D o (ix3 0 p q) = o (ix3 0 p q) + if q.val ≤ p.val then D (ix2 p q) else 0 := tril_at D o p q
theorem tril_3 (D : FVec Ideal S128x128 .f32) (o : Vec Ideal S1x128x128 .f32) (p q : Fin 128) :
    k0_pay198 D o (ix3 0 p q) = o (ix3 0 p q) + if q.val ≤ p.val then D (ix2 p q) else 0 := tril_at D o p q
theorem tril_4 (D : FVec Ideal S128x128 .f32) (o : Vec Ideal S1x128x128 .f32) (p q : Fin 128) :
    k0_pay199 D o (ix3 0 p q) = o (ix3 0 p q) + if q.val ≤ p.val then D (ix2 p q) else 0 := tril_at D o p q
theorem tril_5 (D : FVec Ideal S128x128 .f32) (o : Vec Ideal S1x128x128 .f32) (p q : Fin 128) :
    k0_pay200 D o (ix3 0 p q) = o (ix3 0 p q) + if q.val ≤ p.val then D (ix2 p q) else 0 := tril_at D o p q

/-- A store into row `k` of the accumulator is what a read of that row finds; -/
theorem row_hit (v : View sig .tc .vmem S7x128x128 .f32) (f : v.ty.Contents (Elt Ideal)) (k : ℕ) (h : Fin 7) (hk : h.val = k)
    (inb : ∀ a, ![k, 0, 0] a + S1x128x128.size a ≤ S7x128x128.size a) (w : Vec Ideal S1x128x128 .f32) (L : List (View.Piece (Elt Ideal) S7x128x128 .f32)) (p q : Fin 128) :
    v.read (Elt Ideal) (v.writes (Elt Ideal) f (⟨Rect.unit (s := S7x128x128) ![k, 0, 0] S1x128x128.size inb, w⟩ :: L)) (ix3 h p q) = w (ix3 0 p q) :=
  View.read_writes_cons_unit_of_mem v f inb w L (ix3 h p q) (ix3 0 p q) rfl (by
    intro a
    fin_cases a
    · show h.val = k + 0; omega
    · show p.val = 0 + p.val; omega
    · show q.val = 0 + q.val; omega)

/-- a read of another row does not see it. -/
theorem row_miss (v : View sig .tc .vmem S7x128x128 .f32) (f : v.ty.Contents (Elt Ideal)) (k : ℕ) (h : Fin 7) (hk : h.val ≠ k)
    (inb : ∀ a, ![k, 0, 0] a + S1x128x128.size a ≤ S7x128x128.size a) (w : Vec Ideal S1x128x128 .f32) (L : List (View.Piece (Elt Ideal) S7x128x128 .f32)) (p q : Fin 128) :
    v.read (Elt Ideal) (v.writes (Elt Ideal) f (⟨Rect.unit (s := S7x128x128) ![k, 0, 0] S1x128x128.size inb, w⟩ :: L)) (ix3 h p q) =
      v.read (Elt Ideal) (v.writes (Elt Ideal) f L) (ix3 h p q) :=
  View.read_writes_cons_unit_of_not_mem v f inb w L (ix3 h p q) rfl 0 (by
    show h.val < k ∨ k + 1 ≤ h.val; omega)

/-- Row `h` after the six stores. -/
theorem addRows_at (v : View sig .tc .vmem S7x128x128 .f32) (f : v.ty.Contents (Elt Ideal)) (D : Fin 6 → FVec Ideal S128x128 .f32) (o : Fin 6 → Vec Ideal S1x128x128 .f32) (L : List (View.Piece (Elt Ideal) S7x128x128 .f32))
    (h : Fin 6) (p q : Fin 128) :
    v.read (Elt Ideal) (v.writes (Elt Ideal) f (addRows D o L)) (ix3 ⟨h.val, by omega⟩ p q) =
      o h (ix3 0 p q) + if q.val ≤ p.val then D h (ix2 p q) else 0 := by
  unfold addRows
  fin_cases h
  · refine (row_miss v f 5 _ (by decide) _ _ _ p q).trans ?_
    refine (row_miss v f 4 _ (by decide) _ _ _ p q).trans ?_
    refine (row_miss v f 3 _ (by decide) _ _ _ p q).trans ?_
    refine (row_miss v f 2 _ (by decide) _ _ _ p q).trans ?_
    refine (row_miss v f 1 _ (by decide) _ _ _ p q).trans ?_
    exact (row_hit v f 0 _ rfl _ _ _ p q).trans (tril_0 _ _ p q)
  · refine (row_miss v f 5 _ (by decide) _ _ _ p q).trans ?_
    refine (row_miss v f 4 _ (by decide) _ _ _ p q).trans ?_
    refine (row_miss v f 3 _ (by decide) _ _ _ p q).trans ?_
    refine (row_miss v f 2 _ (by decide) _ _ _ p q).trans ?_
    exact (row_hit v f 1 _ rfl _ _ _ p q).trans (tril_1 _ _ p q)
  · refine (row_miss v f 5 _ (by decide) _ _ _ p q).trans ?_
    refine (row_miss v f 4 _ (by decide) _ _ _ p q).trans ?_
    refine (row_miss v f 3 _ (by decide) _ _ _ p q).trans ?_
    exact (row_hit v f 2 _ rfl _ _ _ p q).trans (tril_2 _ _ p q)
  · refine (row_miss v f 5 _ (by decide) _ _ _ p q).trans ?_
    refine (row_miss v f 4 _ (by decide) _ _ _ p q).trans ?_
    exact (row_hit v f 3 _ rfl _ _ _ p q).trans (tril_3 _ _ p q)
  · refine (row_miss v f 5 _ (by decide) _ _ _ p q).trans ?_
    exact (row_hit v f 4 _ rfl _ _ _ p q).trans (tril_4 _ _ p q)
  · exact (row_hit v f 5 _ rfl _ _ _ p q).trans (tril_5 _ _ p q)

/-- The blocks a point reads: the mixer's input projection, the projected upstream gradient, and the gain and shift rows. -/
def zB (c : Dev nD) (t : Fin cfg0.N) : FVec Ideal S512x1792 .f32 := k0_pay8 (iblk m c 3 t)
def rB (c : Dev nD) (t : Fin cfg0.N) : FVec Ideal S512x1024 .f32 := k0_pay12 (iblk m c 8 t) (iblk m c 6 t)
def gB (c : Dev nD) (t : Fin cfg0.N) : FVec Ideal S1x384 .f32 := k0_pay14 (iblk m c 11 t)
def bB (c : Dev nD) (t : Fin cfg0.N) : FVec Ideal S1x384 .f32 := k0_pay15 (iblk m c 12 t)

/-- The same blocks as the run names them: loads of whole buffers. -/
abbrev zL (c : Dev nD) (t : Fin cfg0.N) : FVec Ideal S512x1792 .f32 := k0_pay8 (View.readAt (Elt Ideal) (stg3 t).view (Rect.unit ![0, 0] S512x1792.size inb_S512x1792_S512x1792_0_0).toLoadRect ((wh3 t).unread (iblk m c 3 t)))
abbrev rL (c : Dev nD) (t : Fin cfg0.N) : FVec Ideal S512x1024 .f32 := k0_pay12 (View.readAt (Elt Ideal) (stg8 t).view (Rect.unit ![0, 0, 0] S1x1024x1024.size inb_S1x1024x1024_S1x1024x1024_0_0_0).toLoadRect ((wh8 t).unread (iblk m c 8 t)))
  (View.readAt (Elt Ideal) (stg6 t).view (Rect.unit ![0, 0] S512x1024.size inb_S512x1024_S512x1024_0_0).toLoadRect ((wh6 t).unread (iblk m c 6 t)))
abbrev gL (c : Dev nD) (t : Fin cfg0.N) : FVec Ideal S1x384 .f32 := k0_pay14 (View.readAt (Elt Ideal) (stg11 t).view (Rect.unit ![0, 0] S1x384.size inb_S1x384_S1x384_0_0).toLoadRect ((wh11 t).unread (iblk m c 11 t)))
abbrev bL (c : Dev nD) (t : Fin cfg0.N) : FVec Ideal S1x384 .f32 := k0_pay15 (View.readAt (Elt Ideal) (stg12 t).view (Rect.unit ![0, 0] S1x384.size inb_S1x384_S1x384_0_0).toLoadRect ((wh12 t).unread (iblk m c 12 t)))

theorem zL_eq (c : Dev nD) (t : Fin cfg0.N) : zL m c t = zB m c t := by
  unfold zL zB; rw [ld_full]
theorem rL_eq (c : Dev nD) (t : Fin cfg0.N) : rL m c t = rB m c t := by
  unfold rL rB; rw [ld_full, ld_full]
theorem gL_eq (c : Dev nD) (t : Fin cfg0.N) : gL m c t = gB m c t := by
  unfold gL gB; rw [ld_full]
theorem bL_eq (c : Dev nD) (t : Fin cfg0.N) : bL m c t = bB m c t := by
  unfold bL bB; rw [ld_full]

/-- What a point adds to head `h`. -/
def hB (c : Dev nD) (t : Fin cfg0.N) : Fin 6 → FVec Ideal S128x128 .f32 := heads (zB m c t) (rB m c t) (gB m c t) (bB m c t)

theorem hL_eq (c : Dev nD) (t : Fin cfg0.N) : heads (zL m c t) (rL m c t) (gL m c t) (bL m c t) = hB m c t := by
  unfold hB; rw [zL_eq, rL_eq, gL_eq, bL_eq]

theorem pay1_at (x : FVec Ideal S128x128 .f32) (p q : Fin 128) : k0_pay1 x (ix3 0 p q) = x (ix2 p q) := by
  pointwise [k0_pay1]

/-- The rows a later run loads before it stores them. -/
def rowsOld (t : Fin cfg0.N) (X : Vec Ideal S7x128x128 .f32) : Fin 6 → Vec Ideal S1x128x128 .f32 := fun h => match h with
  | 0 => View.readAt (Elt Ideal) (stg25 t).view (Rect.unit (s := S7x128x128) ![0, 0, 0] S1x128x128.size inb_S7x128x128_S1x128x128_0_0_0).toLoadRect ((wh25 t).unread X)
  | 1 => View.readAt (Elt Ideal) (stg25 t).view (Rect.unit (s := S7x128x128) ![1, 0, 0] S1x128x128.size inb_S7x128x128_S1x128x128_1_0_0).toLoadRect ((wh25 t).unread X)
  | 2 => View.readAt (Elt Ideal) (stg25 t).view (Rect.unit (s := S7x128x128) ![2, 0, 0] S1x128x128.size inb_S7x128x128_S1x128x128_2_0_0).toLoadRect ((wh25 t).unread X)
  | 3 => View.readAt (Elt Ideal) (stg25 t).view (Rect.unit (s := S7x128x128) ![3, 0, 0] S1x128x128.size inb_S7x128x128_S1x128x128_3_0_0).toLoadRect ((wh25 t).unread X)
  | 4 => View.readAt (Elt Ideal) (stg25 t).view (Rect.unit (s := S7x128x128) ![4, 0, 0] S1x128x128.size inb_S7x128x128_S1x128x128_4_0_0).toLoadRect ((wh25 t).unread X)
  | 5 => View.readAt (Elt Ideal) (stg25 t).view (Rect.unit (s := S7x128x128) ![5, 0, 0] S1x128x128.size inb_S7x128x128_S1x128x128_5_0_0).toLoadRect ((wh25 t).unread X)

theorem rowsOld_at (t : Fin cfg0.N) (X : Vec Ideal S7x128x128 .f32) (h : Fin 6) (p q : Fin 128) :
    rowsOld t X h (ix3 0 p q) = X (ix3 ⟨h.val, by omega⟩ p q) := by
  fin_cases h
  · exact ld_row (wh25 t) 0 _ X p q
  · exact ld_row (wh25 t) 1 _ X p q
  · exact ld_row (wh25 t) 2 _ X p q
  · exact ld_row (wh25 t) 3 _ X p q
  · exact ld_row (wh25 t) 4 _ X p q
  · exact ld_row (wh25 t) 5 _ X p q

/-! The four stores of a run into the carried buffer: each chunk's gated rows are added to what the chunk before left. -/

def scr1 (v : View sig .tc .vmem S128x384 .f32) (Z : FVec Ideal S512x1792 .f32) (R : FVec Ideal S512x1024 .f32) (X : Vec Ideal S128x384 .f32) (L : List (View.Piece (Elt Ideal) S128x384 .f32)) : List (View.Piece (Elt Ideal) S128x384 .f32) := ⟨Rect.unit (s := S128x384) ![0, 0] S128x384.size inb_S128x384_S128x384_0_0, k0_pay58 R (k0_pay49 Z) X⟩ :: L
def scr2 (v : View sig .tc .vmem S128x384 .f32) (Z : FVec Ideal S512x1792 .f32) (R : FVec Ideal S512x1024 .f32) (X : Vec Ideal S128x384 .f32) (L : List (View.Piece (Elt Ideal) S128x384 .f32)) : List (View.Piece (Elt Ideal) S128x384 .f32) := ⟨Rect.unit (s := S128x384) ![0, 0] S128x384.size inb_S128x384_S128x384_0_0, k0_pay93 (k0_pay92 Z R (v.readCov (scr1 v Z R X L) (Rect.unit (s := S128x384) ![0, 0] S128x384.size inb_S128x384_S128x384_0_0).toLoadRect))⟩ :: scr1 v Z R X L
def scr3 (v : View sig .tc .vmem S128x384 .f32) (Z : FVec Ideal S512x1792 .f32) (R : FVec Ideal S512x1024 .f32) (X : Vec Ideal S128x384 .f32) (L : List (View.Piece (Elt Ideal) S128x384 .f32)) : List (View.Piece (Elt Ideal) S128x384 .f32) := ⟨Rect.unit (s := S128x384) ![0, 0] S128x384.size inb_S128x384_S128x384_0_0, k0_pay129 R (k0_pay121 Z) (v.readCov (scr2 v Z R X L) (Rect.unit (s := S128x384) ![0, 0] S128x384.size inb_S128x384_S128x384_0_0).toLoadRect)⟩ :: scr2 v Z R X L
def scr4 (v : View sig .tc .vmem S128x384 .f32) (Z : FVec Ideal S512x1792 .f32) (R : FVec Ideal S512x1024 .f32) (X : Vec Ideal S128x384 .f32) (L : List (View.Piece (Elt Ideal) S128x384 .f32)) : List (View.Piece (Elt Ideal) S128x384 .f32) := ⟨Rect.unit (s := S128x384) ![0, 0] S128x384.size inb_S128x384_S128x384_0_0, k0_pay169 R (k0_pay160 Z) (v.readCov (scr3 v Z R X L) (Rect.unit (s := S128x384) ![0, 0] S128x384.size inb_S128x384_S128x384_0_0).toLoadRect)⟩ :: scr3 v Z R X L

/-- What the carried buffer holds after a point that found `X` in it. -/
def carry (Z : FVec Ideal S512x1792 .f32) (R : FVec Ideal S512x1024 .f32) (X : Vec Ideal S128x384 .f32) : Vec Ideal S128x384 .f32 :=
  k0_pay169 R (k0_pay160 Z) (k0_pay129 R (k0_pay121 Z) (k0_pay93 (k0_pay92 Z R (k0_pay58 R (k0_pay49 Z) X))))

theorem carry_at (Z : FVec Ideal S512x1792 .f32) (R : FVec Ideal S512x1024 .f32) (X : Vec Ideal S128x384 .f32) (p : Fin 128) (j : Fin 384) :
    carry Z R X (ix2 p j) = X (ix2 p j) + ∑ k : Fin 4, gate Z R k (ix2 p j) := by
  unfold carry
  rw [Fin.sum_univ_four, scr_at3, scr_at2, scr_at1, scr_at0]
  simp only [add_assoc]

theorem cov_full (v : View sig .tc .vmem S128x384 .f32) (w : Vec Ideal S128x384 .f32) (L : List (View.Piece (Elt Ideal) S128x384 .f32)) :
    v.readCov (⟨Rect.unit (s := S128x384) ![0, 0] S128x384.size inb_S128x384_S128x384_0_0, w⟩ :: L) (Rect.unit (s := S128x384) ![0, 0] S128x384.size inb_S128x384_S128x384_0_0).toLoadRect = w := View.readCov_full v _ _ w L

theorem scr3_cov (v : View sig .tc .vmem S128x384 .f32) (Z : FVec Ideal S512x1792 .f32) (R : FVec Ideal S512x1024 .f32) (X : Vec Ideal S128x384 .f32) (L : List (View.Piece (Elt Ideal) S128x384 .f32)) : v.readCov (scr3 v Z R X L) (Rect.unit (s := S128x384) ![0, 0] S128x384.size inb_S128x384_S128x384_0_0).toLoadRect =
    k0_pay129 R (k0_pay121 Z) (k0_pay93 (k0_pay92 Z R (k0_pay58 R (k0_pay49 Z) X))) :=
  (cov_full v _ _).trans (congrArg (k0_pay129 R (k0_pay121 Z)) ((cov_full v _ _).trans (congrArg (fun y => k0_pay93 (k0_pay92 Z R y)) (cov_full v _ _))))

theorem scr4_cov (v : View sig .tc .vmem S128x384 .f32) (Z : FVec Ideal S512x1792 .f32) (R : FVec Ideal S512x1024 .f32) (X : Vec Ideal S128x384 .f32) (L : List (View.Piece (Elt Ideal) S128x384 .f32)) : v.readCov (scr4 v Z R X L) (Rect.unit (s := S128x384) ![0, 0] S128x384.size inb_S128x384_S128x384_0_0).toLoadRect = carry Z R X :=
  (cov_full v _ _).trans (congrArg (k0_pay169 R (k0_pay160 Z)) (scr3_cov v Z R X L))

theorem scr4_read (v : View sig .tc .vmem S128x384 .f32) (Z : FVec Ideal S512x1792 .f32) (R : FVec Ideal S512x1024 .f32) (X : Vec Ideal S128x384 .f32) (L : List (View.Piece (Elt Ideal) S128x384 .f32)) (f : v.ty.Contents (Elt Ideal)) : v.read (Elt Ideal) (v.writes (Elt Ideal) f (scr4 v Z R X L)) = carry Z R X :=
  (View.readAt_full v _ inb_S128x384_S128x384_0_0).symm.trans
    ((View.readAt_writes_full v f inb_S128x384_S128x384_0_0 inb_S128x384_S128x384_0_0 _ _).trans (congrArg (k0_pay169 R (k0_pay160 Z)) (scr3_cov v Z R X L)))

/-- The carried buffer as a later point loads it. -/
abbrev xL (s : State Ideal) : Vec Ideal S128x384 .f32 := View.readAt (Elt Ideal) scr.view (Rect.unit (s := S128x384) ![0, 0] S128x384.size inb_S128x384_S128x384_0_0).toLoadRect ((Memref.isWhole_whole cc0_scratch0).unread s.2.2)
theorem xL_eq (s : State Ideal) : xL s = s.2.2 := by
  unfold xL; rw [ld_full]

theorem rowsB (c : Dev nD) (t : Fin cfg0.N) (h0 : ¬t.val % 8 = 0) (h1 : ¬t.val % 8 = 7) (s : State Ideal) :
    (atB m c t h0 h1 s).1 =
      addRows (heads (zL m c t) (rL m c t) (gL m c t) (bL m c t)) (rowsOld t s.1) [] := rfl

theorem scrB (c : Dev nD) (t : Fin cfg0.N) (h0 : ¬t.val % 8 = 0) (h1 : ¬t.val % 8 = 7) (s : State Ideal) :
    (atB m c t h0 h1 s).2.2.1 = scr4 scr.view (zL m c t) (rL m c t) (xL s) [] := rfl

theorem leftB_1 (c : Dev nD) (t : Fin cfg0.N) (h0 : ¬t.val % 8 = 0) (h1 : ¬t.val % 8 = 7) (s : State Ideal) :
    (leftB m c t h0 h1 s).1 = (stg25 t).view.read (Elt Ideal) ((stg25 t).view.writes (Elt Ideal) ((wh25 t).unread s.1) (atB m c t h0 h1 s).1) := rfl

theorem leftB_3 (c : Dev nD) (t : Fin cfg0.N) (h0 : ¬t.val % 8 = 0) (h1 : ¬t.val % 8 = 7) (s : State Ideal) :
    (leftB m c t h0 h1 s).2.2 = scr.view.read (Elt Ideal) (scr.view.writes (Elt Ideal) ((Memref.isWhole_whole cc0_scratch0).unread s.2.2) (atB m c t h0 h1 s).2.2.1) := rfl

/-- Row `h` of the accumulator after such a point. -/
theorem leftB_row (c : Dev nD) (t : Fin cfg0.N) (h0 : ¬t.val % 8 = 0) (h1 : ¬t.val % 8 = 7) (s : State Ideal) (h : Fin 6) (p q : Fin 128) :
    (leftB m c t h0 h1 s).1 (ix3 ⟨h.val, by omega⟩ p q) =
      s.1 (ix3 ⟨h.val, by omega⟩ p q) + if q.val ≤ p.val then hB m c t h (ix2 p q) else 0 := by
  rw [leftB_1, rowsB, ← rowsOld_at t s.1 h p q, ← hL_eq]
  exact addRows_at (stg25 t).view ((wh25 t).unread s.1) (heads (zL m c t) (rL m c t) (gL m c t) (bL m c t)) (rowsOld t s.1) [] h p q

/-- The carried buffer after such a point. -/
theorem leftB_scr (c : Dev nD) (t : Fin cfg0.N) (h0 : ¬t.val % 8 = 0) (h1 : ¬t.val % 8 = 7) (s : State Ideal) :
    (leftB m c t h0 h1 s).2.2 = carry (zB m c t) (rB m c t) s.2.2 := by
  rw [leftB_3, scrB]
  refine (scr4_read scr.view (zL m c t) (rL m c t) (xL s) [] _).trans ?_
  rw [xL_eq, zL_eq, rL_eq]

theorem rowsC (c : Dev nD) (t : Fin cfg0.N) (h0 : ¬t.val % 8 = 0) (h1 : t.val % 8 = 7) (s : State Ideal) :
    (atC m c t h0 h1 s).1 = ⟨Rect.unit (s := S7x128x128) ![6, 0, 0] S1x128x128.size inb_S7x128x128_S1x128x128_6_0_0, k0_pay1 (k0_pay2 (scr.view.readCov (scr4 scr.view (zL m c t) (rL m c t) (xL s) []) (Rect.unit (s := S128x384) ![0, 0] S128x384.size inb_S128x384_S128x384_0_0).toLoadRect))⟩ ::
      addRows (heads (zL m c t) (rL m c t) (gL m c t) (bL m c t)) (rowsOld t s.1) [] := rfl

theorem scrC (c : Dev nD) (t : Fin cfg0.N) (h0 : ¬t.val % 8 = 0) (h1 : t.val % 8 = 7) (s : State Ideal) :
    (atC m c t h0 h1 s).2.2.1 = scr4 scr.view (zL m c t) (rL m c t) (xL s) [] := rfl

theorem leftC_1 (c : Dev nD) (t : Fin cfg0.N) (h0 : ¬t.val % 8 = 0) (h1 : t.val % 8 = 7) (s : State Ideal) :
    (leftC m c t h0 h1 s).1 = (stg25 t).view.read (Elt Ideal) ((stg25 t).view.writes (Elt Ideal) ((wh25 t).unread s.1) (atC m c t h0 h1 s).1) := rfl

theorem leftC_3 (c : Dev nD) (t : Fin cfg0.N) (h0 : ¬t.val % 8 = 0) (h1 : t.val % 8 = 7) (s : State Ideal) :
    (leftC m c t h0 h1 s).2.2 = scr.view.read (Elt Ideal) (scr.view.writes (Elt Ideal) ((Memref.isWhole_whole cc0_scratch0).unread s.2.2) (atC m c t h0 h1 s).2.2.1) := rfl

/-- Row `h` of the accumulator after such a point. -/
theorem leftC_row (c : Dev nD) (t : Fin cfg0.N) (h0 : ¬t.val % 8 = 0) (h1 : t.val % 8 = 7) (s : State Ideal) (h : Fin 6) (p q : Fin 128) :
    (leftC m c t h0 h1 s).1 (ix3 ⟨h.val, by omega⟩ p q) =
      s.1 (ix3 ⟨h.val, by omega⟩ p q) + if q.val ≤ p.val then hB m c t h (ix2 p q) else 0 := by
  rw [leftC_1, rowsC, ← rowsOld_at t s.1 h p q, ← hL_eq]
  exact (row_miss (stg25 t).view _ 6 ⟨h.val, by omega⟩ (by show h.val ≠ 6; omega) _ _ _ p q).trans (addRows_at (stg25 t).view ((wh25 t).unread s.1) (heads (zL m c t) (rL m c t) (gL m c t) (bL m c t)) (rowsOld t s.1) [] h p q)

/-- The carried buffer after such a point. -/
theorem leftC_scr (c : Dev nD) (t : Fin cfg0.N) (h0 : ¬t.val % 8 = 0) (h1 : t.val % 8 = 7) (s : State Ideal) :
    (leftC m c t h0 h1 s).2.2 = carry (zB m c t) (rB m c t) s.2.2 := by
  rw [leftC_3, scrC]
  refine (scr4_read scr.view (zL m c t) (rL m c t) (xL s) [] _).trans ?_
  rw [xL_eq, zL_eq, rL_eq]

/-- Row 6 of the accumulator after the last point: the carried buffer's columns summed by head. -/
theorem leftC_last (c : Dev nD) (t : Fin cfg0.N) (h0 : ¬t.val % 8 = 0) (h1 : t.val % 8 = 7) (s : State Ideal) (p q : Fin 128) :
    (leftC m c t h0 h1 s).1 (ix3 6 p q) = k0_pay2 (carry (zB m c t) (rB m c t) s.2.2) (ix2 p q) := by
  rw [leftC_1, rowsC]
  refine (row_hit (stg25 t).view _ 6 6 rfl _ _ _ p q).trans ?_
  rw [scr4_cov, xL_eq, zL_eq, rL_eq]
  exact pay1_at _ p q

/-! The first point: the stores are the same over a buffer just filled with zeros. -/

def zero7 : List (View.Piece (Elt Ideal) S7x128x128 .f32) := [⟨Rect.unit (s := S7x128x128) ![0, 0, 0] S7x128x128.size inb_S7x128x128_S7x128x128_0_0_0, k0_pay5 (F := Ideal)⟩]
def first0 (v : View sig .tc .vmem S7x128x128 .f32) (D : Fin 6 → FVec Ideal S128x128 .f32) : List (View.Piece (Elt Ideal) S7x128x128 .f32) :=
  ⟨Rect.unit (s := S7x128x128) ![0, 0, 0] S1x128x128.size inb_S7x128x128_S1x128x128_0_0_0, k0_pay195 (D 0) (v.readCov (zero7) (Rect.unit (s := S7x128x128) ![0, 0, 0] S1x128x128.size inb_S7x128x128_S1x128x128_0_0_0).toLoadRect)⟩ :: zero7
def first1 (v : View sig .tc .vmem S7x128x128 .f32) (D : Fin 6 → FVec Ideal S128x128 .f32) : List (View.Piece (Elt Ideal) S7x128x128 .f32) :=
  ⟨Rect.unit (s := S7x128x128) ![1, 0, 0] S1x128x128.size inb_S7x128x128_S1x128x128_1_0_0, k0_pay196 (D 1) (v.readCov (first0 v D) (Rect.unit (s := S7x128x128) ![1, 0, 0] S1x128x128.size inb_S7x128x128_S1x128x128_1_0_0).toLoadRect)⟩ :: first0 v D
def first2 (v : View sig .tc .vmem S7x128x128 .f32) (D : Fin 6 → FVec Ideal S128x128 .f32) : List (View.Piece (Elt Ideal) S7x128x128 .f32) :=
  ⟨Rect.unit (s := S7x128x128) ![2, 0, 0] S1x128x128.size inb_S7x128x128_S1x128x128_2_0_0, k0_pay197 (D 2) (v.readCov (first1 v D) (Rect.unit (s := S7x128x128) ![2, 0, 0] S1x128x128.size inb_S7x128x128_S1x128x128_2_0_0).toLoadRect)⟩ :: first1 v D
def first3 (v : View sig .tc .vmem S7x128x128 .f32) (D : Fin 6 → FVec Ideal S128x128 .f32) : List (View.Piece (Elt Ideal) S7x128x128 .f32) :=
  ⟨Rect.unit (s := S7x128x128) ![3, 0, 0] S1x128x128.size inb_S7x128x128_S1x128x128_3_0_0, k0_pay198 (D 3) (v.readCov (first2 v D) (Rect.unit (s := S7x128x128) ![3, 0, 0] S1x128x128.size inb_S7x128x128_S1x128x128_3_0_0).toLoadRect)⟩ :: first2 v D
def first4 (v : View sig .tc .vmem S7x128x128 .f32) (D : Fin 6 → FVec Ideal S128x128 .f32) : List (View.Piece (Elt Ideal) S7x128x128 .f32) :=
  ⟨Rect.unit (s := S7x128x128) ![4, 0, 0] S1x128x128.size inb_S7x128x128_S1x128x128_4_0_0, k0_pay199 (D 4) (v.readCov (first3 v D) (Rect.unit (s := S7x128x128) ![4, 0, 0] S1x128x128.size inb_S7x128x128_S1x128x128_4_0_0).toLoadRect)⟩ :: first3 v D

/-- The rows the first run loads before it stores them. -/
def rowsNew (v : View sig .tc .vmem S7x128x128 .f32) (D : Fin 6 → FVec Ideal S128x128 .f32) : Fin 6 → Vec Ideal S1x128x128 .f32 := fun h => match h with
  | 0 => v.readCov zero7 (Rect.unit (s := S7x128x128) ![0, 0, 0] S1x128x128.size inb_S7x128x128_S1x128x128_0_0_0).toLoadRect
  | 1 => v.readCov (first0 v D) (Rect.unit (s := S7x128x128) ![1, 0, 0] S1x128x128.size inb_S7x128x128_S1x128x128_1_0_0).toLoadRect
  | 2 => v.readCov (first1 v D) (Rect.unit (s := S7x128x128) ![2, 0, 0] S1x128x128.size inb_S7x128x128_S1x128x128_2_0_0).toLoadRect
  | 3 => v.readCov (first2 v D) (Rect.unit (s := S7x128x128) ![3, 0, 0] S1x128x128.size inb_S7x128x128_S1x128x128_3_0_0).toLoadRect
  | 4 => v.readCov (first3 v D) (Rect.unit (s := S7x128x128) ![4, 0, 0] S1x128x128.size inb_S7x128x128_S1x128x128_4_0_0).toLoadRect
  | 5 => v.readCov (first4 v D) (Rect.unit (s := S7x128x128) ![5, 0, 0] S1x128x128.size inb_S7x128x128_S1x128x128_5_0_0).toLoadRect

theorem zero7_at (v : View sig .tc .vmem S7x128x128 .f32) (f : v.ty.Contents (Elt Ideal)) (h : Fin 7) (p q : Fin 128) :
    v.read (Elt Ideal) (v.writes (Elt Ideal) f zero7) (ix3 h p q) = 0 :=
  (View.read_writes_cons_unit_of_mem v f inb_S7x128x128_S7x128x128_0_0_0 (k0_pay5 (F := Ideal)) [] (ix3 h p q) (ix3 h p q) rfl (by
    intro a
    fin_cases a
    · show h.val = 0 + h.val; omega
    · show p.val = 0 + p.val; omega
    · show q.val = 0 + q.val; omega)).trans (by pointwise [k0_pay5])

theorem cov_row (v : View sig .tc .vmem S7x128x128 .f32) (L : List (View.Piece (Elt Ideal) S7x128x128 .f32)) (h : Fin 7)
    (inb : ∀ a, ![h.val, 0, 0] a + S1x128x128.size a ≤ S7x128x128.size a) (p q : Fin 128) :
    v.readCov L (Rect.unit (s := S7x128x128) ![h.val, 0, 0] S1x128x128.size inb).toLoadRect (ix3 0 p q) =
      v.read (Elt Ideal) (v.writes (Elt Ideal) v.junk L) (ix3 h p q) := by
  refine congrArg (v.read (Elt Ideal) (v.writes (Elt Ideal) v.junk L)) (funext fun a => Fin.ext ?_)
  fin_cases a
  · show h.val + 1 * 0 = h.val; omega
  · show 0 + 1 * p.val = p.val; omega
  · show 0 + 1 * q.val = q.val; omega

theorem rowsNew_at (v : View sig .tc .vmem S7x128x128 .f32) (D : Fin 6 → FVec Ideal S128x128 .f32) (h : Fin 6) (p q : Fin 128) : rowsNew v D h (ix3 0 p q) = 0 := by
  fin_cases h
  · refine (cov_row v zero7 0 _ p q).trans ?_
    exact zero7_at v _ 0 p q
  · refine (cov_row v (first0 v D) 1 _ p q).trans ?_
    refine (row_miss v _ 0 1 (by decide) _ _ _ p q).trans ?_
    exact zero7_at v _ 1 p q
  · refine (cov_row v (first1 v D) 2 _ p q).trans ?_
    refine (row_miss v _ 1 2 (by decide) _ _ _ p q).trans ?_
    refine (row_miss v _ 0 2 (by decide) _ _ _ p q).trans ?_
    exact zero7_at v _ 2 p q
  · refine (cov_row v (first2 v D) 3 _ p q).trans ?_
    refine (row_miss v _ 2 3 (by decide) _ _ _ p q).trans ?_
    refine (row_miss v _ 1 3 (by decide) _ _ _ p q).trans ?_
    refine (row_miss v _ 0 3 (by decide) _ _ _ p q).trans ?_
    exact zero7_at v _ 3 p q
  · refine (cov_row v (first3 v D) 4 _ p q).trans ?_
    refine (row_miss v _ 3 4 (by decide) _ _ _ p q).trans ?_
    refine (row_miss v _ 2 4 (by decide) _ _ _ p q).trans ?_
    refine (row_miss v _ 1 4 (by decide) _ _ _ p q).trans ?_
    refine (row_miss v _ 0 4 (by decide) _ _ _ p q).trans ?_
    exact zero7_at v _ 4 p q
  · refine (cov_row v (first4 v D) 5 _ p q).trans ?_
    refine (row_miss v _ 4 5 (by decide) _ _ _ p q).trans ?_
    refine (row_miss v _ 3 5 (by decide) _ _ _ p q).trans ?_
    refine (row_miss v _ 2 5 (by decide) _ _ _ p q).trans ?_
    refine (row_miss v _ 1 5 (by decide) _ _ _ p q).trans ?_
    refine (row_miss v _ 0 5 (by decide) _ _ _ p q).trans ?_
    exact zero7_at v _ 5 p q

theorem rowsA (c : Dev nD) (t : Fin cfg0.N) (h0 : t.val % 8 = 0) (h1 : ¬t.val % 8 = 7) :
    (atA m c t h0 h1).1 = addRows (heads (zL m c t) (rL m c t) (gL m c t) (bL m c t))
      (rowsNew (stg25 t).view (heads (zL m c t) (rL m c t) (gL m c t) (bL m c t))) zero7 := rfl

/-- Zeros over the whole carried buffer. -/
def zeroS : List (View.Piece (Elt Ideal) S128x384 .f32) := [⟨Rect.unit (s := S128x384) ![0, 0] S128x384.size inb_S128x384_S128x384_0_0, k0_pay7 (F := Ideal)⟩]

theorem scrA (c : Dev nD) (t : Fin cfg0.N) (h0 : t.val % 8 = 0) (h1 : ¬t.val % 8 = 7) :
    (atA m c t h0 h1).2.2.1 = scr4 scr.view (zL m c t) (rL m c t) (scr.view.readCov zeroS (Rect.unit (s := S128x384) ![0, 0] S128x384.size inb_S128x384_S128x384_0_0).toLoadRect) zeroS := rfl

theorem leftA_1 (c : Dev nD) (t : Fin cfg0.N) (h0 : t.val % 8 = 0) (h1 : ¬t.val % 8 = 7) :
    (leftA m c t h0 h1).1 = vw25.read (Elt Ideal) (vw25.writes (Elt Ideal) vw25.junk (atA m c t h0 h1).1) := rfl

theorem leftA_3 (c : Dev nD) (t : Fin cfg0.N) (h0 : t.val % 8 = 0) (h1 : ¬t.val % 8 = 7) :
    (leftA m c t h0 h1).2.2 = scr.view.read (Elt Ideal) (scr.view.writes (Elt Ideal) scr.view.junk (atA m c t h0 h1).2.2.1) := rfl

theorem leftA_row (c : Dev nD) (t : Fin cfg0.N) (h0 : t.val % 8 = 0) (h1 : ¬t.val % 8 = 7) (h : Fin 6) (p q : Fin 128) :
    (leftA m c t h0 h1).1 (ix3 ⟨h.val, by omega⟩ p q) = if q.val ≤ p.val then hB m c t h (ix2 p q) else 0 := by
  rw [leftA_1, rowsA, ← hL_eq]
  refine (addRows_at vw25 vw25.junk (heads (zL m c t) (rL m c t) (gL m c t) (bL m c t))
    (rowsNew (stg25 t).view (heads (zL m c t) (rL m c t) (gL m c t) (bL m c t))) zero7 h p q).trans ?_
  rw [rowsNew_at, zero_add]

theorem leftA_scr (c : Dev nD) (t : Fin cfg0.N) (h0 : t.val % 8 = 0) (h1 : ¬t.val % 8 = 7) :
    (leftA m c t h0 h1).2.2 = carry (zB m c t) (rB m c t) (k0_pay7 (F := Ideal)) := by
  rw [leftA_3, scrA]
  refine (scr4_read scr.view (zL m c t) (rL m c t) _ zeroS _).trans ?_
  rw [zeroS, cov_full, zL_eq, rL_eq]

end Cert.KernelIdeal.Mix

end
-- ==== Proof.Mix.Blocks.lean ====
/- The blocks a grid point reads, as rows of the host's arrays. -/
module

public import proofs.«01_k».proof.Proof.Mix.Steps
public import Idealize.ShloMosaic.Lib.Pipeline.ValueKit

@[expose] public section

set_option maxRecDepth 16384

noncomputable section

namespace Cert.KernelIdeal.Mix

open Idealize.ShloMosaic Idealize.ShloMosaic.TcCoe Idealize.ShloMosaic.Tactic Cert.KernelIdeal Cert.KernelIdeal.Gen

variable (m : (ℓ : Loc nD τ sig) → Buf (Elt Ideal) ℓ)

/-- The arguments by name: the output weight, the upstream gradient, the scale and the shift of the normalisation. -/
abbrev aW (c : Dev nD) : FVec Ideal S1024x1024 .f32 := m ((c : Thread nD τ).loc main_arg13)
abbrev aD (c : Dev nD) : FVec Ideal S4096x1024 .f32 := m ((c : Thread nD τ).loc main_arg14)
abbrev aG (c : Dev nD) : FVec Ideal S384 .f32 := m ((c : Thread nD τ).loc main_arg3)
abbrev aB (c : Dev nD) : FVec Ideal S384 .f32 := m ((c : Thread nD τ).loc main_arg4)
/-- The projected input the host lines make. -/
abbrev aZ (c : Dev nD) : FVec Ideal S4096x1792 .f32 := V m c main_v13

theorem idx3 : ∀ t : Fin cfg0.N, win0_3.index t = ![t.val, 0] := (by decide +kernel : ∀ t : Fin grid0.N, _)
theorem idx6 : ∀ t : Fin cfg0.N, win0_6.index t = ![t.val, 0] := (by decide +kernel : ∀ t : Fin grid0.N, _)
theorem idx8 : ∀ t : Fin cfg0.N, win0_8.index t = ![0, 0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)

/-- Row `r` of the block at point `t` is row `512 t + r` of the whole array. -/
def grow (t : Fin cfg0.N) (r : Fin 512) : Fin 4096 := ⟨512 * t.val + r.val, by have := lt_of_lt_of_eq t.isLt N_0; have := r.isLt; omega⟩

theorem zB_at (c : Dev nD) (t : Fin cfg0.N) (r : Fin 512) (j : Fin 1792) : zB m c t (ix2 r j) = aZ m c (ix2 (grow t r) j) := by
  unfold zB grow
  pointwise [k0_pay8]
  blk_ext [iblk, idx3 t]

theorem dB_at (c : Dev nD) (t : Fin cfg0.N) (r : Fin 512) (j : Fin 1024) : iblk m c 6 t (ix2 r j) = aD m c (ix2 (grow t r) j) := by
  rw [show aD m c = V m c main_arg14 from (V_main_arg14 m c).symm]
  unfold grow
  blk_ext [iblk, idx6 t]

theorem wB_at (c : Dev nD) (t : Fin cfg0.N) (j n : Fin 1024) : iblk m c 8 t (ix3 0 j n) = aW m c (ix2 j n) := by
  have e : iblk m c 8 t (ix3 0 j n) = V m c main_v250 (ix3 0 j n) := by blk_ext [iblk, idx8 t]
  rw [e]
  entry_read
  pointwise

theorem gB_at (c : Dev nD) (t : Fin cfg0.N) (j : Fin 384) : gB m c t (ix2 0 j) = aG m c (ix1 j) := by
  have e : gB m c t (ix2 0 j) = V m c main_v251 (ix2 0 j) := by
    unfold gB; pointwise [k0_pay14]; blk_ext [iblk, idx11 t]
  rw [e]
  entry_read
  pointwise

theorem bB_at (c : Dev nD) (t : Fin cfg0.N) (j : Fin 384) : bB m c t (ix2 0 j) = aB m c (ix1 j) := by
  have e : bB m c t (ix2 0 j) = V m c main_v252 (ix2 0 j) := by
    unfold bB; pointwise [k0_pay15]; blk_ext [iblk, idx12 t]
  rw [e]
  entry_read
  pointwise

/-! The two quantities of a token row that the gradients are made of. -/

/-- The gradient of a token row's mixed value at column `j`: the upstream row against the output weight's row, times the
    gated input. -/
def gateR (Z : FVec Ideal S4096x1792 .f32) (D : FVec Ideal S4096x1024 .f32) (W : FVec Ideal S1024x1024 .f32) (r : Fin 4096) (j : Fin 384) : EReal :=
  (∑ n : Fin 1024, D (ix2 r n) * W (ix2 ⟨j.val, by omega⟩ n)) * gel (Z (ix2 r ⟨j.val, by omega⟩))

/-- The normalised value of a token row at column `j`. -/
def valR (Z : FVec Ideal S4096x1792 .f32) (g b : FVec Ideal S384 .f32) (r : Fin 4096) (j : Fin 384) : EReal :=
  lnr (fun l => gel (Z (ix2 r ⟨384 + l.val, by omega⟩))) (g (ix1 j)) (b (ix1 j)) j

theorem gate_row (c : Dev nD) (t : Fin cfg0.N) (k : Fin 4) (p : Fin 128) (j : Fin 384) :
    gate (zB m c t) (rB m c t) k (ix2 p j) = gateR (aZ m c) (aD m c) (aW m c) (grow t ⟨128 * k.val + p.val, by omega⟩) j := by
  rw [gate_at _ _ k p j ⟨128 * k.val + p.val, by omega⟩ rfl, zB_at]
  unfold rB gateR
  rw [proj_at]
  simp only [dB_at, wB_at]

theorem vals_row (c : Dev nD) (t : Fin cfg0.N) (k : Fin 4) (p : Fin 128) (j : Fin 384) :
    vals (zB m c t) (gB m c t) (bB m c t) k (ix2 p j) = valR (aZ m c) (aG m c) (aB m c) (grow t ⟨128 * k.val + p.val, by omega⟩) j := by
  rw [vals_at _ _ _ k p j ⟨128 * k.val + p.val, by omega⟩ rfl]
  unfold valR
  simp only [zB_at, gB_at, bB_at]

end Cert.KernelIdeal.Mix

end
-- ==== Proof.Mix.Ref.lean ====
/- The reference's weight gradient, read element by element. -/
module

public import proofs.«01_k».proof.Proof.Gen.ReferenceIdeal.Run
public import proofs.«01_k».proof.Proof.Mix.Blocks

@[expose] public section

set_option maxRecDepth 16384

noncomputable section

namespace Cert.ReferenceIdeal.Mix

open Idealize.ShloMosaic Idealize.ShloMosaic.TcCoe Idealize.ShloMosaic.Tactic Cert.ReferenceIdeal Cert.ReferenceIdeal.Gen Cert.ReferenceIdeal.Value Idealize.ShloMosaic.StableHlo
open Cert.KernelIdeal.Mix (gel mean lnr gateR valR)

variable (L : Valuation τ sig (Elt Ideal))

/-- The projected input. -/
abbrev rZ : FVec Ideal S4096x1792 .f32 := res_main_v13 L
abbrev rG : FVec Ideal S384 .f32 := L (Proc.devRef .tc main_arg3)
abbrev rB : FVec Ideal S384 .f32 := L (Proc.devRef .tc main_arg4)
abbrev rW : FVec Ideal S1024x1024 .f32 := L (Proc.devRef .tc main_arg13)
abbrev rD : FVec Ideal S4096x1024 .f32 := L (Proc.devRef .tc main_arg14)

theorem v26_at (r : Fin 4096) (j : Fin 384) : res_main_v26 L (ix2 r j) = gel (rZ L (ix2 r ⟨j.val, by omega⟩)) := by
  pointwise [res_main_v26, res_main_v14, gel]

theorem v34_at (r : Fin 4096) (j : Fin 384) : res_main_v34 L (ix2 r j) = gel (rZ L (ix2 r ⟨384 + j.val, by omega⟩)) := by
  pointwise [res_main_v34, res_main_v15, gel]

theorem v40_at (r : Fin 4096) (j : Fin 384) : res_main_v40 L (ix2 r j) =
    gel (rZ L (ix2 r ⟨384 + j.val, by omega⟩)) - mean (fun l => gel (rZ L (ix2 r ⟨384 + l.val, by omega⟩))) := by
  pointwise [res_main_v40, mean]
  simp only [v34_at]

/-- The normalised values, before they are cut into heads. -/
def v62 : FVec Ideal S4096x384 .f32 := addf (mulf (mulf (res_main_v40 L) (broadcastInDim S4096x384 ![0, 1] bcast_S4096x1_S4096x384_0_1 (Host.rsqrt (addf (Host.divf (broadcastInDim S4096x1 ![0] bcast_S4096_S4096x1_0 (Host.reduceAdd (mulf (res_main_v40 L) (res_main_v40 L)) (constant S_ .f32 0x00000000#32) reducesTo_S4096x384_S4096_d1 h_S_)) (broadcastInDim S4096x1 ![] bcast_S_S4096x1 (constant S_ .f32 0x43C00000#32))) (broadcastInDim S4096x1 ![] bcast_S_S4096x1 (constant S_ .f32 0x358637BD#32)))))) (broadcastInDim S4096x384 ![0, 1] bcast_S1x384_S4096x384_0_1 (broadcastInDim S1x384 ![1] bcast_S384_S1x384_1 (L (Proc.devRef .tc main_arg3))))) (broadcastInDim S4096x384 ![0, 1] bcast_S1x384_S4096x384_0_1 (broadcastInDim S1x384 ![1] bcast_S384_S1x384_1 (L (Proc.devRef .tc main_arg4))))

theorem v62_at (r : Fin 4096) (j : Fin 384) : v62 L (ix2 r j) = valR (rZ L) (rG L) (rB L) r j := by
  unfold valR lnr
  pointwise [v62, mean]
  simp only [v40_at, mean]

theorem v62_cut (n : Fin 32) (p : Fin 128) (h : Fin 6) (l : Fin 64) :
    res_main_v62 L (ix4 n p h l) = valR (rZ L) (rG L) (rB L) ⟨128 * n.val + p.val, by omega⟩ ⟨64 * h.val + l.val, by omega⟩ := by
  rw [← v62_at]
  show shapeCast _ (v62 L) shapeCasts_S4096x384_S32x128x6x64 (ix4 n p h l) = _
  pointwise
  congr 3 <;> omega

theorem v389_at (r : Fin 4096) (j : Fin 1024) : res_main_v389 L (ix2 r j) = ∑ n : Fin 1024, rD L (ix2 r n) * rW L (ix2 j n) := by
  pointwise [res_main_v389]

def v393 : FVec Ideal S4096x384 .f32 := mulf (res_main_v26 L) (extractStridedSlice S4096x384 ![0, 0] (res_main_v389 L) slices_S4096x1024_S4096x384_0_0)

theorem v393_at (r : Fin 4096) (j : Fin 384) : v393 L (ix2 r j) = gateR (rZ L) (rD L) (rW L) r j := by
  unfold gateR
  pointwise [v393]
  rw [v26_at, mul_comm]
  congr 1
  refine (congrArg (res_main_v389 L) ?_).trans (v389_at L r ⟨j.val, by omega⟩)
  rfl

theorem v394_cut (n : Fin 32) (p : Fin 128) (h : Fin 6) (l : Fin 64) :
    res_main_v394 L (ix4 n p h l) = gateR (rZ L) (rD L) (rW L) ⟨128 * n.val + p.val, by omega⟩ ⟨64 * h.val + l.val, by omega⟩ := by
  rw [← v393_at]
  show shapeCast _ (v393 L) shapeCasts_S4096x384_S32x128x6x64 (ix4 n p h l) = _
  pointwise
  congr 3 <;> omega

/-- The weight gradients of the six heads. -/
def dws : FVec Ideal S6x128x128 .f32 := select (res_main_v61_1 L) (Host.dotGeneral (F := Ideal) (φ₁ := .f32) (φ₂ := .f32) dot_S6x32x64x128_S32x128x6x64_S6x128x128_12_03_3_1_0_2 none (transpose S6x32x64x128 [2, 0, 3, 1] (res_main_v394 L) transposes_S32x128x6x64_S6x32x64x128_2_0_3_1) (res_main_v62 L)) (broadcastInDim S6x128x128 ![] bcast_S_S6x128x128 (constant S_ .f32 0x00000000#32))

theorem mask_word : ∀ p q : Fin 128, IntOp.cmpi .sge (IntOp.addi (BitVec.ofNat 32 p.val) 0#32) (BitVec.ofNat 32 q.val) = if q.val ≤ p.val then 1#1 else 0#1 := by
  decide +kernel

theorem mask_at (h : Fin 6) (p q : Fin 128) : res_main_v61_1 L (ix3 h p q) = if q.val ≤ p.val then 1#1 else 0#1 := by
  pointwise [res_main_v61_1]
  rw [mask_word]
  split <;> rfl

theorem dws_at (h : Fin 6) (p q : Fin 128) : dws L (ix3 h p q) =
    if q.val ≤ p.val then ∑ n : Fin 32, ∑ l : Fin 64,
      gateR (rZ L) (rD L) (rW L) ⟨128 * n.val + p.val, by omega⟩ ⟨64 * h.val + l.val, by omega⟩ *
        valR (rZ L) (rG L) (rB L) ⟨128 * n.val + q.val, by omega⟩ ⟨64 * h.val + l.val, by omega⟩ else 0 := by
  pointwise [dws]
  rw [mask_at]
  simp only [v394_cut, v62_cut]
  split <;> rfl

/-- The bias gradients of the six heads, a row a position, padded to 128 columns. -/
def dbs : FVec Ideal S1x128x128 .f32 := broadcastInDim S1x128x128 ![1, 2] bcast_S128x128_S1x128x128_1_2 (pad S128x128 ![0, 0] ![0, 122] ![0, 0] (transpose S128x6 [1, 0] (transpose S6x128 [1, 0] (Host.reduceAdd (shapeCast _ (Host.reduceAdd (res_main_v394 L) (constant S_ .f32 0x00000000#32) reducesTo_S32x128x6x64_S128x6_d0_3 h_S_) shapeCasts_S128x6_S1x128x6x1) (constant S_ .f32 0x00000000#32) reducesTo_S1x128x6x1_S128x6_d0_3 h_S_) transposes_S128x6_S6x128_1_0) transposes_S6x128_S128x6_1_0) (sitofp .f32 (constantI S_ 32 0#32)) pads_S128x6_S128x128_000_01220 h_S_)

/-- A sum of an array of rank 4 over its outer and its inner axis, at an index of the two axes between. -/
theorem outer_sum {a b c d : ℕ} (h : (⟨4, ![a, b, c, d]⟩ : Shape).ReducesTo [0, 3] ⟨2, ![b, c]⟩) (v : (⟨4, ![a, b, c, d]⟩ : Shape).Idx → EReal)
    (init : EReal) (p : Fin b) (q : Fin c) :
    Ideal.hostReduceAdd h v init (ix2 p q) = init + ∑ n : Fin a, ∑ l : Fin d, v (ix4 n p q l) := by
  refine congrArg (init + ·) ?_
  refine (Finset.sum_filter_eq_sum_of_fiber _ (fun k : Fin a × Fin d => ix4 k.1 p q k.2)
    (fun _ _ e => Prod.ext (congrFun e 0) (congrFun e 3)) (fun i => ?_) v).trans ?_
  · constructor
    · intro e
      refine ⟨(i 0, i 3), ?_⟩
      funext x; apply Fin.ext
      match x with
      | ⟨0, _⟩ => rfl
      | ⟨1, _⟩ => exact (congrArg Fin.val (congrFun e 0)).symm
      | ⟨2, _⟩ => exact (congrArg Fin.val (congrFun e 1)).symm
      | ⟨3, _⟩ => rfl
    · rintro ⟨k, rfl⟩
      funext x; apply Fin.ext
      match x with
      | ⟨0, _⟩ => rfl
      | ⟨1, _⟩ => rfl
  · simp only [Fintype.sum_prod_type]

theorem first_sum (p : Fin 128) (q : Fin 6) :
    Host.reduceAdd (res_main_v394 L) (constant S_ .f32 0x00000000#32) reducesTo_S32x128x6x64_S128x6_d0_3 h_S_ (ix2 p q) =
      ∑ n : Fin 32, ∑ l : Fin 64, gateR (rZ L) (rD L) (rW L) ⟨128 * n.val + p.val, by omega⟩ ⟨64 * q.val + l.val, by omega⟩ := by
  refine (outer_sum reducesTo_S32x128x6x64_S128x6_d0_3 (res_main_v394 L) (constant (F := Ideal) S_ .f32 0x00000000#32 (Shape.Idx.first h_S_)) p q).trans ?_
  simp only [v394_cut]
  have e : constant (F := Ideal) S_ .f32 0x00000000#32 (Shape.Idx.first h_S_) = 0 := by pointwise
  rw [e, zero_add]

theorem dbs_at (p q : Fin 128) : dbs L (ix3 0 p q) =
    if h : q.val < 6 then ∑ n : Fin 32, ∑ l : Fin 64,
      gateR (rZ L) (rD L) (rW L) ⟨128 * n.val + p.val, by omega⟩ ⟨64 * q.val + l.val, by omega⟩ else 0 := by
  pointwise [dbs]
  split
  · rename_i h
    refine (outer_sum reducesTo_S1x128x6x1_S128x6_d0_3 _ 0 p ⟨q.val, h⟩).trans ?_
    rw [zero_add, Fin.sum_univ_one, Fin.sum_univ_one, ← first_sum L p ⟨q.val, h⟩]
    pointwise
  · show ((((0#32 : BitVec 32).toInt : ℤ) : ℝ) : EReal) = 0
    simp

/-- The reference's result. -/
def gws : FVec Ideal S7x128x128 .f32 := concatenate S7x128x128 0 [⟨S6x128x128, dws L⟩, ⟨S1x128x128, dbs L⟩] concatenates_S6x128x128_S1x128x128_S7x128x128_d0

theorem gws_row (h : Fin 6) (p q : Fin 128) : gws L (ix3 ⟨h.val, by omega⟩ p q) = dws L (ix3 h p q) := by
  unfold gws
  refine concatenate_pair_apply_left (t := S7x128x128) (a := 0) (dws L) (dbs L) concatenates_S6x128x128_S1x128x128_S7x128x128_d0 _ rfl (ix3 h p q) (fun b => ?_)
  fin_cases b <;> rfl

theorem gws_last (p q : Fin 128) : gws L (ix3 6 p q) = dbs L (ix3 0 p q) := by
  unfold gws
  pointwise

end Cert.ReferenceIdeal.Mix

end
-- ==== Proof.Mix.Final.lean ====
/- What window 25's array holds after the run: the accumulator as the last point leaves it. -/
module

public import proofs.«01_k».proof.Proof.Mix.Frame
public import Idealize.ShloMosaic.Lib.Pipeline.ValueKit

@[expose] public section

set_option maxRecDepth 16384

noncomputable section

namespace Cert.KernelIdeal.Mix

open Idealize.ShloMosaic Idealize.ShloMosaic.TcCoe Idealize.ShloMosaic.Tactic Idealize.SL.Sem Cert.KernelIdeal Cert.KernelIdeal.Gen
open Idealize.ShloMosaic.Pipeline (Dat)

variable (m : (ℓ : Loc nD τ sig) → Buf (Elt Ideal) ℓ) (ρ : Dev nD → PrngReg)

theorem seven : 7 < cfg0.N := lt_of_lt_of_eq (by decide) N_0.symm

/-- The accumulator's array after the run: the accumulator as the last point leaves it. -/
theorem final25 (c : Dev nD) (i : S7x128x128.Idx) :
    (dat m 0 c).arrAt 25 cfg0.N i = (left m c 7 seven).1 i := by
  have e : (dat m 0 c).arrAt 25 cfg0.N = fun i : S7x128x128.Idx => (left m c 7 seven).1 i := by
    refine (dat m 0 c).arrAt_eq_of_after_last 25 t0_7 (by decide +kernel) _ fun j => ?_
    blk_simp
    rw [aft25]
    refine congrArg (left m c 7 seven).1 ?_
    funext a
    apply Fin.ext
    fin_cases a <;> rfl
  exact congrFun e i

/-- The run, with the accumulator's array read off it and the argument arrays unchanged. -/
theorem ran_value (G : (c : Dev nD) → Buf (Elt Ideal) ((c : Thread nD τ).loc main_v285_5))
    (hG : ∀ c, (dat m 0 c).arrAt 25 cfg0.N = G c) :
    θ_run defs (onTc (τ := τ) (main (F := Ideal))) ⟨m, fun _ => 0, ρ⟩ (fun r => ∀ c : Dev nD,
      r.2.mem ((c.tc : Thread nD τ).loc main_v285_5) = G c) :=
  (θ_run defs _ _).mono (fun r h c => (((dat m 0 c).toRForget_arrAt_iff (show unsaid 25 = false from rfl) _ _).mp ((h.1 c).1 25)).trans (hG c)) (ran_quiet m ρ)

end Cert.KernelIdeal.Mix

end
-- ==== Proof.Mix.Sums.lean ====
/- The accumulator after the last point, as sums over all tokens. -/
module

public import proofs.«01_k».proof.Proof.Mix.Blocks
public import proofs.«01_k».proof.Proof.Mix.Final

@[expose] public section

set_option maxRecDepth 16384

noncomputable section

namespace Cert.KernelIdeal.Mix

open Idealize.ShloMosaic Idealize.ShloMosaic.TcCoe Idealize.ShloMosaic.Tactic Cert.KernelIdeal Cert.KernelIdeal.Gen

variable (m : (ℓ : Loc nD τ sig) → Buf (Elt Ideal) ℓ)

/-- Token `p` of chunk `k` of block `t`. -/
def tok (t : Fin 8) (k : Fin 4) (p : Fin 128) : Fin 4096 := ⟨512 * t.val + (128 * k.val + p.val), by omega⟩

/-- What a point adds to head `h` at `(p, q)`; nothing past the grid. -/
def addR (c : Dev nD) (h : Fin 6) (p q : Fin 128) (t : ℕ) : EReal :=
  if ht : t < cfg0.N then if q.val ≤ p.val then hB m c ⟨t, ht⟩ h (ix2 p q) else 0 else 0

/-- What a point adds to the carried buffer at `(p, j)`. -/
def addS (c : Dev nD) (p : Fin 128) (j : Fin 384) (t : ℕ) : EReal :=
  if ht : t < cfg0.N then ∑ k : Fin 4, gate (zB m c ⟨t, ht⟩) (rB m c ⟨t, ht⟩) k (ix2 p j) else 0

theorem zero_scr (i : S128x384.Idx) : k0_pay7 (F := Ideal) i = 0 := by
  pointwise [k0_pay7]

/-- The heads of the accumulator after point `n`: the sum of what the points so far add. -/
theorem row_sum (c : Dev nD) (h : Fin 6) (p q : Fin 128) : ∀ (n : ℕ) (hn : n < cfg0.N),
    (left m c n hn).1 (ix3 ⟨h.val, by omega⟩ p q) = ∑ t ∈ Finset.range (n + 1), addR m c h p q t
  | 0, hn => by
    rw [Finset.sum_range_one]
    have h0 : (⟨0, hn⟩ : Fin cfg0.N).val % 8 = 0 := Nat.zero_mod _
    have h1 : ¬ (⟨0, hn⟩ : Fin cfg0.N).val % 8 = 7 := by rw [h0]; omega
    refine (congrFun (congrArg Prod.fst (left_A m c ⟨0, hn⟩ h0 h1)) _).trans ?_
    rw [leftA_row, addR, dif_pos hn]
  | n + 1, hn => by
    have h8 : n + 1 < 8 := lt_of_lt_of_eq hn N_0
    rw [Finset.sum_range_succ, ← row_sum c h p q n (Nat.lt_of_succ_lt hn), addR, dif_pos hn]
    have h0 : ¬ (⟨n + 1, hn⟩ : Fin cfg0.N).val % 8 = 0 := by dsimp only; omega
    by_cases h1 : (⟨n + 1, hn⟩ : Fin cfg0.N).val % 8 = 7
    · refine (congrFun (congrArg Prod.fst (left_C m c ⟨n + 1, hn⟩ h0 h1)) _).trans ?_
      rw [leftC_row]
      rfl
    · refine (congrFun (congrArg Prod.fst (left_B m c ⟨n + 1, hn⟩ h0 h1)) _).trans ?_
      rw [leftB_row]
      rfl

/-- The carried buffer after point `n`. -/
theorem scr_sum (c : Dev nD) (p : Fin 128) (j : Fin 384) : ∀ (n : ℕ) (hn : n < cfg0.N),
    (left m c n hn).2.2 (ix2 p j) = ∑ t ∈ Finset.range (n + 1), addS m c p j t
  | 0, hn => by
    rw [Finset.sum_range_one]
    have h0 : (⟨0, hn⟩ : Fin cfg0.N).val % 8 = 0 := Nat.zero_mod _
    have h1 : ¬ (⟨0, hn⟩ : Fin cfg0.N).val % 8 = 7 := by rw [h0]; omega
    refine (congrFun (congrArg (fun s => s.2.2) (left_A m c ⟨0, hn⟩ h0 h1)) _).trans ?_
    show (leftA m c ⟨0, hn⟩ h0 h1).2.2 (ix2 p j) = _
    rw [leftA_scr, carry_at, zero_scr, zero_add, addS, dif_pos hn]
  | n + 1, hn => by
    have h8 : n + 1 < 8 := lt_of_lt_of_eq hn N_0
    rw [Finset.sum_range_succ, ← scr_sum c p j n (Nat.lt_of_succ_lt hn), addS, dif_pos hn]
    have h0 : ¬ (⟨n + 1, hn⟩ : Fin cfg0.N).val % 8 = 0 := by dsimp only; omega
    by_cases h1 : (⟨n + 1, hn⟩ : Fin cfg0.N).val % 8 = 7
    · refine (congrFun (congrArg (fun s => s.2.2) (left_C m c ⟨n + 1, hn⟩ h0 h1)) _).trans ?_
      show (leftC m c ⟨n + 1, hn⟩ h0 h1 _).2.2 (ix2 p j) = _
      rw [leftC_scr, carry_at]
      rfl
    · refine (congrFun (congrArg (fun s => s.2.2) (left_B m c ⟨n + 1, hn⟩ h0 h1)) _).trans ?_
      show (leftB m c ⟨n + 1, hn⟩ h0 h1 _).2.2 (ix2 p j) = _
      rw [leftB_scr, carry_at]
      rfl

/-- A head of the accumulator after the last point, over the tokens. -/
theorem rows_final (c : Dev nD) (h : Fin 6) (p q : Fin 128) :
    (left m c 7 seven).1 (ix3 ⟨h.val, by omega⟩ p q) =
      if q.val ≤ p.val then ∑ t : Fin 8, ∑ k : Fin 4, ∑ l : Fin 64,
        gateR (aZ m c) (aD m c) (aW m c) (tok t k p) ⟨64 * h.val + l.val, by omega⟩ *
          valR (aZ m c) (aG m c) (aB m c) (tok t k q) ⟨64 * h.val + l.val, by omega⟩ else 0 := by
  rw [row_sum, Finset.sum_range]
  by_cases hq : q.val ≤ p.val
  · rw [if_pos hq]
    refine Finset.sum_congr rfl fun t _ => ?_
    have ht : t.val < cfg0.N := lt_of_lt_of_eq t.isLt N_0.symm
    rw [addR, dif_pos ht, if_pos hq, hB, heads_at]
    simp only [gate_row, vals_row]
    rfl
  · rw [if_neg hq]
    refine Finset.sum_eq_zero fun t _ => ?_
    have ht : t.val < cfg0.N := lt_of_lt_of_eq t.isLt N_0.symm
    rw [addR, dif_pos ht, if_neg hq]

/-- The carried buffer after the last point, over the tokens. -/
theorem scr_final (c : Dev nD) (p : Fin 128) (j : Fin 384) :
    (left m c 7 seven).2.2 (ix2 p j) = ∑ t : Fin 8, ∑ k : Fin 4, gateR (aZ m c) (aD m c) (aW m c) (tok t k p) j := by
  rw [scr_sum, Finset.sum_range]
  refine Finset.sum_congr rfl fun t _ => ?_
  have ht : t.val < cfg0.N := lt_of_lt_of_eq t.isLt N_0.symm
  rw [addS, dif_pos ht]
  simp only [gate_row]
  rfl

theorem sum_real {ι : Type} (s : Finset ι) (f : ι → EReal) (hf : ∀ i ∈ s, ∃ x : ℝ, f i = x) : ∃ x : ℝ, ∑ i ∈ s, f i = x := by
  classical
  induction s using Finset.induction_on with
  | empty => exact ⟨0, by simp⟩
  | insert a s ha ih =>
    obtain ⟨x, hx⟩ := hf a (Finset.mem_insert_self a s)
    obtain ⟨y, hy⟩ := ih fun i hi => hf i (Finset.mem_insert_of_mem hi)
    exact ⟨x + y, by rw [Finset.sum_insert ha, hx, hy, EReal.coe_add]⟩

/-- The last row of the accumulator after the last point, where the gate gradients are finite: the bias gradient of head
    `q` at position `p`, zero past the heads. -/
theorem last_final (c : Dev nD) (hf : ∀ r j, ∃ x : ℝ, gateR (aZ m c) (aD m c) (aW m c) r j = x) (p q : Fin 128) :
    (left m c 7 seven).1 (ix3 6 p q) =
      if h : q.val < 6 then ∑ l : Fin 64, ∑ t : Fin 8, ∑ k : Fin 4,
        gateR (aZ m c) (aD m c) (aW m c) (tok t k p) ⟨64 * q.val + l.val, by omega⟩ else 0 := by
  have h0 : ¬ (t0_7 : Fin cfg0.N).val % 8 = 0 := by decide
  have h1 : (t0_7 : Fin cfg0.N).val % 8 = 7 := by decide
  have hS : ∀ i, carry (zB m c t0_7) (rB m c t0_7) (leftBefore m c t0_7).2.2 i = (left m c 7 seven).2.2 i := by
    intro i
    refine (congrFun (leftC_scr m c t0_7 h0 h1 (leftBefore m c t0_7)).symm i).trans ?_
    exact (congrFun (congrArg (fun s => s.2.2) (left_C m c t0_7 h0 h1)) i).symm
  have hR : ∀ i, ∃ x : ℝ, carry (zB m c t0_7) (rB m c t0_7) (leftBefore m c t0_7).2.2 i = x := by
    intro i
    obtain ⟨a, b, rfl⟩ : ∃ (a : Fin 128) (b : Fin 384), i = ix2 a b := ⟨i 0, i 1, by funext x; fin_cases x <;> rfl⟩
    rw [hS, scr_final]
    exact sum_real _ _ fun t _ => sum_real _ _ fun k _ => hf _ _
  refine (congrFun (congrArg Prod.fst (left_C m c t0_7 h0 h1)) _).trans ?_
  rw [leftC_last, row6_at _ hR]
  split
  · refine Finset.sum_congr rfl fun l _ => ?_
    rw [hS, scr_final]
  · rfl

end Cert.KernelIdeal.Mix

end
-- ==== Proof.Mix.Finite.lean ====
/- Where the arguments are finite, so are the gate gradients. -/
module

public import proofs.«01_k».proof.Proof.Mix.Ref
public import proofs.«01_k».proof.Proof.Mix.Sums
public import proofs.«01_k».proof.Proof.Gen.Pre_finite
public import Idealize.ShloMosaic.Lib.ReduceAll

@[expose] public section

set_option maxRecDepth 16384

noncomputable section

namespace Cert.ReferenceIdeal.Mix

open Idealize.ShloMosaic Idealize.ShloMosaic.TcCoe Idealize.ShloMosaic.Tactic Cert.ReferenceIdeal Cert.ReferenceIdeal.Gen Cert.ReferenceIdeal.Value Idealize.ShloMosaic.StableHlo
open Cert.KernelIdeal.Mix (gel mean lnr gateR valR sum_real)

/-- A value that is neither infinity. -/
def Real' (x : EReal) : Prop := ∃ r : ℝ, x = r

theorem Real'.mul {x y : EReal} : Real' x → Real' y → Real' (x * y) := by
  rintro ⟨a, rfl⟩ ⟨b, rfl⟩; exact ⟨a * b, (EReal.coe_mul a b).symm⟩
theorem Real'.add {x y : EReal} : Real' x → Real' y → Real' (x + y) := by
  rintro ⟨a, rfl⟩ ⟨b, rfl⟩; exact ⟨a + b, (EReal.coe_add a b).symm⟩
theorem Real'.sum {ι : Type} (s : Finset ι) {f : ι → EReal} (h : ∀ i, Real' (f i)) : Real' (∑ i ∈ s, f i) :=
  sum_real s f fun i _ => h i
theorem Real'.erf {x : EReal} : Real' x → Real' (Ideal.erf x) := by
  rintro ⟨a, rfl⟩; exact ⟨_, rfl⟩

theorem half_real : Real' (Ideal.ofBits .f32 0x3F000000#32) := ⟨_, by simp [Ideal.ofBits, Ideal.ieee]; rfl⟩
theorem root_real : Real' (Ideal.ofBits .f32 0x3F3504F3#32) := ⟨_, by simp [Ideal.ofBits, Ideal.ieee]; rfl⟩

theorem gel_real {x : EReal} (h : Real' x) : Real' (gel x) :=
  (half_real.mul h).mul (Real'.add ⟨1, rfl⟩ (h.mul root_real).erf)

theorem coe_sum {ι : Type} (s : Finset ι) (g : ι → ℝ) : ∑ i ∈ s, (g i : EReal) = ((∑ i ∈ s, g i : ℝ) : EReal) := by
  classical
  induction s using Finset.induction_on with
  | empty => simp
  | insert a s ha ih => rw [Finset.sum_insert ha, Finset.sum_insert ha, ih, EReal.coe_add]

/-- The inverse root of a mean of squares plus a positive constant is finite. -/
theorem root_mean {n : ℕ} (f : Fin n → EReal) (h : ∀ i, Real' (f i)) :
    Real' (Ideal.rsqrt (Ideal.div (∑ i, f i * f i) (Ideal.ofBits .f32 0x44800000#32) + Ideal.ofBits .f32 0x358637BD#32)) := by
  choose g hg using h
  have hN : Ideal.ofBits .f32 0x44800000#32 = ((1024 : ℝ) : EReal) := by
    simp [Ideal.ofBits, Ideal.ieee]
    rw [← EReal.coe_mul]; norm_num
  obtain ⟨e, he, hp⟩ : ∃ e : ℝ, Ideal.ofBits .f32 0x358637BD#32 = e ∧ 0 < e := by
    refine ⟨_, by simp [Ideal.ofBits, Ideal.ieee]; rfl, ?_⟩
    norm_num
  have hs : (∑ i, f i * f i) = ((∑ i, g i * g i : ℝ) : EReal) := by
    refine (Finset.sum_congr rfl fun i _ => ?_).trans (coe_sum Finset.univ fun i => g i * g i)
    rw [hg, EReal.coe_mul]
  have hd : Ideal.div ((∑ i, g i * g i : ℝ) : EReal) ((1024 : ℝ) : EReal) = (((∑ i, g i * g i) * (1024 : ℝ)⁻¹ : ℝ) : EReal) := by
    unfold Ideal.div
    rw [if_neg (by exact_mod_cast (by norm_num : (1024 : ℝ) ≠ 0)), ← EReal.coe_inv, ← EReal.coe_mul]
  rw [hs, hN, he, hd, ← EReal.coe_add, Ideal.rsqrt_coe]
  have hnn : 0 ≤ (∑ i, g i * g i) * (1024 : ℝ)⁻¹ := mul_nonneg (Finset.sum_nonneg fun i _ => mul_self_nonneg _) (by norm_num)
  rw [if_neg (by linarith), if_neg (by linarith)]
  exact ⟨_, rfl⟩

variable (L : Valuation τ sig (Elt Ideal))

abbrev rX : FVec Ideal S4096x1024 .f32 := L (Proc.devRef .tc main_arg0)
abbrev rN : FVec Ideal S1024 .f32 := L (Proc.devRef .tc main_arg1)
abbrev rI : FVec Ideal S1024x1792 .f32 := L (Proc.devRef .tc main_arg2)

/-- The projected input is finite where the input, the scale and the weight are. -/
theorem z_real (hX : ∀ i, Real' (rX L i)) (hN : ∀ i, Real' (rN L i)) (hI : ∀ i, Real' (rI L i)) (r : Fin 4096) (j : Fin 1792) :
    Real' (rZ L (ix2 r j)) := by
  pointwise [rZ, res_main_v13]
  exact Real'.sum _ fun n => (((hX _).mul (root_mean (fun k => rX L (ix2 r k)) fun k => hX _)).mul (hN _)).mul (hI _)

/-- The gate gradients are finite where the arguments they are made of are. -/
theorem gate_real (hX : ∀ i, Real' (rX L i)) (hN : ∀ i, Real' (rN L i)) (hI : ∀ i, Real' (rI L i)) (hD : ∀ i, Real' (rD L i)) (hW : ∀ i, Real' (rW L i))
    (r : Fin 4096) (j : Fin 384) : Real' (gateR (rZ L) (rD L) (rW L) r j) :=
  (Real'.sum _ fun n => (hD _).mul (hW _)).mul (gel_real (z_real L hX hN hI _ _))

theorem inf_top : Ideal.ofBits .f32 0x7F800000#32 = ⊤ := by simp [Ideal.ofBits, Ideal.ieee]

/-- A value whose absolute value is below infinity is finite. -/
theorem real_of_abs {x : EReal} (h : Ideal.cmp .olt (FloatOps.hostAbsf (F := Ideal) (φ := .f32) x) (Ideal.ofBits .f32 0x7F800000#32) = 1#1) : Real' x := by
  have h' := (Ideal.cmp_olt_eq_one _ _).mp h
  rw [inf_top] at h'
  induction x using EReal.rec with
  | bot => exact absurd h' (by simp [FloatOps.hostAbsf])
  | top => exact absurd h' (by simp [FloatOps.hostAbsf])
  | coe r => exact ⟨r, rfl⟩

/-- What the precondition says of the five arrays it names. -/
theorem pre_real (a0 : FVec Ideal S4096x1024 .f32) (a1 : FVec Ideal S1024 .f32) (a2 : FVec Ideal S1024x1792 .f32) (a3 a4 : FVec Ideal S384 .f32)
    (a5 : FVec Ideal S6x128x128 .f32) (a6 : FVec Ideal S6x128 .f32) (a7 : FVec Ideal S31x384 .f32) (a8 a9 a10 : FVec Ideal S384 .f32)
    (a11 : FVec Ideal S4x64x64 .f32) (a12 : FVec Ideal S256 .f32) (a13 : FVec Ideal S1024x1024 .f32) (a14 : FVec Ideal S4096x1024 .f32)
    (h : Cert.Pre_finite.fn (F := Ideal) a0 a1 a2 a3 a4 a5 a6 a7 a8 a9 a10 a11 a12 a13 a14 (Shape.Idx.first h_S_) = 1#1) :
    (∀ i, Real' (a0 i)) ∧ (∀ i, Real' (a1 i)) ∧ (∀ i, Real' (a2 i)) ∧ (∀ i, Real' (a13 i)) ∧ (∀ i, Real' (a14 i)) := by
  dsimp only [Cert.Pre_finite.fn, Cert.Pre_finite.fn_part1] at h
  have h4 := IntOp.andi_eq_one.mp h
  have h3 := IntOp.andi_eq_one.mp h4.1
  have h2 := IntOp.andi_eq_one.mp h3.1
  have h1 := IntOp.andi_eq_one.mp h2.1
  refine ⟨fun i => ?_, fun i => ?_, fun i => ?_, fun i => ?_, fun i => ?_⟩
  · exact real_of_abs (Host.reduce_andi_all _ _ _ _ _ h1.1 i)
  · exact real_of_abs (Host.reduce_andi_all _ _ _ _ _ h1.2 i)
  · exact real_of_abs (Host.reduce_andi_all _ _ _ _ _ h2.2 i)
  · exact real_of_abs (Host.reduce_andi_all _ _ _ _ _ h3.2 i)
  · exact real_of_abs (Host.reduce_andi_all _ _ _ _ _ h4.2 i)

end Cert.ReferenceIdeal.Mix

end
-- ==== Proof.Mix.Claim.lean ====
/- The two programs compute one gradient. -/
module

public import proofs.«01_k».proof.Proof.Mix.Finite

@[expose] public section

set_option maxRecDepth 16384

noncomputable section

namespace Cert.KernelIdeal.Mix

open Idealize.ShloMosaic Idealize.ShloMosaic.TcCoe Idealize.ShloMosaic.Tactic Cert.KernelIdeal Cert.KernelIdeal.Gen
open Idealize.ShloMosaic.StableHlo

variable (m : (ℓ : Loc nD τ sig) → Buf (Elt Ideal) ℓ)
variable (L : Valuation Cert.ReferenceIdeal.τ Cert.ReferenceIdeal.sig (Elt Ideal))

/-- The projected input of the kernel's program is the reference's. -/
theorem z_same (c : Dev nD)
    (h0 : Cert.ReferenceIdeal.Mix.rX L = m ((c : Thread nD τ).loc main_arg0))
    (h1 : Cert.ReferenceIdeal.Mix.rN L = m ((c : Thread nD τ).loc main_arg1))
    (h2 : Cert.ReferenceIdeal.Mix.rI L = m ((c : Thread nD τ).loc main_arg2)) :
    aZ m c = Cert.ReferenceIdeal.Mix.rZ L := by
  unfold Cert.ReferenceIdeal.Mix.rX at h0
  unfold Cert.ReferenceIdeal.Mix.rN at h1
  unfold Cert.ReferenceIdeal.Mix.rI at h2
  unfold aZ Cert.ReferenceIdeal.Mix.rZ Cert.ReferenceIdeal.Value.res_main_v13
  rw [h0, h1, h2]
  entry_read
  rfl

/-- A sum over the chunks of the blocks is a sum over all chunks of 128 tokens. -/
theorem chunks (f : Fin 32 → EReal) : ∑ t : Fin 8, ∑ k : Fin 4, f ⟨4 * t.val + k.val, by omega⟩ = ∑ n : Fin 32, f n := by
  rw [Fin.sum_univ_tiles 8 4 rfl f]
  refine Finset.sum_congr rfl fun t _ => Finset.sum_congr rfl fun k _ => congrArg f (Fin.ext ?_)
  show 4 * t.val + k.val = t.val * 4 + k.val
  omega

theorem tok_chunk (t : Fin 8) (k : Fin 4) (p : Fin 128) : tok t k p = ⟨128 * (⟨4 * t.val + k.val, by omega⟩ : Fin 32).val + p.val, by dsimp only; omega⟩ :=
  Fin.ext (by show 512 * t.val + (128 * k.val + p.val) = 128 * (4 * t.val + k.val) + p.val; omega)

/-- After its last point the accumulator holds the reference's result. -/
theorem same (c : Dev nD) (hz : aZ m c = Cert.ReferenceIdeal.Mix.rZ L) (hg : aG m c = Cert.ReferenceIdeal.Mix.rG L) (hb : aB m c = Cert.ReferenceIdeal.Mix.rB L)
    (hw : aW m c = Cert.ReferenceIdeal.Mix.rW L) (hd : aD m c = Cert.ReferenceIdeal.Mix.rD L)
    (hf : ∀ r j, ∃ x : ℝ, gateR (Cert.ReferenceIdeal.Mix.rZ L) (Cert.ReferenceIdeal.Mix.rD L) (Cert.ReferenceIdeal.Mix.rW L) r j = x)
    (i : S7x128x128.Idx) : (left m c 7 seven).1 i = Cert.ReferenceIdeal.Mix.gws L i := by
  obtain ⟨h, p, q, rfl⟩ : ∃ (h : Fin 7) (p q : Fin 128), i = ix3 h p q := ⟨i 0, i 1, i 2, by funext x; fin_cases x <;> rfl⟩
  by_cases h6 : h.val < 6
  · obtain ⟨n, hn⟩ := h
    rw [show (⟨n, hn⟩ : Fin 7) = ⟨(⟨n, h6⟩ : Fin 6).val, hn⟩ from rfl]
    rw [rows_final, Cert.ReferenceIdeal.Mix.gws_row, Cert.ReferenceIdeal.Mix.dws_at, hz, hd, hw, hg, hb]
    split
    · rw [← chunks]
      simp only [tok_chunk]
    · rfl
  · obtain rfl : h = 6 := Fin.ext (by have := h.isLt; show h.val = 6; omega)
    rw [last_final m c (by rw [hz, hd, hw]; exact hf), Cert.ReferenceIdeal.Mix.gws_last, Cert.ReferenceIdeal.Mix.dbs_at, hz, hd, hw]
    split
    · rw [← chunks]
      simp only [tok_chunk]
      rw [Finset.sum_comm]
      refine Finset.sum_congr rfl fun t _ => ?_
      rw [Finset.sum_comm]
    · rfl

end Cert.KernelIdeal.Mix

end
-- ==== Proof.Ffn.Forward.lean ====
/- The forward call of a feed-forward block: what each of its points computes. -/
module

public import proofs.«01_k».proof.Proof.Gen.Kernel2Ideal.Value
public import Idealize.ShloMosaic.Lib.Pipeline.ValueKit
public import Idealize.ShloMosaic.Lib.Pipeline.ReadBack
public import Idealize.ShloMosaic.Lib.Pipeline.ValueKit.Held

@[expose] public section

set_option maxRecDepth 16384
set_option maxHeartbeats 400000

noncomputable section

namespace Cert.Kernel2Ideal.Ffn

open Idealize.ShloMosaic Idealize.ShloMosaic.TcCoe Idealize.ShloMosaic.Tactic Cert.Kernel2Ideal Cert.Kernel2Ideal.Gen

variable (m : (ℓ : Loc nD τ sig) → Buf (Elt Ideal) ℓ)

theorem ix2_of {a b : ℕ} (j : (⟨2, ![a, b]⟩ : Shape).Idx) : ∃ (p : Fin a) (q : Fin b), j = ix2 p q :=
  ⟨j 0, j 1, by funext x; fin_cases x <;> rfl⟩

/-- One gate or up value: a row of the normalised input against a column of the weights. -/
def gU (h : Vec Ideal S1024x1024 .bf16) (w : Vec Ideal S2x256x1024 .bf16) (e : Fin 2) (p : Fin 1024) (n : Fin 256) : EReal :=
  ∑ d : Fin 1024, (h (ix2 p d) : EReal) * w (ix3 e n d)

theorem pay16_at (w : Vec Ideal S2x256x1024 .bf16) (h : Vec Ideal S512x1024 .bf16) (p : Fin 512) (n : Fin 256) :
    (k0_pay16 w h (ix2 p n) : EReal) = ∑ d : Fin 1024, (h (ix2 p d) : EReal) * w (ix3 (0 : Fin 2) n d) := by
  pointwise [k0_pay16, k0_pay14, k0_pay13, k0_pay11]
  refine Finset.sum_congr rfl fun d _ => congrArg (fun i => (h (ix2 p d) : EReal) * w i) ?_
  exact congrArg₂ (fun a b => ix3 a b d) (Fin.ext (Nat.div_eq_of_lt n.isLt)) (Fin.ext (Nat.mod_eq_of_lt n.isLt))
theorem pay17_at (w : Vec Ideal S2x256x1024 .bf16) (h : Vec Ideal S512x1024 .bf16) (p : Fin 512) (n : Fin 256) :
    (k0_pay17 w h (ix2 p n) : EReal) = ∑ d : Fin 1024, (h (ix2 p d) : EReal) * w (ix3 (1 : Fin 2) n d) := by
  pointwise [k0_pay17, k0_pay15, k0_pay13, k0_pay11]
  refine Finset.sum_congr rfl fun d _ => congrArg (fun i => (h (ix2 p d) : EReal) * w i) ?_
  exact congrArg (fun a => ix3 a n d) (Fin.ext (by show (256 + n.val) / 256 = 1; have := n.isLt; omega))
/-- The second row group computes what the first does. -/
theorem pay4_eq (w : Vec Ideal S2x256x1024 .bf16) (h : Vec Ideal S512x1024 .bf16) :
    k0_pay4 (k0_pay11 w) h (constant S512x512 FTy.f32 0#32) = k0_pay16 w h := rfl
theorem pay5_eq (w : Vec Ideal S2x256x1024 .bf16) (h : Vec Ideal S512x1024 .bf16) :
    k0_pay5 (k0_pay11 w) h (constant S512x512 FTy.f32 0#32) = k0_pay17 w h := rfl
theorem pay6_eq (w : Vec Ideal S2x256x1024 .bf16) (h : Vec Ideal S512x1024 .bf16) :
    k0_pay6 (k0_pay11 w) h (constant S512x512 FTy.f32 0#32) = k0_pay18 w h := rfl
theorem pay7_eq (w : Vec Ideal S2x256x1024 .bf16) (v : Vec Ideal S1x256x1024 .bf16) (h : Vec Ideal S512x1024 .bf16) (a : Vec Ideal S512x1024 .f32) :
    k0_pay7 (k0_pay11 w) (k0_pay12 v) h (constant S512x512 FTy.f32 0#32) a = k0_pay19 w v h a := rfl

theorem pay18_at (w : Vec Ideal S2x256x1024 .bf16) (h : Vec Ideal S512x1024 .bf16) (p : Fin 512) (n : Fin 256) :
    (k0_pay18 w h (ix2 p n) : EReal) = (k0_pay16 w h (ix2 p n) : EReal) * Ideal.logistic (k0_pay16 w h (ix2 p n)) * k0_pay17 w h (ix2 p n) := by
  pointwise [k0_pay18, k0_pay16, k0_pay17]
theorem pay19_at (w : Vec Ideal S2x256x1024 .bf16) (v : Vec Ideal S1x256x1024 .bf16) (h : Vec Ideal S512x1024 .bf16) (a : Vec Ideal S512x1024 .f32) (p : Fin 512) (q : Fin 1024) :
    (k0_pay19 w v h a (ix2 p q) : EReal) = (a (ix2 p q) : EReal) + ∑ n : Fin 256, (k0_pay18 w h (ix2 p n) : EReal) * v (ix3 (0 : Fin 1) n q) := by
  pointwise [k0_pay19, k0_pay12]

abbrev rowsLo : Rect S1024x1024 := Rect.unit ![0, 0] ![512, 1024] inb_S1024x1024_S512x1024_0_0
abbrev rowsHi : Rect S1024x1024 := Rect.unit ![512, 0] ![512, 1024] inb_S1024x1024_S512x1024_512_0
abbrev lanesLo : Rect S1024x256 := Rect.unit ![0, 0] ![512, 256] inb_S1024x256_S512x256_0_0
abbrev lanesHi : Rect S1024x256 := Rect.unit ![512, 0] ![512, 256] inb_S1024x256_S512x256_512_0

theorem hi_emb {w : ℕ} {inb} (k : Fin 512) (q : Fin w) :
    (Rect.unit (s := ⟨2, ![1024, w]⟩) ![512, 0] ![512, w] inb).emb (ix2 k q) = ix2 (⟨512 + k.val, by have := k.isLt; omega⟩ : Fin 1024) q := by
  funext a
  fin_cases a
  · exact Fin.ext (by show 512 + 1 * k.val = 512 + k.val; omega)
  · exact Fin.ext (by show 0 + 1 * q.val = q.val; omega)
theorem lo_emb {w : ℕ} {inb} (k : Fin 512) (q : Fin w) :
    (Rect.unit (s := ⟨2, ![1024, w]⟩) ![0, 0] ![512, w] inb).emb (ix2 k q) = ix2 (⟨k.val, by have := k.isLt; omega⟩ : Fin 1024) q := by
  funext a
  fin_cases a
  · exact Fin.ext (by show 0 + 1 * k.val = k.val; omega)
  · exact Fin.ext (by show 0 + 1 * q.val = q.val; omega)

/-- What two row groups leave, whatever was there: each group's payload, read at its own rows, is one function `f` of the row. -/
theorem two_groups {w : ℕ} {e : EltTy} {inb inb'} (P Q : (⟨2, ![512, w]⟩ : Shape).Idx → Elt Ideal e) (L : List (View.Piece (Elt Ideal) ⟨2, ![1024, w]⟩ e))
    (f : Fin 1024 → Fin w → Elt Ideal e)
    (hP : ∀ k q, P (ix2 k q) = f ⟨512 + k.val, by have := k.isLt; omega⟩ q) (hQ : ∀ k q, Q (ix2 k q) = f ⟨k.val, by have := k.isLt; omega⟩ q)
    (y : (⟨2, ![1024, w]⟩ : Shape).Idx) :
    View.canon (⟨Rect.unit (s := ⟨2, ![1024, w]⟩) ![512, 0] ![512, w] inb, P⟩ :: ⟨Rect.unit (s := ⟨2, ![1024, w]⟩) ![0, 0] ![512, w] inb', Q⟩ :: L) y = f (y 0) (y 1) := by
  obtain ⟨p, q, rfl⟩ := ix2_of y
  show _ = f p q
  by_cases h : p.val < 512
  · rw [View.canon_cons_of_not_mem]
    · have e : (ix2 p q : (⟨2, ![1024, w]⟩ : Shape).Idx) = (Rect.unit (s := ⟨2, ![1024, w]⟩) ![0, 0] ![512, w] inb').emb (ix2 (⟨p.val, h⟩ : Fin 512) q) := (lo_emb ⟨p.val, h⟩ q).symm
      rw [e, View.canon_cons_emb]
      exact hQ _ _
    · intro hm
      have := ((Rect.mem_set_unit (inb := inb)).mp hm 0).1
      have : 512 ≤ p.val := this
      omega
  · have e : (ix2 p q : (⟨2, ![1024, w]⟩ : Shape).Idx) = (Rect.unit (s := ⟨2, ![1024, w]⟩) ![512, 0] ![512, w] inb).emb (ix2 (⟨p.val - 512, by have := p.isLt; omega⟩ : Fin 512) q) := by
      rw [hi_emb]
      exact congrArg (fun a => ix2 a q) (Fin.ext (by show p.val = 512 + (p.val - 512); omega))
    rw [e, View.canon_cons_emb, hP]
    exact congrArg (fun a => f a q) (Fin.ext (by show 512 + (p.val - 512) = p.val; omega))

theorem ld_hi (h : Vec Ideal S1024x1024 .bf16) (k : Fin 512) (d : Fin 1024) :
    View.ld h rowsHi (ix2 k d) = h (ix2 (⟨512 + k.val, by have := k.isLt; omega⟩ : Fin 1024) d) := congrArg h (hi_emb k d)
theorem ld_lo (h : Vec Ideal S1024x1024 .bf16) (k : Fin 512) (d : Fin 1024) :
    View.ld h rowsLo (ix2 k d) = h (ix2 (⟨k.val, by have := k.isLt; omega⟩ : Fin 1024) d) := congrArg h (lo_emb k d)
theorem ldf_hi (h : Vec Ideal S1024x1024 .f32) (k : Fin 512) (d : Fin 1024) :
    View.ld h rowsHi (ix2 k d) = h (ix2 (⟨512 + k.val, by have := k.isLt; omega⟩ : Fin 1024) d) := congrArg h (hi_emb k d)
theorem ldf_lo (h : Vec Ideal S1024x1024 .f32) (k : Fin 512) (d : Fin 1024) :
    View.ld h rowsLo (ix2 k d) = h (ix2 (⟨k.val, by have := k.isLt; omega⟩ : Fin 1024) d) := congrArg h (lo_emb k d)

/-- The activation of one lane. -/
def actv (h : Vec Ideal S1024x1024 .bf16) (w : Vec Ideal S2x256x1024 .bf16) (p : Fin 1024) (n : Fin 256) : EReal :=
  gU h w 0 p n * Ideal.logistic (gU h w 0 p n) * gU h w 1 p n
/-- What one point adds to the accumulator. -/
def down (h : Vec Ideal S1024x1024 .bf16) (w : Vec Ideal S2x256x1024 .bf16) (v : Vec Ideal S1x256x1024 .bf16) (p : Fin 1024) (q : Fin 1024) : EReal :=
  ∑ n : Fin 256, actv h w p n * v (ix3 (0 : Fin 1) n q)

variable (w : Vec Ideal S2x256x1024 .bf16) (h : Vec Ideal S1024x1024 .bf16) (v : Vec Ideal S1x256x1024 .bf16) (a : Vec Ideal S1024x1024 .f32)
theorem p16_hi (k : Fin 512) (n : Fin 256) : k0_pay16 w (View.ld h rowsHi) (ix2 k n) = gU h w 0 (⟨512 + k.val, by have := k.isLt; omega⟩ : Fin 1024) n := by
  exact (pay16_at w _ k n).trans (Finset.sum_congr rfl fun d _ => congrArg (fun b : EReal => b * _) (ld_hi h k d))
theorem p16_lo (k : Fin 512) (n : Fin 256) : k0_pay16 w (View.ld h rowsLo) (ix2 k n) = gU h w 0 (⟨k.val, by have := k.isLt; omega⟩ : Fin 1024) n := by
  exact (pay16_at w _ k n).trans (Finset.sum_congr rfl fun d _ => congrArg (fun b : EReal => b * _) (ld_lo h k d))
theorem p17_hi (k : Fin 512) (n : Fin 256) : k0_pay17 w (View.ld h rowsHi) (ix2 k n) = gU h w 1 (⟨512 + k.val, by have := k.isLt; omega⟩ : Fin 1024) n := by
  exact (pay17_at w _ k n).trans (Finset.sum_congr rfl fun d _ => congrArg (fun b : EReal => b * _) (ld_hi h k d))
theorem p17_lo (k : Fin 512) (n : Fin 256) : k0_pay17 w (View.ld h rowsLo) (ix2 k n) = gU h w 1 (⟨k.val, by have := k.isLt; omega⟩ : Fin 1024) n := by
  exact (pay17_at w _ k n).trans (Finset.sum_congr rfl fun d _ => congrArg (fun b : EReal => b * _) (ld_lo h k d))
theorem p18_hi (k : Fin 512) (n : Fin 256) : k0_pay18 w (View.ld h rowsHi) (ix2 k n) = actv h w (⟨512 + k.val, by have := k.isLt; omega⟩ : Fin 1024) n := by
  rw [pay18_at, p16_hi, p17_hi]; rfl
theorem p18_lo (k : Fin 512) (n : Fin 256) : k0_pay18 w (View.ld h rowsLo) (ix2 k n) = actv h w (⟨k.val, by have := k.isLt; omega⟩ : Fin 1024) n := by
  rw [pay18_at, p16_lo, p17_lo]; rfl
theorem p19_hi (k : Fin 512) (q : Fin 1024) : (k0_pay19 w v (View.ld h rowsHi) (View.ld a rowsHi) (ix2 k q) : EReal) =
    (a (ix2 (⟨512 + k.val, by have := k.isLt; omega⟩ : Fin 1024) q) : EReal) + down h w v (⟨512 + k.val, by have := k.isLt; omega⟩ : Fin 1024) q := by
  exact (pay19_at w v _ _ k q).trans (congrArg₂ (fun b c : EReal => b + c) (ldf_hi a k q) (Finset.sum_congr rfl fun n _ => congrArg (fun b : EReal => b * _) (p18_hi w h k n)))
theorem p19_lo (k : Fin 512) (q : Fin 1024) : (k0_pay19 w v (View.ld h rowsLo) (View.ld a rowsLo) (ix2 k q) : EReal) =
    (a (ix2 (⟨k.val, by have := k.isLt; omega⟩ : Fin 1024) q) : EReal) + down h w v (⟨k.val, by have := k.isLt; omega⟩ : Fin 1024) q := by
  exact (pay19_at w v _ _ k q).trans (congrArg₂ (fun b c : EReal => b + c) (ldf_lo a k q) (Finset.sum_congr rfl fun n _ => congrArg (fun b : EReal => b * _) (p18_lo w h k n)))

/-- The normalised input a point reads: its own at the first point of a run, else the scratch's. -/
abbrev xB (c : Dev nD) (t : Fin cfg0.N) : Vec Ideal S1024x1024 .f32 := iblk m c 0 t
abbrev gB (c : Dev nD) (t : Fin cfg0.N) : Vec Ideal S1x1024 .f32 := iblk m c 1 t
abbrev wB (c : Dev nD) (t : Fin cfg0.N) : Vec Ideal S2x256x1024 .bf16 := X0_2 m c t
abbrev vB (c : Dev nD) (t : Fin cfg0.N) : Vec Ideal S1x256x1024 .bf16 := iblk m c 3 t
abbrev hB (c : Dev nD) (t : Fin cfg0.N) : Vec Ideal S1024x1024 .bf16 := (outsAt0 m c t.val t.isLt).2.2.2.2.1

theorem hA (c : Dev nD) (t : Fin cfg0.N) (h : t.val % 11 = 0) : hB m c t = k0_pay9 (xB m c t) (gB m c t) := by
  funext j
  show (outsAt0 m c t.val t.isLt).2.2.2.2.1 j = _
  rw [outsAt0_A m c t h (by omega)]
  frame_out
theorem hS (c : Dev nD) (t : Fin cfg0.N) (h : ¬t.val % 11 = 0) : hB m c t = (outsAt0 m c (t.val - 1) (by have := t.isLt; omega)).2.2.2.2.1 := by
  funext j
  show (outsAt0 m c t.val t.isLt).2.2.2.2.1 j = _
  by_cases h1 : t.val % 11 = 10
  · rw [outsAt0_C m c t h h1]
    frame_out
    unfold sout0_C_0
    rfl
  · rw [outsAt0_B m c t h h1]
    frame_out
    unfold sout0_B_0
    rfl

/-- What a point stores as gate. -/
theorem gate_at (c : Dev nD) (t : Fin cfg0.N) (y : S1024x256.Idx) : ((outsAt0 m c t.val t.isLt).2.1 y : EReal) = gU (hB m c t) (wB m c t) 0 (y 0) (y 1) := by
  by_cases h : t.val % 11 = 0
  · rw [hA m c t h, outsAt0_A m c t h (by omega)]
    frame_open
    simp (disch := decide) only [↓ View.readCov_skip, ↓ View.readCov_cons_toLoadRect, ↓ View.readCov_fill]
    frame_out
    exact two_groups _ _ _ _ (p16_hi _ _) (p16_lo _ _) y
  · rw [hS m c t h]
    by_cases h1 : t.val % 11 = 10
    · rw [outsAt0_C m c t h h1]
      frame_out
      simp only [(Memref.isWhole_whole cc0_scratch0).read_unread]
      exact two_groups _ _ _ _ (p16_hi _ _) (p16_lo _ _) y
    · rw [outsAt0_B m c t h h1]
      frame_out
      simp only [(Memref.isWhole_whole cc0_scratch0).read_unread]
      exact two_groups _ _ _ _ (p16_hi _ _) (p16_lo _ _) y
/-- What a point stores as up. -/
theorem up_at (c : Dev nD) (t : Fin cfg0.N) (y : S1024x256.Idx) : ((outsAt0 m c t.val t.isLt).2.2.1 y : EReal) = gU (hB m c t) (wB m c t) 1 (y 0) (y 1) := by
  by_cases h : t.val % 11 = 0
  · rw [hA m c t h, outsAt0_A m c t h (by omega)]
    frame_open
    simp (disch := decide) only [↓ View.readCov_skip, ↓ View.readCov_cons_toLoadRect, ↓ View.readCov_fill]
    frame_out
    exact two_groups _ _ _ _ (p17_hi _ _) (p17_lo _ _) y
  · rw [hS m c t h]
    by_cases h1 : t.val % 11 = 10
    · rw [outsAt0_C m c t h h1]
      frame_out
      simp only [(Memref.isWhole_whole cc0_scratch0).read_unread]
      exact two_groups _ _ _ _ (p17_hi _ _) (p17_lo _ _) y
    · rw [outsAt0_B m c t h h1]
      frame_out
      simp only [(Memref.isWhole_whole cc0_scratch0).read_unread]
      exact two_groups _ _ _ _ (p17_hi _ _) (p17_lo _ _) y
/-- What a point stores as activation. -/
theorem act_at (c : Dev nD) (t : Fin cfg0.N) (y : S1024x256.Idx) : ((outsAt0 m c t.val t.isLt).2.2.2.1 y : EReal) = actv (hB m c t) (wB m c t) (y 0) (y 1) := by
  by_cases h : t.val % 11 = 0
  · rw [hA m c t h, outsAt0_A m c t h (by omega)]
    frame_open
    simp (disch := decide) only [↓ View.readCov_skip, ↓ View.readCov_cons_toLoadRect, ↓ View.readCov_fill]
    frame_out
    exact two_groups _ _ _ _ (p18_hi _ _) (p18_lo _ _) y
  · rw [hS m c t h]
    by_cases h1 : t.val % 11 = 10
    · rw [outsAt0_C m c t h h1]
      frame_out
      simp only [(Memref.isWhole_whole cc0_scratch0).read_unread]
      exact two_groups _ _ _ _ (p18_hi _ _) (p18_lo _ _) y
    · rw [outsAt0_B m c t h h1]
      frame_out
      simp only [(Memref.isWhole_whole cc0_scratch0).read_unread]
      exact two_groups _ _ _ _ (p18_hi _ _) (p18_lo _ _) y

theorem zero_at (p q : Fin 1024) : (k0_pay10 (F := Ideal) (ix2 p q) : EReal) = 0 := by
  pointwise [k0_pay10]

/-- The accumulator at the end of a run: the sum of what the run's points add. -/
theorem acc_at (c : Dev nD) (t : Fin cfg0.N) (h : t.val % 11 = 10) (j : S1024x1024.Idx) :
    ((outsAt0 m c t.val t.isLt).2.2.2.2.2 j : EReal) =
      0 + ∑ s : Fin 11, down (hB m c ⟨11 * (t.val / 11) + s.val, Pipeline.run_point_lt_of_flush t h s⟩) (wB m c ⟨11 * (t.val / 11) + s.val, Pipeline.run_point_lt_of_flush t h s⟩)
        (vB m c ⟨11 * (t.val / 11) + s.val, Pipeline.run_point_lt_of_flush t h s⟩) (j 0) (j 1) := by
  refine Pipeline.eq_sum_fin_of_reset_step_apply_of_flush (fun n h => (outsAt0 m c n h).2.2.2.2.2) 11 (fun _ => (0 : EReal))
    (fun t j => down (hB m c t) (wB m c t) (vB m c t) (j 0) (j 1)) (fun t h => ?_) (fun t h => ?_) t h j
  · rw [hA m c t h, outsAt0_A m c t h (by omega)]
    intro j
    obtain ⟨p, q, rfl⟩ := ix2_of j
    frame_open
    simp (disch := decide) only [↓ View.readCov_skip, ↓ View.readCov_cons_toLoadRect, ↓ View.readCov_fill]
    frame_out
    exact (two_groups _ _ _ (fun p q => ((k0_pay10 (F := Ideal) (ix2 p q) : EReal) + down (k0_pay9 (xB m c t) (gB m c t)) (wB m c t) (vB m c t) p q : EReal)) (p19_hi _ _ _ _) (p19_lo _ _ _ _) (ix2 p q)).trans
      (congrArg (fun b : EReal => b + down (k0_pay9 (xB m c t) (gB m c t)) (wB m c t) (vB m c t) p q) (zero_at p q))
  · rw [hS m c t h]
    by_cases h1 : t.val % 11 = 10
    · rw [outsAt0_C m c t h h1]
      intro j
      obtain ⟨p, q, rfl⟩ := ix2_of j
      frame_out
      simp only [(Memref.isWhole_whole cc0_scratch0).read_unread, (Memref.isWhole_whole cc0_scratch1).read_unread]
      exact two_groups _ _ _ (fun p q => (((outsAt0 m c (t.val - 1) (by have := t.isLt; omega)).2.2.2.2.2 (ix2 p q) : EReal)
        + down (outsAt0 m c (t.val - 1) (by have := t.isLt; omega)).2.2.2.2.1 (wB m c t) (vB m c t) p q : EReal)) (p19_hi _ _ _ _) (p19_lo _ _ _ _) (ix2 p q)
    · rw [outsAt0_B m c t h h1]
      intro j
      obtain ⟨p, q, rfl⟩ := ix2_of j
      frame_out
      simp only [(Memref.isWhole_whole cc0_scratch0).read_unread, (Memref.isWhole_whole cc0_scratch1).read_unread]
      exact two_groups _ _ _ (fun p q => (((outsAt0 m c (t.val - 1) (by have := t.isLt; omega)).2.2.2.2.2 (ix2 p q) : EReal)
        + down (outsAt0 m c (t.val - 1) (by have := t.isLt; omega)).2.2.2.2.1 (wB m c t) (vB m c t) p q : EReal)) (p19_hi _ _ _ _) (p19_lo _ _ _ _) (ix2 p q)

theorem pay8_at (x a : Vec Ideal S1024x1024 .f32) (p q : Fin 1024) :
    (k0_pay8 x a (ix2 p q) : EReal) = (x (ix2 p q) : EReal) + Ideal.ofBits .f32 0x3F000000#32 * a (ix2 p q) := by
  pointwise [k0_pay8]

/-- The accumulator read back whole after its two row groups are stored. -/
theorem read_groups {inb inb' inb''} (P Q : S512x1024.Idx → Elt Ideal .f32) (p q : Fin 1024) :
    (View.whole cc0_scratch1).readCov ([⟨Rect.unit (s := S1024x1024) ![512, 0] ![512, 1024] inb, P⟩, ⟨Rect.unit (s := S1024x1024) ![0, 0] ![512, 1024] inb', Q⟩] : List (View.Piece (Elt Ideal) S1024x1024 .f32))
      (Rect.unit (s := S1024x1024) ![0, 0] ![1024, 1024] inb'').toLoadRect (ix2 p q) =
    View.canon ([⟨Rect.unit (s := S1024x1024) ![512, 0] ![512, 1024] inb, P⟩, ⟨Rect.unit (s := S1024x1024) ![0, 0] ![512, 1024] inb', Q⟩] : List (View.Piece (Elt Ideal) S1024x1024 .f32)) (ix2 p q) := by
  have hc : ∀ y : S1024x1024.Idx, ∃ r ∈ ([⟨Rect.unit (s := S1024x1024) ![512, 0] ![512, 1024] inb, P⟩, ⟨Rect.unit (s := S1024x1024) ![0, 0] ![512, 1024] inb', Q⟩] : List (View.Piece (Elt Ideal) S1024x1024 .f32)), y ∈ r.1.set := by
    intro y
    obtain ⟨k, l, rfl⟩ := ix2_of y
    by_cases h : k.val < 512
    · refine ⟨_, List.mem_cons_of_mem _ List.mem_cons_self, ?_⟩
      have e : (ix2 k l : S1024x1024.Idx) = (Rect.unit (s := S1024x1024) ![0, 0] ![512, 1024] inb').emb (ix2 (⟨k.val, h⟩ : Fin 512) l) := (lo_emb ⟨k.val, h⟩ l).symm
      rw [e]
      exact LoadRect.idx_mem _ _
    · refine ⟨_, List.mem_cons_self, ?_⟩
      have e : (ix2 k l : S1024x1024.Idx) = (Rect.unit (s := S1024x1024) ![512, 0] ![512, 1024] inb).emb (ix2 (⟨k.val - 512, by have := k.isLt; omega⟩ : Fin 512) l) := by
        rw [hi_emb]
        exact congrArg (fun a => ix2 a l) (Fin.ext (by show k.val = 512 + (k.val - 512); omega))
      rw [e]
      exact LoadRect.idx_mem _ _
  rw [View.readCov_eq_canon_ld _ _ _ hc]
  refine congrArg (View.canon _) ?_
  funext a
  fin_cases a
  · exact Fin.ext (by show 0 + 1 * p.val = p.val; omega)
  · exact Fin.ext (by show 0 + 1 * q.val = q.val; omega)

/-- What the last point of a run stores as the block's output. -/
theorem xo_at (c : Dev nD) (t : Fin cfg0.N) (h : t.val % 11 = 10) (p q : Fin 1024) :
    ((outsAt0 m c t.val t.isLt).1 (ix2 p q) : EReal) = (xB m c t (ix2 p q) : EReal) + Ideal.ofBits .f32 0x3F000000#32 * (outsAt0 m c t.val t.isLt).2.2.2.2.2 (ix2 p q) := by
  rw [outsAt0_C m c t (by omega) h]
  frame_out
  refine (pay8_at _ _ _ _).trans ?_
  exact congrArg (fun b : EReal => (xB m c t (ix2 p q) : EReal) + Ideal.ofBits .f32 0x3F000000#32 * b) (read_groups _ _ p q)

end Cert.Kernel2Ideal.Ffn

end
-- ==== Proof.Ffn.ForwardOut.lean ====
/- The forward call of a feed-forward block: its results, entry by entry. -/
module

public import proofs.«01_k».proof.Proof.Ffn.Forward

@[expose] public section

set_option maxRecDepth 16384
set_option maxHeartbeats 400000

noncomputable section

namespace Cert.Kernel2Ideal.Ffn

open Idealize.ShloMosaic Idealize.ShloMosaic.TcCoe Idealize.ShloMosaic.Tactic Cert.Kernel2Ideal Cert.Kernel2Ideal.Gen

variable (m : (ℓ : Loc nD τ sig) → Buf (Elt Ideal) ℓ)

/-- The arrays the call is given: the block's input, its norm's scale, and its three weights. -/
abbrev aX (c : Dev nD) : Vec Ideal S4096x1024 .f32 := V m c main_arg0
abbrev aG (c : Dev nD) : Vec Ideal S1x1024 .f32 := V m c main_v9
abbrev aW (c : Dev nD) : Vec Ideal S3x2816x1024 .bf16 := V m c main_v8

theorem idx0 : ∀ t : Fin cfg0.N, win0_0.index t = ![t.val / 11, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, t.val % 11, 0] := (by decide +kernel : ∀ t : Fin grid0.N, _)
theorem idx3 : ∀ t : Fin cfg0.N, win0_3.index t = ![2, t.val % 11, 0] := (by decide +kernel : ∀ t : Fin grid0.N, _)
theorem idx4 : ∀ t : Fin cfg0.N, win0_4.index t = ![t.val / 11, 0] := (by decide +kernel : ∀ t : Fin grid0.N, _)
theorem idx5 : ∀ t : Fin cfg0.N, win0_5.index t = ![t.val / 11, t.val % 11] := (by decide +kernel : ∀ t : Fin grid0.N, _)
theorem idx6 : ∀ t : Fin cfg0.N, win0_6.index t = ![t.val / 11, t.val % 11] := (by decide +kernel : ∀ t : Fin grid0.N, _)
theorem idx7 : ∀ t : Fin cfg0.N, win0_7.index t = ![t.val / 11, t.val % 11] := (by decide +kernel : ∀ t : Fin grid0.N, _)

/-- Row `p` of the block of tokens at point `t`, -/
def tok (t : Fin cfg0.N) (p : Fin 1024) : Fin 4096 := ⟨1024 * (t.val / 11) + p.val, by have := lt_of_lt_of_eq t.isLt N_0; have := p.isLt; omega⟩
/-- and lane `n` of its block of the hidden width. -/
def lane (t : Fin cfg0.N) (n : Fin 256) : Fin 2816 := ⟨256 * (t.val % 11) + n.val, by have := n.isLt; omega⟩

theorem x_at (c : Dev nD) (t : Fin cfg0.N) (p : Fin 1024) (d : Fin 1024) : xB m c t (ix2 p d) = aX m c (ix2 (tok t p) d) := by
  unfold tok
  blk_ext [iblk, idx0 t]
theorem g_at (c : Dev nD) (t : Fin cfg0.N) (d : Fin 1024) : gB m c t (ix2 (0 : Fin 1) d) = aG m c (ix2 (0 : Fin 1) d) := by
  blk_ext [iblk, idx1 t]
theorem v_at (c : Dev nD) (t : Fin cfg0.N) (n : Fin 256) (q : Fin 1024) : vB m c t (ix3 (0 : Fin 1) n q) = aW m c (ix3 (2 : Fin 3) (lane t n) q) := by
  unfold lane
  blk_ext [iblk, idx3 t]
theorem w0_at (c : Dev nD) (t : Fin cfg0.N) (n : Fin 256) (d : Fin 1024) : wB m c t (ix3 (0 : Fin 2) n d) = aW m c (ix3 (0 : Fin 3) (lane t n) d) := by
  unfold lane
  unfold wB X0_2 Pipeline.Window.fill
  rw [dif_pos (moved0_2 t _)]
  blk_ext [iblk, idx2 t]
theorem w1_at (c : Dev nD) (t : Fin cfg0.N) (n : Fin 256) (d : Fin 1024) : wB m c t (ix3 (1 : Fin 2) n d) = aW m c (ix3 (1 : Fin 3) (lane t n) d) := by
  unfold lane
  unfold wB X0_2 Pipeline.Window.fill
  rw [dif_pos (moved0_2 t _)]
  blk_ext [iblk, idx2 t]

/-- The normalised input, -/
def hn (c : Dev nD) (r : Fin 4096) (d : Fin 1024) : EReal :=
  (aX m c (ix2 r d) : EReal) * Ideal.rsqrt (Ideal.div (∑ x : Fin 1024, (aX m c (ix2 r x) : EReal) * aX m c (ix2 r x)) (Ideal.ofBits .f32 0x44800000#32)
    + Ideal.ofBits .f32 0x358637BD#32) * aG m c (ix2 (0 : Fin 1) d)
/-- its product with weight `e`, -/
def pre (c : Dev nD) (e : Fin 3) (r : Fin 4096) (f : Fin 2816) : EReal := ∑ d : Fin 1024, hn m c r d * aW m c (ix3 e f d)
/-- the activation, -/
def hid (c : Dev nD) (r : Fin 4096) (f : Fin 2816) : EReal := pre m c 0 r f * Ideal.logistic (pre m c 0 r f) * pre m c 1 r f
/-- and the block's output. -/
def out (c : Dev nD) (r : Fin 4096) (q : Fin 1024) : EReal :=
  (aX m c (ix2 r q) : EReal) + Ideal.ofBits .f32 0x3F000000#32 * ∑ f : Fin 2816, hid m c r f * aW m c (ix3 (2 : Fin 3) f q)

theorem pay9_at (c : Dev nD) (t : Fin cfg0.N) (p d : Fin 1024) : (k0_pay9 (xB m c t) (gB m c t) (ix2 p d) : EReal) = hn m c (tok t p) d := by
  have e : (k0_pay9 (xB m c t) (gB m c t) (ix2 p d) : EReal) = (xB m c t (ix2 p d) : EReal) * Ideal.rsqrt (Ideal.div (∑ x : Fin 1024, (xB m c t (ix2 p x) : EReal) * xB m c t (ix2 p x)) (Ideal.ofBits .f32 0x44800000#32)
    + Ideal.ofBits .f32 0x358637BD#32) * gB m c t (ix2 (0 : Fin 1) d) := by
    generalize xB m c t = X
    generalize gB m c t = G
    pointwise [k0_pay9]
  rw [e]
  unfold hn
  simp only [x_at, g_at]

/-- The scratch holds the normalised input of the block of tokens, at every point of a run. -/
theorem h_at (c : Dev nD) (t : Fin cfg0.N) (p d : Fin 1024) : (hB m c t (ix2 p d) : EReal) = hn m c (tok t p) d := by
  have := Pipeline.eq_of_write_hold_apply (fun n hn => (outsAt0 m c n hn).2.2.2.2.1) 11 (fun t => k0_pay9 (xB m c t) (gB m c t))
    (fun t h i => congrFun (hA m c t h) i) (fun t h i => congrFun (hS m c t h) i) t (ix2 p d)
  refine (Eq.trans this (pay9_at m c _ p d)).trans ?_
  exact congrArg (fun r => hn m c r d) (Fin.ext (by show 1024 * (11 * (t.val / 11) / 11) + p.val = 1024 * (t.val / 11) + p.val; omega))

theorem g0_at (c : Dev nD) (t : Fin cfg0.N) (p : Fin 1024) (n : Fin 256) : gU (hB m c t) (wB m c t) 0 p n = pre m c 0 (tok t p) (lane t n) := by
  unfold gU pre
  exact Finset.sum_congr rfl fun d _ => congrArg₂ (fun a b : EReal => a * b) (h_at m c t p d) (w0_at m c t n d)
theorem g1_at (c : Dev nD) (t : Fin cfg0.N) (p : Fin 1024) (n : Fin 256) : gU (hB m c t) (wB m c t) 1 p n = pre m c 1 (tok t p) (lane t n) := by
  unfold gU pre
  exact Finset.sum_congr rfl fun d _ => congrArg₂ (fun a b : EReal => a * b) (h_at m c t p d) (w1_at m c t n d)
theorem actv_at (c : Dev nD) (t : Fin cfg0.N) (p : Fin 1024) (n : Fin 256) : actv (hB m c t) (wB m c t) p n = hid m c (tok t p) (lane t n) := by
  unfold actv hid
  rw [g0_at, g1_at]
theorem down_at (c : Dev nD) (t : Fin cfg0.N) (p q : Fin 1024) : down (hB m c t) (wB m c t) (vB m c t) p q =
    ∑ n : Fin 256, hid m c (tok t p) (lane t n) * aW m c (ix3 (2 : Fin 3) (lane t n) q) := by
  unfold down
  exact Finset.sum_congr rfl fun n _ => congrArg₂ (fun a b : EReal => a * b) (actv_at m c t p n) (v_at m c t n q)

/-- The eleven points of a run cover the hidden width. -/
theorem run_sum (c : Dev nD) (t : Fin cfg0.N) (h : t.val % 11 = 10) (p q : Fin 1024) :
    (0 : EReal) + ∑ s : Fin 11, down (hB m c ⟨11 * (t.val / 11) + s.val, Pipeline.run_point_lt_of_flush t h s⟩) (wB m c ⟨11 * (t.val / 11) + s.val, Pipeline.run_point_lt_of_flush t h s⟩)
        (vB m c ⟨11 * (t.val / 11) + s.val, Pipeline.run_point_lt_of_flush t h s⟩) p q
      = ∑ f : Fin 2816, hid m c (tok t p) f * aW m c (ix3 (2 : Fin 3) f q) := by
  rw [zero_add, Fin.sum_univ_tiles 11 256 rfl]
  refine Finset.sum_congr rfl fun s _ => (down_at m c _ p q).trans (Finset.sum_congr rfl fun k _ => ?_)
  have e1 : lane ⟨11 * (t.val / 11) + s.val, Pipeline.run_point_lt_of_flush t h s⟩ k = ⟨s.val * 256 + k.val, by have := s.isLt; have := k.isLt; omega⟩ :=
    Fin.ext (by show 256 * ((11 * (t.val / 11) + s.val) % 11) + k.val = s.val * 256 + k.val; have := s.isLt; omega)
  have e2 : tok ⟨11 * (t.val / 11) + s.val, Pipeline.run_point_lt_of_flush t h s⟩ p = tok t p :=
    Fin.ext (by show 1024 * ((11 * (t.val / 11) + s.val) / 11) + p.val = 1024 * (t.val / 11) + p.val; have := s.isLt; omega)
  rw [e1, e2]

theorem at4 (c : Dev nD) (t : Fin cfg0.N) (h : t.val % 11 = 10) (p q : Fin 1024) :
    ((outsAt0 m c t.val t.isLt).1 (ix2 p q) : EReal) = out m c (tok t p) q := by
  refine (xo_at m c t h p q).trans ?_
  unfold out
  rw [x_at]
  exact congrArg (fun b : EReal => _ + Ideal.ofBits .f32 0x3F000000#32 * b) ((acc_at m c t h (ix2 p q)).trans (run_sum m c t h p q))

/-- The first result: the block's output. -/
theorem result4 (c : Dev nD) : Value.G4 m c = fun i : S4096x1024.Idx => out m c (i 0) (i 1) := by
  refine (Value.final4 m c).symm.trans ((dats m 0 c).arrAt_eq_of_covers 4 _ (by decide +kernel) fun t hf y => ?_)
  have h : t.val % 11 = 10 := (flush0_4 t).mp hf
  blk_simp
  rw [after0_4]
  obtain ⟨p, q, rfl⟩ : ∃ (p : Fin 1024) (q : Fin 1024), y = ix2 p q := ix2_of y
  have e0 : (win0_4.blk t).view.emb (ix2 p q) 0 = tok t p := by
    apply Fin.ext; blk_simp [idx4 t]; unfold tok; dsimp only; omega
  have e1 : (win0_4.blk t).view.emb (ix2 p q) 1 = q := by
    apply Fin.ext; blk_simp [idx4 t]
  rw [e0, e1]
  exact at4 m c t h p q

theorem at5 (c : Dev nD) (t : Fin cfg0.N) (p : Fin 1024) (n : Fin 256) :
    ((outsAt0 m c t.val t.isLt).2.1 (ix2 p n) : EReal) = pre m c 0 (tok t p) (lane t n) :=
  (gate_at m c t (ix2 p n)).trans (g0_at m c t p n)

theorem result5 (c : Dev nD) : Value.G5 m c = fun i : S4096x2816.Idx => pre m c 0 (i 0) (i 1) := by
  refine (Value.final5 m c).symm.trans ((dats m 0 c).arrAt_eq_of_covers 5 _ (by decide +kernel) fun t hf y => ?_)
  blk_simp
  rw [after0_5]
  obtain ⟨p, q, rfl⟩ : ∃ (p : Fin 1024) (q : Fin 256), y = ix2 p q := ix2_of y
  have e0 : (win0_5.blk t).view.emb (ix2 p q) 0 = tok t p := by
    apply Fin.ext; blk_simp [idx5 t]; unfold tok; dsimp only; omega
  have e1 : (win0_5.blk t).view.emb (ix2 p q) 1 = lane t q := by
    apply Fin.ext; blk_simp [idx5 t]; unfold lane; dsimp only; omega
  rw [e0, e1]
  exact at5 m c t p q

theorem at6 (c : Dev nD) (t : Fin cfg0.N) (p : Fin 1024) (n : Fin 256) :
    ((outsAt0 m c t.val t.isLt).2.2.1 (ix2 p n) : EReal) = pre m c 1 (tok t p) (lane t n) :=
  (up_at m c t (ix2 p n)).trans (g1_at m c t p n)

theorem result6 (c : Dev nD) : Value.G6 m c = fun i : S4096x2816.Idx => pre m c 1 (i 0) (i 1) := by
  refine (Value.final6 m c).symm.trans ((dats m 0 c).arrAt_eq_of_covers 6 _ (by decide +kernel) fun t hf y => ?_)
  blk_simp
  rw [after0_6]
  obtain ⟨p, q, rfl⟩ : ∃ (p : Fin 1024) (q : Fin 256), y = ix2 p q := ix2_of y
  have e0 : (win0_6.blk t).view.emb (ix2 p q) 0 = tok t p := by
    apply Fin.ext; blk_simp [idx6 t]; unfold tok; dsimp only; omega
  have e1 : (win0_6.blk t).view.emb (ix2 p q) 1 = lane t q := by
    apply Fin.ext; blk_simp [idx6 t]; unfold lane; dsimp only; omega
  rw [e0, e1]
  exact at6 m c t p q

theorem at7 (c : Dev nD) (t : Fin cfg0.N) (p : Fin 1024) (n : Fin 256) :
    ((outsAt0 m c t.val t.isLt).2.2.2.1 (ix2 p n) : EReal) = hid m c (tok t p) (lane t n) :=
  (act_at m c t (ix2 p n)).trans (actv_at m c t p n)

theorem result7 (c : Dev nD) : Value.G7 m c = fun i : S4096x2816.Idx => hid m c (i 0) (i 1) := by
  refine (Value.final7 m c).symm.trans ((dats m 0 c).arrAt_eq_of_covers 7 _ (by decide +kernel) fun t hf y => ?_)
  blk_simp
  rw [after0_7]
  obtain ⟨p, q, rfl⟩ : ∃ (p : Fin 1024) (q : Fin 256), y = ix2 p q := ix2_of y
  have e0 : (win0_7.blk t).view.emb (ix2 p q) 0 = tok t p := by
    apply Fin.ext; blk_simp [idx7 t]; unfold tok; dsimp only; omega
  have e1 : (win0_7.blk t).view.emb (ix2 p q) 1 = lane t q := by
    apply Fin.ext; blk_simp [idx7 t]; unfold lane; dsimp only; omega
  rw [e0, e1]
  exact at7 m c t p q

end Cert.Kernel2Ideal.Ffn

end
-- ==== Proof.Ffn.ForwardClaim.lean ====
/- The two programs compute one forward pass of a feed-forward block. -/
module

public import proofs.«01_k».proof.Proof.Ffn.ForwardOut
public import proofs.«01_k».proof.Proof.Gen.Reference2Ideal.Run

@[expose] public section

set_option maxRecDepth 16384
set_option maxHeartbeats 400000

noncomputable section

namespace Cert.Kernel2Ideal.Ffn

open Idealize.ShloMosaic Idealize.ShloMosaic.TcCoe Idealize.ShloMosaic.Tactic Cert.Kernel2Ideal Cert.Kernel2Ideal.Gen
open Idealize.ShloMosaic.StableHlo Idealize.SL Idealize.SL.Sem

variable (m : (ℓ : Loc nD τ sig) → Buf (Elt Ideal) ℓ)
variable (m' : (ℓ : Loc Cert.Reference2Ideal.nD Cert.Reference2Ideal.τ Cert.Reference2Ideal.sig) → Buf (Elt Ideal) ℓ)

/-- The call's arrays, from the program's arguments. -/
theorem aX_eq (c : Dev nD) : aX m c = m ((c : Thread nD τ).loc main_arg0) := V_main_arg0 m c
theorem aG_at (c : Dev nD) (d : Fin 1024) : (aG m c (ix2 (0 : Fin 1) d) : EReal) = (m ((c : Thread nD τ).loc main_arg1) : Vec Ideal S1024 .f32) (ix1 d) := by
  show (V m c main_v9 : Vec Ideal S1x1024 .f32) (ix2 (0 : Fin 1) d) = _
  simp only [V, hostOps0, List.flatten_cons, List.flatten_nil, List.append_nil, List.cons_append, List.nil_append, TRef.binary, TRef.nullary, TRef.unary, TRef.toBuf, TRef.ofBuf, cast_eq]
  after_results_simp
  pointwise
theorem aW0_at (c : Dev nD) (f : Fin 2816) (d : Fin 1024) : (aW m c (ix3 (0 : Fin 3) f d) : EReal) = (m ((c : Thread nD τ).loc main_arg2) : Vec Ideal S1024x2816 .f32) (ix2 d f) := by
  show (V m c main_v8 : Vec Ideal S3x2816x1024 .bf16) (ix3 (0 : Fin 3) f d) = _
  simp only [V, hostOps0, List.flatten_cons, List.flatten_nil, List.append_nil, List.cons_append, List.nil_append, TRef.binary, TRef.nullary, TRef.unary, TRef.toBuf, TRef.ofBuf, cast_eq]
  after_results_simp
  pointwise
  after_results_simp
  pointwise
theorem aW1_at (c : Dev nD) (f : Fin 2816) (d : Fin 1024) : (aW m c (ix3 (1 : Fin 3) f d) : EReal) = (m ((c : Thread nD τ).loc main_arg3) : Vec Ideal S1024x2816 .f32) (ix2 d f) := by
  show (V m c main_v8 : Vec Ideal S3x2816x1024 .bf16) (ix3 (1 : Fin 3) f d) = _
  simp only [V, hostOps0, List.flatten_cons, List.flatten_nil, List.append_nil, List.cons_append, List.nil_append, TRef.binary, TRef.nullary, TRef.unary, TRef.toBuf, TRef.ofBuf, cast_eq]
  after_results_simp
  pointwise
  after_results_simp
  pointwise
theorem aW2_at (c : Dev nD) (f : Fin 2816) (d : Fin 1024) : (aW m c (ix3 (2 : Fin 3) f d) : EReal) = (m ((c : Thread nD τ).loc main_arg4) : Vec Ideal S2816x1024 .f32) (ix2 f d) := by
  show (V m c main_v8 : Vec Ideal S3x2816x1024 .bf16) (ix3 (2 : Fin 3) f d) = _
  simp only [V, hostOps0, List.flatten_cons, List.flatten_nil, List.append_nil, List.cons_append, List.nil_append, TRef.binary, TRef.nullary, TRef.unary, TRef.toBuf, TRef.ofBuf, cast_eq]
  after_results_simp
  pointwise
  after_results_simp
  pointwise

/-- The same functions of the program's arguments: the normalised input, -/
def fN (X : Vec Ideal S4096x1024 .f32) (G : Vec Ideal S1024 .f32) (r : Fin 4096) (d : Fin 1024) : EReal :=
  (X (ix2 r d) : EReal) * Ideal.rsqrt (Ideal.div (∑ x : Fin 1024, (X (ix2 r x) : EReal) * X (ix2 r x)) (Ideal.ofBits .f32 0x44800000#32)
    + Ideal.ofBits .f32 0x358637BD#32) * G (ix1 d)
/-- a projection of it, -/
def fP (X : Vec Ideal S4096x1024 .f32) (G : Vec Ideal S1024 .f32) (W : Vec Ideal S1024x2816 .f32) (r : Fin 4096) (f : Fin 2816) : EReal :=
  ∑ d : Fin 1024, fN X G r d * W (ix2 d f)
/-- and the activation. -/
def fH (X : Vec Ideal S4096x1024 .f32) (G : Vec Ideal S1024 .f32) (W W' : Vec Ideal S1024x2816 .f32) (r : Fin 4096) (f : Fin 2816) : EReal :=
  fP X G W r f * Ideal.logistic (fP X G W r f) * fP X G W' r f

theorem hn_eq (c : Dev nD) (r : Fin 4096) (d : Fin 1024) : hn m c r d = fN (m ((c : Thread nD τ).loc main_arg0)) (m ((c : Thread nD τ).loc main_arg1)) r d := by
  unfold hn fN
  rw [aG_at, aX_eq]
theorem pre0_eq (c : Dev nD) (r : Fin 4096) (f : Fin 2816) :
    pre m c 0 r f = fP (m ((c : Thread nD τ).loc main_arg0)) (m ((c : Thread nD τ).loc main_arg1)) (m ((c : Thread nD τ).loc main_arg2)) r f :=
  Finset.sum_congr rfl fun d _ => congrArg₂ (fun a b : EReal => a * b) (hn_eq m c r d) (aW0_at m c f d)
theorem pre1_eq (c : Dev nD) (r : Fin 4096) (f : Fin 2816) :
    pre m c 1 r f = fP (m ((c : Thread nD τ).loc main_arg0)) (m ((c : Thread nD τ).loc main_arg1)) (m ((c : Thread nD τ).loc main_arg3)) r f :=
  Finset.sum_congr rfl fun d _ => congrArg₂ (fun a b : EReal => a * b) (hn_eq m c r d) (aW1_at m c f d)
theorem hid_eq (c : Dev nD) (r : Fin 4096) (f : Fin 2816) :
    hid m c r f = fH (m ((c : Thread nD τ).loc main_arg0)) (m ((c : Thread nD τ).loc main_arg1)) (m ((c : Thread nD τ).loc main_arg2)) (m ((c : Thread nD τ).loc main_arg3)) r f := by
  unfold hid fH
  rw [pre0_eq, pre1_eq]
abbrev arg0 (c : Dev nD) : Vec Ideal S4096x1024 .f32 := m ((c : Thread nD τ).loc main_arg0)
abbrev arg4 (c : Dev nD) : Vec Ideal S2816x1024 .f32 := m ((c : Thread nD τ).loc main_arg4)
theorem out_eq (c : Dev nD) (r : Fin 4096) (q : Fin 1024) :
    out m c r q = (arg0 m c (ix2 r q) : EReal) + Ideal.ofBits .f32 0x3F000000#32
      * ∑ f : Fin 2816, fH (m ((c : Thread nD τ).loc main_arg0)) (m ((c : Thread nD τ).loc main_arg1)) (m ((c : Thread nD τ).loc main_arg2)) (m ((c : Thread nD τ).loc main_arg3)) r f
        * (arg4 m c (ix2 f q) : EReal) := by
  unfold out
  rw [aX_eq]
  exact congrArg (fun b : EReal => (arg0 m c (ix2 r q) : EReal) + Ideal.ofBits .f32 0x3F000000#32 * b) (Finset.sum_congr rfl fun f _ => congrArg₂ (fun a b : EReal => a * b) (hid_eq m c r f) (aW2_at m c f q))

/-- From arguments equal to the kernel's, the reference's four results are the kernel's. -/
theorem reference_run (ρ' : Dev Cert.Reference2Ideal.nD → PrngReg)
    (h : ∀ c : Dev nD,
      m' ((c.tc : Thread Cert.Reference2Ideal.nD Cert.Reference2Ideal.τ).loc Cert.Reference2Ideal.main_arg0) = m ((c : Thread nD τ).loc main_arg0)
      ∧ m' ((c.tc : Thread Cert.Reference2Ideal.nD Cert.Reference2Ideal.τ).loc Cert.Reference2Ideal.main_arg1) = m ((c : Thread nD τ).loc main_arg1)
      ∧ m' ((c.tc : Thread Cert.Reference2Ideal.nD Cert.Reference2Ideal.τ).loc Cert.Reference2Ideal.main_arg2) = m ((c : Thread nD τ).loc main_arg2)
      ∧ m' ((c.tc : Thread Cert.Reference2Ideal.nD Cert.Reference2Ideal.τ).loc Cert.Reference2Ideal.main_arg3) = m ((c : Thread nD τ).loc main_arg3)
      ∧ m' ((c.tc : Thread Cert.Reference2Ideal.nD Cert.Reference2Ideal.τ).loc Cert.Reference2Ideal.main_arg4) = m ((c : Thread nD τ).loc main_arg4)) :
    θ_run (Cert.Reference2Ideal.defs (F := Ideal)) (onTc (τ := Cert.Reference2Ideal.τ) (Cert.Reference2Ideal.main (F := Ideal))) ⟨m', fun _ => 0, ρ'⟩ (fun r => ∀ c : Dev Cert.Reference2Ideal.nD,
      r.2.mem ((c.tc : Thread Cert.Reference2Ideal.nD Cert.Reference2Ideal.τ).loc Cert.Reference2Ideal.main_v35) = Value.G4 m c
      ∧ r.2.mem ((c.tc : Thread Cert.Reference2Ideal.nD Cert.Reference2Ideal.τ).loc Cert.Reference2Ideal.main_v36) = Value.G5 m c
      ∧ r.2.mem ((c.tc : Thread Cert.Reference2Ideal.nD Cert.Reference2Ideal.τ).loc Cert.Reference2Ideal.main_v37) = Value.G6 m c
      ∧ r.2.mem ((c.tc : Thread Cert.Reference2Ideal.nD Cert.Reference2Ideal.τ).loc Cert.Reference2Ideal.main_v40) = Value.G7 m c) := by
  refine (θ_run Cert.Reference2Ideal.defs _ _).mono (fun r hq c => ⟨(hq c).1.trans ?_, (hq c).2.1.trans ?_, (hq c).2.2.1.trans ?_, (hq c).2.2.2.1.trans ?_⟩) (Cert.Reference2Ideal.Value.run m' ρ')
  · clear hq; rw [result4]
    obtain ⟨h0, h1, h2, h3, h4⟩ := h c
    funext i
    obtain ⟨p, q, rfl⟩ : ∃ (p : Fin 4096) (q : Fin 1024), i = ix2 p q := ix2_of i
    show _ = out m c p q
    rw [out_eq, h0, h1, h2, h3, h4]
    pointwise
    rfl
  · clear hq; rw [result5]
    obtain ⟨h0, h1, h2, h3, h4⟩ := h c
    funext i
    obtain ⟨p, q, rfl⟩ : ∃ (p : Fin 4096) (q : Fin 2816), i = ix2 p q := ix2_of i
    show _ = pre m c 0 p q
    rw [pre0_eq, h0, h1, h2]
    pointwise
    rfl
  · clear hq; rw [result6]
    obtain ⟨h0, h1, h2, h3, h4⟩ := h c
    funext i
    obtain ⟨p, q, rfl⟩ : ∃ (p : Fin 4096) (q : Fin 2816), i = ix2 p q := ix2_of i
    show _ = pre m c 1 p q
    rw [pre1_eq, h0, h1, h3]
    pointwise
    rfl
  · clear hq; rw [result7]
    obtain ⟨h0, h1, h2, h3, h4⟩ := h c
    funext i
    obtain ⟨p, q, rfl⟩ : ∃ (p : Fin 4096) (q : Fin 2816), i = ix2 p q := ix2_of i
    show _ = hid m c p q
    rw [hid_eq, h0, h1, h2, h3]
    pointwise
    rfl

end Cert.Kernel2Ideal.Ffn

end
-- ==== Proof.Ffn.Grads.lean ====
/- The call that computes the gradients of a feed-forward block's three weights: what its accumulators hold. -/
module

public import proofs.«01_k».proof.Proof.Gen.Kernel3Ideal.Value
public import Idealize.ShloMosaic.Lib.Pipeline.ValueKit

@[expose] public section

set_option maxRecDepth 16384
set_option maxHeartbeats 1000000

noncomputable section

namespace Cert.Kernel3Ideal.Ffn

open Idealize.ShloMosaic Idealize.ShloMosaic.TcCoe Idealize.ShloMosaic.Tactic Cert.Kernel3Ideal Cert.Kernel3Ideal.Gen

variable (m : (ℓ : Loc nD τ sig) → Buf (Elt Ideal) ℓ)

theorem ix2_of {a b : ℕ} (j : (⟨2, ![a, b]⟩ : Shape).Idx) : ∃ (p : Fin a) (q : Fin b), j = ix2 p q :=
  ⟨j 0, j 1, by funext x; fin_cases x <;> rfl⟩

/-- The blocks a point reads: 512 rows of the three tall arrays, half of their columns, -/
abbrev tall0 (c : Dev nD) (t : Fin cfg0.N) : Vec Ideal S512x1408 .bf16 := iblk m c 0 t
abbrev tall1 (c : Dev nD) (t : Fin cfg0.N) : Vec Ideal S512x1408 .bf16 := iblk m c 1 t
abbrev tall2 (c : Dev nD) (t : Fin cfg0.N) : Vec Ideal S512x1408 .bf16 := iblk m c 2 t
/-- and the same rows of the block's normalised input and of its output's gradient. -/
abbrev rows3 (c : Dev nD) (t : Fin cfg0.N) : Vec Ideal S512x1024 .bf16 := iblk m c 3 t
abbrev rows4 (c : Dev nD) (t : Fin cfg0.N) : Vec Ideal S512x1024 .bf16 := iblk m c 4 t

/-- One point's product: a tall block, transposed, with a block of rows. -/
def prod (a : Vec Ideal S512x1408 .bf16) (b : Vec Ideal S512x1024 .bf16) (j : S1408x1024.Idx) : EReal :=
  ∑ k : Fin 512, (a (ix2 k (j 0)) : EReal) * b (ix2 k (j 1))

theorem add_g (b : Vec Ideal S512x1024 .bf16) (x : Vec Ideal S1408x1024 .f32) (a : Vec Ideal S512x1408 .bf16) (j : S1408x1024.Idx) :
    k0_pay9 b x a j = (x j : EReal) + prod a b j := by
  obtain ⟨p, q, rfl⟩ := ix2_of j
  pointwise [k0_pay9, k0_pay8, prod]

theorem add_u (b : Vec Ideal S512x1024 .bf16) (x : Vec Ideal S1408x1024 .f32) (a : Vec Ideal S512x1408 .bf16) (j : S1408x1024.Idx) :
    k0_pay10 b x a j = (x j : EReal) + prod a b j := by
  obtain ⟨p, q, rfl⟩ := ix2_of j
  pointwise [k0_pay10, k0_pay8, prod]

theorem add_d (b : Vec Ideal S512x1024 .bf16) (x : Vec Ideal S1408x1024 .f32) (a : Vec Ideal S512x1408 .bf16) (j : S1408x1024.Idx) :
    k0_pay1 (k0_pay11 x a b) j = (x j : EReal) + prod a b j := by
  obtain ⟨p, q, rfl⟩ := ix2_of j
  pointwise [k0_pay1, k0_pay11, prod]

theorem zero_g (j : S1408x1024.Idx) : k0_pay5 (F := Ideal) j = (0 : EReal) := by
  obtain ⟨p, q, rfl⟩ := ix2_of j
  pointwise [k0_pay5]
theorem zero_u (j : S1408x1024.Idx) : k0_pay6 (F := Ideal) j = (0 : EReal) := by
  obtain ⟨p, q, rfl⟩ := ix2_of j
  pointwise [k0_pay6]
theorem zero_d (j : S1408x1024.Idx) : k0_pay7 (F := Ideal) j = (0 : EReal) := by
  obtain ⟨p, q, rfl⟩ := ix2_of j
  pointwise [k0_pay7]

/-- Accumulator 0 at the end of a run over the tokens: the sum of the run's products. -/
theorem acc0 (c : Dev nD) (t : Fin cfg0.N) (h : t.val % 8 = 7) (j : S1408x1024.Idx) :
    ((outsAt0 m c t.val t.isLt).2.2.2.1 j : EReal) =
      0 + ∑ s : Fin 8, prod (tall0 m c ⟨8 * (t.val / 8) + s.val, Pipeline.run_point_lt_of_flush t h s⟩) (rows3 m c ⟨8 * (t.val / 8) + s.val, Pipeline.run_point_lt_of_flush t h s⟩) j := by
  refine Pipeline.eq_sum_fin_of_reset_step_apply_of_flush (fun n h => (outsAt0 m c n h).2.2.2.1) 8 (fun _ => (0 : EReal))
    (fun t j => prod (tall0 m c t) (rows3 m c t) j) (fun t h => ?_) (fun t h => ?_) t h j
  · rw [outsAt0_A m c t h (by omega)]
    intro j
    frame_out
    exact (add_g _ _ _ j).trans (congrArg (· + _) (zero_g j))
  · by_cases h7 : t.val % 8 = 7
    · rw [outsAt0_C m c t h h7]
      intro j
      frame_out
      exact (add_g _ _ _ j).trans (congrArg (· + _) (congrFun ((Memref.isWhole_whole cc0_scratch0).read_unread _) j))
    · rw [outsAt0_B m c t h h7]
      intro j
      frame_out
      exact (add_g _ _ _ j).trans (congrArg (· + _) (congrFun ((Memref.isWhole_whole cc0_scratch0).read_unread _) j))

/-- The last point of a run stores that accumulator. -/
theorem out0 (c : Dev nD) (t : Fin cfg0.N) (h : t.val % 8 = 7) (j : S1408x1024.Idx) :
    ((outsAt0 m c t.val t.isLt).1 j : EReal) = (outsAt0 m c t.val t.isLt).2.2.2.1 j := by
  rw [outsAt0_C m c t (by omega) h]
  frame_out
  pointwise [k0_pay2]

/-- Accumulator 1 at the end of a run over the tokens: the sum of the run's products. -/
theorem acc1 (c : Dev nD) (t : Fin cfg0.N) (h : t.val % 8 = 7) (j : S1408x1024.Idx) :
    ((outsAt0 m c t.val t.isLt).2.2.2.2.1 j : EReal) =
      0 + ∑ s : Fin 8, prod (tall1 m c ⟨8 * (t.val / 8) + s.val, Pipeline.run_point_lt_of_flush t h s⟩) (rows3 m c ⟨8 * (t.val / 8) + s.val, Pipeline.run_point_lt_of_flush t h s⟩) j := by
  refine Pipeline.eq_sum_fin_of_reset_step_apply_of_flush (fun n h => (outsAt0 m c n h).2.2.2.2.1) 8 (fun _ => (0 : EReal))
    (fun t j => prod (tall1 m c t) (rows3 m c t) j) (fun t h => ?_) (fun t h => ?_) t h j
  · rw [outsAt0_A m c t h (by omega)]
    intro j
    frame_out
    exact (add_u _ _ _ j).trans (congrArg (· + _) (zero_u j))
  · by_cases h7 : t.val % 8 = 7
    · rw [outsAt0_C m c t h h7]
      intro j
      frame_out
      exact (add_u _ _ _ j).trans (congrArg (· + _) (congrFun ((Memref.isWhole_whole cc0_scratch1).read_unread _) j))
    · rw [outsAt0_B m c t h h7]
      intro j
      frame_out
      exact (add_u _ _ _ j).trans (congrArg (· + _) (congrFun ((Memref.isWhole_whole cc0_scratch1).read_unread _) j))

/-- The last point of a run stores that accumulator. -/
theorem out1 (c : Dev nD) (t : Fin cfg0.N) (h : t.val % 8 = 7) (j : S1408x1024.Idx) :
    ((outsAt0 m c t.val t.isLt).2.1 j : EReal) = (outsAt0 m c t.val t.isLt).2.2.2.2.1 j := by
  rw [outsAt0_C m c t (by omega) h]
  frame_out
  pointwise [k0_pay3]

/-- Accumulator 2 at the end of a run over the tokens: the sum of the run's products. -/
theorem acc2 (c : Dev nD) (t : Fin cfg0.N) (h : t.val % 8 = 7) (j : S1408x1024.Idx) :
    ((outsAt0 m c t.val t.isLt).2.2.2.2.2 j : EReal) =
      0 + ∑ s : Fin 8, prod (tall2 m c ⟨8 * (t.val / 8) + s.val, Pipeline.run_point_lt_of_flush t h s⟩) (rows4 m c ⟨8 * (t.val / 8) + s.val, Pipeline.run_point_lt_of_flush t h s⟩) j := by
  refine Pipeline.eq_sum_fin_of_reset_step_apply_of_flush (fun n h => (outsAt0 m c n h).2.2.2.2.2) 8 (fun _ => (0 : EReal))
    (fun t j => prod (tall2 m c t) (rows4 m c t) j) (fun t h => ?_) (fun t h => ?_) t h j
  · rw [outsAt0_A m c t h (by omega)]
    intro j
    frame_out
    exact (add_d _ _ _ j).trans (congrArg (· + _) (zero_d j))
  · by_cases h7 : t.val % 8 = 7
    · rw [outsAt0_C m c t h h7]
      intro j
      frame_out
      exact (add_d _ _ _ j).trans (congrArg (· + _) (congrFun ((Memref.isWhole_whole cc0_scratch2).read_unread _) j))
    · rw [outsAt0_B m c t h h7]
      intro j
      frame_out
      exact (add_d _ _ _ j).trans (congrArg (· + _) (congrFun ((Memref.isWhole_whole cc0_scratch2).read_unread _) j))

/-- The last point of a run stores that accumulator. -/
theorem out2 (c : Dev nD) (t : Fin cfg0.N) (h : t.val % 8 = 7) (j : S1408x1024.Idx) :
    ((outsAt0 m c t.val t.isLt).2.2.1 j : EReal) = (outsAt0 m c t.val t.isLt).2.2.2.2.2 j := by
  rw [outsAt0_C m c t (by omega) h]
  frame_out
  pointwise [k0_pay4]

end Cert.Kernel3Ideal.Ffn

end
-- ==== Proof.Ffn.GradsOut.lean ====
/- The call that computes the gradients of a feed-forward block's three weights: its results, entry by entry. -/
module

public import proofs.«01_k».proof.Proof.Ffn.Grads

@[expose] public section

set_option maxRecDepth 16384
set_option maxHeartbeats 400000

noncomputable section

namespace Cert.Kernel3Ideal.Ffn

open Idealize.ShloMosaic Idealize.ShloMosaic.TcCoe Idealize.ShloMosaic.Tactic Cert.Kernel3Ideal Cert.Kernel3Ideal.Gen

variable (m : (ℓ : Loc nD τ sig) → Buf (Elt Ideal) ℓ)

/-- The five arrays the call is given: the gradients of the gates and of the up-projections, the activations, -/
abbrev aG (c : Dev nD) : Vec Ideal S4096x2816 .bf16 := V m c main_v24
abbrev aU (c : Dev nD) : Vec Ideal S4096x2816 .bf16 := V m c main_v25
abbrev aA (c : Dev nD) : Vec Ideal S4096x2816 .bf16 := V m c main_v26
/-- the normalised input and the output's gradient. -/
abbrev aH (c : Dev nD) : Vec Ideal S4096x1024 .bf16 := V m c main_v27
abbrev aY (c : Dev nD) : Vec Ideal S4096x1024 .bf16 := V m c main_v28

/-! The block of each window at a grid point. -/
theorem idx0 : ∀ t : Fin cfg0.N, win0_0.index t = ![t.val % 8, t.val / 8] := (by decide +kernel : ∀ t : Fin grid0.N, _)
theorem idx1 : ∀ t : Fin cfg0.N, win0_1.index t = ![t.val % 8, t.val / 8] := (by decide +kernel : ∀ t : Fin grid0.N, _)
theorem idx2 : ∀ t : Fin cfg0.N, win0_2.index t = ![t.val % 8, t.val / 8] := (by decide +kernel : ∀ t : Fin grid0.N, _)
theorem idx3 : ∀ t : Fin cfg0.N, win0_3.index t = ![t.val % 8, 0] := (by decide +kernel : ∀ t : Fin grid0.N, _)
theorem idx4 : ∀ t : Fin cfg0.N, win0_4.index t = ![t.val % 8, 0] := (by decide +kernel : ∀ t : Fin grid0.N, _)
theorem idx5 : ∀ t : Fin cfg0.N, win0_5.index t = ![t.val / 8, 0] := (by decide +kernel : ∀ t : Fin grid0.N, _)
theorem idx6 : ∀ t : Fin cfg0.N, win0_6.index t = ![t.val / 8, 0] := (by decide +kernel : ∀ t : Fin grid0.N, _)
theorem idx7 : ∀ t : Fin cfg0.N, win0_7.index t = ![t.val / 8, 0] := (by decide +kernel : ∀ t : Fin grid0.N, _)

/-- Row `k` of the blocks read at point `t`, in the whole arrays, -/
def tok (t : Fin cfg0.N) (k : Fin 512) : Fin 4096 := ⟨512 * (t.val % 8) + k.val, by have := k.isLt; omega⟩
/-- and column `p` of the half it works on. -/
def col (t : Fin cfg0.N) (p : Fin 1408) : Fin 2816 := ⟨1408 * (t.val / 8) + p.val, by have := lt_of_lt_of_eq t.isLt N_0; have := p.isLt; omega⟩

theorem tall0_at (c : Dev nD) (t : Fin cfg0.N) (k : Fin 512) (p : Fin 1408) : tall0 m c t (ix2 k p) = aG m c (ix2 (tok t k) (col t p)) := by
  unfold tok col
  blk_ext [iblk, idx0 t]
theorem tall1_at (c : Dev nD) (t : Fin cfg0.N) (k : Fin 512) (p : Fin 1408) : tall1 m c t (ix2 k p) = aU m c (ix2 (tok t k) (col t p)) := by
  unfold tok col
  blk_ext [iblk, idx1 t]
theorem tall2_at (c : Dev nD) (t : Fin cfg0.N) (k : Fin 512) (p : Fin 1408) : tall2 m c t (ix2 k p) = aA m c (ix2 (tok t k) (col t p)) := by
  unfold tok col
  blk_ext [iblk, idx2 t]
theorem rows3_at (c : Dev nD) (t : Fin cfg0.N) (k : Fin 512) (q : Fin 1024) : rows3 m c t (ix2 k q) = aH m c (ix2 (tok t k) q) := by
  unfold tok
  blk_ext [iblk, idx3 t]
theorem rows4_at (c : Dev nD) (t : Fin cfg0.N) (k : Fin 512) (q : Fin 1024) : rows4 m c t (ix2 k q) = aY m c (ix2 (tok t k) q) := by
  unfold tok
  blk_ext [iblk, idx4 t]

/-- A product over all 4096 tokens. -/
def over (A : Vec Ideal S4096x2816 .bf16) (B : Vec Ideal S4096x1024 .bf16) (f : Fin 2816) (d : Fin 1024) : EReal :=
  ∑ r : Fin 4096, (A (ix2 r f) : EReal) * B (ix2 r d)

/-- The eight points of a run cover the tokens. -/
theorem over_tiles (A : Vec Ideal S4096x2816 .bf16) (B : Vec Ideal S4096x1024 .bf16) (t : Fin cfg0.N) (h : t.val % 8 = 7) (p : Fin 1408) (d : Fin 1024) :
    (∑ s : Fin 8, ∑ k : Fin 512, (A (ix2 (tok ⟨8 * (t.val / 8) + s.val, Pipeline.run_point_lt_of_flush t h s⟩ k) (col ⟨8 * (t.val / 8) + s.val, Pipeline.run_point_lt_of_flush t h s⟩ p)) : EReal)
      * B (ix2 (tok ⟨8 * (t.val / 8) + s.val, Pipeline.run_point_lt_of_flush t h s⟩ k) d)) = over A B (col t p) d := by
  unfold over
  rw [Fin.sum_univ_tiles 8 512 rfl]
  refine Finset.sum_congr rfl fun s _ => Finset.sum_congr rfl fun k _ => ?_
  have e1 : tok ⟨8 * (t.val / 8) + s.val, Pipeline.run_point_lt_of_flush t h s⟩ k = ⟨s.val * 512 + k.val, by have := s.isLt; have := k.isLt; omega⟩ :=
    Fin.ext (by show 512 * ((8 * (t.val / 8) + s.val) % 8) + k.val = s.val * 512 + k.val; have := s.isLt; omega)
  have e2 : col ⟨8 * (t.val / 8) + s.val, Pipeline.run_point_lt_of_flush t h s⟩ p = col t p :=
    Fin.ext (by show 1408 * ((8 * (t.val / 8) + s.val) / 8) + p.val = 1408 * (t.val / 8) + p.val; have := s.isLt; omega)
  rw [e1, e2]

theorem at0 (c : Dev nD) (t : Fin cfg0.N) (h : t.val % 8 = 7) (p : Fin 1408) (q : Fin 1024) :
    ((outsAt0 m c t.val t.isLt).1 (ix2 p q) : EReal) = over (aG m c) (aH m c) (col t p) q := by
  rw [out0 m c t h, acc0 m c t h, zero_add, ← over_tiles (aG m c) (aH m c) t h p q]
  refine Finset.sum_congr rfl fun s _ => Finset.sum_congr rfl fun k _ => ?_
  exact congrArg₂ (fun a b : EReal => a * b) (tall0_at m c _ k p) (rows3_at m c _ k q)

/-- Result 0: the product over the tokens. -/
theorem result0 (c : Dev nD) : Value.G5 m c = fun i : S2816x1024.Idx => over (aG m c) (aH m c) (i 0) (i 1) := by
  refine (Value.final5 m c).symm.trans ((dats m 0 c).arrAt_eq_of_covers 5 _ (by decide +kernel) fun t hf y => ?_)
  have h : t.val % 8 = 7 := (flush0_5 t).mp hf
  blk_simp
  rw [after0_5]
  obtain ⟨p, q, rfl⟩ : ∃ (p : Fin 1408) (q : Fin 1024), y = ix2 p q := ix2_of y
  have e0 : (win0_5.blk t).view.emb (ix2 p q) 0 = col t p := by
    apply Fin.ext; blk_simp [idx5 t]; unfold col; dsimp only; omega
  have e1 : (win0_5.blk t).view.emb (ix2 p q) 1 = q := by
    apply Fin.ext; blk_simp [idx5 t]
  rw [e0, e1]
  exact at0 m c t h p q

theorem at1 (c : Dev nD) (t : Fin cfg0.N) (h : t.val % 8 = 7) (p : Fin 1408) (q : Fin 1024) :
    ((outsAt0 m c t.val t.isLt).2.1 (ix2 p q) : EReal) = over (aU m c) (aH m c) (col t p) q := by
  rw [out1 m c t h, acc1 m c t h, zero_add, ← over_tiles (aU m c) (aH m c) t h p q]
  refine Finset.sum_congr rfl fun s _ => Finset.sum_congr rfl fun k _ => ?_
  exact congrArg₂ (fun a b : EReal => a * b) (tall1_at m c _ k p) (rows3_at m c _ k q)

/-- Result 1: the product over the tokens. -/
theorem result1 (c : Dev nD) : Value.G6 m c = fun i : S2816x1024.Idx => over (aU m c) (aH m c) (i 0) (i 1) := by
  refine (Value.final6 m c).symm.trans ((dats m 0 c).arrAt_eq_of_covers 6 _ (by decide +kernel) fun t hf y => ?_)
  have h : t.val % 8 = 7 := (flush0_6 t).mp hf
  blk_simp
  rw [after0_6]
  obtain ⟨p, q, rfl⟩ : ∃ (p : Fin 1408) (q : Fin 1024), y = ix2 p q := ix2_of y
  have e0 : (win0_6.blk t).view.emb (ix2 p q) 0 = col t p := by
    apply Fin.ext; blk_simp [idx6 t]; unfold col; dsimp only; omega
  have e1 : (win0_6.blk t).view.emb (ix2 p q) 1 = q := by
    apply Fin.ext; blk_simp [idx6 t]
  rw [e0, e1]
  exact at1 m c t h p q

theorem at2 (c : Dev nD) (t : Fin cfg0.N) (h : t.val % 8 = 7) (p : Fin 1408) (q : Fin 1024) :
    ((outsAt0 m c t.val t.isLt).2.2.1 (ix2 p q) : EReal) = over (aA m c) (aY m c) (col t p) q := by
  rw [out2 m c t h, acc2 m c t h, zero_add, ← over_tiles (aA m c) (aY m c) t h p q]
  refine Finset.sum_congr rfl fun s _ => Finset.sum_congr rfl fun k _ => ?_
  exact congrArg₂ (fun a b : EReal => a * b) (tall2_at m c _ k p) (rows4_at m c _ k q)

/-- Result 2: the product over the tokens. -/
theorem result2 (c : Dev nD) : Value.G7 m c = fun i : S2816x1024.Idx => over (aA m c) (aY m c) (i 0) (i 1) := by
  refine (Value.final7 m c).symm.trans ((dats m 0 c).arrAt_eq_of_covers 7 _ (by decide +kernel) fun t hf y => ?_)
  have h : t.val % 8 = 7 := (flush0_7 t).mp hf
  blk_simp
  rw [after0_7]
  obtain ⟨p, q, rfl⟩ : ∃ (p : Fin 1408) (q : Fin 1024), y = ix2 p q := ix2_of y
  have e0 : (win0_7.blk t).view.emb (ix2 p q) 0 = col t p := by
    apply Fin.ext; blk_simp [idx7 t]; unfold col; dsimp only; omega
  have e1 : (win0_7.blk t).view.emb (ix2 p q) 1 = q := by
    apply Fin.ext; blk_simp [idx7 t]
  rw [e0, e1]
  exact at2 m c t h p q

end Cert.Kernel3Ideal.Ffn

end
-- ==== Proof.Ffn.GradsClaim.lean ====
/- The two programs compute one gradient of each of a feed-forward block's three weights. -/
module

public import proofs.«01_k».proof.Proof.Ffn.GradsOut
public import proofs.«01_k».proof.Proof.Gen.Reference3Ideal.Run

@[expose] public section

set_option maxRecDepth 16384
set_option maxHeartbeats 800000

noncomputable section

namespace Cert.Kernel3Ideal.Ffn

open Idealize.ShloMosaic Idealize.ShloMosaic.TcCoe Idealize.ShloMosaic.Tactic Cert.Kernel3Ideal Cert.Kernel3Ideal.Gen
open Idealize.ShloMosaic.StableHlo Idealize.SL Idealize.SL.Sem

variable (m : (ℓ : Loc nD τ sig) → Buf (Elt Ideal) ℓ)
variable (m' : (ℓ : Loc Cert.Reference3Ideal.nD Cert.Reference3Ideal.τ Cert.Reference3Ideal.sig) → Buf (Elt Ideal) ℓ)

/-- From arguments equal to the kernel's, the reference's three results are the kernel's. -/
theorem reference_run (ρ' : Dev Cert.Reference3Ideal.nD → PrngReg)
    (h : ∀ c : Dev nD,
      m' ((c.tc : Thread Cert.Reference3Ideal.nD Cert.Reference3Ideal.τ).loc Cert.Reference3Ideal.main_arg0) = m ((c : Thread nD τ).loc main_arg0)
      ∧ m' ((c.tc : Thread Cert.Reference3Ideal.nD Cert.Reference3Ideal.τ).loc Cert.Reference3Ideal.main_arg1) = m ((c : Thread nD τ).loc main_arg1)
      ∧ m' ((c.tc : Thread Cert.Reference3Ideal.nD Cert.Reference3Ideal.τ).loc Cert.Reference3Ideal.main_arg2) = m ((c : Thread nD τ).loc main_arg2)
      ∧ m' ((c.tc : Thread Cert.Reference3Ideal.nD Cert.Reference3Ideal.τ).loc Cert.Reference3Ideal.main_arg3) = m ((c : Thread nD τ).loc main_arg3)
      ∧ m' ((c.tc : Thread Cert.Reference3Ideal.nD Cert.Reference3Ideal.τ).loc Cert.Reference3Ideal.main_arg4) = m ((c : Thread nD τ).loc main_arg4)
      ∧ m' ((c.tc : Thread Cert.Reference3Ideal.nD Cert.Reference3Ideal.τ).loc Cert.Reference3Ideal.main_arg5) = m ((c : Thread nD τ).loc main_arg5)) :
    θ_run (Cert.Reference3Ideal.defs (F := Ideal)) (onTc (τ := Cert.Reference3Ideal.τ) (Cert.Reference3Ideal.main (F := Ideal))) ⟨m', fun _ => 0, ρ'⟩ (fun r => ∀ c : Dev Cert.Reference3Ideal.nD,
      r.2.mem ((c.tc : Thread Cert.Reference3Ideal.nD Cert.Reference3Ideal.τ).loc Cert.Reference3Ideal.main_v34) = Value.G5 m c
      ∧ r.2.mem ((c.tc : Thread Cert.Reference3Ideal.nD Cert.Reference3Ideal.τ).loc Cert.Reference3Ideal.main_v36) = Value.G6 m c
      ∧ r.2.mem ((c.tc : Thread Cert.Reference3Ideal.nD Cert.Reference3Ideal.τ).loc Cert.Reference3Ideal.main_v37) = Value.G7 m c) := by
  refine (θ_run Cert.Reference3Ideal.defs _ _).mono (fun r hq c => ⟨(hq c).1.trans ?_, (hq c).2.1.trans ?_, (hq c).2.2.1.trans ?_⟩) (Cert.Reference3Ideal.Value.run m' ρ')
  · clear hq; rw [result0]
    obtain ⟨h0, h1, h2, h3, h4, h5⟩ := h c
    funext i
    obtain ⟨p, q, rfl⟩ : ∃ (p : Fin 2816) (q : Fin 1024), i = ix2 p q := ix2_of i
    show _ = over (aG m c) (aH m c) p q
    unfold over aG aH Cert.Reference3Ideal.Value.res_main_v34
    rw [h0, h1, h2, h3, h4, h5]
    simp only [V, hostOps0, hostOps0_1, hostOps0_2, hostOps0_3, hostOps0_4, List.flatten_cons, List.flatten_nil, List.append_nil, List.cons_append, List.nil_append,
      TRef.binary, TRef.nullary, TRef.unary, TRef.toBuf, TRef.ofBuf, cast_eq]
    after_results_simp
    pointwise
  · clear hq; rw [result1]
    obtain ⟨h0, h1, h2, h3, h4, h5⟩ := h c
    funext i
    obtain ⟨p, q, rfl⟩ : ∃ (p : Fin 2816) (q : Fin 1024), i = ix2 p q := ix2_of i
    show _ = over (aU m c) (aH m c) p q
    unfold over aU aH
    rw [h0, h1, h2, h4, h5]
    simp only [V, hostOps0, hostOps0_1, hostOps0_2, hostOps0_3, hostOps0_4, List.flatten_cons, List.flatten_nil, List.append_nil, List.cons_append, List.nil_append,
      TRef.binary, TRef.nullary, TRef.unary, TRef.toBuf, TRef.ofBuf, cast_eq]
    after_results_simp
    pointwise
  · clear hq; rw [result2]
    obtain ⟨h0, h1, h2, h3, h4, h5⟩ := h c
    funext i
    obtain ⟨p, q, rfl⟩ : ∃ (p : Fin 2816) (q : Fin 1024), i = ix2 p q := ix2_of i
    show _ = over (aA m c) (aY m c) p q
    unfold over aA aY
    rw [h0, h1, h2, h3, h5]
    simp only [V, hostOps0, hostOps0_1, hostOps0_2, hostOps0_3, hostOps0_4, List.flatten_cons, List.flatten_nil, List.append_nil, List.cons_append, List.nil_append,
      TRef.binary, TRef.nullary, TRef.unary, TRef.toBuf, TRef.ofBuf, cast_eq]
    after_results_simp
    pointwise
    first | rfl | exact Finset.sum_congr rfl fun x _ => mul_comm _ _

end Cert.Kernel3Ideal.Ffn

end
-- ==== Proof.Proj.W4.lean ====
/- The call that computes the gradient of the mixer's first projection. -/
module

public import proofs.«01_k».proof.Proof.Gen.Kernel4Ideal.Value
public import proofs.«01_k».proof.Proof.Gen.Reference4Ideal.Run
public import Idealize.ShloMosaic.Lib.Pipeline.ValueKit

@[expose] public section

set_option maxRecDepth 16384
set_option maxHeartbeats 800000

noncomputable section

namespace Cert.Kernel4Ideal.Proj

open Idealize.ShloMosaic Idealize.ShloMosaic.TcCoe Idealize.ShloMosaic.Tactic Cert.Kernel4Ideal Cert.Kernel4Ideal.Gen
open Idealize.ShloMosaic.StableHlo Idealize.SL Idealize.SL.Sem

variable (m : (ℓ : Loc nD τ sig) → Buf (Elt Ideal) ℓ)
variable (m' : (ℓ : Loc Cert.Reference4Ideal.nD Cert.Reference4Ideal.τ Cert.Reference4Ideal.sig) → Buf (Elt Ideal) ℓ)

theorem ix2_of {a b : ℕ} (j : (⟨2, ![a, b]⟩ : Shape).Idx) : ∃ (p : Fin a) (q : Fin b), j = ix2 p q :=
  ⟨j 0, j 1, by funext x; fin_cases x <;> rfl⟩

/-- The blocks a point reads: 1024 rows of the two arrays. -/
abbrev left (c : Dev nD) (t : Fin cfg0.N) : Vec Ideal S1024x1792 .bf16 := iblk m c 0 t
abbrev right (c : Dev nD) (t : Fin cfg0.N) : Vec Ideal S1024x1024 .bf16 := iblk m c 1 t

/-- One point's product: the left block, transposed, with the right one. -/
def prod (a : Vec Ideal S1024x1792 .bf16) (b : Vec Ideal S1024x1024 .bf16) (j : S1792x1024.Idx) : EReal :=
  ∑ k : Fin 1024, (a (ix2 k (j 0)) : EReal) * b (ix2 k (j 1))

theorem add_prod (x : Vec Ideal S1792x1024 .f32) (a : Vec Ideal S1024x1792 .bf16) (b : Vec Ideal S1024x1024 .bf16) (j : S1792x1024.Idx) :
    k0_pay2 x a b j = (x j : EReal) + prod a b j := by
  obtain ⟨p, q, rfl⟩ := ix2_of j
  pointwise [k0_pay2, prod]

theorem zero (j : S1792x1024.Idx) : k0_pay1 (F := Ideal) j = (0 : EReal) := by
  obtain ⟨p, q, rfl⟩ := ix2_of j
  pointwise [k0_pay1]

/-- The accumulator at the end of a run over the tokens: the sum of the run's products. -/
theorem acc (c : Dev nD) (t : Fin cfg0.N) (h : t.val % 4 = 3) (j : S1792x1024.Idx) :
    ((outsAt0 m c t.val t.isLt).2 j : EReal) =
      0 + ∑ s : Fin 4, prod (left m c ⟨4 * (t.val / 4) + s.val, Pipeline.run_point_lt_of_flush t h s⟩) (right m c ⟨4 * (t.val / 4) + s.val, Pipeline.run_point_lt_of_flush t h s⟩) j := by
  refine Pipeline.eq_sum_fin_of_reset_step_apply_of_flush (fun n h => (outsAt0 m c n h).2) 4 (fun _ => (0 : EReal))
    (fun t j => prod (left m c t) (right m c t) j) (fun t h => ?_) (fun t h => ?_) t h j
  · rw [outsAt0_A m c t h (by omega)]
    intro j
    frame_out
    exact (add_prod _ _ _ j).trans (congrArg (· + _) (zero j))
  · by_cases h3 : t.val % 4 = 3
    · rw [outsAt0_C m c t h h3]
      intro j
      frame_out
      exact (add_prod _ _ _ j).trans (congrArg (· + _) (congrFun ((Memref.isWhole_whole cc0_scratch0).read_unread _) j))
    · rw [outsAt0_B m c t h h3]
      intro j
      frame_out
      exact (add_prod _ _ _ j).trans (congrArg (· + _) (congrFun ((Memref.isWhole_whole cc0_scratch0).read_unread _) j))

/-- The last point of a run stores the accumulator. -/
theorem out (c : Dev nD) (t : Fin cfg0.N) (h : t.val % 4 = 3) (j : S1792x1024.Idx) :
    ((outsAt0 m c t.val t.isLt).1 j : EReal) = (outsAt0 m c t.val t.isLt).2 j := by
  rw [outsAt0_C m c t (by omega) h]
  frame_out
  pointwise [k0_pay3]

/-- The two arrays the call is given. -/
abbrev arrL (c : Dev nD) : Vec Ideal S4096x1792 .bf16 := V m c main_v0
abbrev arrR (c : Dev nD) : Vec Ideal S4096x1024 .bf16 := V m c main_v14

/-! The block of each window at a grid point. -/
theorem idx0 : ∀ t : Fin cfg0.N, win0_0.index t = ![t.val % 4, t.val / 4] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![t.val / 4, 0] := (by decide +kernel : ∀ t : Fin grid0.N, _)

/-- Row `k` of the blocks read at point `t`, in the whole arrays, -/
def tok (t : Fin cfg0.N) (k : Fin 1024) : Fin 4096 := ⟨1024 * (t.val % 4) + k.val, by have := k.isLt; omega⟩
/-- and column `p` of the left block. -/
def col (t : Fin cfg0.N) (p : Fin 1792) : Fin 1792 := ⟨1792 * (t.val / 4) + p.val, by have := lt_of_lt_of_eq t.isLt N_0; have := p.isLt; omega⟩

theorem left_at (c : Dev nD) (t : Fin cfg0.N) (k : Fin 1024) (p : Fin 1792) : left m c t (ix2 k p) = arrL m c (ix2 (tok t k) (col t p)) := by
  unfold tok col
  blk_ext [iblk, idx0 t]
theorem right_at (c : Dev nD) (t : Fin cfg0.N) (k : Fin 1024) (q : Fin 1024) : right m c t (ix2 k q) = arrR m c (ix2 (tok t k) q) := by
  unfold tok
  blk_ext [iblk, idx1 t]

/-- A product over all 4096 tokens. -/
def over (A : Vec Ideal S4096x1792 .bf16) (B : Vec Ideal S4096x1024 .bf16) (f : Fin 1792) (d : Fin 1024) : EReal :=
  ∑ r : Fin 4096, (A (ix2 r f) : EReal) * B (ix2 r d)

/-- The four points of a run cover the tokens. -/
theorem over_tiles (A : Vec Ideal S4096x1792 .bf16) (B : Vec Ideal S4096x1024 .bf16) (t : Fin cfg0.N) (h : t.val % 4 = 3) (p : Fin 1792) (d : Fin 1024) :
    (∑ s : Fin 4, ∑ k : Fin 1024, (A (ix2 (tok ⟨4 * (t.val / 4) + s.val, Pipeline.run_point_lt_of_flush t h s⟩ k) (col ⟨4 * (t.val / 4) + s.val, Pipeline.run_point_lt_of_flush t h s⟩ p)) : EReal)
      * B (ix2 (tok ⟨4 * (t.val / 4) + s.val, Pipeline.run_point_lt_of_flush t h s⟩ k) d)) = over A B (col t p) d := by
  unfold over
  rw [Fin.sum_univ_tiles 4 1024 rfl]
  refine Finset.sum_congr rfl fun s _ => Finset.sum_congr rfl fun k _ => ?_
  have e1 : tok ⟨4 * (t.val / 4) + s.val, Pipeline.run_point_lt_of_flush t h s⟩ k = ⟨s.val * 1024 + k.val, by have := s.isLt; have := k.isLt; omega⟩ :=
    Fin.ext (by show 1024 * ((4 * (t.val / 4) + s.val) % 4) + k.val = s.val * 1024 + k.val; have := s.isLt; omega)
  have e2 : col ⟨4 * (t.val / 4) + s.val, Pipeline.run_point_lt_of_flush t h s⟩ p = col t p :=
    Fin.ext (by show 1792 * ((4 * (t.val / 4) + s.val) / 4) + p.val = 1792 * (t.val / 4) + p.val; have := s.isLt; omega)
  rw [e1, e2]

theorem at_end (c : Dev nD) (t : Fin cfg0.N) (h : t.val % 4 = 3) (p : Fin 1792) (q : Fin 1024) :
    ((outsAt0 m c t.val t.isLt).1 (ix2 p q) : EReal) = over (arrL m c) (arrR m c) (col t p) q := by
  rw [out m c t h, acc m c t h, zero_add, ← over_tiles (arrL m c) (arrR m c) t h p q]
  refine Finset.sum_congr rfl fun s _ => Finset.sum_congr rfl fun k _ => ?_
  exact congrArg₂ (fun a b : EReal => a * b) (left_at m c _ k p) (right_at m c _ k q)

/-- The call's result: the product over the tokens. -/
theorem result (c : Dev nD) : Value.G2 m c = fun i : S1792x1024.Idx => over (arrL m c) (arrR m c) (i 0) (i 1) := by
  refine (Value.final2 m c).symm.trans ((dats m 0 c).arrAt_eq_of_covers 2 _ (by decide +kernel) fun t hf y => ?_)
  have h : t.val % 4 = 3 := (flush0_2 t).mp hf
  blk_simp
  rw [after0_2]
  obtain ⟨p, q, rfl⟩ : ∃ (p : Fin 1792) (q : Fin 1024), y = ix2 p q := ix2_of y
  have e0 : (win0_2.blk t).view.emb (ix2 p q) 0 = col t p := by
    apply Fin.ext; blk_simp [idx2 t]; unfold col; dsimp only; omega
  have e1 : (win0_2.blk t).view.emb (ix2 p q) 1 = q := by
    apply Fin.ext; blk_simp [idx2 t]
  rw [e0, e1]
  exact at_end m c t h p q

/-- From arguments equal to the kernel's, the reference's result is the kernel's. -/
theorem reference_run (ρ' : Dev Cert.Reference4Ideal.nD → PrngReg)
    (h : ∀ c : Dev nD,
      m' ((c.tc : Thread Cert.Reference4Ideal.nD Cert.Reference4Ideal.τ).loc Cert.Reference4Ideal.main_arg0) = m ((c : Thread nD τ).loc main_arg0)
      ∧ m' ((c.tc : Thread Cert.Reference4Ideal.nD Cert.Reference4Ideal.τ).loc Cert.Reference4Ideal.main_arg1) = m ((c : Thread nD τ).loc main_arg1)
      ∧ m' ((c.tc : Thread Cert.Reference4Ideal.nD Cert.Reference4Ideal.τ).loc Cert.Reference4Ideal.main_arg2) = m ((c : Thread nD τ).loc main_arg2)) :
    θ_run (Cert.Reference4Ideal.defs (F := Ideal)) (onTc (τ := Cert.Reference4Ideal.τ) (Cert.Reference4Ideal.main (F := Ideal))) ⟨m', fun _ => 0, ρ'⟩ (fun r => ∀ c : Dev Cert.Reference4Ideal.nD,
      r.2.mem ((c.tc : Thread Cert.Reference4Ideal.nD Cert.Reference4Ideal.τ).loc Cert.Reference4Ideal.main_v18) = Value.G2 m c) := by
  refine (θ_run Cert.Reference4Ideal.defs _ _).mono (fun r hq c => (hq c).1.trans ?_) (Cert.Reference4Ideal.Value.run m' ρ')
  clear hq; rw [result]
  obtain ⟨h0, h1, h2⟩ := h c
  funext i
  obtain ⟨p, q, rfl⟩ : ∃ (p : Fin 1792) (q : Fin 1024), i = ix2 p q := ix2_of i
  show _ = over (arrL m c) (arrR m c) p q
  unfold over arrL arrR
  simp only [h0, h1, h2]
  simp only [V, hostOps0, List.flatten_cons, List.flatten_nil, List.append_nil, List.cons_append, List.nil_append,
    TRef.binary, TRef.nullary, TRef.unary, TRef.toBuf, TRef.ofBuf, cast_eq]
  after_results_simp
  pointwise

end Cert.Kernel4Ideal.Proj

end
-- ==== Proof.Proj.W5.lean ====
/- The call that computes the gradient of the mixer's second projection. -/
module

public import proofs.«01_k».proof.Proof.Gen.Kernel5Ideal.Value
public import proofs.«01_k».proof.Proof.Gen.Reference5Ideal.Run
public import Idealize.ShloMosaic.Lib.Pipeline.ValueKit

@[expose] public section

set_option maxRecDepth 16384
set_option maxHeartbeats 800000

noncomputable section

namespace Cert.Kernel5Ideal.Proj

open Idealize.ShloMosaic Idealize.ShloMosaic.TcCoe Idealize.ShloMosaic.Tactic Cert.Kernel5Ideal Cert.Kernel5Ideal.Gen
open Idealize.ShloMosaic.StableHlo Idealize.SL Idealize.SL.Sem

variable (m : (ℓ : Loc nD τ sig) → Buf (Elt Ideal) ℓ)
variable (m' : (ℓ : Loc Cert.Reference5Ideal.nD Cert.Reference5Ideal.τ Cert.Reference5Ideal.sig) → Buf (Elt Ideal) ℓ)

theorem ix2_of {a b : ℕ} (j : (⟨2, ![a, b]⟩ : Shape).Idx) : ∃ (p : Fin a) (q : Fin b), j = ix2 p q :=
  ⟨j 0, j 1, by funext x; fin_cases x <;> rfl⟩

/-- The blocks a point reads: 1024 rows of the two arrays. -/
abbrev left (c : Dev nD) (t : Fin cfg0.N) : Vec Ideal S1024x1024 .bf16 := iblk m c 0 t
abbrev right (c : Dev nD) (t : Fin cfg0.N) : Vec Ideal S1024x1024 .f32 := iblk m c 1 t

/-- One point's product: the left block, transposed, with the right one. -/
def prod (a : Vec Ideal S1024x1024 .bf16) (b : Vec Ideal S1024x1024 .f32) (j : S1024x1024.Idx) : EReal :=
  ∑ k : Fin 1024, (a (ix2 k (j 0)) : EReal) * b (ix2 k (j 1))

theorem add_prod (x : Vec Ideal S1024x1024 .f32) (a : Vec Ideal S1024x1024 .bf16) (b : Vec Ideal S1024x1024 .f32) (j : S1024x1024.Idx) :
    k0_pay2 x a b j = (x j : EReal) + prod a b j := by
  obtain ⟨p, q, rfl⟩ := ix2_of j
  pointwise [k0_pay2, prod]

theorem zero (j : S1024x1024.Idx) : k0_pay1 (F := Ideal) j = (0 : EReal) := by
  obtain ⟨p, q, rfl⟩ := ix2_of j
  pointwise [k0_pay1]

/-- The accumulator at the end of a run over the tokens: the sum of the run's products. -/
theorem acc (c : Dev nD) (t : Fin cfg0.N) (h : t.val % 4 = 3) (j : S1024x1024.Idx) :
    ((outsAt0 m c t.val t.isLt).2 j : EReal) =
      0 + ∑ s : Fin 4, prod (left m c ⟨4 * (t.val / 4) + s.val, Pipeline.run_point_lt_of_flush t h s⟩) (right m c ⟨4 * (t.val / 4) + s.val, Pipeline.run_point_lt_of_flush t h s⟩) j := by
  refine Pipeline.eq_sum_fin_of_reset_step_apply_of_flush (fun n h => (outsAt0 m c n h).2) 4 (fun _ => (0 : EReal))
    (fun t j => prod (left m c t) (right m c t) j) (fun t h => ?_) (fun t h => ?_) t h j
  · rw [outsAt0_A m c t h (by omega)]
    intro j
    frame_out
    exact (add_prod _ _ _ j).trans (congrArg (· + _) (zero j))
  · by_cases h3 : t.val % 4 = 3
    · rw [outsAt0_C m c t h h3]
      intro j
      frame_out
      exact (add_prod _ _ _ j).trans (congrArg (· + _) (congrFun ((Memref.isWhole_whole cc0_scratch0).read_unread _) j))
    · rw [outsAt0_B m c t h h3]
      intro j
      frame_out
      exact (add_prod _ _ _ j).trans (congrArg (· + _) (congrFun ((Memref.isWhole_whole cc0_scratch0).read_unread _) j))

/-- The last point of a run stores the accumulator. -/
theorem out (c : Dev nD) (t : Fin cfg0.N) (h : t.val % 4 = 3) (j : S1024x1024.Idx) :
    ((outsAt0 m c t.val t.isLt).1 j : EReal) = (outsAt0 m c t.val t.isLt).2 j := by
  rw [outsAt0_C m c t (by omega) h]
  frame_out
  pointwise [k0_pay3]

/-- The two arrays the call is given. -/
abbrev arrL (c : Dev nD) : Vec Ideal S4096x1024 .bf16 := V m c main_v0
abbrev arrR (c : Dev nD) : Vec Ideal S4096x1024 .f32 := V m c main_arg1

/-! The block of each window at a grid point. -/
theorem idx0 : ∀ t : Fin cfg0.N, win0_0.index t = ![t.val % 4, t.val / 4] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![t.val / 4, 0] := (by decide +kernel : ∀ t : Fin grid0.N, _)

/-- Row `k` of the blocks read at point `t`, in the whole arrays, -/
def tok (t : Fin cfg0.N) (k : Fin 1024) : Fin 4096 := ⟨1024 * (t.val % 4) + k.val, by have := k.isLt; omega⟩
/-- and column `p` of the left block. -/
def col (t : Fin cfg0.N) (p : Fin 1024) : Fin 1024 := ⟨1024 * (t.val / 4) + p.val, by have := lt_of_lt_of_eq t.isLt N_0; have := p.isLt; omega⟩

theorem left_at (c : Dev nD) (t : Fin cfg0.N) (k : Fin 1024) (p : Fin 1024) : left m c t (ix2 k p) = arrL m c (ix2 (tok t k) (col t p)) := by
  unfold tok col
  blk_ext [iblk, idx0 t]
theorem right_at (c : Dev nD) (t : Fin cfg0.N) (k : Fin 1024) (q : Fin 1024) : right m c t (ix2 k q) = arrR m c (ix2 (tok t k) q) := by
  unfold tok
  blk_ext [iblk, idx1 t]

/-- A product over all 4096 tokens. -/
def over (A : Vec Ideal S4096x1024 .bf16) (B : Vec Ideal S4096x1024 .f32) (f : Fin 1024) (d : Fin 1024) : EReal :=
  ∑ r : Fin 4096, (A (ix2 r f) : EReal) * B (ix2 r d)

/-- The four points of a run cover the tokens. -/
theorem over_tiles (A : Vec Ideal S4096x1024 .bf16) (B : Vec Ideal S4096x1024 .f32) (t : Fin cfg0.N) (h : t.val % 4 = 3) (p : Fin 1024) (d : Fin 1024) :
    (∑ s : Fin 4, ∑ k : Fin 1024, (A (ix2 (tok ⟨4 * (t.val / 4) + s.val, Pipeline.run_point_lt_of_flush t h s⟩ k) (col ⟨4 * (t.val / 4) + s.val, Pipeline.run_point_lt_of_flush t h s⟩ p)) : EReal)
      * B (ix2 (tok ⟨4 * (t.val / 4) + s.val, Pipeline.run_point_lt_of_flush t h s⟩ k) d)) = over A B (col t p) d := by
  unfold over
  rw [Fin.sum_univ_tiles 4 1024 rfl]
  refine Finset.sum_congr rfl fun s _ => Finset.sum_congr rfl fun k _ => ?_
  have e1 : tok ⟨4 * (t.val / 4) + s.val, Pipeline.run_point_lt_of_flush t h s⟩ k = ⟨s.val * 1024 + k.val, by have := s.isLt; have := k.isLt; omega⟩ :=
    Fin.ext (by show 1024 * ((4 * (t.val / 4) + s.val) % 4) + k.val = s.val * 1024 + k.val; have := s.isLt; omega)
  have e2 : col ⟨4 * (t.val / 4) + s.val, Pipeline.run_point_lt_of_flush t h s⟩ p = col t p :=
    Fin.ext (by show 1024 * ((4 * (t.val / 4) + s.val) / 4) + p.val = 1024 * (t.val / 4) + p.val; have := s.isLt; omega)
  rw [e1, e2]

theorem at_end (c : Dev nD) (t : Fin cfg0.N) (h : t.val % 4 = 3) (p : Fin 1024) (q : Fin 1024) :
    ((outsAt0 m c t.val t.isLt).1 (ix2 p q) : EReal) = over (arrL m c) (arrR m c) (col t p) q := by
  rw [out m c t h, acc m c t h, zero_add, ← over_tiles (arrL m c) (arrR m c) t h p q]
  refine Finset.sum_congr rfl fun s _ => Finset.sum_congr rfl fun k _ => ?_
  exact congrArg₂ (fun a b : EReal => a * b) (left_at m c _ k p) (right_at m c _ k q)

/-- The call's result: the product over the tokens. -/
theorem result (c : Dev nD) : Value.G2 m c = fun i : S1024x1024.Idx => over (arrL m c) (arrR m c) (i 0) (i 1) := by
  refine (Value.final2 m c).symm.trans ((dats m 0 c).arrAt_eq_of_covers 2 _ (by decide +kernel) fun t hf y => ?_)
  have h : t.val % 4 = 3 := (flush0_2 t).mp hf
  blk_simp
  rw [after0_2]
  obtain ⟨p, q, rfl⟩ : ∃ (p : Fin 1024) (q : Fin 1024), y = ix2 p q := ix2_of y
  have e0 : (win0_2.blk t).view.emb (ix2 p q) 0 = col t p := by
    apply Fin.ext; blk_simp [idx2 t]; unfold col; dsimp only; omega
  have e1 : (win0_2.blk t).view.emb (ix2 p q) 1 = q := by
    apply Fin.ext; blk_simp [idx2 t]
  rw [e0, e1]
  exact at_end m c t h p q

/-- From arguments equal to the kernel's, the reference's result is the kernel's. -/
theorem reference_run (ρ' : Dev Cert.Reference5Ideal.nD → PrngReg)
    (h : ∀ c : Dev nD,
      m' ((c.tc : Thread Cert.Reference5Ideal.nD Cert.Reference5Ideal.τ).loc Cert.Reference5Ideal.main_arg0) = m ((c : Thread nD τ).loc main_arg0)
      ∧ m' ((c.tc : Thread Cert.Reference5Ideal.nD Cert.Reference5Ideal.τ).loc Cert.Reference5Ideal.main_arg1) = m ((c : Thread nD τ).loc main_arg1)) :
    θ_run (Cert.Reference5Ideal.defs (F := Ideal)) (onTc (τ := Cert.Reference5Ideal.τ) (Cert.Reference5Ideal.main (F := Ideal))) ⟨m', fun _ => 0, ρ'⟩ (fun r => ∀ c : Dev Cert.Reference5Ideal.nD,
      r.2.mem ((c.tc : Thread Cert.Reference5Ideal.nD Cert.Reference5Ideal.τ).loc Cert.Reference5Ideal.main_v4) = Value.G2 m c) := by
  refine (θ_run Cert.Reference5Ideal.defs _ _).mono (fun r hq c => (hq c).1.trans ?_) (Cert.Reference5Ideal.Value.run m' ρ')
  clear hq; rw [result]
  obtain ⟨h0, h1⟩ := h c
  funext i
  obtain ⟨p, q, rfl⟩ : ∃ (p : Fin 1024) (q : Fin 1024), i = ix2 p q := ix2_of i
  show _ = over (arrL m c) (arrR m c) p q
  unfold over arrL arrR
  simp only [h0, h1]
  simp only [V, hostOps0, List.flatten_cons, List.flatten_nil, List.append_nil, List.cons_append, List.nil_append,
    TRef.binary, TRef.nullary, TRef.unary, TRef.toBuf, TRef.ofBuf, cast_eq]
  after_results_simp
  pointwise
  first | rfl | exact Finset.sum_congr rfl fun x _ => mul_comm _ _

end Cert.Kernel5Ideal.Proj

end
-- ==== Proof.Proj.W6.lean ====
/- The call that computes the gradient of the first feed-forward block's gate. -/
module

public import proofs.«01_k».proof.Proof.Gen.Kernel6Ideal.Value
public import proofs.«01_k».proof.Proof.Gen.Reference6Ideal.Run
public import Idealize.ShloMosaic.Lib.Pipeline.ValueKit

@[expose] public section

set_option maxRecDepth 16384
set_option maxHeartbeats 800000

noncomputable section

namespace Cert.Kernel6Ideal.Proj

open Idealize.ShloMosaic Idealize.ShloMosaic.TcCoe Idealize.ShloMosaic.Tactic Cert.Kernel6Ideal Cert.Kernel6Ideal.Gen
open Idealize.ShloMosaic.StableHlo Idealize.SL Idealize.SL.Sem

variable (m : (ℓ : Loc nD τ sig) → Buf (Elt Ideal) ℓ)
variable (m' : (ℓ : Loc Cert.Reference6Ideal.nD Cert.Reference6Ideal.τ Cert.Reference6Ideal.sig) → Buf (Elt Ideal) ℓ)

theorem ix2_of {a b : ℕ} (j : (⟨2, ![a, b]⟩ : Shape).Idx) : ∃ (p : Fin a) (q : Fin b), j = ix2 p q :=
  ⟨j 0, j 1, by funext x; fin_cases x <;> rfl⟩

/-- The blocks a point reads: 1024 rows of the two arrays. -/
abbrev left (c : Dev nD) (t : Fin cfg0.N) : Vec Ideal S1024x1408 .bf16 := iblk m c 0 t
abbrev right (c : Dev nD) (t : Fin cfg0.N) : Vec Ideal S1024x1024 .bf16 := iblk m c 1 t

/-- One point's product: the left block, transposed, with the right one. -/
def prod (a : Vec Ideal S1024x1408 .bf16) (b : Vec Ideal S1024x1024 .bf16) (j : S1408x1024.Idx) : EReal :=
  ∑ k : Fin 1024, (a (ix2 k (j 0)) : EReal) * b (ix2 k (j 1))

theorem add_prod (x : Vec Ideal S1408x1024 .f32) (a : Vec Ideal S1024x1408 .bf16) (b : Vec Ideal S1024x1024 .bf16) (j : S1408x1024.Idx) :
    k0_pay2 x a b j = (x j : EReal) + prod a b j := by
  obtain ⟨p, q, rfl⟩ := ix2_of j
  pointwise [k0_pay2, prod]

theorem zero (j : S1408x1024.Idx) : k0_pay1 (F := Ideal) j = (0 : EReal) := by
  obtain ⟨p, q, rfl⟩ := ix2_of j
  pointwise [k0_pay1]

/-- The accumulator at the end of a run over the tokens: the sum of the run's products. -/
theorem acc (c : Dev nD) (t : Fin cfg0.N) (h : t.val % 4 = 3) (j : S1408x1024.Idx) :
    ((outsAt0 m c t.val t.isLt).2 j : EReal) =
      0 + ∑ s : Fin 4, prod (left m c ⟨4 * (t.val / 4) + s.val, Pipeline.run_point_lt_of_flush t h s⟩) (right m c ⟨4 * (t.val / 4) + s.val, Pipeline.run_point_lt_of_flush t h s⟩) j := by
  refine Pipeline.eq_sum_fin_of_reset_step_apply_of_flush (fun n h => (outsAt0 m c n h).2) 4 (fun _ => (0 : EReal))
    (fun t j => prod (left m c t) (right m c t) j) (fun t h => ?_) (fun t h => ?_) t h j
  · rw [outsAt0_A m c t h (by omega)]
    intro j
    frame_out
    exact (add_prod _ _ _ j).trans (congrArg (· + _) (zero j))
  · by_cases h3 : t.val % 4 = 3
    · rw [outsAt0_C m c t h h3]
      intro j
      frame_out
      exact (add_prod _ _ _ j).trans (congrArg (· + _) (congrFun ((Memref.isWhole_whole cc0_scratch0).read_unread _) j))
    · rw [outsAt0_B m c t h h3]
      intro j
      frame_out
      exact (add_prod _ _ _ j).trans (congrArg (· + _) (congrFun ((Memref.isWhole_whole cc0_scratch0).read_unread _) j))

/-- The last point of a run stores the accumulator. -/
theorem out (c : Dev nD) (t : Fin cfg0.N) (h : t.val % 4 = 3) (j : S1408x1024.Idx) :
    ((outsAt0 m c t.val t.isLt).1 j : EReal) = (outsAt0 m c t.val t.isLt).2 j := by
  rw [outsAt0_C m c t (by omega) h]
  frame_out
  pointwise [k0_pay3]

/-- The two arrays the call is given. -/
abbrev arrL (c : Dev nD) : Vec Ideal S4096x2816 .bf16 := V m c main_v24
abbrev arrR (c : Dev nD) : Vec Ideal S4096x1024 .bf16 := V m c main_v27

/-! The block of each window at a grid point. -/
theorem idx0 : ∀ t : Fin cfg0.N, win0_0.index t = ![t.val % 4, t.val / 4] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![t.val / 4, 0] := (by decide +kernel : ∀ t : Fin grid0.N, _)

/-- Row `k` of the blocks read at point `t`, in the whole arrays, -/
def tok (t : Fin cfg0.N) (k : Fin 1024) : Fin 4096 := ⟨1024 * (t.val % 4) + k.val, by have := k.isLt; omega⟩
/-- and column `p` of the left block. -/
def col (t : Fin cfg0.N) (p : Fin 1408) : Fin 2816 := ⟨1408 * (t.val / 4) + p.val, by have := lt_of_lt_of_eq t.isLt N_0; have := p.isLt; omega⟩

theorem left_at (c : Dev nD) (t : Fin cfg0.N) (k : Fin 1024) (p : Fin 1408) : left m c t (ix2 k p) = arrL m c (ix2 (tok t k) (col t p)) := by
  unfold tok col
  blk_ext [iblk, idx0 t]
theorem right_at (c : Dev nD) (t : Fin cfg0.N) (k : Fin 1024) (q : Fin 1024) : right m c t (ix2 k q) = arrR m c (ix2 (tok t k) q) := by
  unfold tok
  blk_ext [iblk, idx1 t]

/-- A product over all 4096 tokens. -/
def over (A : Vec Ideal S4096x2816 .bf16) (B : Vec Ideal S4096x1024 .bf16) (f : Fin 2816) (d : Fin 1024) : EReal :=
  ∑ r : Fin 4096, (A (ix2 r f) : EReal) * B (ix2 r d)

/-- The four points of a run cover the tokens. -/
theorem over_tiles (A : Vec Ideal S4096x2816 .bf16) (B : Vec Ideal S4096x1024 .bf16) (t : Fin cfg0.N) (h : t.val % 4 = 3) (p : Fin 1408) (d : Fin 1024) :
    (∑ s : Fin 4, ∑ k : Fin 1024, (A (ix2 (tok ⟨4 * (t.val / 4) + s.val, Pipeline.run_point_lt_of_flush t h s⟩ k) (col ⟨4 * (t.val / 4) + s.val, Pipeline.run_point_lt_of_flush t h s⟩ p)) : EReal)
      * B (ix2 (tok ⟨4 * (t.val / 4) + s.val, Pipeline.run_point_lt_of_flush t h s⟩ k) d)) = over A B (col t p) d := by
  unfold over
  rw [Fin.sum_univ_tiles 4 1024 rfl]
  refine Finset.sum_congr rfl fun s _ => Finset.sum_congr rfl fun k _ => ?_
  have e1 : tok ⟨4 * (t.val / 4) + s.val, Pipeline.run_point_lt_of_flush t h s⟩ k = ⟨s.val * 1024 + k.val, by have := s.isLt; have := k.isLt; omega⟩ :=
    Fin.ext (by show 1024 * ((4 * (t.val / 4) + s.val) % 4) + k.val = s.val * 1024 + k.val; have := s.isLt; omega)
  have e2 : col ⟨4 * (t.val / 4) + s.val, Pipeline.run_point_lt_of_flush t h s⟩ p = col t p :=
    Fin.ext (by show 1408 * ((4 * (t.val / 4) + s.val) / 4) + p.val = 1408 * (t.val / 4) + p.val; have := s.isLt; omega)
  rw [e1, e2]

theorem at_end (c : Dev nD) (t : Fin cfg0.N) (h : t.val % 4 = 3) (p : Fin 1408) (q : Fin 1024) :
    ((outsAt0 m c t.val t.isLt).1 (ix2 p q) : EReal) = over (arrL m c) (arrR m c) (col t p) q := by
  rw [out m c t h, acc m c t h, zero_add, ← over_tiles (arrL m c) (arrR m c) t h p q]
  refine Finset.sum_congr rfl fun s _ => Finset.sum_congr rfl fun k _ => ?_
  exact congrArg₂ (fun a b : EReal => a * b) (left_at m c _ k p) (right_at m c _ k q)

/-- The call's result: the product over the tokens. -/
theorem result (c : Dev nD) : Value.G2 m c = fun i : S2816x1024.Idx => over (arrL m c) (arrR m c) (i 0) (i 1) := by
  refine (Value.final2 m c).symm.trans ((dats m 0 c).arrAt_eq_of_covers 2 _ (by decide +kernel) fun t hf y => ?_)
  have h : t.val % 4 = 3 := (flush0_2 t).mp hf
  blk_simp
  rw [after0_2]
  obtain ⟨p, q, rfl⟩ : ∃ (p : Fin 1408) (q : Fin 1024), y = ix2 p q := ix2_of y
  have e0 : (win0_2.blk t).view.emb (ix2 p q) 0 = col t p := by
    apply Fin.ext; blk_simp [idx2 t]; unfold col; dsimp only; omega
  have e1 : (win0_2.blk t).view.emb (ix2 p q) 1 = q := by
    apply Fin.ext; blk_simp [idx2 t]
  rw [e0, e1]
  exact at_end m c t h p q

/-- From arguments equal to the kernel's, the reference's result is the kernel's. -/
theorem reference_run (ρ' : Dev Cert.Reference6Ideal.nD → PrngReg)
    (h : ∀ c : Dev nD,
      m' ((c.tc : Thread Cert.Reference6Ideal.nD Cert.Reference6Ideal.τ).loc Cert.Reference6Ideal.main_arg0) = m ((c : Thread nD τ).loc main_arg0)
      ∧ m' ((c.tc : Thread Cert.Reference6Ideal.nD Cert.Reference6Ideal.τ).loc Cert.Reference6Ideal.main_arg1) = m ((c : Thread nD τ).loc main_arg1)
      ∧ m' ((c.tc : Thread Cert.Reference6Ideal.nD Cert.Reference6Ideal.τ).loc Cert.Reference6Ideal.main_arg2) = m ((c : Thread nD τ).loc main_arg2)
      ∧ m' ((c.tc : Thread Cert.Reference6Ideal.nD Cert.Reference6Ideal.τ).loc Cert.Reference6Ideal.main_arg3) = m ((c : Thread nD τ).loc main_arg3)
      ∧ m' ((c.tc : Thread Cert.Reference6Ideal.nD Cert.Reference6Ideal.τ).loc Cert.Reference6Ideal.main_arg4) = m ((c : Thread nD τ).loc main_arg4)
      ∧ m' ((c.tc : Thread Cert.Reference6Ideal.nD Cert.Reference6Ideal.τ).loc Cert.Reference6Ideal.main_arg5) = m ((c : Thread nD τ).loc main_arg5)) :
    θ_run (Cert.Reference6Ideal.defs (F := Ideal)) (onTc (τ := Cert.Reference6Ideal.τ) (Cert.Reference6Ideal.main (F := Ideal))) ⟨m', fun _ => 0, ρ'⟩ (fun r => ∀ c : Dev Cert.Reference6Ideal.nD,
      r.2.mem ((c.tc : Thread Cert.Reference6Ideal.nD Cert.Reference6Ideal.τ).loc Cert.Reference6Ideal.main_v29) = Value.G2 m c) := by
  refine (θ_run Cert.Reference6Ideal.defs _ _).mono (fun r hq c => (hq c).1.trans ?_) (Cert.Reference6Ideal.Value.run m' ρ')
  clear hq; rw [result]
  obtain ⟨h0, h1, h2, h3, h4, h5⟩ := h c
  funext i
  obtain ⟨p, q, rfl⟩ : ∃ (p : Fin 2816) (q : Fin 1024), i = ix2 p q := ix2_of i
  show _ = over (arrL m c) (arrR m c) p q
  unfold over arrL arrR Cert.Reference6Ideal.Value.res_main_v29
  simp only [h0, h1, h2, h3, h4, h5]
  simp only [V, hostOps0, hostOps0_1, hostOps0_2, hostOps0_3, hostOps0_4, List.flatten_cons, List.flatten_nil, List.append_nil, List.cons_append, List.nil_append,
    TRef.binary, TRef.nullary, TRef.unary, TRef.toBuf, TRef.ofBuf, cast_eq]
  after_results_simp
  pointwise

end Cert.Kernel6Ideal.Proj

end
-- ==== Proof.Proj.W7.lean ====
/- The call that computes the gradient of the first feed-forward block's up projection. -/
module

public import proofs.«01_k».proof.Proof.Gen.Kernel7Ideal.Value
public import proofs.«01_k».proof.Proof.Gen.Reference7Ideal.Run
public import Idealize.ShloMosaic.Lib.Pipeline.ValueKit

@[expose] public section

set_option maxRecDepth 16384
set_option maxHeartbeats 800000

noncomputable section

namespace Cert.Kernel7Ideal.Proj

open Idealize.ShloMosaic Idealize.ShloMosaic.TcCoe Idealize.ShloMosaic.Tactic Cert.Kernel7Ideal Cert.Kernel7Ideal.Gen
open Idealize.ShloMosaic.StableHlo Idealize.SL Idealize.SL.Sem

variable (m : (ℓ : Loc nD τ sig) → Buf (Elt Ideal) ℓ)
variable (m' : (ℓ : Loc Cert.Reference7Ideal.nD Cert.Reference7Ideal.τ Cert.Reference7Ideal.sig) → Buf (Elt Ideal) ℓ)

theorem ix2_of {a b : ℕ} (j : (⟨2, ![a, b]⟩ : Shape).Idx) : ∃ (p : Fin a) (q : Fin b), j = ix2 p q :=
  ⟨j 0, j 1, by funext x; fin_cases x <;> rfl⟩

/-- The blocks a point reads: 1024 rows of the two arrays. -/
abbrev left (c : Dev nD) (t : Fin cfg0.N) : Vec Ideal S1024x1408 .bf16 := iblk m c 0 t
abbrev right (c : Dev nD) (t : Fin cfg0.N) : Vec Ideal S1024x1024 .bf16 := iblk m c 1 t

/-- One point's product: the left block, transposed, with the right one. -/
def prod (a : Vec Ideal S1024x1408 .bf16) (b : Vec Ideal S1024x1024 .bf16) (j : S1408x1024.Idx) : EReal :=
  ∑ k : Fin 1024, (a (ix2 k (j 0)) : EReal) * b (ix2 k (j 1))

theorem add_prod (x : Vec Ideal S1408x1024 .f32) (a : Vec Ideal S1024x1408 .bf16) (b : Vec Ideal S1024x1024 .bf16) (j : S1408x1024.Idx) :
    k0_pay2 x a b j = (x j : EReal) + prod a b j := by
  obtain ⟨p, q, rfl⟩ := ix2_of j
  pointwise [k0_pay2, prod]

theorem zero (j : S1408x1024.Idx) : k0_pay1 (F := Ideal) j = (0 : EReal) := by
  obtain ⟨p, q, rfl⟩ := ix2_of j
  pointwise [k0_pay1]

/-- The accumulator at the end of a run over the tokens: the sum of the run's products. -/
theorem acc (c : Dev nD) (t : Fin cfg0.N) (h : t.val % 4 = 3) (j : S1408x1024.Idx) :
    ((outsAt0 m c t.val t.isLt).2 j : EReal) =
      0 + ∑ s : Fin 4, prod (left m c ⟨4 * (t.val / 4) + s.val, Pipeline.run_point_lt_of_flush t h s⟩) (right m c ⟨4 * (t.val / 4) + s.val, Pipeline.run_point_lt_of_flush t h s⟩) j := by
  refine Pipeline.eq_sum_fin_of_reset_step_apply_of_flush (fun n h => (outsAt0 m c n h).2) 4 (fun _ => (0 : EReal))
    (fun t j => prod (left m c t) (right m c t) j) (fun t h => ?_) (fun t h => ?_) t h j
  · rw [outsAt0_A m c t h (by omega)]
    intro j
    frame_out
    exact (add_prod _ _ _ j).trans (congrArg (· + _) (zero j))
  · by_cases h3 : t.val % 4 = 3
    · rw [outsAt0_C m c t h h3]
      intro j
      frame_out
      exact (add_prod _ _ _ j).trans (congrArg (· + _) (congrFun ((Memref.isWhole_whole cc0_scratch0).read_unread _) j))
    · rw [outsAt0_B m c t h h3]
      intro j
      frame_out
      exact (add_prod _ _ _ j).trans (congrArg (· + _) (congrFun ((Memref.isWhole_whole cc0_scratch0).read_unread _) j))

/-- The last point of a run stores the accumulator. -/
theorem out (c : Dev nD) (t : Fin cfg0.N) (h : t.val % 4 = 3) (j : S1408x1024.Idx) :
    ((outsAt0 m c t.val t.isLt).1 j : EReal) = (outsAt0 m c t.val t.isLt).2 j := by
  rw [outsAt0_C m c t (by omega) h]
  frame_out
  pointwise [k0_pay3]

/-- The two arrays the call is given. -/
abbrev arrL (c : Dev nD) : Vec Ideal S4096x2816 .bf16 := V m c main_v25
abbrev arrR (c : Dev nD) : Vec Ideal S4096x1024 .bf16 := V m c main_v27

/-! The block of each window at a grid point. -/
theorem idx0 : ∀ t : Fin cfg0.N, win0_0.index t = ![t.val % 4, t.val / 4] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![t.val / 4, 0] := (by decide +kernel : ∀ t : Fin grid0.N, _)

/-- Row `k` of the blocks read at point `t`, in the whole arrays, -/
def tok (t : Fin cfg0.N) (k : Fin 1024) : Fin 4096 := ⟨1024 * (t.val % 4) + k.val, by have := k.isLt; omega⟩
/-- and column `p` of the left block. -/
def col (t : Fin cfg0.N) (p : Fin 1408) : Fin 2816 := ⟨1408 * (t.val / 4) + p.val, by have := lt_of_lt_of_eq t.isLt N_0; have := p.isLt; omega⟩

theorem left_at (c : Dev nD) (t : Fin cfg0.N) (k : Fin 1024) (p : Fin 1408) : left m c t (ix2 k p) = arrL m c (ix2 (tok t k) (col t p)) := by
  unfold tok col
  blk_ext [iblk, idx0 t]
theorem right_at (c : Dev nD) (t : Fin cfg0.N) (k : Fin 1024) (q : Fin 1024) : right m c t (ix2 k q) = arrR m c (ix2 (tok t k) q) := by
  unfold tok
  blk_ext [iblk, idx1 t]

/-- A product over all 4096 tokens. -/
def over (A : Vec Ideal S4096x2816 .bf16) (B : Vec Ideal S4096x1024 .bf16) (f : Fin 2816) (d : Fin 1024) : EReal :=
  ∑ r : Fin 4096, (A (ix2 r f) : EReal) * B (ix2 r d)

/-- The four points of a run cover the tokens. -/
theorem over_tiles (A : Vec Ideal S4096x2816 .bf16) (B : Vec Ideal S4096x1024 .bf16) (t : Fin cfg0.N) (h : t.val % 4 = 3) (p : Fin 1408) (d : Fin 1024) :
    (∑ s : Fin 4, ∑ k : Fin 1024, (A (ix2 (tok ⟨4 * (t.val / 4) + s.val, Pipeline.run_point_lt_of_flush t h s⟩ k) (col ⟨4 * (t.val / 4) + s.val, Pipeline.run_point_lt_of_flush t h s⟩ p)) : EReal)
      * B (ix2 (tok ⟨4 * (t.val / 4) + s.val, Pipeline.run_point_lt_of_flush t h s⟩ k) d)) = over A B (col t p) d := by
  unfold over
  rw [Fin.sum_univ_tiles 4 1024 rfl]
  refine Finset.sum_congr rfl fun s _ => Finset.sum_congr rfl fun k _ => ?_
  have e1 : tok ⟨4 * (t.val / 4) + s.val, Pipeline.run_point_lt_of_flush t h s⟩ k = ⟨s.val * 1024 + k.val, by have := s.isLt; have := k.isLt; omega⟩ :=
    Fin.ext (by show 1024 * ((4 * (t.val / 4) + s.val) % 4) + k.val = s.val * 1024 + k.val; have := s.isLt; omega)
  have e2 : col ⟨4 * (t.val / 4) + s.val, Pipeline.run_point_lt_of_flush t h s⟩ p = col t p :=
    Fin.ext (by show 1408 * ((4 * (t.val / 4) + s.val) / 4) + p.val = 1408 * (t.val / 4) + p.val; have := s.isLt; omega)
  rw [e1, e2]

theorem at_end (c : Dev nD) (t : Fin cfg0.N) (h : t.val % 4 = 3) (p : Fin 1408) (q : Fin 1024) :
    ((outsAt0 m c t.val t.isLt).1 (ix2 p q) : EReal) = over (arrL m c) (arrR m c) (col t p) q := by
  rw [out m c t h, acc m c t h, zero_add, ← over_tiles (arrL m c) (arrR m c) t h p q]
  refine Finset.sum_congr rfl fun s _ => Finset.sum_congr rfl fun k _ => ?_
  exact congrArg₂ (fun a b : EReal => a * b) (left_at m c _ k p) (right_at m c _ k q)

/-- The call's result: the product over the tokens. -/
theorem result (c : Dev nD) : Value.G2 m c = fun i : S2816x1024.Idx => over (arrL m c) (arrR m c) (i 0) (i 1) := by
  refine (Value.final2 m c).symm.trans ((dats m 0 c).arrAt_eq_of_covers 2 _ (by decide +kernel) fun t hf y => ?_)
  have h : t.val % 4 = 3 := (flush0_2 t).mp hf
  blk_simp
  rw [after0_2]
  obtain ⟨p, q, rfl⟩ : ∃ (p : Fin 1408) (q : Fin 1024), y = ix2 p q := ix2_of y
  have e0 : (win0_2.blk t).view.emb (ix2 p q) 0 = col t p := by
    apply Fin.ext; blk_simp [idx2 t]; unfold col; dsimp only; omega
  have e1 : (win0_2.blk t).view.emb (ix2 p q) 1 = q := by
    apply Fin.ext; blk_simp [idx2 t]
  rw [e0, e1]
  exact at_end m c t h p q

/-- From arguments equal to the kernel's, the reference's result is the kernel's. -/
theorem reference_run (ρ' : Dev Cert.Reference7Ideal.nD → PrngReg)
    (h : ∀ c : Dev nD,
      m' ((c.tc : Thread Cert.Reference7Ideal.nD Cert.Reference7Ideal.τ).loc Cert.Reference7Ideal.main_arg0) = m ((c : Thread nD τ).loc main_arg0)
      ∧ m' ((c.tc : Thread Cert.Reference7Ideal.nD Cert.Reference7Ideal.τ).loc Cert.Reference7Ideal.main_arg1) = m ((c : Thread nD τ).loc main_arg1)
      ∧ m' ((c.tc : Thread Cert.Reference7Ideal.nD Cert.Reference7Ideal.τ).loc Cert.Reference7Ideal.main_arg2) = m ((c : Thread nD τ).loc main_arg2)
      ∧ m' ((c.tc : Thread Cert.Reference7Ideal.nD Cert.Reference7Ideal.τ).loc Cert.Reference7Ideal.main_arg3) = m ((c : Thread nD τ).loc main_arg3)
      ∧ m' ((c.tc : Thread Cert.Reference7Ideal.nD Cert.Reference7Ideal.τ).loc Cert.Reference7Ideal.main_arg4) = m ((c : Thread nD τ).loc main_arg4)
      ∧ m' ((c.tc : Thread Cert.Reference7Ideal.nD Cert.Reference7Ideal.τ).loc Cert.Reference7Ideal.main_arg5) = m ((c : Thread nD τ).loc main_arg5)) :
    θ_run (Cert.Reference7Ideal.defs (F := Ideal)) (onTc (τ := Cert.Reference7Ideal.τ) (Cert.Reference7Ideal.main (F := Ideal))) ⟨m', fun _ => 0, ρ'⟩ (fun r => ∀ c : Dev Cert.Reference7Ideal.nD,
      r.2.mem ((c.tc : Thread Cert.Reference7Ideal.nD Cert.Reference7Ideal.τ).loc Cert.Reference7Ideal.main_v28) = Value.G2 m c) := by
  refine (θ_run Cert.Reference7Ideal.defs _ _).mono (fun r hq c => (hq c).1.trans ?_) (Cert.Reference7Ideal.Value.run m' ρ')
  clear hq; rw [result]
  obtain ⟨h0, h1, h2, h3, h4, h5⟩ := h c
  funext i
  obtain ⟨p, q, rfl⟩ : ∃ (p : Fin 2816) (q : Fin 1024), i = ix2 p q := ix2_of i
  show _ = over (arrL m c) (arrR m c) p q
  unfold over arrL arrR
  simp only [h0, h1, h2, h3, h4, h5]
  simp only [V, hostOps0, hostOps0_1, hostOps0_2, hostOps0_3, hostOps0_4, List.flatten_cons, List.flatten_nil, List.append_nil, List.cons_append, List.nil_append,
    TRef.binary, TRef.nullary, TRef.unary, TRef.toBuf, TRef.ofBuf, cast_eq]
  after_results_simp
  pointwise

end Cert.Kernel7Ideal.Proj

end
-- ==== Proof.Proj.W8.lean ====
/- The call that computes the gradient of the first feed-forward block's down projection. -/
module

public import proofs.«01_k».proof.Proof.Gen.Kernel8Ideal.Value
public import proofs.«01_k».proof.Proof.Gen.Reference8Ideal.Run
public import Idealize.ShloMosaic.Lib.Pipeline.ValueKit

@[expose] public section

set_option maxRecDepth 16384
set_option maxHeartbeats 800000

noncomputable section

namespace Cert.Kernel8Ideal.Proj

open Idealize.ShloMosaic Idealize.ShloMosaic.TcCoe Idealize.ShloMosaic.Tactic Cert.Kernel8Ideal Cert.Kernel8Ideal.Gen
open Idealize.ShloMosaic.StableHlo Idealize.SL Idealize.SL.Sem

variable (m : (ℓ : Loc nD τ sig) → Buf (Elt Ideal) ℓ)
variable (m' : (ℓ : Loc Cert.Reference8Ideal.nD Cert.Reference8Ideal.τ Cert.Reference8Ideal.sig) → Buf (Elt Ideal) ℓ)

theorem ix2_of {a b : ℕ} (j : (⟨2, ![a, b]⟩ : Shape).Idx) : ∃ (p : Fin a) (q : Fin b), j = ix2 p q :=
  ⟨j 0, j 1, by funext x; fin_cases x <;> rfl⟩

/-- The blocks a point reads: 1024 rows of the two arrays. -/
abbrev left (c : Dev nD) (t : Fin cfg0.N) : Vec Ideal S1024x1408 .bf16 := iblk m c 0 t
abbrev right (c : Dev nD) (t : Fin cfg0.N) : Vec Ideal S1024x1024 .bf16 := iblk m c 1 t

/-- One point's product: the left block, transposed, with the right one. -/
def prod (a : Vec Ideal S1024x1408 .bf16) (b : Vec Ideal S1024x1024 .bf16) (j : S1408x1024.Idx) : EReal :=
  ∑ k : Fin 1024, (a (ix2 k (j 0)) : EReal) * b (ix2 k (j 1))

theorem add_prod (x : Vec Ideal S1408x1024 .f32) (a : Vec Ideal S1024x1408 .bf16) (b : Vec Ideal S1024x1024 .bf16) (j : S1408x1024.Idx) :
    k0_pay2 x a b j = (x j : EReal) + prod a b j := by
  obtain ⟨p, q, rfl⟩ := ix2_of j
  pointwise [k0_pay2, prod]

theorem zero (j : S1408x1024.Idx) : k0_pay1 (F := Ideal) j = (0 : EReal) := by
  obtain ⟨p, q, rfl⟩ := ix2_of j
  pointwise [k0_pay1]

/-- The accumulator at the end of a run over the tokens: the sum of the run's products. -/
theorem acc (c : Dev nD) (t : Fin cfg0.N) (h : t.val % 4 = 3) (j : S1408x1024.Idx) :
    ((outsAt0 m c t.val t.isLt).2 j : EReal) =
      0 + ∑ s : Fin 4, prod (left m c ⟨4 * (t.val / 4) + s.val, Pipeline.run_point_lt_of_flush t h s⟩) (right m c ⟨4 * (t.val / 4) + s.val, Pipeline.run_point_lt_of_flush t h s⟩) j := by
  refine Pipeline.eq_sum_fin_of_reset_step_apply_of_flush (fun n h => (outsAt0 m c n h).2) 4 (fun _ => (0 : EReal))
    (fun t j => prod (left m c t) (right m c t) j) (fun t h => ?_) (fun t h => ?_) t h j
  · rw [outsAt0_A m c t h (by omega)]
    intro j
    frame_out
    exact (add_prod _ _ _ j).trans (congrArg (· + _) (zero j))
  · by_cases h3 : t.val % 4 = 3
    · rw [outsAt0_C m c t h h3]
      intro j
      frame_out
      exact (add_prod _ _ _ j).trans (congrArg (· + _) (congrFun ((Memref.isWhole_whole cc0_scratch0).read_unread _) j))
    · rw [outsAt0_B m c t h h3]
      intro j
      frame_out
      exact (add_prod _ _ _ j).trans (congrArg (· + _) (congrFun ((Memref.isWhole_whole cc0_scratch0).read_unread _) j))

/-- The last point of a run stores the accumulator. -/
theorem out (c : Dev nD) (t : Fin cfg0.N) (h : t.val % 4 = 3) (j : S1408x1024.Idx) :
    ((outsAt0 m c t.val t.isLt).1 j : EReal) = (outsAt0 m c t.val t.isLt).2 j := by
  rw [outsAt0_C m c t (by omega) h]
  frame_out
  pointwise [k0_pay3]

/-- The two arrays the call is given. -/
abbrev arrL (c : Dev nD) : Vec Ideal S4096x2816 .bf16 := V m c main_v26
abbrev arrR (c : Dev nD) : Vec Ideal S4096x1024 .bf16 := V m c main_v28

/-! The block of each window at a grid point. -/
theorem idx0 : ∀ t : Fin cfg0.N, win0_0.index t = ![t.val % 4, t.val / 4] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![t.val / 4, 0] := (by decide +kernel : ∀ t : Fin grid0.N, _)

/-- Row `k` of the blocks read at point `t`, in the whole arrays, -/
def tok (t : Fin cfg0.N) (k : Fin 1024) : Fin 4096 := ⟨1024 * (t.val % 4) + k.val, by have := k.isLt; omega⟩
/-- and column `p` of the left block. -/
def col (t : Fin cfg0.N) (p : Fin 1408) : Fin 2816 := ⟨1408 * (t.val / 4) + p.val, by have := lt_of_lt_of_eq t.isLt N_0; have := p.isLt; omega⟩

theorem left_at (c : Dev nD) (t : Fin cfg0.N) (k : Fin 1024) (p : Fin 1408) : left m c t (ix2 k p) = arrL m c (ix2 (tok t k) (col t p)) := by
  unfold tok col
  blk_ext [iblk, idx0 t]
theorem right_at (c : Dev nD) (t : Fin cfg0.N) (k : Fin 1024) (q : Fin 1024) : right m c t (ix2 k q) = arrR m c (ix2 (tok t k) q) := by
  unfold tok
  blk_ext [iblk, idx1 t]

/-- A product over all 4096 tokens. -/
def over (A : Vec Ideal S4096x2816 .bf16) (B : Vec Ideal S4096x1024 .bf16) (f : Fin 2816) (d : Fin 1024) : EReal :=
  ∑ r : Fin 4096, (A (ix2 r f) : EReal) * B (ix2 r d)

/-- The four points of a run cover the tokens. -/
theorem over_tiles (A : Vec Ideal S4096x2816 .bf16) (B : Vec Ideal S4096x1024 .bf16) (t : Fin cfg0.N) (h : t.val % 4 = 3) (p : Fin 1408) (d : Fin 1024) :
    (∑ s : Fin 4, ∑ k : Fin 1024, (A (ix2 (tok ⟨4 * (t.val / 4) + s.val, Pipeline.run_point_lt_of_flush t h s⟩ k) (col ⟨4 * (t.val / 4) + s.val, Pipeline.run_point_lt_of_flush t h s⟩ p)) : EReal)
      * B (ix2 (tok ⟨4 * (t.val / 4) + s.val, Pipeline.run_point_lt_of_flush t h s⟩ k) d)) = over A B (col t p) d := by
  unfold over
  rw [Fin.sum_univ_tiles 4 1024 rfl]
  refine Finset.sum_congr rfl fun s _ => Finset.sum_congr rfl fun k _ => ?_
  have e1 : tok ⟨4 * (t.val / 4) + s.val, Pipeline.run_point_lt_of_flush t h s⟩ k = ⟨s.val * 1024 + k.val, by have := s.isLt; have := k.isLt; omega⟩ :=
    Fin.ext (by show 1024 * ((4 * (t.val / 4) + s.val) % 4) + k.val = s.val * 1024 + k.val; have := s.isLt; omega)
  have e2 : col ⟨4 * (t.val / 4) + s.val, Pipeline.run_point_lt_of_flush t h s⟩ p = col t p :=
    Fin.ext (by show 1408 * ((4 * (t.val / 4) + s.val) / 4) + p.val = 1408 * (t.val / 4) + p.val; have := s.isLt; omega)
  rw [e1, e2]

theorem at_end (c : Dev nD) (t : Fin cfg0.N) (h : t.val % 4 = 3) (p : Fin 1408) (q : Fin 1024) :
    ((outsAt0 m c t.val t.isLt).1 (ix2 p q) : EReal) = over (arrL m c) (arrR m c) (col t p) q := by
  rw [out m c t h, acc m c t h, zero_add, ← over_tiles (arrL m c) (arrR m c) t h p q]
  refine Finset.sum_congr rfl fun s _ => Finset.sum_congr rfl fun k _ => ?_
  exact congrArg₂ (fun a b : EReal => a * b) (left_at m c _ k p) (right_at m c _ k q)

/-- The call's result: the product over the tokens. -/
theorem result (c : Dev nD) : Value.G2 m c = fun i : S2816x1024.Idx => over (arrL m c) (arrR m c) (i 0) (i 1) := by
  refine (Value.final2 m c).symm.trans ((dats m 0 c).arrAt_eq_of_covers 2 _ (by decide +kernel) fun t hf y => ?_)
  have h : t.val % 4 = 3 := (flush0_2 t).mp hf
  blk_simp
  rw [after0_2]
  obtain ⟨p, q, rfl⟩ : ∃ (p : Fin 1408) (q : Fin 1024), y = ix2 p q := ix2_of y
  have e0 : (win0_2.blk t).view.emb (ix2 p q) 0 = col t p := by
    apply Fin.ext; blk_simp [idx2 t]; unfold col; dsimp only; omega
  have e1 : (win0_2.blk t).view.emb (ix2 p q) 1 = q := by
    apply Fin.ext; blk_simp [idx2 t]
  rw [e0, e1]
  exact at_end m c t h p q

/-- From arguments equal to the kernel's, the reference's result is the kernel's. -/
theorem reference_run (ρ' : Dev Cert.Reference8Ideal.nD → PrngReg)
    (h : ∀ c : Dev nD,
      m' ((c.tc : Thread Cert.Reference8Ideal.nD Cert.Reference8Ideal.τ).loc Cert.Reference8Ideal.main_arg0) = m ((c : Thread nD τ).loc main_arg0)
      ∧ m' ((c.tc : Thread Cert.Reference8Ideal.nD Cert.Reference8Ideal.τ).loc Cert.Reference8Ideal.main_arg1) = m ((c : Thread nD τ).loc main_arg1)
      ∧ m' ((c.tc : Thread Cert.Reference8Ideal.nD Cert.Reference8Ideal.τ).loc Cert.Reference8Ideal.main_arg2) = m ((c : Thread nD τ).loc main_arg2)
      ∧ m' ((c.tc : Thread Cert.Reference8Ideal.nD Cert.Reference8Ideal.τ).loc Cert.Reference8Ideal.main_arg3) = m ((c : Thread nD τ).loc main_arg3)
      ∧ m' ((c.tc : Thread Cert.Reference8Ideal.nD Cert.Reference8Ideal.τ).loc Cert.Reference8Ideal.main_arg4) = m ((c : Thread nD τ).loc main_arg4)
      ∧ m' ((c.tc : Thread Cert.Reference8Ideal.nD Cert.Reference8Ideal.τ).loc Cert.Reference8Ideal.main_arg5) = m ((c : Thread nD τ).loc main_arg5)) :
    θ_run (Cert.Reference8Ideal.defs (F := Ideal)) (onTc (τ := Cert.Reference8Ideal.τ) (Cert.Reference8Ideal.main (F := Ideal))) ⟨m', fun _ => 0, ρ'⟩ (fun r => ∀ c : Dev Cert.Reference8Ideal.nD,
      r.2.mem ((c.tc : Thread Cert.Reference8Ideal.nD Cert.Reference8Ideal.τ).loc Cert.Reference8Ideal.main_v25) = Value.G2 m c) := by
  refine (θ_run Cert.Reference8Ideal.defs _ _).mono (fun r hq c => (hq c).1.trans ?_) (Cert.Reference8Ideal.Value.run m' ρ')
  clear hq; rw [result]
  obtain ⟨h0, h1, h2, h3, h4, h5⟩ := h c
  funext i
  obtain ⟨p, q, rfl⟩ : ∃ (p : Fin 2816) (q : Fin 1024), i = ix2 p q := ix2_of i
  show _ = over (arrL m c) (arrR m c) p q
  unfold over arrL arrR
  simp only [h0, h1, h2, h3, h4, h5]
  simp only [V, hostOps0, hostOps0_1, hostOps0_2, hostOps0_3, hostOps0_4, List.flatten_cons, List.flatten_nil, List.append_nil, List.cons_append, List.nil_append,
    TRef.binary, TRef.nullary, TRef.unary, TRef.toBuf, TRef.ofBuf, cast_eq]
  after_results_simp
  pointwise
  first | rfl | exact Finset.sum_congr rfl fun x _ => mul_comm _ _

end Cert.Kernel8Ideal.Proj

end
-- ==== Proof.Bwd.Kit.lean ====
module

public import proofs.«01_k».proof.Proof.Gen.Kernel9Ideal.Frame
public import proofs.«01_k».proof.Proof.Gen.Kernel9Ideal.Skeleton
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp
public import Idealize.ShloMosaic.Lib.Claim

@[expose] public section

/-! What the runs of the kernel body share: when its conditionals are taken, and the buffers it is run on. -/

set_option maxRecDepth 16384

noncomputable section

namespace Cert.Kernel9Ideal.Bwd

open Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- When the body's first conditional is taken. -/
theorem cond1_iff : ∀ t : Fin cfg0.N, k0_cond1 (grid0.coords t) = 1#1 ↔ t.val % 11 = 0 :=
  (by decide +kernel : ∀ t : Fin grid0.N, k0_cond1 (grid0.coords t) = 1#1 ↔ t.val % 11 = 0)

/-- When the body's second conditional is taken. -/
theorem cond2_iff : ∀ t : Fin cfg0.N, k0_cond2 (grid0.coords t) = 1#1 ↔ t.val = 0 :=
  (by decide +kernel : ∀ t : Fin grid0.N, k0_cond2 (grid0.coords t) = 1#1 ↔ t.val = 0)

/-- When the body's third conditional is taken. -/
theorem cond3_iff : ∀ t : Fin cfg0.N, k0_cond3 (grid0.coords t) = 1#1 ↔ t.val % 11 = 10 :=
  (by decide +kernel : ∀ t : Fin grid0.N, k0_cond3 (grid0.coords t) = 1#1 ↔ t.val % 11 = 10)

/-- The windows of the result, the cotangent and the norm's gradient are idle where the body stores nothing into them. -/
theorem idle7_iff : ∀ t : Fin cfg0.N, cfg0.idle 7 (grid0.coords t) = !(decide (t.val % 11 = 10)) :=
  (by decide +kernel : ∀ t : Fin grid0.N, idle0 7 (grid0.coords t) = !(decide (t.val % 11 = 10)))
theorem idle11_iff : ∀ t : Fin cfg0.N, cfg0.idle 11 (grid0.coords t) = !(decide (t.val % 11 = 0)) :=
  (by decide +kernel : ∀ t : Fin grid0.N, idle0 11 (grid0.coords t) = !(decide (t.val % 11 = 0)))
theorem idle12_iff : ∀ t : Fin cfg0.N, cfg0.idle 12 (grid0.coords t) = !(decide (t.val = 0 ∨ t.val % 11 = 10)) :=
  (by decide +kernel : ∀ t : Fin grid0.N, idle0 12 (grid0.coords t) = !(decide (t.val = 0 ∨ t.val % 11 = 10)))
/-- The buffer of the norm's gradient holds nothing of use at the first point alone. -/
theorem fresh12 : ∀ t : Fin cfg0.N, cfg0.fresh 12 t.val = decide (t.val = 0) :=
  (by decide +kernel : ∀ t : Fin grid0.N, cfg0.fresh 12 t.val = decide (t.val = 0))
/-- The cotangent's buffer holds nothing of use exactly where a row block begins. -/
theorem fresh11 : ∀ t : Fin cfg0.N, cfg0.fresh 11 t.val = decide (t.val % 11 = 0) :=
  (by decide +kernel : ∀ t : Fin grid0.N, cfg0.fresh 11 t.val = decide (t.val % 11 = 0))

/-! The staging buffer of each window at a grid point, and that it is a whole buffer. -/

abbrev stg0 (t : Fin cfg0.N) : Memref sig .tc .vmem S1024x1024 .f32 := win0_0.stage (cfg0.slots t 0)
abbrev wh0 (t : Fin cfg0.N) : (stg0 t).IsWhole := hstage0_0 ((cfg0.slots t 0).cast nbuf0_0)
abbrev stg1 (t : Fin cfg0.N) : Memref sig .tc .vmem S1x1024 .f32 := win0_1.stage (cfg0.slots t 1)
abbrev wh1 (t : Fin cfg0.N) : (stg1 t).IsWhole := hstage0_1 ((cfg0.slots t 1).cast nbuf0_1)
abbrev stg2 (t : Fin cfg0.N) : Memref sig .tc .vmem S1024x1024 .f32 := win0_2.stage (cfg0.slots t 2)
abbrev wh2 (t : Fin cfg0.N) : (stg2 t).IsWhole := hstage0_2 ((cfg0.slots t 2).cast nbuf0_2)
abbrev stg3 (t : Fin cfg0.N) : Memref sig .tc .vmem S1024x256 .bf16 := win0_3.stage (cfg0.slots t 3)
abbrev wh3 (t : Fin cfg0.N) : (stg3 t).IsWhole := hstage0_3 ((cfg0.slots t 3).cast nbuf0_3)
abbrev stg4 (t : Fin cfg0.N) : Memref sig .tc .vmem S1024x256 .bf16 := win0_4.stage (cfg0.slots t 4)
abbrev wh4 (t : Fin cfg0.N) : (stg4 t).IsWhole := hstage0_4 ((cfg0.slots t 4).cast nbuf0_4)
abbrev stg5 (t : Fin cfg0.N) : Memref sig .tc .vmem S2x256x1024 .bf16 := win0_5.stage (cfg0.slots t 5)
abbrev wh5 (t : Fin cfg0.N) : (stg5 t).IsWhole := hstage0_5 ((cfg0.slots t 5).cast nbuf0_5)
abbrev stg6 (t : Fin cfg0.N) : Memref sig .tc .vmem S1x256x1024 .bf16 := win0_6.stage (cfg0.slots t 6)
abbrev wh6 (t : Fin cfg0.N) : (stg6 t).IsWhole := hstage0_6 ((cfg0.slots t 6).cast nbuf0_6)
abbrev stg7 (t : Fin cfg0.N) : Memref sig .tc .vmem S1024x1024 .f32 := win0_7.stage (cfg0.slots t 7)
abbrev wh7 (t : Fin cfg0.N) : (stg7 t).IsWhole := hstage0_7 ((cfg0.slots t 7).cast nbuf0_7)
abbrev stg8 (t : Fin cfg0.N) : Memref sig .tc .vmem S1024x256 .bf16 := win0_8.stage (cfg0.slots t 8)
abbrev wh8 (t : Fin cfg0.N) : (stg8 t).IsWhole := hstage0_8 ((cfg0.slots t 8).cast nbuf0_8)
abbrev stg9 (t : Fin cfg0.N) : Memref sig .tc .vmem S1024x256 .bf16 := win0_9.stage (cfg0.slots t 9)
abbrev wh9 (t : Fin cfg0.N) : (stg9 t).IsWhole := hstage0_9 ((cfg0.slots t 9).cast nbuf0_9)
abbrev stg10 (t : Fin cfg0.N) : Memref sig .tc .vmem S1024x1024 .bf16 := win0_10.stage (cfg0.slots t 10)
abbrev wh10 (t : Fin cfg0.N) : (stg10 t).IsWhole := hstage0_10 ((cfg0.slots t 10).cast nbuf0_10)
abbrev stg11 (t : Fin cfg0.N) : Memref sig .tc .vmem S1024x1024 .bf16 := win0_11.stage (cfg0.slots t 11)
abbrev wh11 (t : Fin cfg0.N) : (stg11 t).IsWhole := hstage0_11 ((cfg0.slots t 11).cast nbuf0_11)
abbrev stg12 (t : Fin cfg0.N) : Memref sig .tc .vmem S1x1024 .f32 := win0_12.stage (cfg0.slots t 12)
abbrev wh12 (t : Fin cfg0.N) : (stg12 t).IsWhole := hstage0_12 ((cfg0.slots t 12).cast nbuf0_12)
/-- The accumulator the kernel carries from point to point beside its windows. -/
abbrev scr : Memref sig .tc .vmem S1024x1024 .f32 := Memref.whole cc0_scratch0

/-- The invariant between points with that buffer owned at some contents. -/
theorem Phi_scr (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

end Cert.Kernel9Ideal.Bwd

end
-- ==== Proof.Bwd.RunA0.lean ====
module

public import proofs.«01_k».proof.Proof.Bwd.Kit

@[expose] public section

/-! The kernel body run at the first point of all. -/

set_option maxRecDepth 16384

noncomputable section

namespace Cert.Kernel9Ideal.Bwd

open Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1800000 in
/-- The kernel body run at the first point of all: it keeps its inputs, and leaves the pieces given here in the buffers it is
    said to store into; nothing is said of what it leaves in the other outputs. -/
def runA0 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S2x256x1024 .bf16) (harg7 : arg7.IsWhole) (arg8 : Memref sig .tc .vmem S1x256x1024 .bf16) (harg8 : arg8.IsWhole) (arg9 : Memref sig .tc .vmem S1024x1024 .f32) (harg9 : arg9.IsWhole) (arg10 : Memref sig .tc .vmem S1024x256 .bf16) (harg10 : arg10.IsWhole) (arg11 : Memref sig .tc .vmem S1024x256 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1024x1024 .f32) (harg15 : arg15.IsWhole) (hc1 : k0_cond1 i = 1#1) (hc2 : k0_cond2 i = 1#1) (hc3 : ¬k0_cond3 i = 1#1)
    (x0 : Vec F S1024x1024 .f32) (x1 : Vec F S1x1024 .f32) (x2 : Vec F S1024x1024 .f32) (x3 : Vec F S1024x256 .bf16) (x4 : Vec F S1024x256 .bf16) (x5 : Vec F S2x256x1024 .bf16) (x6 : Vec F S1x256x1024 .bf16)  :
    Σ' (L11 : List (View.Piece (Elt F) S1024x1024 .bf16)), Σ' (L12 : List (View.Piece (Elt F) S1x1024 .f32)), { L13 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg10 fullShare d) ∗ (∃ d, owns (c : Thread nD τ) arg11 fullShare d) ∗ (∃ d, owns (c : Thread nD τ) arg12 fullShare d) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13)) -∗ K ⟨⟩))
          ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0_ffn_bwd_eq_skeleton]; unfold cc0_ffn_bwd_skel
    simp only [k0_part1_eq_skeleton, k0_part2_eq_skeleton]
    unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]; · iexists _; iexact H11
    isplitl [H12]; · iexists _; iexact H12
    iexists _; iexact H13

end Cert.Kernel9Ideal.Bwd

end
-- ==== Proof.Bwd.RunA1.lean ====
module

public import proofs.«01_k».proof.Proof.Bwd.Kit

@[expose] public section

/-! The kernel body run at a later point that begins a row block. -/

set_option maxRecDepth 16384

noncomputable section

namespace Cert.Kernel9Ideal.Bwd

open Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1800000 in
/-- The kernel body run at a later point that begins a row block: it keeps its inputs, and leaves the pieces given here in the buffers it is
    said to store into; nothing is said of what it leaves in the other outputs. -/
def runA1 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S2x256x1024 .bf16) (harg7 : arg7.IsWhole) (arg8 : Memref sig .tc .vmem S1x256x1024 .bf16) (harg8 : arg8.IsWhole) (arg9 : Memref sig .tc .vmem S1024x1024 .f32) (harg9 : arg9.IsWhole) (arg10 : Memref sig .tc .vmem S1024x256 .bf16) (harg10 : arg10.IsWhole) (arg11 : Memref sig .tc .vmem S1024x256 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1024x1024 .f32) (harg15 : arg15.IsWhole) (hc1 : k0_cond1 i = 1#1) (hc2 : ¬k0_cond2 i = 1#1) (hc3 : ¬k0_cond3 i = 1#1)
    (x0 : Vec F S1024x1024 .f32) (x1 : Vec F S1x1024 .f32) (x2 : Vec F S1024x1024 .f32) (x3 : Vec F S1024x256 .bf16) (x4 : Vec F S1024x256 .bf16) (x5 : Vec F S2x256x1024 .bf16) (x6 : Vec F S1x256x1024 .bf16) (xg : Vec F S1x1024 .f32) :
    Σ' (L11 : List (View.Piece (Elt F) S1024x1024 .bf16)), { L13 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg10 fullShare d) ∗ (∃ d, owns (c : Thread nD τ) arg11 fullShare d) ∗ (∃ d, owns (c : Thread nD τ) arg12 fullShare d) ∗ owns (c : Thread nD τ) arg14 fullShare xg ∗ (∃ d, owns (c : Thread nD τ) arg13 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg10 fullShare d) ∗ (∃ d, owns (c : Thread nD τ) arg11 fullShare d) ∗ (∃ d, owns (c : Thread nD τ) arg12 fullShare d) ∗ owns (c : Thread nD τ) arg14 fullShare xg ∗ (∃ f, arg13.view.loc (c : Thread nD τ) ↦[arg13.view.set]{fullShare} arg13.view.writes (Elt F) f L11) ∗ (∃ f, arg15.view.loc (c : Thread nD τ) ↦[arg15.view.set]{fullShare} arg15.view.writes (Elt F) f L13)) -∗ K ⟨⟩))
          ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0_ffn_bwd_eq_skeleton]; unfold cc0_ffn_bwd_skel
    simp only [k0_part1_eq_skeleton, k0_part2_eq_skeleton]
    unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, ⟨%d9, %f9, -, H9⟩, ⟨%d10, %f10, -, H10⟩, ⟨%f12, %hf12, H12⟩, ⟨%d11, %f11, -, H11⟩, ⟨%d13, %f13, -, H13⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg14.eq_unread hf12
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H12]
    · iexists _; isplitr; · ipureintro; exact harg14.read_unread _
      iexact H12
    isplitl [H11]; · iexists _; iexact H11
    iexists _; iexact H13

end Cert.Kernel9Ideal.Bwd

end
-- ==== Proof.Bwd.RunB.lean ====
module

public import proofs.«01_k».proof.Proof.Bwd.Kit

@[expose] public section

/-! The kernel body run at a point inside a row block. -/

set_option maxRecDepth 16384

noncomputable section

namespace Cert.Kernel9Ideal.Bwd

open Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1800000 in
/-- The kernel body run at a point inside a row block: it keeps its inputs, and leaves the pieces given here in the buffers it is
    said to store into; nothing is said of what it leaves in the other outputs. -/
def runB (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S2x256x1024 .bf16) (harg7 : arg7.IsWhole) (arg8 : Memref sig .tc .vmem S1x256x1024 .bf16) (harg8 : arg8.IsWhole) (arg9 : Memref sig .tc .vmem S1024x1024 .f32) (harg9 : arg9.IsWhole) (arg10 : Memref sig .tc .vmem S1024x256 .bf16) (harg10 : arg10.IsWhole) (arg11 : Memref sig .tc .vmem S1024x256 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1024x1024 .f32) (harg15 : arg15.IsWhole) (hc1 : ¬k0_cond1 i = 1#1) (hc2 : ¬k0_cond2 i = 1#1) (hc3 : ¬k0_cond3 i = 1#1)
    (x0 : Vec F S1024x1024 .f32) (x1 : Vec F S1x1024 .f32) (x2 : Vec F S1024x1024 .f32) (x3 : Vec F S1024x256 .bf16) (x4 : Vec F S1024x256 .bf16) (x5 : Vec F S2x256x1024 .bf16) (x6 : Vec F S1x256x1024 .bf16) (xd : Vec F S1024x1024 .bf16) (xs : Vec F S1024x1024 .f32) (xg : Vec F S1x1024 .f32) :
     { L13 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xd ∗ owns (c : Thread nD τ) arg14 fullShare xg ∗ owns (c : Thread nD τ) arg15 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xd ∗ owns (c : Thread nD τ) arg14 fullShare xg ∗ (arg15.view.loc (c : Thread nD τ) ↦[arg15.view.set]{fullShare} arg15.view.writes (Elt F) (harg15.unread xs) L13)) -∗ K ⟨⟩))
          ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0_ffn_bwd_eq_skeleton]; unfold cc0_ffn_bwd_skel
    simp only [k0_part1_eq_skeleton, k0_part2_eq_skeleton]
    unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, ⟨%d9, %f9, -, H9⟩, ⟨%d10, %f10, -, H10⟩, ⟨%f11, %hf11, H11⟩, ⟨%f12, %hf12, H12⟩, ⟨%f13, %hf13, H13⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg13.eq_unread hf11; obtain rfl := harg14.eq_unread hf12; obtain rfl := harg15.eq_unread hf13
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _; isplitr; · ipureintro; exact harg13.read_unread _
      iexact H11
    isplitl [H12]
    · iexists _; isplitr; · ipureintro; exact harg14.read_unread _
      iexact H12
    iexact H13

end Cert.Kernel9Ideal.Bwd

end
-- ==== Proof.Bwd.RunC.lean ====
module

public import proofs.«01_k».proof.Proof.Bwd.Kit

@[expose] public section

/-! The kernel body run at a point that ends a row block. -/

set_option maxRecDepth 16384

noncomputable section

namespace Cert.Kernel9Ideal.Bwd

open Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1800000 in
/-- The kernel body run at a point that ends a row block: it keeps its inputs, and leaves the pieces given here in the buffers it is
    said to store into; nothing is said of what it leaves in the other outputs. -/
def runC (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S2x256x1024 .bf16) (harg7 : arg7.IsWhole) (arg8 : Memref sig .tc .vmem S1x256x1024 .bf16) (harg8 : arg8.IsWhole) (arg9 : Memref sig .tc .vmem S1024x1024 .f32) (harg9 : arg9.IsWhole) (arg10 : Memref sig .tc .vmem S1024x256 .bf16) (harg10 : arg10.IsWhole) (arg11 : Memref sig .tc .vmem S1024x256 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1024x1024 .f32) (harg15 : arg15.IsWhole) (hc1 : ¬k0_cond1 i = 1#1) (hc2 : ¬k0_cond2 i = 1#1) (hc3 : k0_cond3 i = 1#1)
    (x0 : Vec F S1024x1024 .f32) (x1 : Vec F S1x1024 .f32) (x2 : Vec F S1024x1024 .f32) (x3 : Vec F S1024x256 .bf16) (x4 : Vec F S1024x256 .bf16) (x5 : Vec F S2x256x1024 .bf16) (x6 : Vec F S1x256x1024 .bf16) (xd : Vec F S1024x1024 .bf16) (xs : Vec F S1024x1024 .f32) (xg : Vec F S1x1024 .f32) :
    Σ' (L7 : List (View.Piece (Elt F) S1024x1024 .f32)), Σ' (L12 : List (View.Piece (Elt F) S1x1024 .f32)), { L13 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xd ∗ (∃ d, owns (c : Thread nD τ) arg9 fullShare d) ∗ owns (c : Thread nD τ) arg14 fullShare xg ∗ owns (c : Thread nD τ) arg15 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xd ∗ (∃ f, arg9.view.loc (c : Thread nD τ) ↦[arg9.view.set]{fullShare} arg9.view.writes (Elt F) f L7) ∗ (arg14.view.loc (c : Thread nD τ) ↦[arg14.view.set]{fullShare} arg14.view.writes (Elt F) (harg14.unread xg) L12) ∗ (arg15.view.loc (c : Thread nD τ) ↦[arg15.view.set]{fullShare} arg15.view.writes (Elt F) (harg15.unread xs) L13)) -∗ K ⟨⟩))
          ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0_ffn_bwd_eq_skeleton]; unfold cc0_ffn_bwd_skel
    simp only [k0_part1_eq_skeleton, k0_part2_eq_skeleton]
    unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, ⟨%d9, %f9, -, H9⟩, ⟨%d10, %f10, -, H10⟩, ⟨%f11, %hf11, H11⟩, ⟨%d7, %f7, -, H7⟩, ⟨%f12, %hf12, H12⟩, ⟨%f13, %hf13, H13⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg13.eq_unread hf11; obtain rfl := harg14.eq_unread hf12; obtain rfl := harg15.eq_unread hf13
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _; isplitr; · ipureintro; exact harg13.read_unread _
      iexact H11
    isplitl [H7]; · iexists _; iexact H7
    isplitl [H12]; · iexact H12
    iexact H13

end Cert.Kernel9Ideal.Bwd

end
-- ==== Proof.Bwd.Frame.lean ====
module

public import proofs.«01_k».proof.Proof.Bwd.RunA0
public import proofs.«01_k».proof.Proof.Bwd.RunA1
public import proofs.«01_k».proof.Proof.Bwd.RunB
public import proofs.«01_k».proof.Proof.Bwd.RunC

@[expose] public section

/-! The run of the whole kernel program, from the runs of its body. -/

set_option maxRecDepth 16384

noncomputable section

namespace Cert.Kernel9Ideal.Bwd

open Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a grid point leaves: the cotangent's block, rounded, the accumulator, and the norm's gradient so far. -/
abbrev State (F : FTy → Type) [FloatOps F] : Type := Vec F S1024x1024 .bf16 × Vec F S1024x1024 .f32 × Vec F S1x1024 .f32

/-- The body's run at grid point `t`, the first point, on the point's own buffers and blocks. -/
abbrev atA0 (c : Dev nD) (t : Fin cfg0.N) (h0 : t.val = 0) :=
  runA0 (F := F) c (grid0.coords t) (stg0 t) (wh0 t) (stg1 t) (wh1 t) (stg2 t) (wh2 t) (stg3 t) (wh3 t) (stg4 t) (wh4 t) (stg5 t) (wh5 t) (stg6 t) (wh6 t) (stg7 t) (wh7 t) (stg8 t) (wh8 t) (stg9 t) (wh9 t) (stg10 t) (wh10 t) (stg11 t) (wh11 t) (stg12 t) (wh12 t) scr (Memref.isWhole_whole _) ((cond1_iff t).mpr (by omega)) ((cond2_iff t).mpr h0) (fun h => by have := (cond3_iff t).mp h; omega) (iblk m c 0 t) (iblk m c 1 t) (iblk m c 2 t) (iblk m c 3 t) (iblk m c 4 t) (X0_5 m c t) (iblk m c 6 t)

/-- The body's run at grid point `t`, a later point that begins a row block, on the point's own buffers and blocks. -/
abbrev atA1 (c : Dev nD) (t : Fin cfg0.N) (h0 : t.val % 11 = 0) (h1 : ¬t.val = 0) (s : State F) :=
  runA1 (F := F) c (grid0.coords t) (stg0 t) (wh0 t) (stg1 t) (wh1 t) (stg2 t) (wh2 t) (stg3 t) (wh3 t) (stg4 t) (wh4 t) (stg5 t) (wh5 t) (stg6 t) (wh6 t) (stg7 t) (wh7 t) (stg8 t) (wh8 t) (stg9 t) (wh9 t) (stg10 t) (wh10 t) (stg11 t) (wh11 t) (stg12 t) (wh12 t) scr (Memref.isWhole_whole _) ((cond1_iff t).mpr h0) (fun h => h1 ((cond2_iff t).mp h)) (fun h => by have := (cond3_iff t).mp h; omega) (iblk m c 0 t) (iblk m c 1 t) (iblk m c 2 t) (iblk m c 3 t) (iblk m c 4 t) (X0_5 m c t) (iblk m c 6 t) s.2.2

/-- The body's run at grid point `t`, a point inside a row block, on the point's own buffers and blocks. -/
abbrev atB (c : Dev nD) (t : Fin cfg0.N) (h0 : ¬t.val % 11 = 0) (h1 : ¬t.val % 11 = 10) (s : State F) :=
  runB (F := F) c (grid0.coords t) (stg0 t) (wh0 t) (stg1 t) (wh1 t) (stg2 t) (wh2 t) (stg3 t) (wh3 t) (stg4 t) (wh4 t) (stg5 t) (wh5 t) (stg6 t) (wh6 t) (stg7 t) (wh7 t) (stg8 t) (wh8 t) (stg9 t) (wh9 t) (stg10 t) (wh10 t) (stg11 t) (wh11 t) (stg12 t) (wh12 t) scr (Memref.isWhole_whole _) (fun h => h0 ((cond1_iff t).mp h)) (fun h => by have := (cond2_iff t).mp h; omega) (fun h => h1 ((cond3_iff t).mp h)) (iblk m c 0 t) (iblk m c 1 t) (iblk m c 2 t) (iblk m c 3 t) (iblk m c 4 t) (X0_5 m c t) (iblk m c 6 t) s.1 s.2.1 s.2.2

/-- The body's run at grid point `t`, a point that ends a row block, on the point's own buffers and blocks. -/
abbrev atC (c : Dev nD) (t : Fin cfg0.N) (h0 : ¬t.val % 11 = 0) (h1 : t.val % 11 = 10) (s : State F) :=
  runC (F := F) c (grid0.coords t) (stg0 t) (wh0 t) (stg1 t) (wh1 t) (stg2 t) (wh2 t) (stg3 t) (wh3 t) (stg4 t) (wh4 t) (stg5 t) (wh5 t) (stg6 t) (wh6 t) (stg7 t) (wh7 t) (stg8 t) (wh8 t) (stg9 t) (wh9 t) (stg10 t) (wh10 t) (stg11 t) (wh11 t) (stg12 t) (wh12 t) scr (Memref.isWhole_whole _) (fun h => h0 ((cond1_iff t).mp h)) (fun h => by have := (cond2_iff t).mp h; omega) ((cond3_iff t).mpr h1) (iblk m c 0 t) (iblk m c 1 t) (iblk m c 2 t) (iblk m c 3 t) (iblk m c 4 t) (X0_5 m c t) (iblk m c 6 t) s.1 s.2.1 s.2.2

/-- One buffer of window 7, through which its contents are read. -/
abbrev vw7 : View sig .tc .vmem S1024x1024 .f32 := (Memref.whole cc0_stg7_0 : Memref sig .tc .vmem S1024x1024 .f32).view
/-- One buffer of window 11, through which its contents are read. -/
abbrev vw11 : View sig .tc .vmem S1024x1024 .bf16 := (Memref.whole cc0_stg11_0 : Memref sig .tc .vmem S1024x1024 .bf16).view
/-- One buffer of window 12, through which its contents are read. -/
abbrev vw12 : View sig .tc .vmem S1x1024 .f32 := (Memref.whole cc0_stg12_0 : Memref sig .tc .vmem S1x1024 .f32).view

/-- The pieces stored into buffer 11 cover it. -/
theorem coverA0_11 (c : Dev nD) (t : Fin cfg0.N) (h0 : t.val = 0) (y : S1024x1024.Idx) :
    ∃ pc ∈ (atA0 m c t h0).1, y ∈ pc.1.set :=
  View.cover_of_tiledL _ S1024x1024.size (by sl_kernel_rfl) y

/-- The pieces stored into buffer 12 cover it. -/
theorem coverA0_12 (c : Dev nD) (t : Fin cfg0.N) (h0 : t.val = 0) (y : S1x1024.Idx) :
    ∃ pc ∈ (atA0 m c t h0).2.1, y ∈ pc.1.set :=
  View.cover_of_tiledL _ S1x1024.size (by sl_kernel_rfl) y

/-- The pieces stored into buffer 13 cover it. -/
theorem coverA0_13 (c : Dev nD) (t : Fin cfg0.N) (h0 : t.val = 0) (y : S1024x1024.Idx) :
    ∃ pc ∈ (atA0 m c t h0).2.2.1, y ∈ pc.1.set :=
  View.cover_of_tiledL _ S1024x1024.size (by sl_kernel_rfl) y

/-- The pieces stored into buffer 11 cover it. -/
theorem coverA1_11 (c : Dev nD) (t : Fin cfg0.N) (h0 : t.val % 11 = 0) (h1 : ¬t.val = 0) (s : State F) (y : S1024x1024.Idx) :
    ∃ pc ∈ (atA1 m c t h0 h1 s).1, y ∈ pc.1.set :=
  View.cover_of_tiledL _ S1024x1024.size (by sl_kernel_rfl) y

/-- The pieces stored into buffer 13 cover it. -/
theorem coverA1_13 (c : Dev nD) (t : Fin cfg0.N) (h0 : t.val % 11 = 0) (h1 : ¬t.val = 0) (s : State F) (y : S1024x1024.Idx) :
    ∃ pc ∈ (atA1 m c t h0 h1 s).2.1, y ∈ pc.1.set :=
  View.cover_of_tiledL _ S1024x1024.size (by sl_kernel_rfl) y

/-- The pieces stored into the result's buffer cover it. -/
theorem coverC_7 (c : Dev nD) (t : Fin cfg0.N) (h0 : ¬t.val % 11 = 0) (h1 : t.val % 11 = 10) (s : State F) (y : S1024x1024.Idx) :
    ∃ pc ∈ (atC m c t h0 h1 s).1, y ∈ pc.1.set :=
  View.cover_of_tiledL _ S1024x1024.size (by sl_kernel_rfl) y

/-- The pieces stored into the buffer of the norm's gradient cover it. -/
theorem coverC_12 (c : Dev nD) (t : Fin cfg0.N) (h0 : ¬t.val % 11 = 0) (h1 : t.val % 11 = 10) (s : State F) (y : S1x1024.Idx) :
    ∃ pc ∈ (atC m c t h0 h1 s).2.1, y ∈ pc.1.set :=
  View.cover_of_tiledL _ S1x1024.size (by sl_kernel_rfl) y

/-- What the first point leaves. -/
def leftA0 (c : Dev nD) (t : Fin cfg0.N) (h0 : t.val = 0) : State F :=
  (vw11.read (Elt F) (vw11.writes (Elt F) vw11.junk (atA0 m c t h0).1),
   scr.view.read (Elt F) (scr.view.writes (Elt F) scr.view.junk (atA0 m c t h0).2.2.1),
   vw12.read (Elt F) (vw12.writes (Elt F) vw12.junk (atA0 m c t h0).2.1))

/-- What a later point that begins a row block leaves. -/
def leftA1 (c : Dev nD) (t : Fin cfg0.N) (h0 : t.val % 11 = 0) (h1 : ¬t.val = 0) (s : State F) : State F :=
  (vw11.read (Elt F) (vw11.writes (Elt F) vw11.junk (atA1 m c t h0 h1 s).1),
   scr.view.read (Elt F) (scr.view.writes (Elt F) scr.view.junk (atA1 m c t h0 h1 s).2.1),
   s.2.2)

/-- What a point inside a row block leaves, over what the point before left. -/
def leftB (c : Dev nD) (t : Fin cfg0.N) (h0 : ¬t.val % 11 = 0) (h1 : ¬t.val % 11 = 10) (s : State F) : State F :=
  (s.1, scr.view.read (Elt F) (scr.view.writes (Elt F) ((Memref.isWhole_whole cc0_scratch0).unread s.2.1) (atB m c t h0 h1 s).1),
   s.2.2)

/-- What a point that ends a row block leaves, over what the point before left. -/
def leftC (c : Dev nD) (t : Fin cfg0.N) (h0 : ¬t.val % 11 = 0) (h1 : t.val % 11 = 10) (s : State F) : State F :=
  (s.1, scr.view.read (Elt F) (scr.view.writes (Elt F) ((Memref.isWhole_whole cc0_scratch0).unread s.2.1) (atC m c t h0 h1 s).2.2.1),
   vw12.read (Elt F) (vw12.writes (Elt F) vw12.junk (atC m c t h0 h1 s).2.1))

/-- The result's block that a point ending a row block stores. -/
def outC (c : Dev nD) (t : Fin cfg0.N) (h0 : ¬t.val % 11 = 0) (h1 : t.val % 11 = 10) (s : State F) : Vec F S1024x1024 .f32 :=
  vw7.read (Elt F) (vw7.writes (Elt F) vw7.junk (atC m c t h0 h1 s).1)

/-- What the buffers hold after grid point `n`. -/
def left (c : Dev nD) : (n : ℕ) → n < cfg0.N → State F
  | 0, hn => leftA0 m c ⟨0, hn⟩ rfl
  | n + 1, hn =>
    if h0 : (n + 1) % 11 = 0 then leftA1 m c ⟨n + 1, hn⟩ h0 (Nat.succ_ne_zero n) (left c n (Nat.lt_of_succ_lt hn))
    else if h1 : (n + 1) % 11 = 10 then leftC m c ⟨n + 1, hn⟩ h0 h1 (left c n (Nat.lt_of_succ_lt hn))
    else leftB m c ⟨n + 1, hn⟩ h0 h1 (left c n (Nat.lt_of_succ_lt hn))

/-- What the buffers hold when a point that is not the first begins. -/
abbrev leftBefore (c : Dev nD) (t : Fin cfg0.N) : State F := left m c (t.val - 1) (Nat.lt_of_le_of_lt (Nat.sub_le _ _) t.isLt)

theorem left_A0 (c : Dev nD) (t : Fin cfg0.N) (h0 : t.val = 0) :
    left m c t.val t.isLt = leftA0 m c t h0 := by
  obtain ⟨n, hn⟩ := t
  cases n with
  | zero => exact rfl
  | succ n => exact absurd h0 (Nat.succ_ne_zero n)

theorem left_A1 (c : Dev nD) (t : Fin cfg0.N) (h0 : t.val % 11 = 0) (h1 : ¬t.val = 0) :
    left m c t.val t.isLt = leftA1 m c t h0 h1 (leftBefore m c t) := by
  obtain ⟨n, hn⟩ := t
  cases n with
  | zero => exact absurd rfl h1
  | succ n => exact (dif_pos h0).trans rfl

theorem left_B (c : Dev nD) (t : Fin cfg0.N) (h0 : ¬t.val % 11 = 0) (h1 : ¬t.val % 11 = 10) :
    left m c t.val t.isLt = leftB m c t h0 h1 (leftBefore m c t) := by
  obtain ⟨n, hn⟩ := t
  cases n with
  | zero => exact absurd (Nat.zero_mod _) h0
  | succ n => exact (dif_neg h0).trans ((dif_neg h1).trans rfl)

theorem left_C (c : Dev nD) (t : Fin cfg0.N) (h0 : ¬t.val % 11 = 0) (h1 : t.val % 11 = 10) :
    left m c t.val t.isLt = leftC m c t h0 h1 (leftBefore m c t) := by
  obtain ⟨n, hn⟩ := t
  cases n with
  | zero => exact absurd (Nat.zero_mod _) h0
  | succ n => exact (dif_neg h0).trans ((dif_pos h1).trans rfl)

theorem leftB_1 (c : Dev nD) (t : Fin cfg0.N) (h0 : ¬t.val % 11 = 0) (h1 : ¬t.val % 11 = 10) (s : State F) :
    (leftB m c t h0 h1 s).1 = s.1 := by unfold leftB; rfl

theorem leftC_1 (c : Dev nD) (t : Fin cfg0.N) (h0 : ¬t.val % 11 = 0) (h1 : t.val % 11 = 10) (s : State F) :
    (leftC m c t h0 h1 s).1 = s.1 := by unfold leftC; rfl

/-- Inside a row block the cotangent's block stays. -/
theorem left_carry (c : Dev nD) (t : Fin cfg0.N) (h0 : ¬t.val % 11 = 0) :
    (left m c t.val t.isLt).1 = (leftBefore m c t).1 := by
  by_cases h1 : t.val % 11 = 10
  · rw [left_C m c t h0 h1, leftC_1]
  · rw [left_B m c t h0 h1, leftB_1]

theorem leftA1_g (c : Dev nD) (t : Fin cfg0.N) (h0 : t.val % 11 = 0) (h1 : ¬t.val = 0) (s : State F) :
    (leftA1 m c t h0 h1 s).2.2 = s.2.2 := by unfold leftA1; rfl

theorem leftB_g (c : Dev nD) (t : Fin cfg0.N) (h0 : ¬t.val % 11 = 0) (h1 : ¬t.val % 11 = 10) (s : State F) :
    (leftB m c t h0 h1 s).2.2 = s.2.2 := by unfold leftB; rfl

/-- The norm's gradient stays but where a row block ends. -/
theorem left_carry_g (c : Dev nD) (t : Fin cfg0.N) (h0 : ¬t.val = 0) (h1 : ¬t.val % 11 = 10) :
    (left m c t.val t.isLt).2.2 = (leftBefore m c t).2.2 := by
  by_cases h : t.val % 11 = 0
  · rw [left_A1 m c t h h0, leftA1_g]
  · rw [left_B m c t h h1, leftB_g]

/-- What the result's buffer holds after a point, where it is written. -/
def outAt (c : Dev nD) (t : Fin cfg0.N) : Vec F S1024x1024 .f32 :=
  if h1 : t.val % 11 = 10 then outC m c t (by omega) h1 (leftBefore m c t) else vw7.read (Elt F) vw7.junk

theorem outAt_C (c : Dev nD) (t : Fin cfg0.N) (h0 : ¬t.val % 11 = 0) (h1 : t.val % 11 = 10) :
    outAt m c t = outC m c t h0 h1 (leftBefore m c t) := dif_pos h1

/-- The invariant between points: before the first the accumulator at anything, afterwards at what the point left. -/
def inv (c : Dev nD) : (n : ℕ) → n ≤ cfg0.N → sProp 𝕄
  | 0, _ => Pipeline.ΦA spec0 c
  | n + 1, hn => iprop(iprop(owns (c : Thread nD τ) scr fullShare ((left m c n hn).2.1)) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(iprop(owns (c : Thread nD τ) scr fullShare ((left m c n hn).2.1)) ∗ (∃ r, prngReg c r)) := rfl

theorem inv_pos (c : Dev nD) (n : ℕ) (h : n ≤ cfg0.N) (hz : n ≠ 0) :
    inv m c n h = iprop(iprop(owns (c : Thread nD τ) scr fullShare ((left m c (n - 1) (by omega)).2.1)) ∗ (∃ r, prngReg c r)) := by
  cases n with
  | zero => exact absurd rfl hz
  | succ n => rfl

/-- The output windows of which nothing is said. -/
def unsaid : Fin 13 → Bool := fun w => w.val == 8 || w.val == 9 || w.val == 10

/-- The pipeline's data: the arrays as the call finds them, what each window's buffer holds after each point, and the
    invariant. -/
def dat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => X0_5 m c t
    | ⟨6, _⟩ => iblk m c 6 t
    | ⟨7, _⟩ => outAt m c t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, _⟩ => (left m c t.val t.isLt).1
    | ⟨12, _⟩ => (left m c t.val t.isLt).2.2
    | ⟨_ + 13, h⟩ => absurd h (Nat.not_lt.2 (Nat.le_add_left _ _))
  Φ t := inv m c t.val (Nat.le_of_lt_succ t.isLt)
  q w := Pipeline.shareOf spec0 w
  owed _ := 0

theorem dat_A (c : Dev nD) (w : Fin cfg0.W) : (dat m 0 c).A w = V m c (Pipeline.arrRef spec0 w) := by
  dsimp only [dat]

theorem inv_castSucc (c : Dev nD) (t : Fin cfg0.N) :
    (dat m 0 c).Φ t.castSucc = inv m c t.val (Nat.le_of_lt t.isLt) := by
  dsimp only [dat]; exact Pipeline.Dat.Φ_castSucc (inv m c) t

/-! What each window's buffer holds after a point, and (an input) before it. -/

theorem aft0 (c : Dev nD) (t : Fin cfg0.N) : (dat m 0 c).after 0 t = iblk m c 0 t := by dsimp only [dat]
theorem aft1 (c : Dev nD) (t : Fin cfg0.N) : (dat m 0 c).after 1 t = iblk m c 1 t := by dsimp only [dat]
theorem aft2 (c : Dev nD) (t : Fin cfg0.N) : (dat m 0 c).after 2 t = iblk m c 2 t := by dsimp only [dat]
theorem aft3 (c : Dev nD) (t : Fin cfg0.N) : (dat m 0 c).after 3 t = iblk m c 3 t := by dsimp only [dat]
theorem aft4 (c : Dev nD) (t : Fin cfg0.N) : (dat m 0 c).after 4 t = iblk m c 4 t := by dsimp only [dat]
theorem aft5 (c : Dev nD) (t : Fin cfg0.N) : (dat m 0 c).after 5 t = X0_5 m c t := by dsimp only [dat]
theorem aft6 (c : Dev nD) (t : Fin cfg0.N) : (dat m 0 c).after 6 t = iblk m c 6 t := by dsimp only [dat]
theorem aft7 (c : Dev nD) (t : Fin cfg0.N) : (dat m 0 c).after 7 t = outAt m c t := by dsimp only [dat]
theorem aft11 (c : Dev nD) (t : Fin cfg0.N) : (dat m 0 c).after 11 t = (left m c t.val t.isLt).1 := by dsimp only [dat]
theorem aft12 (c : Dev nD) (t : Fin cfg0.N) : (dat m 0 c).after 12 t = (left m c t.val t.isLt).2.2 := by dsimp only [dat]
theorem bef0 (c : Dev nD) (t : Fin cfg0.N) (d) : (dat m 0 c).before 0 t d = iblk m c 0 t :=
  before0_0_of m (dat m 0 c) (dat_A m c 0) (aft0 m c) t d
theorem bef1 (c : Dev nD) (t : Fin cfg0.N) (d) : (dat m 0 c).before 1 t d = iblk m c 1 t :=
  before0_1_of m (dat m 0 c) (dat_A m c 1) (aft1 m c) t d
theorem bef2 (c : Dev nD) (t : Fin cfg0.N) (d) : (dat m 0 c).before 2 t d = iblk m c 2 t :=
  before0_2_of m (dat m 0 c) (dat_A m c 2) (aft2 m c) t d
theorem bef3 (c : Dev nD) (t : Fin cfg0.N) (d) : (dat m 0 c).before 3 t d = iblk m c 3 t :=
  before0_3_of m (dat m 0 c) (dat_A m c 3) (aft3 m c) t d
theorem bef4 (c : Dev nD) (t : Fin cfg0.N) (d) : (dat m 0 c).before 4 t d = iblk m c 4 t :=
  before0_4_of m (dat m 0 c) (dat_A m c 4) (aft4 m c) t d
theorem bef5 (c : Dev nD) (t : Fin cfg0.N) (d) : (dat m 0 c).before 5 t d = X0_5 m c t :=
  before0_5_of m (dat m 0 c) (dat_A m c 5) (aft5 m c) t d
theorem bef6 (c : Dev nD) (t : Fin cfg0.N) (d) : (dat m 0 c).before 6 t d = iblk m c 6 t :=
  before0_6_of m (dat m 0 c) (dat_A m c 6) (aft6 m c) t d
/-- Inside a row block the body finds the cotangent's block as the point before left it. -/
theorem bef11 (c : Dev nD) (t : Fin cfg0.N) (h0 : ¬t.val % 11 = 0) (d) :
    (dat m 0 c).before 11 t d = (leftBefore m c t).1 := by
  rw [(dat m 0 c).before_out_traj 11 rfl (fun _ _ => rfl) (fun t ht _ hf => by
      rw [fresh11] at hf
      have h : ¬t.val % 11 = 0 := of_decide_eq_false hf
      rw [aft11, aft11]; exact left_carry m c t h) t.val t rfl d, fresh11, if_neg (by simpa using h0), aft11]

/-- After the first point the body finds the norm's gradient as the point before left it. -/
theorem bef12 (c : Dev nD) (t : Fin cfg0.N) (h0 : ¬t.val = 0) (d) :
    (dat m 0 c).before 12 t d = (leftBefore m c t).2.2 := by
  rw [(dat m 0 c).before_out_traj 12 rfl (fun _ _ => rfl) (fun t ht hi _ => by
      rw [idle12_iff] at hi
      have h : ¬(t.val = 0 ∨ t.val % 11 = 10) := by simpa using hi
      rw [aft12, aft12]; exact left_carry_g m c t (fun e => h (Or.inl e)) (fun e => h (Or.inr e))) t.val t rfl d, fresh12, if_neg (by simpa using h0), aft12]

/-- What the body is called with at a point, window by window, -/
def bodyPre (c : Dev nD) (t : Fin cfg0.N) : sProp 𝕄 :=
  iprop((dat m 0 c).Φ t.castSucc ∗ (dat m 0 c).owesAt () t.castSucc
    ∗ (∃ d, owns (c : Thread nD τ) (stg0 t) fullShare ((dat m 0 c).before 0 t d))
    ∗ (∃ d, owns (c : Thread nD τ) (stg1 t) fullShare ((dat m 0 c).before 1 t d))
    ∗ (∃ d, owns (c : Thread nD τ) (stg2 t) fullShare ((dat m 0 c).before 2 t d))
    ∗ (∃ d, owns (c : Thread nD τ) (stg3 t) fullShare ((dat m 0 c).before 3 t d))
    ∗ (∃ d, owns (c : Thread nD τ) (stg4 t) fullShare ((dat m 0 c).before 4 t d))
    ∗ (∃ d, owns (c : Thread nD τ) (stg5 t) fullShare ((dat m 0 c).before 5 t d))
    ∗ (∃ d, owns (c : Thread nD τ) (stg6 t) fullShare ((dat m 0 c).before 6 t d))
    ∗ (∃ d, owns (c : Thread nD τ) (stg7 t) fullShare ((dat m 0 c).before 7 t d))
    ∗ (∃ d, owns (c : Thread nD τ) (stg8 t) fullShare d)
    ∗ (∃ d, owns (c : Thread nD τ) (stg9 t) fullShare d)
    ∗ (∃ d, owns (c : Thread nD τ) (stg10 t) fullShare d)
    ∗ (∃ d, owns (c : Thread nD τ) (stg11 t) fullShare ((dat m 0 c).before 11 t d))
    ∗ (∃ d, owns (c : Thread nD τ) (stg12 t) fullShare ((dat m 0 c).before 12 t d)))

/-- and what it gives back. -/
def bodyPost (c : Dev nD) (t : Fin cfg0.N) : sProp 𝕄 :=
  iprop((dat m 0 c).Φ t.succ ∗ (dat m 0 c).owesAt () t.succ
    ∗ owns (c : Thread nD τ) (stg0 t) fullShare ((dat m 0 c).after 0 t)
    ∗ owns (c : Thread nD τ) (stg1 t) fullShare ((dat m 0 c).after 1 t)
    ∗ owns (c : Thread nD τ) (stg2 t) fullShare ((dat m 0 c).after 2 t)
    ∗ owns (c : Thread nD τ) (stg3 t) fullShare ((dat m 0 c).after 3 t)
    ∗ owns (c : Thread nD τ) (stg4 t) fullShare ((dat m 0 c).after 4 t)
    ∗ owns (c : Thread nD τ) (stg5 t) fullShare ((dat m 0 c).after 5 t)
    ∗ owns (c : Thread nD τ) (stg6 t) fullShare ((dat m 0 c).after 6 t)
    ∗ (dat m 0 c).leavesExact 7 t
    ∗ (∃ d, owns (c : Thread nD τ) (stg8 t) fullShare d)
    ∗ (∃ d, owns (c : Thread nD τ) (stg9 t) fullShare d)
    ∗ (∃ d, owns (c : Thread nD τ) (stg10 t) fullShare d)
    ∗ (dat m 0 c).leavesExact 11 t
    ∗ (dat m 0 c).leavesExact 12 t)

theorem keep7 (c : Dev nD) (t : Fin cfg0.N) (h : ¬t.val % 11 = 10) :
    (dat m 0 c).leavesExact 7 t = iprop(∃ d, owns (c : Thread nD τ) (stg7 t) fullShare ((dat m 0 c).before 7 t d)) :=
  (dat m 0 c).leavesExact_idle 7 t ((idle7_iff t).trans (by simpa using h)) (Bool.eq_false_iff.mpr fun h' => h ((flush0_7 t).mp h'))

theorem give7 (c : Dev nD) (t : Fin cfg0.N) (h : t.val % 11 = 10) :
    (dat m 0 c).leavesExact 7 t = owns (c : Thread nD τ) (stg7 t) fullShare (outAt m c t) := by
  unfold Dat.leavesExact; rw [show cfg0.idle 7 (cfg0.grid.coords t) = false from (idle7_iff t).trans (by simpa using h), aft7]

theorem keep11 (c : Dev nD) (t : Fin cfg0.N) (h0 : ¬t.val % 11 = 0) (h1 : ¬t.val % 11 = 10) :
    (dat m 0 c).leavesExact 11 t = iprop(∃ d, owns (c : Thread nD τ) (stg11 t) fullShare ((dat m 0 c).before 11 t d)) :=
  (dat m 0 c).leavesExact_idle 11 t ((idle11_iff t).trans (by simpa using h0)) (Bool.eq_false_iff.mpr fun h' => h1 ((flush0_11 t).mp h'))

theorem give11 (c : Dev nD) (t : Fin cfg0.N) (h : t.val % 11 = 0) :
    (dat m 0 c).leavesExact 11 t = owns (c : Thread nD τ) (stg11 t) fullShare ((left m c t.val t.isLt).1) := by
  unfold Dat.leavesExact; rw [show cfg0.idle 11 (cfg0.grid.coords t) = false from (idle11_iff t).trans (by simpa using h), aft11]

theorem flush11 (c : Dev nD) (t : Fin cfg0.N) (h0 : ¬t.val % 11 = 0) (h1 : t.val % 11 = 10) :
    (dat m 0 c).leavesExact 11 t = owns (c : Thread nD τ) (stg11 t) fullShare ((left m c t.val t.isLt).1) := by
  unfold Dat.leavesExact
  rw [show cfg0.idle 11 (cfg0.grid.coords t) = true from (idle11_iff t).trans (by simpa using h0),
    show (cfg0.win 11).flush t = true from (flush0_11 t).mpr h1, aft11]

theorem keep12 (c : Dev nD) (t : Fin cfg0.N) (h0 : ¬t.val = 0) (h1 : ¬t.val % 11 = 10) :
    (dat m 0 c).leavesExact 12 t = iprop(∃ d, owns (c : Thread nD τ) (stg12 t) fullShare ((dat m 0 c).before 12 t d)) :=
  (dat m 0 c).leavesExact_idle 12 t ((idle12_iff t).trans (by simp [h0, h1])) (Bool.eq_false_iff.mpr fun h' => by
    have := (flush0_12 t).mp h'; omega)

theorem give12 (c : Dev nD) (t : Fin cfg0.N) (h : t.val = 0 ∨ t.val % 11 = 10) :
    (dat m 0 c).leavesExact 12 t = owns (c : Thread nD τ) (stg12 t) fullShare ((left m c t.val t.isLt).2.2) := by
  unfold Dat.leavesExact; rw [show cfg0.idle 12 (cfg0.grid.coords t) = false from (idle12_iff t).trans (by rw [decide_eq_true h]; rfl), aft12]

set_option maxHeartbeats 4000000 in
/-- The body at the first point. -/
theorem bodyA0 (c : Dev nD) (t : Fin cfg0.N) (h0 : t.val = 0) :
    bodyPre m c t ⊢ wp frame (wpE (defs₀ (F := F)) Variants.none c none) Set.univ (bodyAt0 t) (fun _ => bodyPost m c t) := by
  have hN : t.val < 44 := lt_of_lt_of_eq t.isLt (show cfg0.N = 44 from N_0)
  unfold bodyPre bodyPost bodyAt0
  simp only [bef0, bef1, bef2, bef3, bef4, bef5, bef6]
  rw [show (dat m 0 c).owesAt () t.succ = (dat m 0 c).owesAt () t.castSucc from rfl,
    aft0, aft1, aft2, aft3, aft4, aft5, aft6]
  rw [show (dat m 0 c).Φ t.succ = inv m c (t.val + 1) t.isLt from rfl, inv_succ]
  rw [inv_castSucc m c t, inv_zero m c _ _ h0, Phi_scr]
  rw [keep7 m c t (by omega), give11 m c t (by omega), give12 m c t (Or.inl h0)]
  rw [left_A0 m c t h0]
  unfold leftA0; dsimp only
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((atA0 m c t h0).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H8]; · iexists _; iexact H8
  isplitl [H9]; · iexists _; iexact H9
  isplitl [H10]; · iexists _; iexact H10
  isplitl [H11]; · iexists _; iexact H11
  isplitl [H12]; · iexists _; iexact H12
  isplitl [HS]; · iexact HS
  iintro ⟨H0, H1, H2, H3, H4, H5, H6, H8, H9, H10, ⟨%e_H11, H11⟩, ⟨%e_H12, H12⟩, ⟨%e_HS, HS⟩⟩
  isplitl [HS Hg]
  · isplitl [HS]
    · unfold owns; iexists _; isplitr
      swap; · iexact HS
      ipureintro; exact View.read_writes_of_cover _ _ _ _ _ (coverA0_13 m c t h0)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (coverA0_11 m c t h0)
  unfold owns; iexists _; isplitr
  swap; · iexact H12
  ipureintro; exact View.read_writes_of_cover _ _ _ _ _ (coverA0_12 m c t h0)

set_option maxHeartbeats 4000000 in
/-- The body at a later point that begins a row block. -/
theorem bodyA1 (c : Dev nD) (t : Fin cfg0.N) (h0 : t.val % 11 = 0) (h1 : ¬t.val = 0) :
    bodyPre m c t ⊢ wp frame (wpE (defs₀ (F := F)) Variants.none c none) Set.univ (bodyAt0 t) (fun _ => bodyPost m c t) := by
  have hN : t.val < 44 := lt_of_lt_of_eq t.isLt (show cfg0.N = 44 from N_0)
  unfold bodyPre bodyPost bodyAt0
  simp only [bef0, bef1, bef2, bef3, bef4, bef5, bef6]
  rw [show (dat m 0 c).owesAt () t.succ = (dat m 0 c).owesAt () t.castSucc from rfl,
    aft0, aft1, aft2, aft3, aft4, aft5, aft6]
  rw [show (dat m 0 c).Φ t.succ = inv m c (t.val + 1) t.isLt from rfl, inv_succ]
  rw [inv_castSucc m c t, inv_pos m c _ _ h1]
  rw [keep7 m c t (by omega), give11 m c t (by omega), keep12 m c t h1 (by omega)]
  simp only [bef12 m c t h1]
  rw [left_A1 m c t h0 h1]
  unfold leftA1; dsimp only
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((atA1 m c t h0 h1 (leftBefore m c t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H8]; · iexists _; iexact H8
  isplitl [H9]; · iexists _; iexact H9
  isplitl [H10]; · iexists _; iexact H10
  isplitl [H12]; · iexact H12
  isplitl [H11]; · iexists _; iexact H11
  isplitl [HS]; · iexists _; iexact HS
  iintro ⟨H0, H1, H2, H3, H4, H5, H6, H8, H9, H10, H12, ⟨%e_H11, H11⟩, ⟨%e_HS, HS⟩⟩
  isplitl [HS Hg]
  · isplitl [HS]
    · unfold owns; iexists _; isplitr
      swap; · iexact HS
      ipureintro; exact View.read_writes_of_cover _ _ _ _ _ (coverA1_13 m c t h0 h1 (leftBefore m c t))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (coverA1_11 m c t h0 h1 (leftBefore m c t))
  iexists d12; iexact H12

set_option maxHeartbeats 4000000 in
/-- The body at a point inside a row block. -/
theorem bodyB (c : Dev nD) (t : Fin cfg0.N) (h0 : ¬t.val % 11 = 0) (h1 : ¬t.val % 11 = 10) :
    bodyPre m c t ⊢ wp frame (wpE (defs₀ (F := F)) Variants.none c none) Set.univ (bodyAt0 t) (fun _ => bodyPost m c t) := by
  have hN : t.val < 44 := lt_of_lt_of_eq t.isLt (show cfg0.N = 44 from N_0)
  unfold bodyPre bodyPost bodyAt0
  simp only [bef0, bef1, bef2, bef3, bef4, bef5, bef6]
  rw [show (dat m 0 c).owesAt () t.succ = (dat m 0 c).owesAt () t.castSucc from rfl,
    aft0, aft1, aft2, aft3, aft4, aft5, aft6]
  rw [show (dat m 0 c).Φ t.succ = inv m c (t.val + 1) t.isLt from rfl, inv_succ]
  rw [inv_castSucc m c t, inv_pos m c _ _ (by omega)]
  rw [keep7 m c t h1, keep11 m c t h0 h1, keep12 m c t (by omega) h1]
  simp only [bef11 m c t h0, bef12 m c t (show ¬t.val = 0 by omega)]
  rw [left_B m c t h0 h1]
  unfold leftB; dsimp only
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((atB m c t h0 h1 (leftBefore m c t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H8]; · iexists _; iexact H8
  isplitl [H9]; · iexists _; iexact H9
  isplitl [H10]; · iexists _; iexact H10
  isplitl [H11]; · iexact H11
  isplitl [H12]; · iexact H12
  isplitl [HS]; · iexact HS
  iintro ⟨H0, H1, H2, H3, H4, H5, H6, H8, H9, H10, H11, H12, HS⟩
  isplitl [HS Hg]
  · isplitl [HS]
    · unfold owns; iexists _; isplitr
      swap; · iexact HS
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [H10]; · iexact H10
  isplitl [H11]; · iexists d11; iexact H11
  iexists d12; iexact H12

set_option maxHeartbeats 4000000 in
/-- The body at a point that ends a row block. -/
theorem bodyC (c : Dev nD) (t : Fin cfg0.N) (h0 : ¬t.val % 11 = 0) (h1 : t.val % 11 = 10) :
    bodyPre m c t ⊢ wp frame (wpE (defs₀ (F := F)) Variants.none c none) Set.univ (bodyAt0 t) (fun _ => bodyPost m c t) := by
  have hN : t.val < 44 := lt_of_lt_of_eq t.isLt (show cfg0.N = 44 from N_0)
  unfold bodyPre bodyPost bodyAt0
  simp only [bef0, bef1, bef2, bef3, bef4, bef5, bef6]
  rw [show (dat m 0 c).owesAt () t.succ = (dat m 0 c).owesAt () t.castSucc from rfl,
    aft0, aft1, aft2, aft3, aft4, aft5, aft6]
  rw [show (dat m 0 c).Φ t.succ = inv m c (t.val + 1) t.isLt from rfl, inv_succ]
  rw [inv_castSucc m c t, inv_pos m c _ _ (by omega)]
  rw [give7 m c t h1, flush11 m c t h0 h1, give12 m c t (Or.inr h1), outAt_C m c t h0 h1]
  simp only [bef11 m c t h0, bef12 m c t (show ¬t.val = 0 by omega)]
  rw [left_C m c t h0 h1]
  unfold leftC; dsimp only
  unfold outC
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((atC m c t h0 h1 (leftBefore m c t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H8]; · iexists _; iexact H8
  isplitl [H9]; · iexists _; iexact H9
  isplitl [H10]; · iexists _; iexact H10
  isplitl [H11]; · iexact H11
  isplitl [H7]; · iexists _; iexact H7
  isplitl [H12]; · iexact H12
  isplitl [HS]; · iexact HS
  iintro ⟨H0, H1, H2, H3, H4, H5, H6, H8, H9, H10, H11, ⟨%e_H7, H7⟩, H12, HS⟩
  isplitl [HS Hg]
  · isplitl [HS]
    · unfold owns; iexists _; isplitr
      swap; · iexact HS
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (coverC_7 m c t h0 h1 (leftBefore m c t))
  isplitl [H8]; · iexact H8
  isplitl [H9]; · iexact H9
  isplitl [H10]; · iexact H10
  isplitl [H11]; · iexact H11
  unfold owns; iexists _; isplitr
  swap; · iexact H12
  ipureintro; exact View.read_writes_of_cover _ _ _ _ _ (coverC_12 m c t h0 h1 (leftBefore m c t))

/-- The body at any point. -/
theorem body (c : Dev nD) (t : Fin cfg0.N) :
    bodyPre m c t ⊢ wp frame (wpE (defs₀ (F := F)) Variants.none c none) Set.univ (bodyAt0 t) (fun _ => bodyPost m c t) := by
  by_cases h0 : t.val % 11 = 0
  · by_cases h1 : t.val = 0
    · exact bodyA0 m c t h1
    · exact bodyA1 m c t h0 h1
  · by_cases h1 : t.val % 11 = 10
    · exact bodyC m c t h0 h1
    · exact bodyB m c t h0 h1

theorem body_row (t : Fin cfg0.N) :
    defs₀ (F := F) .tc cfg0.body (cfg0.bodyArgs t (cfg0.slots t)) = bodyAt0 t := by
  unfold defs₀; rw [Defs.onTc_tc]

/-- The pipeline's obligation on the body. -/
theorem obligation (c : Dev nD) : BodyObligation (dat (F := F) m 0 c) (defs₀ (F := F)) Variants.none () Set.univ unsaid := fun t => by
  rw [bigSep_W0, bigSep_W0, body_row]
  exact triple_restated (body m c t) rfl .rfl fun _ => .rfl

theorem inv_in (c : Dev nD) : Pipeline.ΦA spec0 c ⊢ (dat m 0 c).Φ 0 := by
  rw [show (dat m 0 c).Φ 0 = inv m c 0 (Nat.zero_le _) from rfl, inv_zero m c 0 _ rfl]
  try exact Idealize.SL.BI.Entails.refl _

set_option maxHeartbeats 4000000 in
theorem inv_out (c : Dev nD) : (dat m 0 c).Φ (Fin.last cfg0.N) ⊢ Pipeline.ΦA spec0 c := by
  have ht : (Fin.last cfg0.N).val ≠ 0 := by rw [Fin.val_last]; have : cfg0.N = 44 := N_0; omega
  rw [show (dat m 0 c).Φ (Fin.last cfg0.N) = inv m c (Fin.last cfg0.N).val (Nat.le_of_lt_succ (Fin.last cfg0.N).isLt) from rfl,
    inv_pos m c _ _ ht, Phi_scr]
  iintro ⟨HS, Hg⟩
  isplitl [HS]
  · iexists _; iexact HS
  iexact Hg

set_option backward.isDefEq.respectTransparency.types false in
/-- The kernel program's run: it terminates with every input array unchanged, the result's array and the cotangent's as
    the pipeline's data names them, and every semaphore counter at zero. -/
theorem ran_quiet : θ_run defs (onTc (τ := τ) (main (F := F))) (s₀ m ρ) (fun r => (Pipeline.RDat.FramePost (cfgs 0) (fun c => (dat m 0 c).toRForget unsaid) (V m)) r ∧ r.2.sem = fun _ => 0) :=
  Pipeline.θ_run_frame_track_forget_shared (Q' := _) cfgs (dat m) (0 : Fin 1) launch₀0 defs₀ Variants.none unsaid m ρ main
    (hbody := fun c => (obligation m c).loose) (hq := fun _ _ _ => rfl)
    (howed := fun _ _ => rfl) (V := V m) (hmain := hmain m Variants.none) (hA := dat_A m) (hin := inv_in m) (hout := inv_out m)

/-- Every argument array ends unchanged, read off such a run. -/
theorem args_kept (rd : (c : Dev nD) → Pipeline.RDat τ (Elt F) Unit ℕ (UR sig nD τ) ℕ (cfgs 0) c)
    (hA : ∀ c w, (rd c).A w = V m c (Pipeline.arrRef spec0 w))
    (h : θ_run defs (onTc (τ := τ) (main (F := F))) (s₀ m ρ) (Pipeline.RDat.FramePost (cfgs 0) rd (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Pipeline.RDat.FramePost.arr_in h c 2 rfl).trans ((hA c 2).trans (V_main_arg5 m c))⟩) h

/-- The frame: every run terminates, keeps the argument arrays and leaves the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (args_kept m ρ (fun c => (dat m 0 c).toRForget unsaid) (dat_A m) ((θ_run defs _ _).mono (fun _ h => h.1) (ran_quiet m ρ))) ((θ_run defs _ _).mono (fun _ h => h.2) (ran_quiet m ρ))

end Cert.Kernel9Ideal.Bwd

end
-- ==== Proof.Bwd.FrameKernel.lean ====
module

public import proofs.«01_k».proof.Defs
public import proofs.«01_k».proof.Proof.Gen.Kernel9
public import proofs.«01_k».proof.Proof.Bwd.Frame

@[expose] public section

set_option maxRecDepth 16384

noncomputable section

namespace Cert.Kernel9Ideal.Bwd

open Idealize.ShloMosaic Idealize.ShloMosaic.Tactic Idealize.SL.Sem

/-- The same frame for the program as printed with its own float formats: the two programs have the same text. -/
theorem frame_kernel : @Cert.quiescent_Kernel9 Cert.Kernel9.Gen.facts := by
  have h := fun m ρ (_ : True) => frame (F := Bits) m ρ
  refine @Eq.mp _ _ ?_ h
  sl_kernel_rfl

end Cert.Kernel9Ideal.Bwd

end
-- ==== Proof.Bwd.Pays.lean ====
/- The feed-forward block's backward call: what its body's stored values are, entry by entry. -/
module

public import proofs.«01_k».proof.Proof.Gen.Kernel9Ideal.Skeleton
public import Idealize.ShloMosaic.Lib.Pipeline.ValueKit
public import Idealize.ShloMosaic.Lib.Pipeline.ReadBack

@[expose] public section

set_option maxRecDepth 16384
set_option maxHeartbeats 400000

noncomputable section

namespace Cert.Kernel9Ideal.Bwd

open Idealize.ShloMosaic Idealize.ShloMosaic.TcCoe Idealize.ShloMosaic.Tactic Cert.Kernel9Ideal Cert.Kernel9Ideal.Gen

theorem ix2_of {a b : ℕ} (j : (⟨2, ![a, b]⟩ : Shape).Idx) : ∃ (p : Fin a) (q : Fin b), j = ix2 p q :=
  ⟨j 0, j 1, by funext x; fin_cases x <;> rfl⟩

/-- The activation's gradient times the up value, through the gate; -/
def gateStep (da g u : EReal) : EReal :=
  da * u * (Ideal.logistic g * (1 + g * (1 - Ideal.logistic g)))
/-- and the up value's own gradient. -/
def upStep (da g : EReal) : EReal := da * (g * Ideal.logistic g)

theorem pay16_at (v : Vec Ideal S1x256x1024 .bf16) (y : Vec Ideal S512x1024 .bf16) (p : Fin 512) (n : Fin 256) :
    (k0_pay16 v y (ix2 p n) : EReal) = ∑ q : Fin 1024, (y (ix2 p q) : EReal) * v (ix3 (0 : Fin 1) n q) := by
  pointwise [k0_pay16, k0_pay12]
/-- The second row group computes what the first does. -/
theorem pay23_eq (v : Vec Ideal S1x256x1024 .bf16) (y : Vec Ideal S512x1024 .bf16) : k0_pay23 (k0_pay12 v) y = k0_pay16 v y := rfl
theorem pay24_eq (v : Vec Ideal S1x256x1024 .bf16) (g u : Vec Ideal S512x256 .bf16) (y : Vec Ideal S512x1024 .bf16) :
    k0_pay24 (k0_pay12 v) g u y = k0_pay18 (k0_pay17 v g u y) := rfl
theorem pay25_eq (v : Vec Ideal S1x256x1024 .bf16) (g : Vec Ideal S512x256 .bf16) (y : Vec Ideal S512x1024 .bf16) :
    k0_pay25 (k0_pay12 v) g y = k0_pay19 (k0_pay15 g) (k0_pay16 v y) := rfl
theorem pay17_at (v : Vec Ideal S1x256x1024 .bf16) (g u : Vec Ideal S512x256 .bf16) (y : Vec Ideal S512x1024 .bf16) (p : Fin 512) (n : Fin 256) :
    (k0_pay18 (k0_pay17 v g u y) (ix2 p n) : EReal) = gateStep (k0_pay16 v y (ix2 p n)) (g (ix2 p n)) (u (ix2 p n)) := by
  pointwise [k0_pay18, k0_pay17, k0_pay14, k0_pay13]
  rfl
theorem pay19_at (v : Vec Ideal S1x256x1024 .bf16) (g : Vec Ideal S512x256 .bf16) (y : Vec Ideal S512x1024 .bf16) (p : Fin 512) (n : Fin 256) :
    (k0_pay19 (k0_pay15 g) (k0_pay16 v y) (ix2 p n) : EReal) = upStep (k0_pay16 v y (ix2 p n)) (g (ix2 p n)) := by
  pointwise [k0_pay19, k0_pay15, k0_pay14, k0_pay13]
  rfl
theorem pay20_at (wg wu : Vec Ideal S1x256x1024 .bf16) (s d : FVec Ideal S512x256 .f32) (x : FVec Ideal S512x256 .f32) (a : Vec Ideal S512x1024 .f32) (p : Fin 512) (q : Fin 1024) :
    (k0_pay20 (k0_pay10 wg) (k0_pay11 wu) s d x a (ix2 p q) : EReal) = (a (ix2 p q) : EReal)
      + ((∑ n : Fin 256, (k0_pay18 x (ix2 p n) : EReal) * wg (ix3 (0 : Fin 1) n q)) + ∑ n : Fin 256, (k0_pay19 s d (ix2 p n) : EReal) * wu (ix3 (0 : Fin 1) n q)) := by
  pointwise [k0_pay20, k0_pay10, k0_pay11]
theorem pay1_at (wg wu : Vec Ideal S1x256x1024 .bf16) (x y : FVec Ideal S512x256 .bf16) (a : Vec Ideal S512x1024 .f32) (p : Fin 512) (q : Fin 1024) :
    (k0_pay1 (k0_pay10 wg) (k0_pay11 wu) x y a (ix2 p q) : EReal) = (a (ix2 p q) : EReal)
      + ((∑ n : Fin 256, (x (ix2 p n) : EReal) * wg (ix3 (0 : Fin 1) n q)) + ∑ n : Fin 256, (y (ix2 p n) : EReal) * wu (ix3 (0 : Fin 1) n q)) := by
  pointwise [k0_pay1, k0_pay10, k0_pay11]
theorem pay7_at (x : Vec Ideal S1024x1024 .f32) (p q : Fin 1024) : (k0_pay7 x (ix2 p q) : EReal) = Ideal.ofBits .f32 0x3F000000#32 * x (ix2 p q) := by
  pointwise [k0_pay7]
theorem zero_at (p q : Fin 1024) : (k0_pay8 (F := Ideal) (ix2 p q) : EReal) = 0 := by
  pointwise [k0_pay8]

/-- A row's inverse root mean square, -/
def root (x : Fin 1024 → EReal) : EReal :=
  Ideal.rsqrt (Ideal.div (∑ k : Fin 1024, x k * x k) (Ideal.ofBits .f32 0x44800000#32) + Ideal.ofBits .f32 0x358637BD#32)
/-- and the norm's gradient at one entry of a row. -/
def normStep (x g a : Fin 1024 → EReal) (q : Fin 1024) : EReal :=
  root x * (a q * g q - x q * root x * Ideal.div (∑ k : Fin 1024, a k * g k * (x k * root x)) (Ideal.ofBits .f32 0x44800000#32))

theorem pay4_at (x : Vec Ideal S1024x1024 .f32) (g : Vec Ideal S1x1024 .f32) (a d : Vec Ideal S1024x1024 .f32) (p q : Fin 1024) :
    (k0_pay4 x g a d (ix2 p q) : EReal) = (d (ix2 p q) : EReal)
      + normStep (fun k => x (ix2 p k)) (fun k => g (ix2 (0 : Fin 1) k)) (fun k => a (ix2 p k)) q := by
  pointwise [k0_pay4, k0_pay3, k0_pay2]
  rfl

/-- What the end of a run of points adds to the gradient of the norm's scale: a sum over the block's tokens. -/
theorem pay5_at (x a : Vec Ideal S1024x1024 .f32) (d : Vec Ideal S1x1024 .f32) (q : Fin 1024) :
    (k0_pay5 x a d (ix2 (0 : Fin 1) q) : EReal) = (d (ix2 (0 : Fin 1) q) : EReal)
      + ∑ p : Fin 1024, (a (ix2 p q) : EReal) * (x (ix2 p q) * root (fun k => x (ix2 p k))) := by
  pointwise [k0_pay5, k0_pay3, k0_pay2]
  rfl
theorem zero9_at (q : Fin 1024) : (k0_pay9 (F := Ideal) (ix2 (0 : Fin 1) q) : EReal) = 0 := by
  pointwise [k0_pay9]

end Cert.Kernel9Ideal.Bwd

end
-- ==== Proof.Bwd.Points.lean ====
/- The feed-forward block's backward call: what each of its points computes. -/
module

public import proofs.«01_k».proof.Proof.Bwd.Frame
public import proofs.«01_k».proof.Proof.Bwd.Pays
public import Idealize.ShloMosaic.Lib.Pipeline.ValueKit
public import Idealize.ShloMosaic.Lib.Pipeline.ReadBack
public import Idealize.ShloMosaic.Lib.Pipeline.ValueKit.Held

@[expose] public section

set_option maxRecDepth 16384
set_option maxHeartbeats 400000

noncomputable section

namespace Cert.Kernel9Ideal.Bwd

open Idealize.ShloMosaic Idealize.ShloMosaic.TcCoe Idealize.ShloMosaic.Tactic Cert.Kernel9Ideal Cert.Kernel9Ideal.Gen

variable (m : (ℓ : Loc nD τ sig) → Buf (Elt Ideal) ℓ)

abbrev rowsLo : Rect S1024x1024 := Rect.unit ![0, 0] ![512, 1024] inb_S1024x1024_S512x1024_0_0
abbrev rowsHi : Rect S1024x1024 := Rect.unit ![512, 0] ![512, 1024] inb_S1024x1024_S512x1024_512_0
abbrev lanesLo : Rect S1024x256 := Rect.unit ![0, 0] ![512, 256] inb_S1024x256_S512x256_0_0
abbrev lanesHi : Rect S1024x256 := Rect.unit ![512, 0] ![512, 256] inb_S1024x256_S512x256_512_0

theorem hi_emb {w : ℕ} {inb} (k : Fin 512) (q : Fin w) :
    (Rect.unit (s := ⟨2, ![1024, w]⟩) ![512, 0] ![512, w] inb).emb (ix2 k q) = ix2 (⟨512 + k.val, by have := k.isLt; omega⟩ : Fin 1024) q := by
  funext a
  fin_cases a
  · exact Fin.ext (by show 512 + 1 * k.val = 512 + k.val; omega)
  · exact Fin.ext (by show 0 + 1 * q.val = q.val; omega)
theorem lo_emb {w : ℕ} {inb} (k : Fin 512) (q : Fin w) :
    (Rect.unit (s := ⟨2, ![1024, w]⟩) ![0, 0] ![512, w] inb).emb (ix2 k q) = ix2 (⟨k.val, by have := k.isLt; omega⟩ : Fin 1024) q := by
  funext a
  fin_cases a
  · exact Fin.ext (by show 0 + 1 * k.val = k.val; omega)
  · exact Fin.ext (by show 0 + 1 * q.val = q.val; omega)

/-- What two row groups leave, whatever was there: each group's payload, read at its own rows, is one function `f` of the row. -/
theorem two_groups {w : ℕ} {e : EltTy} {inb inb'} (P Q : (⟨2, ![512, w]⟩ : Shape).Idx → Elt Ideal e) (L : List (View.Piece (Elt Ideal) ⟨2, ![1024, w]⟩ e))
    (f : Fin 1024 → Fin w → Elt Ideal e)
    (hP : ∀ k q, P (ix2 k q) = f ⟨512 + k.val, by have := k.isLt; omega⟩ q) (hQ : ∀ k q, Q (ix2 k q) = f ⟨k.val, by have := k.isLt; omega⟩ q)
    (y : (⟨2, ![1024, w]⟩ : Shape).Idx) :
    View.canon (⟨Rect.unit (s := ⟨2, ![1024, w]⟩) ![512, 0] ![512, w] inb, P⟩ :: ⟨Rect.unit (s := ⟨2, ![1024, w]⟩) ![0, 0] ![512, w] inb', Q⟩ :: L) y = f (y 0) (y 1) := by
  obtain ⟨p, q, rfl⟩ := ix2_of y
  show _ = f p q
  by_cases h : p.val < 512
  · rw [View.canon_cons_of_not_mem]
    · have e : (ix2 p q : (⟨2, ![1024, w]⟩ : Shape).Idx) = (Rect.unit (s := ⟨2, ![1024, w]⟩) ![0, 0] ![512, w] inb').emb (ix2 (⟨p.val, h⟩ : Fin 512) q) := (lo_emb ⟨p.val, h⟩ q).symm
      rw [e, View.canon_cons_emb]
      exact hQ _ _
    · intro hm
      have := ((Rect.mem_set_unit (inb := inb)).mp hm 0).1
      have : 512 ≤ p.val := this
      omega
  · have e : (ix2 p q : (⟨2, ![1024, w]⟩ : Shape).Idx) = (Rect.unit (s := ⟨2, ![1024, w]⟩) ![512, 0] ![512, w] inb).emb (ix2 (⟨p.val - 512, by have := p.isLt; omega⟩ : Fin 512) q) := by
      rw [hi_emb]
      exact congrArg (fun a => ix2 a q) (Fin.ext (by show p.val = 512 + (p.val - 512); omega))
    rw [e, View.canon_cons_emb, hP]
    exact congrArg (fun a => f a q) (Fin.ext (by show 512 + (p.val - 512) = p.val; omega))

theorem ld_hi (h : Vec Ideal S1024x1024 .bf16) (k : Fin 512) (d : Fin 1024) :
    View.ld h rowsHi (ix2 k d) = h (ix2 (⟨512 + k.val, by have := k.isLt; omega⟩ : Fin 1024) d) := congrArg h (hi_emb k d)
theorem ld_lo (h : Vec Ideal S1024x1024 .bf16) (k : Fin 512) (d : Fin 1024) :
    View.ld h rowsLo (ix2 k d) = h (ix2 (⟨k.val, by have := k.isLt; omega⟩ : Fin 1024) d) := congrArg h (lo_emb k d)
theorem ldf_hi (h : Vec Ideal S1024x1024 .f32) (k : Fin 512) (d : Fin 1024) :
    View.ld h rowsHi (ix2 k d) = h (ix2 (⟨512 + k.val, by have := k.isLt; omega⟩ : Fin 1024) d) := congrArg h (hi_emb k d)
theorem ldf_lo (h : Vec Ideal S1024x1024 .f32) (k : Fin 512) (d : Fin 1024) :
    View.ld h rowsLo (ix2 k d) = h (ix2 (⟨k.val, by have := k.isLt; omega⟩ : Fin 1024) d) := congrArg h (lo_emb k d)

theorem ldn_hi (h : Vec Ideal S1024x256 .bf16) (k : Fin 512) (d : Fin 256) :
    View.ld h lanesHi (ix2 k d) = h (ix2 (⟨512 + k.val, by have := k.isLt; omega⟩ : Fin 1024) d) := congrArg h (hi_emb k d)
theorem ldn_lo (h : Vec Ideal S1024x256 .bf16) (k : Fin 512) (d : Fin 256) :
    View.ld h lanesLo (ix2 k d) = h (ix2 (⟨k.val, by have := k.isLt; omega⟩ : Fin 1024) d) := congrArg h (lo_emb k d)

abbrev sheet0 : Rect S2x256x1024 := Rect.unit ![0, 0, 0] ![1, 256, 1024] inb_S2x256x1024_S1x256x1024_0_0_0
abbrev sheet1 : Rect S2x256x1024 := Rect.unit ![1, 0, 0] ![1, 256, 1024] inb_S2x256x1024_S1x256x1024_1_0_0
theorem sheet0_at (w : Vec Ideal S2x256x1024 .bf16) (n : Fin 256) (q : Fin 1024) : View.ld w sheet0 (ix3 (0 : Fin 1) n q) = w (ix3 (0 : Fin 2) n q) := by
  refine congrArg w ?_
  funext a
  fin_cases a
  · rfl
  · exact Fin.ext (by show 0 + 1 * n.val = n.val; omega)
  · exact Fin.ext (by show 0 + 1 * q.val = q.val; omega)
theorem sheet1_at (w : Vec Ideal S2x256x1024 .bf16) (n : Fin 256) (q : Fin 1024) : View.ld w sheet1 (ix3 (0 : Fin 1) n q) = w (ix3 (1 : Fin 2) n q) := by
  refine congrArg w ?_
  funext a
  fin_cases a
  · rfl
  · exact Fin.ext (by show 0 + 1 * n.val = n.val; omega)
  · exact Fin.ext (by show 0 + 1 * q.val = q.val; omega)

/-- The activation's gradient at one lane, -/
def dA (v : Vec Ideal S1x256x1024 .bf16) (y : Vec Ideal S1024x1024 .bf16) (p : Fin 1024) (n : Fin 256) : EReal :=
  ∑ q : Fin 1024, (y (ix2 p q) : EReal) * v (ix3 (0 : Fin 1) n q)
/-- the gate's, -/
def dG (v : Vec Ideal S1x256x1024 .bf16) (g u : Vec Ideal S1024x256 .bf16) (y : Vec Ideal S1024x1024 .bf16) (p : Fin 1024) (n : Fin 256) : EReal :=
  gateStep (dA v y p n) (g (ix2 p n)) (u (ix2 p n))
/-- and the up value's. -/
def dU (v : Vec Ideal S1x256x1024 .bf16) (g : Vec Ideal S1024x256 .bf16) (y : Vec Ideal S1024x1024 .bf16) (p : Fin 1024) (n : Fin 256) : EReal :=
  upStep (dA v y p n) (g (ix2 p n))
/-- What one point adds to the accumulator. -/
def part (w : Vec Ideal S2x256x1024 .bf16) (v : Vec Ideal S1x256x1024 .bf16) (g u : Vec Ideal S1024x256 .bf16) (y : Vec Ideal S1024x1024 .bf16) (p q : Fin 1024) : EReal :=
  (∑ n : Fin 256, dG v g u y p n * w (ix3 (0 : Fin 2) n q)) + ∑ n : Fin 256, dU v g y p n * w (ix3 (1 : Fin 2) n q)

variable (w : Vec Ideal S2x256x1024 .bf16) (v : Vec Ideal S1x256x1024 .bf16) (g u : Vec Ideal S1024x256 .bf16) (y : Vec Ideal S1024x1024 .bf16) (a : Vec Ideal S1024x1024 .f32)
theorem p16_hi (k : Fin 512) (n : Fin 256) : k0_pay16 v (View.ld y rowsHi) (ix2 k n) = dA v y (⟨512 + k.val, by have := k.isLt; omega⟩ : Fin 1024) n :=
  (pay16_at v _ k n).trans (Finset.sum_congr rfl fun q _ => congrArg (fun b : EReal => b * _) (ld_hi y k q))
theorem p17_hi (k : Fin 512) (n : Fin 256) : k0_pay18 (k0_pay17 v (View.ld g lanesHi) (View.ld u lanesHi) (View.ld y rowsHi)) (ix2 k n) = dG v g u y (⟨512 + k.val, by have := k.isLt; omega⟩ : Fin 1024) n := by
  rw [pay17_at, p16_hi, ldn_hi, ldn_hi]; rfl
theorem p19_hi (k : Fin 512) (n : Fin 256) : k0_pay19 (k0_pay15 (View.ld g lanesHi)) (k0_pay16 v (View.ld y rowsHi)) (ix2 k n) = dU v g y (⟨512 + k.val, by have := k.isLt; omega⟩ : Fin 1024) n := by
  rw [pay19_at, p16_hi, ldn_hi]; rfl
theorem p16_lo (k : Fin 512) (n : Fin 256) : k0_pay16 v (View.ld y rowsLo) (ix2 k n) = dA v y (⟨k.val, by have := k.isLt; omega⟩ : Fin 1024) n :=
  (pay16_at v _ k n).trans (Finset.sum_congr rfl fun q _ => congrArg (fun b : EReal => b * _) (ld_lo y k q))
theorem p17_lo (k : Fin 512) (n : Fin 256) : k0_pay18 (k0_pay17 v (View.ld g lanesLo) (View.ld u lanesLo) (View.ld y rowsLo)) (ix2 k n) = dG v g u y (⟨k.val, by have := k.isLt; omega⟩ : Fin 1024) n := by
  rw [pay17_at, p16_lo, ldn_lo, ldn_lo]; rfl
theorem p19_lo (k : Fin 512) (n : Fin 256) : k0_pay19 (k0_pay15 (View.ld g lanesLo)) (k0_pay16 v (View.ld y rowsLo)) (ix2 k n) = dU v g y (⟨k.val, by have := k.isLt; omega⟩ : Fin 1024) n := by
  rw [pay19_at, p16_lo, ldn_lo]; rfl
theorem p20_lo (k : Fin 512) (q : Fin 1024) : (k0_pay20 (k0_pay10 (View.ld w sheet0)) (k0_pay11 (View.ld w sheet1)) (k0_pay15 (View.ld g lanesLo)) (k0_pay16 v (View.ld y rowsLo)) (k0_pay17 v (View.ld g lanesLo) (View.ld u lanesLo) (View.ld y rowsLo)) (View.ld a rowsLo) (ix2 k q) : EReal) =
    (a (ix2 (⟨k.val, by have := k.isLt; omega⟩ : Fin 1024) q) : EReal) + part w v g u y (⟨k.val, by have := k.isLt; omega⟩ : Fin 1024) q := by
  refine (pay20_at _ _ _ _ _ _ k q).trans (congrArg₂ (fun b c : EReal => b + c) (ldf_lo a k q) (congrArg₂ (fun b c : EReal => b + c) ?_ ?_))
  · exact Finset.sum_congr rfl fun n _ => congrArg₂ (fun b c : EReal => b * c) (p17_lo v g u y k n) (sheet0_at w n q)
  · exact Finset.sum_congr rfl fun n _ => congrArg₂ (fun b c : EReal => b * c) (p19_lo v g y k n) (sheet1_at w n q)
theorem p1_hi (k : Fin 512) (q : Fin 1024) : (k0_pay1 (k0_pay10 (View.ld w sheet0)) (k0_pay11 (View.ld w sheet1)) (k0_pay24 (k0_pay12 v) (View.ld g lanesHi) (View.ld u lanesHi) (View.ld y rowsHi)) (k0_pay25 (k0_pay12 v) (View.ld g lanesHi) (View.ld y rowsHi)) (View.ld a rowsHi) (ix2 k q) : EReal) =
    (a (ix2 (⟨512 + k.val, by have := k.isLt; omega⟩ : Fin 1024) q) : EReal) + part w v g u y (⟨512 + k.val, by have := k.isLt; omega⟩ : Fin 1024) q := by
  refine (pay1_at _ _ _ _ _ k q).trans (congrArg₂ (fun b c : EReal => b + c) (ldf_hi a k q) (congrArg₂ (fun b c : EReal => b + c) ?_ ?_))
  · exact Finset.sum_congr rfl fun n _ => congrArg₂ (fun b c : EReal => b * c) (p17_hi v g u y k n) (sheet0_at w n q)
  · exact Finset.sum_congr rfl fun n _ => congrArg₂ (fun b c : EReal => b * c) (p19_hi v g y k n) (sheet1_at w n q)

/-- The two row groups cover the accumulator. -/
theorem groups_cover {inb inb'} (P Q : S512x1024.Idx → Elt Ideal .f32) (y : S1024x1024.Idx) :
    ∃ r ∈ ([⟨Rect.unit (s := S1024x1024) ![512, 0] ![512, 1024] inb, P⟩, ⟨Rect.unit (s := S1024x1024) ![0, 0] ![512, 1024] inb', Q⟩] : List (View.Piece (Elt Ideal) S1024x1024 .f32)), y ∈ r.1.set := by
  obtain ⟨k, l, rfl⟩ := ix2_of y
  by_cases h : k.val < 512
  · refine ⟨_, List.mem_cons_of_mem _ List.mem_cons_self, ?_⟩
    have e : (ix2 k l : S1024x1024.Idx) = (Rect.unit (s := S1024x1024) ![0, 0] ![512, 1024] inb').emb (ix2 (⟨k.val, h⟩ : Fin 512) l) := (lo_emb ⟨k.val, h⟩ l).symm
    rw [e]
    exact LoadRect.idx_mem _ _
  · refine ⟨_, List.mem_cons_self, ?_⟩
    have e : (ix2 k l : S1024x1024.Idx) = (Rect.unit (s := S1024x1024) ![512, 0] ![512, 1024] inb).emb (ix2 (⟨k.val - 512, by have := k.isLt; omega⟩ : Fin 512) l) := by
      rw [hi_emb]
      exact congrArg (fun a => ix2 a l) (Fin.ext (by show k.val = 512 + (k.val - 512); omega))
    rw [e]
    exact LoadRect.idx_mem _ _

/-- The accumulator read back whole after its two row groups are stored. -/
theorem read_groups {inb inb' inb''} (P Q : S512x1024.Idx → Elt Ideal .f32) (p q : Fin 1024) :
    (View.whole cc0_scratch0).readCov ([⟨Rect.unit (s := S1024x1024) ![512, 0] ![512, 1024] inb, P⟩, ⟨Rect.unit (s := S1024x1024) ![0, 0] ![512, 1024] inb', Q⟩] : List (View.Piece (Elt Ideal) S1024x1024 .f32))
      (Rect.unit (s := S1024x1024) ![0, 0] ![1024, 1024] inb'').toLoadRect (ix2 p q) =
    View.canon ([⟨Rect.unit (s := S1024x1024) ![512, 0] ![512, 1024] inb, P⟩, ⟨Rect.unit (s := S1024x1024) ![0, 0] ![512, 1024] inb', Q⟩] : List (View.Piece (Elt Ideal) S1024x1024 .f32)) (ix2 p q) := by
  rw [View.readCov_eq_canon_ld _ _ _ (groups_cover P Q)]
  refine congrArg (View.canon _) ?_
  funext a
  fin_cases a
  · exact Fin.ext (by show 0 + 1 * p.val = p.val; omega)
  · exact Fin.ext (by show 0 + 1 * q.val = q.val; omega)

/-- The blocks a point reads. -/
abbrev xB (c : Dev nD) (t : Fin cfg0.N) : Vec Ideal S1024x1024 .f32 := iblk m c 0 t
abbrev gB (c : Dev nD) (t : Fin cfg0.N) : Vec Ideal S1x1024 .f32 := iblk m c 1 t
abbrev oB (c : Dev nD) (t : Fin cfg0.N) : Vec Ideal S1024x1024 .f32 := iblk m c 2 t
abbrev gateB (c : Dev nD) (t : Fin cfg0.N) : Vec Ideal S1024x256 .bf16 := iblk m c 3 t
abbrev upB (c : Dev nD) (t : Fin cfg0.N) : Vec Ideal S1024x256 .bf16 := iblk m c 4 t
abbrev wB (c : Dev nD) (t : Fin cfg0.N) : Vec Ideal S2x256x1024 .bf16 := X0_5 m c t
abbrev vB (c : Dev nD) (t : Fin cfg0.N) : Vec Ideal S1x256x1024 .bf16 := iblk m c 6 t
/-- The residual gradient it multiplies with: its own at the first point of a run, else the one that came with it; -/
abbrev yB (c : Dev nD) (t : Fin cfg0.N) : Vec Ideal S1024x1024 .bf16 := (left m c t.val t.isLt).1
/-- and the accumulator it leaves. -/
abbrev aB (c : Dev nD) (t : Fin cfg0.N) : Vec Ideal S1024x1024 .f32 := (left m c t.val t.isLt).2.1
abbrev before (c : Dev nD) (t : Fin cfg0.N) : State Ideal := left m c (t.val - 1) (by have := t.isLt; omega)

theorem yA (c : Dev nD) (t : Fin cfg0.N) (h : t.val % 11 = 0) : yB m c t = k0_pay7 (oB m c t) := by
  funext j
  show (left m c t.val t.isLt).1 j = _
  by_cases h0 : t.val = 0
  · rw [left_A0 m c t h0]
    unfold leftA0 atA0 runA0
    dsimp only
    frame_out
  · rw [left_A1 m c t h h0]
    unfold leftA1 atA1 runA1
    dsimp only
    frame_out
theorem yS (c : Dev nD) (t : Fin cfg0.N) (h : ¬t.val % 11 = 0) : yB m c t = (before m c t).1 := left_carry m c t h

theorem accA0 (c : Dev nD) (t : Fin cfg0.N) (h0 : t.val = 0) (p q : Fin 1024) :
    ((leftA0 m c t h0).2.1 (ix2 p q) : EReal) = 0 + part (wB m c t) (vB m c t) (gateB m c t) (upB m c t) (k0_pay7 (oB m c t)) p q := by
  unfold leftA0 atA0 runA0
  dsimp only
  frame_open
  simp (disch := decide) only [↓ View.readCov_skip, ↓ View.readCov_cons_toLoadRect, ↓ View.readCov_fill]
  frame_out
  exact (two_groups _ _ _ (fun p q => ((k0_pay8 (F := Ideal) (ix2 p q) : EReal) + part (wB m c t) (vB m c t) (gateB m c t) (upB m c t) (k0_pay7 (oB m c t)) p q : EReal))
    (p1_hi _ _ _ _ _ _) (p20_lo _ _ _ _ _ _) (ix2 p q)).trans
    (congrArg (fun b : EReal => b + part (wB m c t) (vB m c t) (gateB m c t) (upB m c t) (k0_pay7 (oB m c t)) p q) (zero_at p q))
theorem accA1 (c : Dev nD) (t : Fin cfg0.N) (h0 : t.val % 11 = 0) (h1 : ¬t.val = 0) (s : State Ideal) (p q : Fin 1024) :
    ((leftA1 m c t h0 h1 s).2.1 (ix2 p q) : EReal) = 0 + part (wB m c t) (vB m c t) (gateB m c t) (upB m c t) (k0_pay7 (oB m c t)) p q := by
  unfold leftA1 atA1 runA1
  dsimp only
  frame_open
  simp (disch := decide) only [↓ View.readCov_skip, ↓ View.readCov_cons_toLoadRect, ↓ View.readCov_fill]
  frame_out
  exact (two_groups _ _ _ (fun p q => ((k0_pay8 (F := Ideal) (ix2 p q) : EReal) + part (wB m c t) (vB m c t) (gateB m c t) (upB m c t) (k0_pay7 (oB m c t)) p q : EReal))
    (p1_hi _ _ _ _ _ _) (p20_lo _ _ _ _ _ _) (ix2 p q)).trans
    (congrArg (fun b : EReal => b + part (wB m c t) (vB m c t) (gateB m c t) (upB m c t) (k0_pay7 (oB m c t)) p q) (zero_at p q))
theorem accB (c : Dev nD) (t : Fin cfg0.N) (h0 : ¬t.val % 11 = 0) (h1 : ¬t.val % 11 = 10) (s : State Ideal) (p q : Fin 1024) :
    ((leftB m c t h0 h1 s).2.1 (ix2 p q) : EReal) = (s.2.1 (ix2 p q) : EReal) + part (wB m c t) (vB m c t) (gateB m c t) (upB m c t) s.1 p q := by
  unfold leftB atB runB
  dsimp only
  frame_out
  rw [View.read_writes_apply_eq_canon _ _ _ _ (groups_cover _ _ _)]
  simp only [(Memref.isWhole_whole cc0_scratch0).read_unread]
  exact two_groups _ _ _ (fun p q => ((s.2.1 (ix2 p q) : EReal) + part (wB m c t) (vB m c t) (gateB m c t) (upB m c t) s.1 p q : EReal))
    (p1_hi _ _ _ _ _ _) (p20_lo _ _ _ _ _ _) (ix2 p q)
theorem accC (c : Dev nD) (t : Fin cfg0.N) (h0 : ¬t.val % 11 = 0) (h1 : t.val % 11 = 10) (s : State Ideal) (p q : Fin 1024) :
    ((leftC m c t h0 h1 s).2.1 (ix2 p q) : EReal) = (s.2.1 (ix2 p q) : EReal) + part (wB m c t) (vB m c t) (gateB m c t) (upB m c t) s.1 p q := by
  unfold leftC atC runC
  dsimp only
  frame_out
  rw [View.read_writes_apply_eq_canon _ _ _ _ (groups_cover _ _ _)]
  simp only [(Memref.isWhole_whole cc0_scratch0).read_unread]
  exact two_groups _ _ _ (fun p q => ((s.2.1 (ix2 p q) : EReal) + part (wB m c t) (vB m c t) (gateB m c t) (upB m c t) s.1 p q : EReal))
    (p1_hi _ _ _ _ _ _) (p20_lo _ _ _ _ _ _) (ix2 p q)
/-- What the last point of a run stores as the gradient of the block's input. -/
theorem dxC (c : Dev nD) (t : Fin cfg0.N) (h0 : ¬t.val % 11 = 0) (h1 : t.val % 11 = 10) (s : State Ideal) (p q : Fin 1024) :
    (outC m c t h0 h1 s (ix2 p q) : EReal) = (oB m c t (ix2 p q) : EReal)
      + normStep (fun k => xB m c t (ix2 p k)) (fun k => gB m c t (ix2 (0 : Fin 1) k)) (fun k => (leftC m c t h0 h1 s).2.1 (ix2 p k)) q := by
  have e : ∀ k : Fin 1024, ((leftC m c t h0 h1 s).2.1 (ix2 p k) : EReal) = (s.2.1 (ix2 p k) : EReal) + part (wB m c t) (vB m c t) (gateB m c t) (upB m c t) s.1 p k := accC m c t h0 h1 s p
  rw [show (fun k => ((leftC m c t h0 h1 s).2.1 (ix2 p k) : EReal)) = fun k => (s.2.1 (ix2 p k) : EReal) + part (wB m c t) (vB m c t) (gateB m c t) (upB m c t) s.1 p k from funext e]
  unfold outC atC runC
  dsimp only
  frame_out
  refine (pay4_at _ _ _ _ _ _).trans ?_
  refine congrArg (fun f : Fin 1024 → EReal => (oB m c t (ix2 p q) : EReal) + normStep (fun k => xB m c t (ix2 p k)) (fun k => gB m c t (ix2 (0 : Fin 1) k)) f q) (funext fun k => ?_)
  rw [read_groups]
  simp only [(Memref.isWhole_whole cc0_scratch0).read_unread]
  exact two_groups _ _ _ (fun p q => ((s.2.1 (ix2 p q) : EReal) + part (wB m c t) (vB m c t) (gateB m c t) (upB m c t) s.1 p q : EReal))
    (p1_hi _ _ _ _ _ _) (p20_lo _ _ _ _ _ _) (ix2 p k)

/-- The accumulator at the end of a run: the sum of what the run's points add. -/
theorem acc_at (c : Dev nD) (t : Fin cfg0.N) (h : t.val % 11 = 10) (j : S1024x1024.Idx) :
    (aB m c t j : EReal) =
      0 + ∑ s : Fin 11, part (wB m c ⟨11 * (t.val / 11) + s.val, Pipeline.run_point_lt_of_flush t h s⟩) (vB m c ⟨11 * (t.val / 11) + s.val, Pipeline.run_point_lt_of_flush t h s⟩)
        (gateB m c ⟨11 * (t.val / 11) + s.val, Pipeline.run_point_lt_of_flush t h s⟩) (upB m c ⟨11 * (t.val / 11) + s.val, Pipeline.run_point_lt_of_flush t h s⟩)
        (yB m c ⟨11 * (t.val / 11) + s.val, Pipeline.run_point_lt_of_flush t h s⟩) (j 0) (j 1) := by
  refine Pipeline.eq_sum_fin_of_reset_step_apply_of_flush (fun n h => (left m c n h).2.1) 11 (fun _ => (0 : EReal))
    (fun t j => part (wB m c t) (vB m c t) (gateB m c t) (upB m c t) (yB m c t) (j 0) (j 1)) (fun t h => ?_) (fun t h => ?_) t h j
  · intro j
    obtain ⟨p, q, rfl⟩ := ix2_of j
    rw [yA m c t h]
    by_cases h0 : t.val = 0
    · rw [left_A0 m c t h0]
      exact accA0 m c t h0 p q
    · rw [left_A1 m c t h h0]
      exact accA1 m c t h h0 _ p q
  · intro j
    obtain ⟨p, q, rfl⟩ := ix2_of j
    rw [yS m c t h]
    by_cases h1 : t.val % 11 = 10
    · rw [left_C m c t h h1]
      exact accC m c t h h1 _ p q
    · rw [left_B m c t h h1]
      exact accB m c t h h1 _ p q

theorem dx_at (c : Dev nD) (t : Fin cfg0.N) (h : t.val % 11 = 10) (p q : Fin 1024) :
    (outAt m c t (ix2 p q) : EReal) = (oB m c t (ix2 p q) : EReal)
      + normStep (fun k => xB m c t (ix2 p k)) (fun k => gB m c t (ix2 (0 : Fin 1) k)) (fun k => aB m c t (ix2 p k)) q := by
  have h0 : ¬t.val % 11 = 0 := by omega
  rw [outAt_C m c t h0 h]
  unfold aB
  rw [left_C m c t h0 h]
  exact dxC m c t h0 h _ p q

/-- What the end of a run of points adds to the gradient of the norm's scale. -/
def gPart (x a : Vec Ideal S1024x1024 .f32) (q : Fin 1024) : EReal :=
  ∑ p : Fin 1024, (a (ix2 p q) : EReal) * (x (ix2 p q) * root (fun k => x (ix2 p k)))

theorem gA0 (c : Dev nD) (t : Fin cfg0.N) (h0 : t.val = 0) (q : Fin 1024) : ((leftA0 m c t h0).2.2 (ix2 (0 : Fin 1) q) : EReal) = 0 := by
  unfold leftA0 atA0 runA0
  dsimp only
  frame_out
  exact zero9_at q
theorem gC (c : Dev nD) (t : Fin cfg0.N) (h0 : ¬t.val % 11 = 0) (h1 : t.val % 11 = 10) (s : State Ideal) (q : Fin 1024) :
    ((leftC m c t h0 h1 s).2.2 (ix2 (0 : Fin 1) q) : EReal) = (s.2.2 (ix2 (0 : Fin 1) q) : EReal) + gPart (xB m c t) (leftC m c t h0 h1 s).2.1 q := by
  have e : (leftC m c t h0 h1 s).2.1 = fun j : S1024x1024.Idx => ((s.2.1 (ix2 (j 0) (j 1)) : EReal) + part (wB m c t) (vB m c t) (gateB m c t) (upB m c t) s.1 (j 0) (j 1) : EReal) := by
    funext j
    obtain ⟨p, q, rfl⟩ : ∃ (p : Fin 1024) (q : Fin 1024), j = ix2 p q := ix2_of j
    exact accC m c t h0 h1 s p q
  rw [e]
  unfold leftC atC runC
  dsimp only
  frame_out
  refine (pay5_at _ _ _ _).trans ?_
  unfold gPart
  refine congrArg₂ (fun a b : EReal => a + b) ?_ (Finset.sum_congr rfl fun p _ => congrArg (fun b : EReal => b * ((xB m c t (ix2 p q) : EReal) * root (fun k => xB m c t (ix2 p k)))) ?_)
  · simp only [(wh12 t).read_unread]
  rw [read_groups]
  simp only [(Memref.isWhole_whole cc0_scratch0).read_unread]
  exact two_groups _ _ _ (fun p q => ((s.2.1 (ix2 p q) : EReal) + part (wB m c t) (vB m c t) (gateB m c t) (upB m c t) s.1 p q : EReal))
    (p1_hi _ _ _ _ _ _) (p20_lo _ _ _ _ _ _) (ix2 p q)

/-- The gradient of the norm's scale after the last point: the sum of what the runs of points add. -/
theorem g_sum (c : Dev nD) (t : Fin cfg0.N) (h : t.val = 43) (q : Fin 1024) :
    ((left m c t.val t.isLt).2.2 (ix2 (0 : Fin 1) q) : EReal) =
      0 + ∑ t : Fin cfg0.N, if t.val % 11 = 10 then gPart (xB m c t) (aB m c t) q else 0 := by
  have hN : cfg0.N = 44 := N_0
  refine Pipeline.eq_sum_fin_of_reset_step_last (M := EReal) (fun n h => ((left m c n h).2.2 (ix2 (0 : Fin 1) q) : EReal)) 44 (0 : EReal)
    (fun t => if t.val % 11 = 10 then gPart (xB m c t) (aB m c t) q else 0) (fun t h => ?_) (fun t h => ?_) (by omega) t (by omega)
  · have h0 : t.val = 0 := by have := t.isLt; omega
    rw [if_neg (by omega), add_zero, left_A0 m c t h0]
    exact gA0 m c t h0 q
  · have h0 : ¬t.val = 0 := fun e => h (by rw [e])
    by_cases h1 : t.val % 11 = 10
    · rw [if_pos h1]
      unfold aB
      rw [left_C m c t (by omega) h1]
      exact gC m c t (by omega) h1 _ q
    · rw [if_neg h1, add_zero, left_carry_g m c t h0 h1]

end Cert.Kernel9Ideal.Bwd

end
-- ==== Proof.Bwd.Out.lean ====
/- The feed-forward block's backward call: the gradient of its input, entry by entry. -/
module

public import proofs.«01_k».proof.Proof.Bwd.Points

@[expose] public section

set_option maxRecDepth 16384
set_option maxHeartbeats 400000

noncomputable section

namespace Cert.Kernel9Ideal.Bwd

open Idealize.ShloMosaic Idealize.ShloMosaic.TcCoe Idealize.ShloMosaic.Tactic Idealize.SL.Sem Cert.Kernel9Ideal Cert.Kernel9Ideal.Gen
open Idealize.ShloMosaic.Pipeline (Dat)

variable (m : (ℓ : Loc nD τ sig) → Buf (Elt Ideal) ℓ) (ρ : Dev nD → PrngReg)

/-- The arrays the call is given: the block's input, its norm's scale, the gradient of its output, the saved gate and up values, and its three weights. -/
abbrev aX (c : Dev nD) : Vec Ideal S4096x1024 .f32 := V m c main_arg0
abbrev aG (c : Dev nD) : Vec Ideal S1x1024 .f32 := V m c main_v26
abbrev aO (c : Dev nD) : Vec Ideal S4096x1024 .f32 := V m c main_arg5
abbrev aGate (c : Dev nD) : Vec Ideal S4096x2816 .bf16 := V m c main_v23
abbrev aUp (c : Dev nD) : Vec Ideal S4096x2816 .bf16 := V m c main_v25
abbrev aW (c : Dev nD) : Vec Ideal S3x2816x1024 .bf16 := V m c main_v8

theorem idx0 : ∀ t : Fin cfg0.N, win0_0.index t = ![t.val / 11, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val / 11, 0] := (by decide +kernel : ∀ t : Fin grid0.N, _)
theorem idx3 : ∀ t : Fin cfg0.N, win0_3.index t = ![t.val / 11, t.val % 11] := (by decide +kernel : ∀ t : Fin grid0.N, _)
theorem idx4 : ∀ t : Fin cfg0.N, win0_4.index t = ![t.val / 11, t.val % 11] := (by decide +kernel : ∀ t : Fin grid0.N, _)
theorem idx5 : ∀ t : Fin cfg0.N, win0_5.index t = ![0, t.val % 11, 0] := (by decide +kernel : ∀ t : Fin grid0.N, _)
theorem idx6 : ∀ t : Fin cfg0.N, win0_6.index t = ![2, t.val % 11, 0] := (by decide +kernel : ∀ t : Fin grid0.N, _)
theorem idx7 : ∀ t : Fin cfg0.N, win0_7.index t = ![t.val / 11, 0] := (by decide +kernel : ∀ t : Fin grid0.N, _)

theorem idx12 : ∀ t : Fin cfg0.N, win0_12.index t = ![0, 0] := (by decide +kernel : ∀ t : Fin grid0.N, _)

/-- Row `p` of the block of tokens at point `t`, -/
def tok (t : Fin cfg0.N) (p : Fin 1024) : Fin 4096 := ⟨1024 * (t.val / 11) + p.val, by have := lt_of_lt_of_eq t.isLt N_0; have := p.isLt; omega⟩
/-- and lane `n` of its block of the hidden width. -/
def lane (t : Fin cfg0.N) (n : Fin 256) : Fin 2816 := ⟨256 * (t.val % 11) + n.val, by have := n.isLt; omega⟩

theorem x_at (c : Dev nD) (t : Fin cfg0.N) (p : Fin 1024) (d : Fin 1024) : xB m c t (ix2 p d) = aX m c (ix2 (tok t p) d) := by
  unfold tok
  blk_ext [iblk, idx0 t]
theorem g_at (c : Dev nD) (t : Fin cfg0.N) (d : Fin 1024) : gB m c t (ix2 (0 : Fin 1) d) = aG m c (ix2 (0 : Fin 1) d) := by
  blk_ext [iblk, idx1 t]
theorem o_at (c : Dev nD) (t : Fin cfg0.N) (p : Fin 1024) (d : Fin 1024) : oB m c t (ix2 p d) = aO m c (ix2 (tok t p) d) := by
  unfold tok
  blk_ext [iblk, idx2 t]
theorem gate_at (c : Dev nD) (t : Fin cfg0.N) (p : Fin 1024) (n : Fin 256) : gateB m c t (ix2 p n) = aGate m c (ix2 (tok t p) (lane t n)) := by
  unfold tok lane
  blk_ext [iblk, idx3 t]
theorem up_at (c : Dev nD) (t : Fin cfg0.N) (p : Fin 1024) (n : Fin 256) : upB m c t (ix2 p n) = aUp m c (ix2 (tok t p) (lane t n)) := by
  unfold tok lane
  blk_ext [iblk, idx4 t]
theorem v_at (c : Dev nD) (t : Fin cfg0.N) (n : Fin 256) (q : Fin 1024) : vB m c t (ix3 (0 : Fin 1) n q) = aW m c (ix3 (2 : Fin 3) (lane t n) q) := by
  unfold lane
  blk_ext [iblk, idx6 t]
theorem w0_at (c : Dev nD) (t : Fin cfg0.N) (n : Fin 256) (d : Fin 1024) : wB m c t (ix3 (0 : Fin 2) n d) = aW m c (ix3 (0 : Fin 3) (lane t n) d) := by
  unfold lane
  unfold wB X0_5 Pipeline.Window.fill
  rw [dif_pos (moved0_5 t _)]
  blk_ext [iblk, idx5 t]
theorem w1_at (c : Dev nD) (t : Fin cfg0.N) (n : Fin 256) (d : Fin 1024) : wB m c t (ix3 (1 : Fin 2) n d) = aW m c (ix3 (1 : Fin 3) (lane t n) d) := by
  unfold lane
  unfold wB X0_5 Pipeline.Window.fill
  rw [dif_pos (moved0_5 t _)]
  blk_ext [iblk, idx5 t]

/-- The activation's gradient, -/
def fA (c : Dev nD) (r : Fin 4096) (f : Fin 2816) : EReal :=
  ∑ q : Fin 1024, Ideal.ofBits .f32 0x3F000000#32 * (aO m c (ix2 r q) : EReal) * aW m c (ix3 (2 : Fin 3) f q)
/-- the gate's, -/
def fG (c : Dev nD) (r : Fin 4096) (f : Fin 2816) : EReal := gateStep (fA m c r f) (aGate m c (ix2 r f)) (aUp m c (ix2 r f))
/-- the up value's, -/
def fU (c : Dev nD) (r : Fin 4096) (f : Fin 2816) : EReal := upStep (fA m c r f) (aGate m c (ix2 r f))
/-- the normalised input's, -/
def fH (c : Dev nD) (r : Fin 4096) (q : Fin 1024) : EReal :=
  (∑ f : Fin 2816, fG m c r f * aW m c (ix3 (0 : Fin 3) f q)) + ∑ f : Fin 2816, fU m c r f * aW m c (ix3 (1 : Fin 3) f q)
/-- and the block's input's. -/
def fX (c : Dev nD) (r : Fin 4096) (q : Fin 1024) : EReal :=
  (aO m c (ix2 r q) : EReal) + normStep (fun k => aX m c (ix2 r k)) (fun k => aG m c (ix2 (0 : Fin 1) k)) (fun k => fH m c r k) q

/-- A point multiplies with half the output's gradient of its block of tokens, at every point of a run. -/
theorem y_at (c : Dev nD) (t : Fin cfg0.N) (p d : Fin 1024) : (yB m c t (ix2 p d) : EReal) = Ideal.ofBits .f32 0x3F000000#32 * (aO m c (ix2 (tok t p) d) : EReal) := by
  have := Pipeline.eq_of_write_hold_apply (fun n hn => (left m c n hn).1) 11 (fun t => k0_pay7 (oB m c t))
    (fun t h i => congrFun (yA m c t h) i) (fun t h i => congrFun (yS m c t h) i) t (ix2 p d)
  refine (Eq.trans this (pay7_at _ p d)).trans ?_
  rw [o_at]
  exact congrArg (fun r => Ideal.ofBits .f32 0x3F000000#32 * (aO m c (ix2 r d) : EReal)) (Fin.ext (by show 1024 * (11 * (t.val / 11) / 11) + p.val = 1024 * (t.val / 11) + p.val; omega))

theorem dA_at (c : Dev nD) (t : Fin cfg0.N) (p : Fin 1024) (n : Fin 256) : dA (vB m c t) (yB m c t) p n = fA m c (tok t p) (lane t n) := by
  unfold dA fA
  exact Finset.sum_congr rfl fun q _ => congrArg₂ (fun a b : EReal => a * b) (y_at m c t p q) (v_at m c t n q)
theorem dG_at (c : Dev nD) (t : Fin cfg0.N) (p : Fin 1024) (n : Fin 256) : dG (vB m c t) (gateB m c t) (upB m c t) (yB m c t) p n = fG m c (tok t p) (lane t n) := by
  unfold dG fG
  rw [dA_at, gate_at, up_at]
theorem dU_at (c : Dev nD) (t : Fin cfg0.N) (p : Fin 1024) (n : Fin 256) : dU (vB m c t) (gateB m c t) (yB m c t) p n = fU m c (tok t p) (lane t n) := by
  unfold dU fU
  rw [dA_at, gate_at]
theorem part_at (c : Dev nD) (t : Fin cfg0.N) (p q : Fin 1024) : part (wB m c t) (vB m c t) (gateB m c t) (upB m c t) (yB m c t) p q =
    (∑ n : Fin 256, fG m c (tok t p) (lane t n) * aW m c (ix3 (0 : Fin 3) (lane t n) q)) + ∑ n : Fin 256, fU m c (tok t p) (lane t n) * aW m c (ix3 (1 : Fin 3) (lane t n) q) := by
  unfold part
  exact congrArg₂ (fun a b : EReal => a + b)
    (Finset.sum_congr rfl fun n _ => congrArg₂ (fun a b : EReal => a * b) (dG_at m c t p n) (w0_at m c t n q))
    (Finset.sum_congr rfl fun n _ => congrArg₂ (fun a b : EReal => a * b) (dU_at m c t p n) (w1_at m c t n q))

/-- The eleven points of a run cover the hidden width. -/
theorem run_sum (c : Dev nD) (t : Fin cfg0.N) (h : t.val % 11 = 10) (p q : Fin 1024) : (aB m c t (ix2 p q) : EReal) = fH m c (tok t p) q := by
  refine (acc_at m c t h (ix2 p q)).trans ?_
  unfold fH
  rw [zero_add, Fin.sum_univ_tiles 11 256 rfl, Fin.sum_univ_tiles 11 256 rfl, ← Finset.sum_add_distrib]
  refine Finset.sum_congr rfl fun s _ => (part_at m c _ p q).trans ?_
  have e2 : tok ⟨11 * (t.val / 11) + s.val, Pipeline.run_point_lt_of_flush t h s⟩ p = tok t p :=
    Fin.ext (by show 1024 * ((11 * (t.val / 11) + s.val) / 11) + p.val = 1024 * (t.val / 11) + p.val; have := s.isLt; omega)
  have e1 : ∀ k : Fin 256, lane ⟨11 * (t.val / 11) + s.val, Pipeline.run_point_lt_of_flush t h s⟩ k = ⟨s.val * 256 + k.val, by have := s.isLt; have := k.isLt; omega⟩ := fun k =>
    Fin.ext (by show 256 * ((11 * (t.val / 11) + s.val) % 11) + k.val = s.val * 256 + k.val; have := s.isLt; omega)
  simp only [e1, e2]

theorem at7 (c : Dev nD) (t : Fin cfg0.N) (h : t.val % 11 = 10) (p q : Fin 1024) : (outAt m c t (ix2 p q) : EReal) = fX m c (tok t p) q := by
  refine (dx_at m c t h p q).trans ?_
  unfold fX
  rw [o_at]
  refine congrArg (fun b : EReal => (aO m c (ix2 (tok t p) q) : EReal) + b) ?_
  rw [show (fun k => (xB m c t (ix2 p k) : EReal)) = fun k => (aX m c (ix2 (tok t p) k) : EReal) from funext fun k => x_at m c t p k,
    show (fun k => (gB m c t (ix2 (0 : Fin 1) k) : EReal)) = fun k => (aG m c (ix2 (0 : Fin 1) k) : EReal) from funext fun k => g_at m c t k,
    show (fun k => (aB m c t (ix2 p k) : EReal)) = fun k => fH m c (tok t p) k from funext fun k => run_sum m c t h p k]

/-- The result: the gradient of the block's input. -/
theorem result7 (c : Dev nD) : (dat m 0 c).arrAt 7 cfg0.N = fun i : S4096x1024.Idx => fX m c (i 0) (i 1) := by
  refine ((dat m 0 c).arrAt_eq_of_covers 7 _ (by decide +kernel) fun t hf y => ?_)
  have h : t.val % 11 = 10 := (flush0_7 t).mp hf
  blk_simp
  rw [aft7]
  obtain ⟨p, q, rfl⟩ : ∃ (p : Fin 1024) (q : Fin 1024), y = ix2 p q := ix2_of y
  have e0 : (win0_7.blk t).view.emb (ix2 p q) 0 = tok t p := by
    apply Fin.ext; blk_simp [idx7 t]; unfold tok; dsimp only; omega
  have e1 : (win0_7.blk t).view.emb (ix2 p q) 1 = q := by
    apply Fin.ext; blk_simp [idx7 t]
  rw [e0, e1]
  exact at7 m c t h p q

/-- The gradient of the norm's scale. -/
def fN (c : Dev nD) (q : Fin 1024) : EReal :=
  ∑ r : Fin 4096, fH m c r q * (aX m c (ix2 r q) * root (fun k => aX m c (ix2 r k)))

theorem gPart_at (c : Dev nD) (t : Fin cfg0.N) (h : t.val % 11 = 10) (q : Fin 1024) : gPart (xB m c t) (aB m c t) q =
    ∑ p : Fin 1024, fH m c (tok t p) q * (aX m c (ix2 (tok t p) q) * root (fun k => aX m c (ix2 (tok t p) k))) := by
  unfold gPart
  refine Finset.sum_congr rfl fun p _ => ?_
  rw [run_sum m c t h p q, x_at, show (fun k => (xB m c t (ix2 p k) : EReal)) = fun k => (aX m c (ix2 (tok t p) k) : EReal) from funext fun k => x_at m c t p k]

/-- The four runs of points cover the tokens. -/
theorem at12 (c : Dev nD) (t : Fin cfg0.N) (h : t.val = 43) (q : Fin 1024) : ((left m c t.val t.isLt).2.2 (ix2 (0 : Fin 1) q) : EReal) = fN m c q := by
  refine (g_sum m c t h q).trans ?_
  have hN : 4 * 11 = cfg0.N := N_0.symm
  unfold fN
  rw [zero_add, Fin.sum_univ_tiles 4 11 hN, Fin.sum_univ_tiles 4 1024 rfl]
  refine Finset.sum_congr rfl fun j _ => ?_
  rw [Finset.sum_eq_single (10 : Fin 11)]
  · have e : (j.val * 11 + ((10 : Fin 11) : ℕ)) % 11 = 10 := by show (j.val * 11 + 10) % 11 = 10; omega
    rw [if_pos e, gPart_at m c _ e]
    refine Finset.sum_congr rfl fun p _ => ?_
    have e2 : ∀ hj, tok ⟨j.val * 11 + ((10 : Fin 11) : ℕ), hj⟩ p = ⟨j.val * 1024 + p.val, by have := j.isLt; have := p.isLt; omega⟩ := fun hj =>
      Fin.ext (by show 1024 * ((j.val * 11 + 10) / 11) + p.val = j.val * 1024 + p.val; omega)
    simp only [e2]
  · intro b _ hb
    have : ¬(j.val * 11 + b.val) % 11 = 10 := fun e => hb (Fin.ext (by show b.val = 10; have := b.isLt; omega))
    exact if_neg this
  · exact fun hb => absurd (Finset.mem_univ _) hb

/-- The other result: the gradient of the norm's scale. -/
theorem result12 (c : Dev nD) : (dat m 0 c).arrAt 12 cfg0.N = fun i : S1x1024.Idx => fN m c (i 1) := by
  refine ((dat m 0 c).arrAt_eq_of_covers 12 _ (by decide +kernel) fun t hf y => ?_)
  have h : t.val = 43 := by
    have := (flush0_12 t).mp hf
    have := lt_of_lt_of_eq t.isLt N_0
    omega
  blk_simp
  rw [aft12]
  obtain ⟨p, q, rfl⟩ : ∃ (p : Fin 1) (q : Fin 1024), y = ix2 p q := ix2_of y
  have e1 : (win0_12.blk t).view.emb (ix2 p q) 1 = q := by
    apply Fin.ext; blk_simp [idx12 t]
  rw [e1, Subsingleton.elim p 0]
  exact at12 m c t h q

/-- The run, with the results' arrays read off it. -/
theorem ran_value (G : (c : Dev nD) → Buf (Elt Ideal) ((c : Thread nD τ).loc main_v27_0)) (hG : ∀ c, (dat m 0 c).arrAt 7 cfg0.N = G c)
    (H : (c : Dev nD) → Buf (Elt Ideal) ((c : Thread nD τ).loc main_v27_5)) (hH : ∀ c, (dat m 0 c).arrAt 12 cfg0.N = H c) :
    θ_run defs (onTc (τ := τ) (main (F := Ideal))) ⟨m, fun _ => 0, ρ⟩ (fun r => ∀ c : Dev nD, r.2.mem ((c.tc : Thread nD τ).loc main_v27_0) = G c
      ∧ r.2.mem ((c.tc : Thread nD τ).loc main_v27_5) = H c) :=
  (θ_run defs _ _).mono (fun r h c => ⟨(((dat m 0 c).toRForget_arrAt_iff (show unsaid 7 = false from rfl) _ _).mp ((h.1 c).1 7)).trans (hG c),
    (((dat m 0 c).toRForget_arrAt_iff (show unsaid 12 = false from rfl) _ _).mp ((h.1 c).1 12)).trans (hH c)⟩) (ran_quiet m ρ)

end Cert.Kernel9Ideal.Bwd

end
-- ==== Proof.Bwd.Reals.lean ====
/- The feed-forward block's backward call: on finite values its arithmetic is the derivative's. -/
module

public import proofs.«01_k».proof.Proof.Bwd.Pays
public import proofs.«01_k».proof.Proof.Mix.Finite
public import proofs.«01_k».proof.Proof.Gen.Pre_finite9

@[expose] public section

set_option maxRecDepth 16384
set_option maxHeartbeats 400000

noncomputable section

namespace Cert.Kernel9Ideal.Bwd

open Idealize.ShloMosaic Idealize.ShloMosaic.TcCoe Idealize.ShloMosaic.Tactic
open Cert.ReferenceIdeal.Mix (Real' half_real coe_sum root_mean real_of_abs)

theorem logistic_real {x : EReal} : Real' x → Real' (Ideal.logistic x) := by
  rintro ⟨r, rfl⟩
  unfold Ideal.logistic
  rw [← EReal.coe_neg, Ideal.exp_coe, ← EReal.coe_one, ← EReal.coe_add]
  unfold Ideal.div
  rw [if_neg (by exact_mod_cast (by positivity : (1 + Real.exp (-r) : ℝ) ≠ 0)), ← EReal.coe_inv, ← EReal.coe_mul]
  exact ⟨_, rfl⟩

/-- The reference's own forms of the two gradients: the gate's through the sigmoid's derivative, -/
def gateRef (da g u : EReal) : EReal :=
  da * u * Ideal.logistic g + g * (da * u) * (Ideal.logistic g * (1 - Ideal.logistic g))
/-- and the up value's. -/
def upRef (da g : EReal) : EReal := g * Ideal.logistic g * da

theorem up_same (da g : EReal) : upStep da g = upRef da g := mul_comm _ _
theorem gate_same {da g u : EReal} (ha : Real' da) (hg : Real' g) (hu : Real' u) : gateStep da g u = gateRef da g u := by
  obtain ⟨s, hs⟩ := logistic_real hg
  obtain ⟨a, rfl⟩ := ha
  obtain ⟨b, rfl⟩ := hg
  obtain ⟨d, rfl⟩ := hu
  unfold gateStep gateRef
  rw [hs, ← EReal.coe_one]
  norm_cast
  ring
theorem gateStep_real {da g u : EReal} (ha : Real' da) (hg : Real' g) (hu : Real' u) : Real' (gateStep da g u) := by
  obtain ⟨s, hs⟩ := logistic_real hg
  obtain ⟨a, rfl⟩ := ha
  obtain ⟨b, rfl⟩ := hg
  obtain ⟨d, rfl⟩ := hu
  unfold gateStep
  rw [hs, ← EReal.coe_one]
  exact ⟨a * d * (s * (1 + b * (1 - s))), by norm_cast⟩
theorem upStep_real {da g : EReal} (ha : Real' da) (hg : Real' g) : Real' (upStep da g) := ha.mul (hg.mul (logistic_real hg))

/-- The mean of squares plus the constant, of a row. -/
def meanSq (x : Fin 1024 → EReal) : EReal :=
  Ideal.div (∑ k : Fin 1024, x k * x k) (Ideal.ofBits .f32 0x44800000#32) + Ideal.ofBits .f32 0x358637BD#32

theorem k1024 : Ideal.ofBits .f32 0x44800000#32 = ((1024 : ℝ) : EReal) := by
  simp [Ideal.ofBits, Ideal.ieee]
  rw [← EReal.coe_mul]; norm_num
theorem kHalf : Ideal.ofBits .f32 0xBF000000#32 = ((-(1 / 2) : ℝ) : EReal) := by
  simp [Ideal.ofBits, Ideal.ieee]
  norm_cast
  norm_num
theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- A row's inverse root squared inverts its mean of squares. -/
theorem root_sq (x : Fin 1024 → EReal) (hx : ∀ k, Real' (x k)) : ∃ w r : ℝ, meanSq x = w ∧ root x = r ∧ w ≠ 0 ∧ r * r * w = 1 := by
  choose g hg using hx
  obtain ⟨e, he, hp⟩ : ∃ e : ℝ, Ideal.ofBits .f32 0x358637BD#32 = e ∧ 0 < e := by
    refine ⟨_, by simp [Ideal.ofBits, Ideal.ieee]; rfl, ?_⟩
    norm_num
  have hs : (∑ i, x i * x i) = ((∑ i, g i * g i : ℝ) : EReal) := by
    refine (Finset.sum_congr rfl fun i _ => ?_).trans (coe_sum Finset.univ fun i => g i * g i)
    rw [hg, EReal.coe_mul]
  have hm : meanSq x = (((∑ i, g i * g i) / 1024 + e : ℝ) : EReal) := by
    unfold meanSq
    rw [hs, k1024, he, div_real _ _ (by norm_num), EReal.coe_add]
  have hw : 0 < (∑ i, g i * g i) / 1024 + e := by
    have : 0 ≤ ∑ i, g i * g i := Finset.sum_nonneg fun i _ => mul_self_nonneg _
    positivity
  refine ⟨_, (Real.sqrt ((∑ i, g i * g i) / 1024 + e))⁻¹, hm, ?_, hw.ne', ?_⟩
  · show Ideal.rsqrt (meanSq x) = _
    rw [hm, Ideal.rsqrt_coe, if_neg (by linarith), if_neg (by linarith)]
  · clear hm
    generalize (∑ i, g i * g i) / 1024 + e = w at hw ⊢
    have h2 := Real.mul_self_sqrt hw.le
    have h3 : Real.sqrt w ≠ 0 := (Real.sqrt_pos.mpr hw).ne'
    rw [← mul_inv, h2]
    exact inv_mul_cancel₀ hw.ne'

/-- The reference's form of the norm's gradient: the direct term, and the mean of squares' own twice. -/
def normRef (o : EReal) (x d : Fin 1024 → EReal) (q : Fin 1024) : EReal :=
  ((o + d q * root x)
    + x q * Ideal.div ((∑ k : Fin 1024, x k * d k) * (Ideal.ofBits .f32 0xBF000000#32 * Ideal.div (root x) (meanSq x))) (Ideal.ofBits .f32 0x44800000#32))
    + Ideal.div ((∑ k : Fin 1024, x k * d k) * (Ideal.ofBits .f32 0xBF000000#32 * Ideal.div (root x) (meanSq x))) (Ideal.ofBits .f32 0x44800000#32) * x q

theorem norm_same {o : EReal} (x g a : Fin 1024 → EReal) (ho : Real' o) (hx : ∀ k, Real' (x k)) (hg : ∀ k, Real' (g k)) (ha : ∀ k, Real' (a k)) (q : Fin 1024) :
    o + normStep x g a q = normRef o x (fun k => a k * g k) q := by
  obtain ⟨w, r, hw, hr, hw0, h1⟩ := root_sq x hx
  obtain ⟨o, rfl⟩ := ho
  choose x' ex using hx
  choose g' eg using hg
  choose a' ea using ha
  obtain rfl : x = fun k => (x' k : EReal) := funext ex
  obtain rfl : g = fun k => (g' k : EReal) := funext eg
  obtain rfl : a = fun k => (a' k : EReal) := funext ea
  unfold normStep normRef
  have s1 : (∑ k : Fin 1024, (a' k : EReal) * g' k * ((x' k : EReal) * r)) = ((r * ∑ k : Fin 1024, x' k * (a' k * g' k) : ℝ) : EReal) := by
    rw [Finset.mul_sum, ← coe_sum]
    refine Finset.sum_congr rfl fun k _ => ?_
    norm_cast
    ring
  have s2 : (∑ k : Fin 1024, (x' k : EReal) * ((a' k : EReal) * g' k)) = ((∑ k : Fin 1024, x' k * (a' k * g' k) : ℝ) : EReal) := by
    rw [← coe_sum]
    refine Finset.sum_congr rfl fun k _ => ?_
    norm_cast
  rw [hw, hr, s1, s2, k1024, kHalf, div_real _ _ (by norm_num), div_real _ _ hw0, ← EReal.coe_mul (-(1 / 2)), ← EReal.coe_mul (∑ k : Fin 1024, x' k * (a' k * g' k)),
    div_real _ _ (by norm_num)]
  generalize (∑ k : Fin 1024, x' k * (a' k * g' k)) = T
  have hq : r / w = r * r * r := by
    rw [div_eq_iff hw0]
    linear_combination -r * h1
  rw [hq]
  simp only [← EReal.coe_mul, ← EReal.coe_add, ← EReal.coe_sub]
  refine congrArg (fun b : ℝ => (b : EReal)) ?_
  ring

/-- What the precondition says of the six arrays. -/
theorem pre_real9 (a0 : FVec Ideal ⟨2, ![4096, 1024]⟩ .f32) (a1 : FVec Ideal ⟨1, ![1024]⟩ .f32) (a2 a3 : FVec Ideal ⟨2, ![1024, 2816]⟩ .f32)
    (a4 : FVec Ideal ⟨2, ![2816, 1024]⟩ .f32) (a5 : FVec Ideal ⟨2, ![4096, 1024]⟩ .f32)
    (h : Cert.Pre_finite9.fn (F := Ideal) a0 a1 a2 a3 a4 a5 (Shape.Idx.first Cert.Pre_finite9.Facts.h_S_) = 1#1) :
    (∀ i, Real' (a0 i)) ∧ (∀ i, Real' (a1 i)) ∧ (∀ i, Real' (a2 i)) ∧ (∀ i, Real' (a3 i)) ∧ (∀ i, Real' (a4 i)) ∧ (∀ i, Real' (a5 i)) := by
  dsimp only [Cert.Pre_finite9.fn, Cert.Pre_finite9.fn_part1] at h
  have h5 := IntOp.andi_eq_one.mp h
  have h4 := IntOp.andi_eq_one.mp h5.1
  have h3 := IntOp.andi_eq_one.mp h4.1
  have h2 := IntOp.andi_eq_one.mp h3.1
  have h1 := IntOp.andi_eq_one.mp h2.1
  refine ⟨fun i => ?_, fun i => ?_, fun i => ?_, fun i => ?_, fun i => ?_, fun i => ?_⟩
  · exact real_of_abs (Host.reduce_andi_all _ _ _ _ _ h1.1 i)
  · exact real_of_abs (Host.reduce_andi_all _ _ _ _ _ h1.2 i)
  · exact real_of_abs (Host.reduce_andi_all _ _ _ _ _ h2.2 i)
  · exact real_of_abs (Host.reduce_andi_all _ _ _ _ _ h3.2 i)
  · exact real_of_abs (Host.reduce_andi_all _ _ _ _ _ h4.2 i)
  · exact real_of_abs (Host.reduce_andi_all _ _ _ _ _ h5.2 i)

end Cert.Kernel9Ideal.Bwd

end
-- ==== Proof.Bwd.Claim.lean ====
/- The feed-forward block's backward call: the kernel's and the reference's results, as functions of the program's arguments. -/
module

public import proofs.«01_k».proof.Proof.Bwd.Out
public import proofs.«01_k».proof.Proof.Bwd.Reals
public import proofs.«01_k».proof.Proof.Gen.Reference9Ideal.Run

@[expose] public section

set_option maxRecDepth 16384
set_option maxHeartbeats 1000000

noncomputable section

namespace Cert.Kernel9Ideal.Bwd

open Idealize.ShloMosaic Idealize.ShloMosaic.TcCoe Idealize.ShloMosaic.Tactic Idealize.SL.Sem Cert.Kernel9Ideal Cert.Kernel9Ideal.Gen
open Idealize.ShloMosaic.StableHlo
open Cert.ReferenceIdeal.Mix (Real' half_real root_mean)

variable (m : (ℓ : Loc nD τ sig) → Buf (Elt Ideal) ℓ)
variable (m' : (ℓ : Loc Cert.Reference9Ideal.nD Cert.Reference9Ideal.τ Cert.Reference9Ideal.sig) → Buf (Elt Ideal) ℓ)

/-- The arguments of the kernel's program. -/
abbrev arg0 (c : Dev nD) : Vec Ideal S4096x1024 .f32 := m ((c : Thread nD τ).loc main_arg0)
abbrev arg1 (c : Dev nD) : Vec Ideal S1024 .f32 := m ((c : Thread nD τ).loc main_arg1)
abbrev arg2 (c : Dev nD) : Vec Ideal S1024x2816 .f32 := m ((c : Thread nD τ).loc main_arg2)
abbrev arg3 (c : Dev nD) : Vec Ideal S1024x2816 .f32 := m ((c : Thread nD τ).loc main_arg3)
abbrev arg4 (c : Dev nD) : Vec Ideal S2816x1024 .f32 := m ((c : Thread nD τ).loc main_arg4)
abbrev arg5 (c : Dev nD) : Vec Ideal S4096x1024 .f32 := m ((c : Thread nD τ).loc main_arg5)

section Spec
variable (X : Vec Ideal S4096x1024 .f32) (G : Vec Ideal S1024 .f32) (Wg Wu : Vec Ideal S1024x2816 .f32) (Wd : Vec Ideal S2816x1024 .f32) (O : Vec Ideal S4096x1024 .f32)

/-- The normalised input, -/
def nrm (r : Fin 4096) (d : Fin 1024) : EReal := (X (ix2 r d) : EReal) * root (fun k => X (ix2 r k)) * G (ix1 d)
/-- a projection of it, -/
def proj (W : Vec Ideal S1024x2816 .f32) (r : Fin 4096) (f : Fin 2816) : EReal := ∑ d : Fin 1024, nrm X G r d * W (ix2 d f)
/-- the activation's gradient, -/
def back (r : Fin 4096) (f : Fin 2816) : EReal := ∑ q : Fin 1024, Ideal.ofBits .f32 0x3F000000#32 * (O (ix2 r q) : EReal) * Wd (ix2 f q)
/-- the normalised input's gradient as the kernel sums it, -/
def kH (r : Fin 4096) (q : Fin 1024) : EReal :=
  (∑ f : Fin 2816, gateStep (back Wd O r f) (proj X G Wg r f) (proj X G Wu r f) * Wg (ix2 q f)) + ∑ f : Fin 2816, upStep (back Wd O r f) (proj X G Wg r f) * Wu (ix2 q f)
/-- the input's gradient as the kernel computes it, -/
def kX (r : Fin 4096) (q : Fin 1024) : EReal :=
  (O (ix2 r q) : EReal) + normStep (fun k => X (ix2 r k)) (fun k => G (ix1 k)) (fun k => kH X G Wg Wu Wd O r k) q
/-- and both as the reference does. -/
def rH (r : Fin 4096) (q : Fin 1024) : EReal :=
  (∑ f : Fin 2816, upRef (back Wd O r f) (proj X G Wg r f) * Wu (ix2 q f)) + ∑ f : Fin 2816, gateRef (back Wd O r f) (proj X G Wg r f) (proj X G Wu r f) * Wg (ix2 q f)
def rX (r : Fin 4096) (q : Fin 1024) : EReal :=
  normRef (O (ix2 r q)) (fun k => X (ix2 r k)) (fun k => rH X G Wg Wu Wd O r k * G (ix1 k)) q
/-- The gradient of the norm's scale, as the kernel computes it -/
def kN (q : Fin 1024) : EReal :=
  ∑ r : Fin 4096, kH X G Wg Wu Wd O r q * (X (ix2 r q) * root (fun k => X (ix2 r k)))
/-- and as the reference does. -/
def rN (q : Fin 1024) : EReal :=
  ∑ r : Fin 4096, X (ix2 r q) * root (fun k => X (ix2 r k)) * rH X G Wg Wu Wd O r q

variable (hX : ∀ i, Real' (X i)) (hG : ∀ i, Real' (G i)) (hg : ∀ i, Real' (Wg i)) (hu : ∀ i, Real' (Wu i)) (hd : ∀ i, Real' (Wd i)) (hO : ∀ i, Real' (O i))

include hX hG in
theorem proj_real (W : Vec Ideal S1024x2816 .f32) (hW : ∀ i, Real' (W i)) (r : Fin 4096) (f : Fin 2816) : Real' (proj X G W r f) :=
  Real'.sum _ fun d => (((hX _).mul (root_mean (fun k => X (ix2 r k)) fun k => hX _)).mul (hG _)).mul (hW _)
include hd hO in
theorem back_real (r : Fin 4096) (f : Fin 2816) : Real' (back Wd O r f) :=
  Real'.sum _ fun q => (half_real.mul (hO _)).mul (hd _)
include hX hG hg hu hd hO in
theorem kH_real (r : Fin 4096) (q : Fin 1024) : Real' (kH X G Wg Wu Wd O r q) :=
  (Real'.sum _ fun f => (gateStep_real (back_real Wd O hd hO r f) (proj_real X G hX hG Wg hg r f) (proj_real X G hX hG Wu hu r f)).mul (hg _)).add
    (Real'.sum _ fun f => (upStep_real (back_real Wd O hd hO r f) (proj_real X G hX hG Wg hg r f)).mul (hu _))
include hX hG hg hu hd hO in
theorem kH_same (r : Fin 4096) (q : Fin 1024) : kH X G Wg Wu Wd O r q = rH X G Wg Wu Wd O r q := by
  unfold kH rH
  rw [add_comm]
  refine congrArg₂ (fun a b : EReal => a + b) (Finset.sum_congr rfl fun f _ => ?_) (Finset.sum_congr rfl fun f _ => ?_)
  · rw [up_same]
  · rw [gate_same (back_real Wd O hd hO r f) (proj_real X G hX hG Wg hg r f) (proj_real X G hX hG Wu hu r f)]
include hX hG hg hu hd hO in
/-- On finite arguments the two are one. -/
theorem kX_same (r : Fin 4096) (q : Fin 1024) : kX X G Wg Wu Wd O r q = rX X G Wg Wu Wd O r q := by
  unfold kX rX
  rw [norm_same _ _ _ (hO _) (fun k => hX _) (fun k => hG _) (fun k => kH_real X G Wg Wu Wd O hX hG hg hu hd hO r k)]
  exact congrArg (fun d : Fin 1024 → EReal => normRef (O (ix2 r q)) (fun k => X (ix2 r k)) d q) (funext fun k => congrArg (fun b : EReal => b * G (ix1 k)) (kH_same X G Wg Wu Wd O hX hG hg hu hd hO r k))
include hX hG hg hu hd hO in
theorem kN_same (q : Fin 1024) : kN X G Wg Wu Wd O q = rN X G Wg Wu Wd O q := by
  unfold kN rN
  refine Finset.sum_congr rfl fun r _ => ?_
  rw [kH_same X G Wg Wu Wd O hX hG hg hu hd hO r q, mul_comm]
end Spec

/-- The call's arrays, from the program's arguments. -/
theorem aX_eq (c : Dev nD) : aX m c = arg0 m c := V_main_arg0 m c
theorem aO_eq (c : Dev nD) : aO m c = arg5 m c := V_main_arg5 m c
theorem aG_at (c : Dev nD) (d : Fin 1024) : (aG m c (ix2 (0 : Fin 1) d) : EReal) = arg1 m c (ix1 d) := by
  show (V m c main_v26 : Vec Ideal S1x1024 .f32) (ix2 (0 : Fin 1) d) = _
  simp only [V, hostOps0, List.flatten_cons, List.flatten_nil, List.append_nil, List.cons_append, List.nil_append, TRef.binary, TRef.nullary, TRef.unary, TRef.toBuf, TRef.ofBuf, cast_eq]
  after_results_simp
  pointwise
theorem aGate_at (c : Dev nD) (r : Fin 4096) (f : Fin 2816) : (aGate m c (ix2 r f) : EReal) = proj (arg0 m c) (arg1 m c) (arg2 m c) r f := by
  show (V m c main_v23 : Vec Ideal S4096x2816 .bf16) (ix2 r f) = _
  simp only [V, hostOps0, List.flatten_cons, List.flatten_nil, List.append_nil, List.cons_append, List.nil_append, TRef.binary, TRef.nullary, TRef.unary, TRef.toBuf, TRef.ofBuf, cast_eq]
  after_results_simp
  pointwise
  rfl
theorem aUp_at (c : Dev nD) (r : Fin 4096) (f : Fin 2816) : (aUp m c (ix2 r f) : EReal) = proj (arg0 m c) (arg1 m c) (arg3 m c) r f := by
  show (V m c main_v25 : Vec Ideal S4096x2816 .bf16) (ix2 r f) = _
  simp only [V, hostOps0, List.flatten_cons, List.flatten_nil, List.append_nil, List.cons_append, List.nil_append, TRef.binary, TRef.nullary, TRef.unary, TRef.toBuf, TRef.ofBuf, cast_eq]
  after_results_simp
  pointwise
  rfl
theorem aW0_at (c : Dev nD) (f : Fin 2816) (d : Fin 1024) : (aW m c (ix3 (0 : Fin 3) f d) : EReal) = arg2 m c (ix2 d f) := by
  show (V m c main_v8 : Vec Ideal S3x2816x1024 .bf16) (ix3 (0 : Fin 3) f d) = _
  simp only [V, hostOps0, List.flatten_cons, List.flatten_nil, List.append_nil, List.cons_append, List.nil_append, TRef.binary, TRef.nullary, TRef.unary, TRef.toBuf, TRef.ofBuf, cast_eq]
  after_results_simp
  pointwise
  after_results_simp
  pointwise
theorem aW1_at (c : Dev nD) (f : Fin 2816) (d : Fin 1024) : (aW m c (ix3 (1 : Fin 3) f d) : EReal) = arg3 m c (ix2 d f) := by
  show (V m c main_v8 : Vec Ideal S3x2816x1024 .bf16) (ix3 (1 : Fin 3) f d) = _
  simp only [V, hostOps0, List.flatten_cons, List.flatten_nil, List.append_nil, List.cons_append, List.nil_append, TRef.binary, TRef.nullary, TRef.unary, TRef.toBuf, TRef.ofBuf, cast_eq]
  after_results_simp
  pointwise
  after_results_simp
  pointwise
theorem aW2_at (c : Dev nD) (f : Fin 2816) (d : Fin 1024) : (aW m c (ix3 (2 : Fin 3) f d) : EReal) = arg4 m c (ix2 f d) := by
  show (V m c main_v8 : Vec Ideal S3x2816x1024 .bf16) (ix3 (2 : Fin 3) f d) = _
  simp only [V, hostOps0, List.flatten_cons, List.flatten_nil, List.append_nil, List.cons_append, List.nil_append, TRef.binary, TRef.nullary, TRef.unary, TRef.toBuf, TRef.ofBuf, cast_eq]
  after_results_simp
  pointwise
  after_results_simp
  pointwise

theorem fA_eq (c : Dev nD) (r : Fin 4096) (f : Fin 2816) : fA m c r f = back (arg4 m c) (arg5 m c) r f := by
  unfold fA back
  rw [aO_eq]
  exact Finset.sum_congr rfl fun q _ => congrArg (fun b : EReal => Ideal.ofBits .f32 0x3F000000#32 * (arg5 m c (ix2 r q) : EReal) * b) (aW2_at m c f q)
theorem fH_eq (c : Dev nD) (r : Fin 4096) (q : Fin 1024) : fH m c r q = kH (arg0 m c) (arg1 m c) (arg2 m c) (arg3 m c) (arg4 m c) (arg5 m c) r q := by
  unfold fH kH fG fU
  refine congrArg₂ (fun a b : EReal => a + b) (Finset.sum_congr rfl fun f _ => ?_) (Finset.sum_congr rfl fun f _ => ?_)
  · rw [fA_eq, aGate_at, aUp_at, aW0_at]
  · rw [fA_eq, aGate_at, aW1_at]
/-- The kernel's result, from the program's arguments. -/
theorem fX_eq (c : Dev nD) (r : Fin 4096) (q : Fin 1024) : fX m c r q = kX (arg0 m c) (arg1 m c) (arg2 m c) (arg3 m c) (arg4 m c) (arg5 m c) r q := by
  unfold fX kX
  rw [aO_eq, aX_eq, show (fun k => (aG m c (ix2 (0 : Fin 1) k) : EReal)) = fun k => (arg1 m c (ix1 k) : EReal) from funext fun k => aG_at m c k,
    show (fun k => fH m c r k) = fun k => kH (arg0 m c) (arg1 m c) (arg2 m c) (arg3 m c) (arg4 m c) (arg5 m c) r k from funext fun k => fH_eq m c r k]

theorem fN_eq (c : Dev nD) (q : Fin 1024) : fN m c q = kN (arg0 m c) (arg1 m c) (arg2 m c) (arg3 m c) (arg4 m c) (arg5 m c) q := by
  unfold fN kN
  rw [aX_eq]
  exact Finset.sum_congr rfl fun r _ => congrArg (fun b : EReal => b * (arg0 m c (ix2 r q) * root (fun k => arg0 m c (ix2 r k)))) (fH_eq m c r q)

/-- The reference's result, from its program's arguments. -/
theorem ref_at (c : Dev Cert.Reference9Ideal.nD) (p : Fin 4096) (q : Fin 1024) :
    (Cert.Reference9Ideal.Value.res_main_v54 m' c (ix2 p q) : EReal) =
      rX (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1))
        (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3))
        (m' ((c.tc : Thread Cert.Reference9Ideal.nD Cert.Reference9Ideal.τ).loc Cert.Reference9Ideal.main_arg4)) (m' ((c.tc : Thread Cert.Reference9Ideal.nD Cert.Reference9Ideal.τ).loc Cert.Reference9Ideal.main_arg5)) p q := by
  unfold Cert.Reference9Ideal.Value.res_main_v54
  pointwise
  simp only [Finset.sum_const, Finset.card_univ, Fintype.card_fin, one_nsmul]
  unfold rX normRef rH gateRef upRef back proj nrm meanSq root Ideal.logistic
  rfl

/-- The reference's other result. -/
theorem ref_norm_at (c : Dev Cert.Reference9Ideal.nD) (q : Fin 1024) :
    (Cert.Reference9Ideal.Value.res_main_v55 m' c (ix2 (0 : Fin 1) q) : EReal) =
      rN (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1))
        (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3))
        (m' ((c.tc : Thread Cert.Reference9Ideal.nD Cert.Reference9Ideal.τ).loc Cert.Reference9Ideal.main_arg4)) (m' ((c.tc : Thread Cert.Reference9Ideal.nD Cert.Reference9Ideal.τ).loc Cert.Reference9Ideal.main_arg5)) q := by
  unfold Cert.Reference9Ideal.Value.res_main_v55
  pointwise
  simp only [Finset.sum_const, Finset.card_univ, Fintype.card_fin, one_nsmul]
  unfold rN rH gateRef upRef back proj nrm root Ideal.logistic
  rfl

end Cert.Kernel9Ideal.Bwd

end
-- ==== Proof.lean ====
/- The proof of the claim: for each of eight calls, the frames of its two texts and of its reference, and the agreement
   of their results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Pre_finite9
public import proofs.«01_k».proof.Proof.Mix.FrameKernel
public import proofs.«01_k».proof.Proof.Mix.Claim
public import proofs.«01_k».proof.Proof.Ffn.ForwardClaim
public import proofs.«01_k».proof.Proof.Ffn.GradsClaim
public import proofs.«01_k».proof.Proof.Proj.W4
public import proofs.«01_k».proof.Proof.Proj.W5
public import proofs.«01_k».proof.Proof.Proj.W6
public import proofs.«01_k».proof.Proof.Proj.W7
public import proofs.«01_k».proof.Proof.Proj.W8
public import proofs.«01_k».proof.Proof.Bwd.FrameKernel
public import proofs.«01_k».proof.Proof.Bwd.Claim
public import Idealize.ShloMosaic.Adequacy
public import Idealize.ShloMosaic.Init

@[expose] public section

noncomputable section

namespace Cert.Proof

open Idealize.ShloMosaic Idealize.SL.Sem Idealize.ShloMosaic.StableHlo

/-- The reference terminates, keeps its arguments, and its machine has no semaphore that could be left raised. -/
theorem reference_frame : @Cert.quiescent_ReferenceIdeal Cert.ReferenceIdeal.Gen.facts := fun m ρ _ =>
  (θ_run Cert.ReferenceIdeal.defs _ _).mono (fun r h => ⟨fun c => (h c).2, sem_eq_zero_of_no_sems (by decide) r.2⟩)
    (Cert.ReferenceIdeal.Value.run m ρ)

/-- The backward mixer's gradient of the spatial weights and biases is the reference's, over the reals, when the
    arrays that enter its accumulations are finite. -/
theorem agree : @Cert.algebraic_KernelIdeal_ReferenceIdeal_pre_finite Cert.KernelIdeal.Gen.facts Cert.ReferenceIdeal.Gen.facts Cert.Pre_finite.Gen.facts := by
  intro m ρ m' ρ' hp hag
  refine ⟨fun c => Cert.ReferenceIdeal.Mix.gws (launchContents m' c), ?_, ?_⟩
  · refine (θ_run Cert.KernelIdeal.defs _ _).mono (fun r h c => ⟨h.1 c, h.2.1 c⟩)
      (θ_run_and (Cert.KernelIdeal.Mix.ran_value m ρ _ fun c => ?_) (Cert.KernelIdeal.Mix.frame m ρ))
    obtain ⟨e0, e1, e2, e3, e4, _, _, _, _, _, _, _, _, e13, e14⟩ := hag c
    obtain ⟨f0, f1, f2, f13, f14⟩ := Cert.ReferenceIdeal.Mix.pre_real _ _ _ _ _ _ _ _ _ _ _ _ _ _ _ (congrFun (hp c) _)
    refine funext fun i => (Cert.KernelIdeal.Mix.final25 m c i).trans ?_
    refine Cert.KernelIdeal.Mix.same m (launchContents m' c) c (Cert.KernelIdeal.Mix.z_same m _ c e0 e1 e2) ?_ ?_ ?_ ?_ ?_ i
    · exact e3.symm
    · exact e4.symm
    · exact e13.symm
    · exact e14.symm
    · exact Cert.ReferenceIdeal.Mix.gate_real _ (fun i => (congrArg Cert.ReferenceIdeal.Mix.Real' (congrFun e0 i)).mpr (f0 i)) (fun i => (congrArg Cert.ReferenceIdeal.Mix.Real' (congrFun e1 i)).mpr (f1 i)) (fun i => (congrArg Cert.ReferenceIdeal.Mix.Real' (congrFun e2 i)).mpr (f2 i))
        (fun i => (congrArg Cert.ReferenceIdeal.Mix.Real' (congrFun e14 i)).mpr (f14 i)) (fun i => (congrArg Cert.ReferenceIdeal.Mix.Real' (congrFun e13 i)).mpr (f13 i))
  · exact (θ_run Cert.ReferenceIdeal.defs _ _).mono (fun r h c => h c) (Cert.ReferenceIdeal.Value.run m' ρ')

/-- The reference of the feed-forward block's forward call terminates and keeps its arguments. -/
theorem reference2_frame : @Cert.quiescent_Reference2Ideal Cert.Reference2Ideal.Gen.facts := fun m ρ _ =>
  (θ_run Cert.Reference2Ideal.defs _ _).mono (fun r h => ⟨fun c => (h c).2.2.2.2, sem_eq_zero_of_no_sems (by decide) r.2⟩)
    (Cert.Reference2Ideal.Value.run m ρ)

/-- The reference of the call that computes its weights' gradients likewise. -/
theorem reference3_frame : @Cert.quiescent_Reference3Ideal Cert.Reference3Ideal.Gen.facts := fun m ρ _ =>
  (θ_run Cert.Reference3Ideal.defs _ _).mono (fun r h => ⟨fun c => (h c).2.2.2, sem_eq_zero_of_no_sems (by decide) r.2⟩)
    (Cert.Reference3Ideal.Value.run m ρ)

/-- Over the reals the forward call of a feed-forward block returns the block's output, its gate and up projections and
    its activations, as the reference writes them. -/
theorem agree2 : @Cert.algebraic_Kernel2Ideal_Reference2Ideal Cert.Kernel2Ideal.Gen.facts Cert.Reference2Ideal.Gen.facts := by
  intro m ρ m' ρ' _ hag
  refine ⟨fun c => Cert.Kernel2Ideal.Value.G4 m c, fun c => Cert.Kernel2Ideal.Value.G5 m c, fun c => Cert.Kernel2Ideal.Value.G6 m c,
    fun c => Cert.Kernel2Ideal.Value.G7 m c, ?_, ?_⟩
  · exact (θ_run Cert.Kernel2Ideal.defs _ _).mono (fun r h c => h c) (Cert.Kernel2Ideal.Value.run m ρ)
  · exact (θ_run Cert.Reference2Ideal.defs _ _).mono (fun r h c => ⟨(h.1 c).1, (h.1 c).2.1, (h.1 c).2.2.1, (h.1 c).2.2.2, (h.2 c).2.2.2.2⟩)
      (θ_run_and (Cert.Kernel2Ideal.Ffn.reference_run m m' ρ' hag) (Cert.Reference2Ideal.Value.run m' ρ'))

/-- Over the reals the call that computes a feed-forward block's weight gradients returns the reference's three. -/
theorem agree3 : @Cert.algebraic_Kernel3Ideal_Reference3Ideal Cert.Kernel3Ideal.Gen.facts Cert.Reference3Ideal.Gen.facts := by
  intro m ρ m' ρ' _ hag
  refine ⟨fun c => Cert.Kernel3Ideal.Value.G5 m c, fun c => Cert.Kernel3Ideal.Value.G6 m c, fun c => Cert.Kernel3Ideal.Value.G7 m c, ?_, ?_⟩
  · exact (θ_run Cert.Kernel3Ideal.defs _ _).mono (fun r h c => h c) (Cert.Kernel3Ideal.Value.run m ρ)
  · exact (θ_run Cert.Reference3Ideal.defs _ _).mono (fun r h c => ⟨(h.1 c).1, (h.1 c).2.1, (h.1 c).2.2, (h.2 c).2.2.2⟩)
      (θ_run_and (Cert.Kernel3Ideal.Ffn.reference_run m m' ρ' hag) (Cert.Reference3Ideal.Value.run m' ρ'))

/-- The reference of the call for the mixer's first projection terminates and keeps its arguments. -/
theorem reference4_frame : @Cert.quiescent_Reference4Ideal Cert.Reference4Ideal.Gen.facts := fun m ρ _ =>
  (θ_run Cert.Reference4Ideal.defs _ _).mono (fun r h => ⟨fun c => (h c).2, sem_eq_zero_of_no_sems (by decide) r.2⟩)
    (Cert.Reference4Ideal.Value.run m ρ)

/-- Over the reals that call returns the gradient of the mixer's first projection. -/
theorem agree4 : @Cert.algebraic_Kernel4Ideal_Reference4Ideal Cert.Kernel4Ideal.Gen.facts Cert.Reference4Ideal.Gen.facts := by
  intro m ρ m' ρ' _ hag
  refine ⟨fun c => Cert.Kernel4Ideal.Value.G2 m c, ?_, ?_⟩
  · exact (θ_run Cert.Kernel4Ideal.defs _ _).mono (fun r h c => h c) (Cert.Kernel4Ideal.Value.run m ρ)
  · exact (θ_run Cert.Reference4Ideal.defs _ _).mono (fun r h c => ⟨h.1 c, (h.2 c).2⟩)
      (θ_run_and (Cert.Kernel4Ideal.Proj.reference_run m m' ρ' hag) (Cert.Reference4Ideal.Value.run m' ρ'))

/-- The reference of the call for the mixer's second projection terminates and keeps its arguments. -/
theorem reference5_frame : @Cert.quiescent_Reference5Ideal Cert.Reference5Ideal.Gen.facts := fun m ρ _ =>
  (θ_run Cert.Reference5Ideal.defs _ _).mono (fun r h => ⟨fun c => (h c).2, sem_eq_zero_of_no_sems (by decide) r.2⟩)
    (Cert.Reference5Ideal.Value.run m ρ)

/-- Over the reals that call returns the gradient of the mixer's second projection. -/
theorem agree5 : @Cert.algebraic_Kernel5Ideal_Reference5Ideal Cert.Kernel5Ideal.Gen.facts Cert.Reference5Ideal.Gen.facts := by
  intro m ρ m' ρ' _ hag
  refine ⟨fun c => Cert.Kernel5Ideal.Value.G2 m c, ?_, ?_⟩
  · exact (θ_run Cert.Kernel5Ideal.defs _ _).mono (fun r h c => h c) (Cert.Kernel5Ideal.Value.run m ρ)
  · exact (θ_run Cert.Reference5Ideal.defs _ _).mono (fun r h c => ⟨h.1 c, (h.2 c).2⟩)
      (θ_run_and (Cert.Kernel5Ideal.Proj.reference_run m m' ρ' hag) (Cert.Reference5Ideal.Value.run m' ρ'))

/-- The reference of the call for the first feed-forward block's gate terminates and keeps its arguments. -/
theorem reference6_frame : @Cert.quiescent_Reference6Ideal Cert.Reference6Ideal.Gen.facts := fun m ρ _ =>
  (θ_run Cert.Reference6Ideal.defs _ _).mono (fun r h => ⟨fun c => (h c).2, sem_eq_zero_of_no_sems (by decide) r.2⟩)
    (Cert.Reference6Ideal.Value.run m ρ)

/-- Over the reals that call returns the gradient of the first feed-forward block's gate. -/
theorem agree6 : @Cert.algebraic_Kernel6Ideal_Reference6Ideal Cert.Kernel6Ideal.Gen.facts Cert.Reference6Ideal.Gen.facts := by
  intro m ρ m' ρ' _ hag
  refine ⟨fun c => Cert.Kernel6Ideal.Value.G2 m c, ?_, ?_⟩
  · exact (θ_run Cert.Kernel6Ideal.defs _ _).mono (fun r h c => h c) (Cert.Kernel6Ideal.Value.run m ρ)
  · exact (θ_run Cert.Reference6Ideal.defs _ _).mono (fun r h c => ⟨h.1 c, (h.2 c).2⟩)
      (θ_run_and (Cert.Kernel6Ideal.Proj.reference_run m m' ρ' hag) (Cert.Reference6Ideal.Value.run m' ρ'))

/-- The reference of the call for the first feed-forward block's up projection terminates and keeps its arguments. -/
theorem reference7_frame : @Cert.quiescent_Reference7Ideal Cert.Reference7Ideal.Gen.facts := fun m ρ _ =>
  (θ_run Cert.Reference7Ideal.defs _ _).mono (fun r h => ⟨fun c => (h c).2, sem_eq_zero_of_no_sems (by decide) r.2⟩)
    (Cert.Reference7Ideal.Value.run m ρ)

/-- Over the reals that call returns the gradient of the first feed-forward block's up projection. -/
theorem agree7 : @Cert.algebraic_Kernel7Ideal_Reference7Ideal Cert.Kernel7Ideal.Gen.facts Cert.Reference7Ideal.Gen.facts := by
  intro m ρ m' ρ' _ hag
  refine ⟨fun c => Cert.Kernel7Ideal.Value.G2 m c, ?_, ?_⟩
  · exact (θ_run Cert.Kernel7Ideal.defs _ _).mono (fun r h c => h c) (Cert.Kernel7Ideal.Value.run m ρ)
  · exact (θ_run Cert.Reference7Ideal.defs _ _).mono (fun r h c => ⟨h.1 c, (h.2 c).2⟩)
      (θ_run_and (Cert.Kernel7Ideal.Proj.reference_run m m' ρ' hag) (Cert.Reference7Ideal.Value.run m' ρ'))

/-- The reference of the call for the first feed-forward block's down projection terminates and keeps its arguments. -/
theorem reference8_frame : @Cert.quiescent_Reference8Ideal Cert.Reference8Ideal.Gen.facts := fun m ρ _ =>
  (θ_run Cert.Reference8Ideal.defs _ _).mono (fun r h => ⟨fun c => (h c).2, sem_eq_zero_of_no_sems (by decide) r.2⟩)
    (Cert.Reference8Ideal.Value.run m ρ)

/-- Over the reals that call returns the gradient of the first feed-forward block's down projection. -/
theorem agree8 : @Cert.algebraic_Kernel8Ideal_Reference8Ideal Cert.Kernel8Ideal.Gen.facts Cert.Reference8Ideal.Gen.facts := by
  intro m ρ m' ρ' _ hag
  refine ⟨fun c => Cert.Kernel8Ideal.Value.G2 m c, ?_, ?_⟩
  · exact (θ_run Cert.Kernel8Ideal.defs _ _).mono (fun r h c => h c) (Cert.Kernel8Ideal.Value.run m ρ)
  · exact (θ_run Cert.Reference8Ideal.defs _ _).mono (fun r h c => ⟨h.1 c, (h.2 c).2⟩)
      (θ_run_and (Cert.Kernel8Ideal.Proj.reference_run m m' ρ' hag) (Cert.Reference8Ideal.Value.run m' ρ'))

/-- The ninth reference runs and ends quiescent, its arguments unchanged. -/
theorem reference9_frame : @Cert.quiescent_Reference9Ideal Cert.Reference9Ideal.Gen.facts := fun m ρ _ =>
  (θ_run Cert.Reference9Ideal.defs _ _).mono (fun r h => ⟨fun c => (h c).2.2, sem_eq_zero_of_no_sems (by decide) r.2⟩)
    (Cert.Reference9Ideal.Value.run m ρ)

/-- The ninth call, from finite arguments: the gradients of a feed-forward block's input and of its norm's scale are the reference's. -/
theorem agree9 : @Cert.algebraic_Kernel9Ideal_Reference9Ideal_pre_finite9 Cert.Kernel9Ideal.Gen.facts Cert.Reference9Ideal.Gen.facts Cert.Pre_finite9.Gen.facts := by
  intro m ρ m' ρ' hp hag
  refine ⟨fun c => Cert.Reference9Ideal.Value.res_main_v54 m' c, fun c => Cert.Reference9Ideal.Value.res_main_v55 m' c, ?_, ?_⟩
  · refine (θ_run Cert.Kernel9Ideal.defs _ _).mono (fun r h c => ⟨(h.1 c).1, (h.1 c).2, h.2.1 c⟩)
      (θ_run_and (Cert.Kernel9Ideal.Bwd.ran_value m ρ _ (fun c => ?_) _ (fun c => ?_)) (Cert.Kernel9Ideal.Bwd.frame m ρ))
    · obtain ⟨e0, e1, e2, e3, e4, e5⟩ := hag c
      obtain ⟨f0, f1, f2, f3, f4, f5⟩ := Cert.Kernel9Ideal.Bwd.pre_real9 _ _ _ _ _ _ (congrFun (hp c) _)
      refine (Cert.Kernel9Ideal.Bwd.result7 m c).trans (funext fun i => ?_)
      obtain ⟨p, q, rfl⟩ : ∃ (p : Fin 4096) (q : Fin 1024), i = ix2 p q := Cert.Kernel9Ideal.Bwd.ix2_of i
      refine (Cert.Kernel9Ideal.Bwd.fX_eq m c p q).trans ?_
      refine (Cert.Kernel9Ideal.Bwd.kX_same _ _ _ _ _ _ f0 f1 f2 f3 f4 f5 p q).trans ?_
      refine Eq.trans ?_ (Cert.Kernel9Ideal.Bwd.ref_at m' c p q).symm
      rw [e0, e1, e2, e3, e4, e5]
    · obtain ⟨e0, e1, e2, e3, e4, e5⟩ := hag c
      obtain ⟨f0, f1, f2, f3, f4, f5⟩ := Cert.Kernel9Ideal.Bwd.pre_real9 _ _ _ _ _ _ (congrFun (hp c) _)
      refine (Cert.Kernel9Ideal.Bwd.result12 m c).trans (funext fun i => ?_)
      obtain ⟨p, q, rfl⟩ : ∃ (p : Fin 1) (q : Fin 1024), i = ix2 p q := Cert.Kernel9Ideal.Bwd.ix2_of i
      rw [Subsingleton.elim p 0]
      refine (Cert.Kernel9Ideal.Bwd.fN_eq m c q).trans ?_
      refine (Cert.Kernel9Ideal.Bwd.kN_same _ _ _ _ _ _ f0 f1 f2 f3 f4 f5 q).trans ?_
      refine Eq.trans ?_ (Cert.Kernel9Ideal.Bwd.ref_norm_at m' c q).symm
      rw [e0, e1, e2, e3, e4, e5]
  · exact (θ_run Cert.Reference9Ideal.defs _ _).mono (fun r h c => h c) (Cert.Reference9Ideal.Value.run m' ρ')

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts, Cert.Pre_finite.Gen.facts, Cert.Pre_finite9.Gen.facts,
  Cert.KernelIdeal.Mix.frame_kernel, fun m ρ _ => Cert.KernelIdeal.Mix.frame m ρ, fun m ρ _ => Cert.KernelIdeal.Mix.frame m ρ,
  reference_frame, fun m ρ _ => reference_frame m ρ trivial,
  fun m ρ _ => Cert.Kernel2.Gen.frame m ρ, fun m ρ _ => Cert.Kernel2Ideal.Gen.frame m ρ, reference2_frame,
  fun m ρ _ => Cert.Kernel3.Gen.frame m ρ, fun m ρ _ => Cert.Kernel3Ideal.Gen.frame m ρ, reference3_frame,
  fun m ρ _ => Cert.Kernel4.Gen.frame m ρ, fun m ρ _ => Cert.Kernel4Ideal.Gen.frame m ρ, reference4_frame,
  fun m ρ _ => Cert.Kernel5.Gen.frame m ρ, fun m ρ _ => Cert.Kernel5Ideal.Gen.frame m ρ, reference5_frame,
  fun m ρ _ => Cert.Kernel6.Gen.frame m ρ, fun m ρ _ => Cert.Kernel6Ideal.Gen.frame m ρ, reference6_frame,
  fun m ρ _ => Cert.Kernel7.Gen.frame m ρ, fun m ρ _ => Cert.Kernel7Ideal.Gen.frame m ρ, reference7_frame,
  fun m ρ _ => Cert.Kernel8.Gen.frame m ρ, fun m ρ _ => Cert.Kernel8Ideal.Gen.frame m ρ, reference8_frame,
  Cert.Kernel9Ideal.Bwd.frame_kernel, fun m ρ _ => Cert.Kernel9Ideal.Bwd.frame m ρ, fun m ρ _ => Cert.Kernel9Ideal.Bwd.frame m ρ,
  reference9_frame, fun m ρ _ => reference9_frame m ρ trivial,
  trivial, agree, trivial, agree2, trivial, agree3,
  trivial, agree4, trivial, agree5, trivial, agree6, trivial, agree7, trivial, agree8,
  trivial, agree9⟩

end Cert.Proof

end
